-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_tables [hPre_finite_tables : Cert.Pre_finite_tables.Facts] (m : (ℓ : Loc Cert.AttnIdeal.nD Cert.AttnIdeal.τ Cert.AttnIdeal.sig) → Buf (Elt Ideal) ℓ) : Prop :=
  ∀ c : Dev Cert.AttnIdeal.nD,
    (Cert.Pre_finite_tables.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_tables [hPre_finite_tables : Cert.Pre_finite_tables.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_tables.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownB (m : (ℓ : Loc Cert.DownB.nD Cert.DownB.τ Cert.DownB.sig) → Buf (Elt Bits) ℓ) : Prop :=
  True

def Pre_DownBIdeal (m : (ℓ : Loc Cert.DownBIdeal.nD Cert.DownBIdeal.τ Cert.DownBIdeal.sig) → Buf (Elt Ideal) ℓ) : Prop :=
  True

def Pre_DownBRefIdeal (m : (ℓ : Loc Cert.DownBRefIdeal.nD Cert.DownBRefIdeal.τ Cert.DownBRefIdeal.sig) → Buf (Elt Ideal) ℓ) : Prop :=
  True

def Pre_EDown [hPre_expert_table : Cert.Pre_expert_table.Facts] (m : (ℓ : Loc Cert.EDown.nD Cert.EDown.τ Cert.EDown.sig) → Buf (Elt Bits) ℓ) : Prop :=
  ∀ c : Dev Cert.EDown.nD,
    (Cert.Pre_expert_table.fn (F := Bits) (m ((c.tc : Thread Cert.EDown.nD Cert.EDown.τ).loc Cert.EDown.main_arg0)) (m ((c.tc : Thread Cert.EDown.nD Cert.EDown.τ).loc Cert.EDown.main_arg1)) (m ((c.tc : Thread Cert.EDown.nD Cert.EDown.τ).loc Cert.EDown.main_arg2))) = (fun _ => 1#1)

def Pre_EDownIdeal [hPre_expert_table : Cert.Pre_expert_table.Facts] (m : (ℓ : Loc Cert.EDownIdeal.nD Cert.EDownIdeal.τ Cert.EDownIdeal.sig) → Buf (Elt Ideal) ℓ) : Prop :=
  ∀ c : Dev Cert.EDownIdeal.nD,
    (Cert.Pre_expert_table.fn (F := Ideal) (m ((c.tc : Thread Cert.EDownIdeal.nD Cert.EDownIdeal.τ).loc Cert.EDownIdeal.main_arg0)) (m ((c.tc : Thread Cert.EDownIdeal.nD Cert.EDownIdeal.τ).loc Cert.EDownIdeal.main_arg1)) (m ((c.tc : Thread Cert.EDownIdeal.nD Cert.EDownIdeal.τ).loc Cert.EDownIdeal.main_arg2))) = (fun _ => 1#1)

def Pre_EDownRefIdeal (m : (ℓ : Loc Cert.EDownRefIdeal.nD Cert.EDownRefIdeal.τ Cert.EDownRefIdeal.sig) → Buf (Elt Ideal) ℓ) : Prop :=
  True

def Pre_EDownRefIdeal_expert_table [hPre_expert_table : Cert.Pre_expert_table.Facts] (m : (ℓ : Loc Cert.EDownRefIdeal.nD Cert.EDownRefIdeal.τ Cert.EDownRefIdeal.sig) → Buf (Elt Ideal) ℓ) : Prop :=
  ∀ c : Dev Cert.EDownRefIdeal.nD,
    (Cert.Pre_expert_table.fn (F := Ideal) (m ((c.tc : Thread Cert.EDownRefIdeal.nD Cert.EDownRefIdeal.τ).loc Cert.EDownRefIdeal.main_arg0)) (m ((c.tc : Thread Cert.EDownRefIdeal.nD Cert.EDownRefIdeal.τ).loc Cert.EDownRefIdeal.main_arg1)) (m ((c.tc : Thread Cert.EDownRefIdeal.nD Cert.EDownRefIdeal.τ).loc Cert.EDownRefIdeal.main_arg2))) = (fun _ => 1#1)

def Pre_EGlu [hPre_expert_table_glu : Cert.Pre_expert_table_glu.Facts] (m : (ℓ : Loc Cert.EGlu.nD Cert.EGlu.τ Cert.EGlu.sig) → Buf (Elt Bits) ℓ) : Prop :=
  ∀ c : Dev Cert.EGlu.nD,
    (Cert.Pre_expert_table_glu.fn (F := Bits) (m ((c.tc : Thread Cert.EGlu.nD Cert.EGlu.τ).loc Cert.EGlu.main_arg0)) (m ((c.tc : Thread Cert.EGlu.nD Cert.EGlu.τ).loc Cert.EGlu.main_arg1)) (m ((c.tc : Thread Cert.EGlu.nD Cert.EGlu.τ).loc Cert.EGlu.main_arg2)) (m ((c.tc : Thread Cert.EGlu.nD Cert.EGlu.τ).loc Cert.EGlu.main_arg3))) = (fun _ => 1#1)

def Pre_EGluIdeal [hPre_expert_table_glu : Cert.Pre_expert_table_glu.Facts] (m : (ℓ : Loc Cert.EGluIdeal.nD Cert.EGluIdeal.τ Cert.EGluIdeal.sig) → Buf (Elt Ideal) ℓ) : Prop :=
  ∀ c : Dev Cert.EGluIdeal.nD,
    (Cert.Pre_expert_table_glu.fn (F := Ideal) (m ((c.tc : Thread Cert.EGluIdeal.nD Cert.EGluIdeal.τ).loc Cert.EGluIdeal.main_arg0)) (m ((c.tc : Thread Cert.EGluIdeal.nD Cert.EGluIdeal.τ).loc Cert.EGluIdeal.main_arg1)) (m ((c.tc : Thread Cert.EGluIdeal.nD Cert.EGluIdeal.τ).loc Cert.EGluIdeal.main_arg2)) (m ((c.tc : Thread Cert.EGluIdeal.nD Cert.EGluIdeal.τ).loc Cert.EGluIdeal.main_arg3))) = (fun _ => 1#1)

def Pre_EGluRefIdeal (m : (ℓ : Loc Cert.EGluRefIdeal.nD Cert.EGluRefIdeal.τ Cert.EGluRefIdeal.sig) → Buf (Elt Ideal) ℓ) : Prop :=
  True

def Pre_EGluRefIdeal_expert_table_glu [hPre_expert_table_glu : Cert.Pre_expert_table_glu.Facts] (m : (ℓ : Loc Cert.EGluRefIdeal.nD Cert.EGluRefIdeal.τ Cert.EGluRefIdeal.sig) → Buf (Elt Ideal) ℓ) : Prop :=
  ∀ c : Dev Cert.EGluRefIdeal.nD,
    (Cert.Pre_expert_table_glu.fn (F := Ideal) (m ((c.tc : Thread Cert.EGluRefIdeal.nD Cert.EGluRefIdeal.τ).loc Cert.EGluRefIdeal.main_arg0)) (m ((c.tc : Thread Cert.EGluRefIdeal.nD Cert.EGluRefIdeal.τ).loc Cert.EGluRefIdeal.main_arg1)) (m ((c.tc : Thread Cert.EGluRefIdeal.nD Cert.EGluRefIdeal.τ).loc Cert.EGluRefIdeal.main_arg2)) (m ((c.tc : Thread Cert.EGluRefIdeal.nD Cert.EGluRefIdeal.τ).loc Cert.EGluRefIdeal.main_arg3))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_tables [hAttnIdeal : Cert.AttnIdeal.Facts] [hPre_finite_tables : Cert.Pre_finite_tables.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_tables m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_tables [hAttnRefIdeal : Cert.AttnRefIdeal.Facts] [hPre_finite_tables : Cert.Pre_finite_tables.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_tables m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownB [hDownB : Cert.DownB.Facts] : Prop :=
  ∀ (m : (ℓ : Loc Cert.DownB.nD Cert.DownB.τ Cert.DownB.sig) → Buf (Elt Bits) ℓ) (g : Dev Cert.DownB.nD → PrngReg), Pre_DownB m →
    θ_run (Cert.DownB.defs (F := Bits)) (onTc (τ := Cert.DownB.τ) (Cert.DownB.main (F := Bits))) ⟨m, fun _ => 0, g⟩ (fun r => (∀ c : Dev Cert.DownB.nD,
      r.2.mem ((c.tc : Thread Cert.DownB.nD Cert.DownB.τ).loc Cert.DownB.main_arg0) = m ((c.tc : Thread Cert.DownB.nD Cert.DownB.τ).loc Cert.DownB.main_arg0)
      ∧ r.2.mem ((c.tc : Thread Cert.DownB.nD Cert.DownB.τ).loc Cert.DownB.main_arg1) = m ((c.tc : Thread Cert.DownB.nD Cert.DownB.τ).loc Cert.DownB.main_arg1)
      ∧ r.2.mem ((c.tc : Thread Cert.DownB.nD Cert.DownB.τ).loc Cert.DownB.main_arg2) = m ((c.tc : Thread Cert.DownB.nD Cert.DownB.τ).loc Cert.DownB.main_arg2)
      ∧ r.2.mem ((c.tc : Thread Cert.DownB.nD Cert.DownB.τ).loc Cert.DownB.main_arg3) = m ((c.tc : Thread Cert.DownB.nD Cert.DownB.τ).loc Cert.DownB.main_arg3)
      ∧ r.2.mem ((c.tc : Thread Cert.DownB.nD Cert.DownB.τ).loc Cert.DownB.main_arg4) = m ((c.tc : Thread Cert.DownB.nD Cert.DownB.τ).loc Cert.DownB.main_arg4))
      ∧ r.2.sem = fun _ => 0)

def quiescent_DownBIdeal [hDownBIdeal : Cert.DownBIdeal.Facts] : Prop :=
  ∀ (m : (ℓ : Loc Cert.DownBIdeal.nD Cert.DownBIdeal.τ Cert.DownBIdeal.sig) → Buf (Elt Ideal) ℓ) (g : Dev Cert.DownBIdeal.nD → PrngReg), Pre_DownBIdeal m →
    θ_run (Cert.DownBIdeal.defs (F := Ideal)) (onTc (τ := Cert.DownBIdeal.τ) (Cert.DownBIdeal.main (F := Ideal))) ⟨m, fun _ => 0, g⟩ (fun r => (∀ c : Dev Cert.DownBIdeal.nD,
      r.2.mem ((c.tc : Thread Cert.DownBIdeal.nD Cert.DownBIdeal.τ).loc Cert.DownBIdeal.main_arg0) = m ((c.tc : Thread Cert.DownBIdeal.nD Cert.DownBIdeal.τ).loc Cert.DownBIdeal.main_arg0)
      ∧ r.2.mem ((c.tc : Thread Cert.DownBIdeal.nD Cert.DownBIdeal.τ).loc Cert.DownBIdeal.main_arg1) = m ((c.tc : Thread Cert.DownBIdeal.nD Cert.DownBIdeal.τ).loc Cert.DownBIdeal.main_arg1)
      ∧ r.2.mem ((c.tc : Thread Cert.DownBIdeal.nD Cert.DownBIdeal.τ).loc Cert.DownBIdeal.main_arg2) = m ((c.tc : Thread Cert.DownBIdeal.nD Cert.DownBIdeal.τ).loc Cert.DownBIdeal.main_arg2)
      ∧ r.2.mem ((c.tc : Thread Cert.DownBIdeal.nD Cert.DownBIdeal.τ).loc Cert.DownBIdeal.main_arg3) = m ((c.tc : Thread Cert.DownBIdeal.nD Cert.DownBIdeal.τ).loc Cert.DownBIdeal.main_arg3)
      ∧ r.2.mem ((c.tc : Thread Cert.DownBIdeal.nD Cert.DownBIdeal.τ).loc Cert.DownBIdeal.main_arg4) = m ((c.tc : Thread Cert.DownBIdeal.nD Cert.DownBIdeal.τ).loc Cert.DownBIdeal.main_arg4))
      ∧ r.2.sem = fun _ => 0)

def quiescent_DownBRefIdeal [hDownBRefIdeal : Cert.DownBRefIdeal.Facts] : Prop :=
  ∀ (m : (ℓ : Loc Cert.DownBRefIdeal.nD Cert.DownBRefIdeal.τ Cert.DownBRefIdeal.sig) → Buf (Elt Ideal) ℓ) (g : Dev Cert.DownBRefIdeal.nD → PrngReg), Pre_DownBRefIdeal m →
    θ_run (Cert.DownBRefIdeal.defs (F := Ideal)) (onTc (τ := Cert.DownBRefIdeal.τ) (Cert.DownBRefIdeal.main (F := Ideal))) ⟨m, fun _ => 0, g⟩ (fun r => (∀ c : Dev Cert.DownBRefIdeal.nD,
      r.2.mem ((c.tc : Thread Cert.DownBRefIdeal.nD Cert.DownBRefIdeal.τ).loc Cert.DownBRefIdeal.main_arg0) = m ((c.tc : Thread Cert.DownBRefIdeal.nD Cert.DownBRefIdeal.τ).loc Cert.DownBRefIdeal.main_arg0)
      ∧ r.2.mem ((c.tc : Thread Cert.DownBRefIdeal.nD Cert.DownBRefIdeal.τ).loc Cert.DownBRefIdeal.main_arg1) = m ((c.tc : Thread Cert.DownBRefIdeal.nD Cert.DownBRefIdeal.τ).loc Cert.DownBRefIdeal.main_arg1)
      ∧ r.2.mem ((c.tc : Thread Cert.DownBRefIdeal.nD Cert.DownBRefIdeal.τ).loc Cert.DownBRefIdeal.main_arg2) = m ((c.tc : Thread Cert.DownBRefIdeal.nD Cert.DownBRefIdeal.τ).loc Cert.DownBRefIdeal.main_arg2)
      ∧ r.2.mem ((c.tc : Thread Cert.DownBRefIdeal.nD Cert.DownBRefIdeal.τ).loc Cert.DownBRefIdeal.main_arg3) = m ((c.tc : Thread Cert.DownBRefIdeal.nD Cert.DownBRefIdeal.τ).loc Cert.DownBRefIdeal.main_arg3)
      ∧ r.2.mem ((c.tc : Thread Cert.DownBRefIdeal.nD Cert.DownBRefIdeal.τ).loc Cert.DownBRefIdeal.main_arg4) = m ((c.tc : Thread Cert.DownBRefIdeal.nD Cert.DownBRefIdeal.τ).loc Cert.DownBRefIdeal.main_arg4))
      ∧ r.2.sem = fun _ => 0)

def quiescent_EDown [hEDown : Cert.EDown.Facts] [hPre_expert_table : Cert.Pre_expert_table.Facts] : Prop :=
  ∀ (m : (ℓ : Loc Cert.EDown.nD Cert.EDown.τ Cert.EDown.sig) → Buf (Elt Bits) ℓ) (g : Dev Cert.EDown.nD → PrngReg), Pre_EDown m →
    θ_run (Cert.EDown.defs (F := Bits)) (onTc (τ := Cert.EDown.τ) (Cert.EDown.main (F := Bits))) ⟨m, fun _ => 0, g⟩ (fun r => (∀ c : Dev Cert.EDown.nD,
      r.2.mem ((c.tc : Thread Cert.EDown.nD Cert.EDown.τ).loc Cert.EDown.main_arg0) = m ((c.tc : Thread Cert.EDown.nD Cert.EDown.τ).loc Cert.EDown.main_arg0)
      ∧ r.2.mem ((c.tc : Thread Cert.EDown.nD Cert.EDown.τ).loc Cert.EDown.main_arg1) = m ((c.tc : Thread Cert.EDown.nD Cert.EDown.τ).loc Cert.EDown.main_arg1)
      ∧ r.2.mem ((c.tc : Thread Cert.EDown.nD Cert.EDown.τ).loc Cert.EDown.main_arg2) = m ((c.tc : Thread Cert.EDown.nD Cert.EDown.τ).loc Cert.EDown.main_arg2))
      ∧ r.2.sem = fun _ => 0)

def quiescent_EDownIdeal [hEDownIdeal : Cert.EDownIdeal.Facts] [hPre_expert_table : Cert.Pre_expert_table.Facts] : Prop :=
  ∀ (m : (ℓ : Loc Cert.EDownIdeal.nD Cert.EDownIdeal.τ Cert.EDownIdeal.sig) → Buf (Elt Ideal) ℓ) (g : Dev Cert.EDownIdeal.nD → PrngReg), Pre_EDownIdeal m →
    θ_run (Cert.EDownIdeal.defs (F := Ideal)) (onTc (τ := Cert.EDownIdeal.τ) (Cert.EDownIdeal.main (F := Ideal))) ⟨m, fun _ => 0, g⟩ (fun r => (∀ c : Dev Cert.EDownIdeal.nD,
      r.2.mem ((c.tc : Thread Cert.EDownIdeal.nD Cert.EDownIdeal.τ).loc Cert.EDownIdeal.main_arg0) = m ((c.tc : Thread Cert.EDownIdeal.nD Cert.EDownIdeal.τ).loc Cert.EDownIdeal.main_arg0)
      ∧ r.2.mem ((c.tc : Thread Cert.EDownIdeal.nD Cert.EDownIdeal.τ).loc Cert.EDownIdeal.main_arg1) = m ((c.tc : Thread Cert.EDownIdeal.nD Cert.EDownIdeal.τ).loc Cert.EDownIdeal.main_arg1)
      ∧ r.2.mem ((c.tc : Thread Cert.EDownIdeal.nD Cert.EDownIdeal.τ).loc Cert.EDownIdeal.main_arg2) = m ((c.tc : Thread Cert.EDownIdeal.nD Cert.EDownIdeal.τ).loc Cert.EDownIdeal.main_arg2))
      ∧ r.2.sem = fun _ => 0)

def quiescent_EDownRefIdeal [hEDownRefIdeal : Cert.EDownRefIdeal.Facts] : Prop :=
  ∀ (m : (ℓ : Loc Cert.EDownRefIdeal.nD Cert.EDownRefIdeal.τ Cert.EDownRefIdeal.sig) → Buf (Elt Ideal) ℓ) (g : Dev Cert.EDownRefIdeal.nD → PrngReg), Pre_EDownRefIdeal m →
    θ_run (Cert.EDownRefIdeal.defs (F := Ideal)) (onTc (τ := Cert.EDownRefIdeal.τ) (Cert.EDownRefIdeal.main (F := Ideal))) ⟨m, fun _ => 0, g⟩ (fun r => (∀ c : Dev Cert.EDownRefIdeal.nD,
      r.2.mem ((c.tc : Thread Cert.EDownRefIdeal.nD Cert.EDownRefIdeal.τ).loc Cert.EDownRefIdeal.main_arg0) = m ((c.tc : Thread Cert.EDownRefIdeal.nD Cert.EDownRefIdeal.τ).loc Cert.EDownRefIdeal.main_arg0)
      ∧ r.2.mem ((c.tc : Thread Cert.EDownRefIdeal.nD Cert.EDownRefIdeal.τ).loc Cert.EDownRefIdeal.main_arg1) = m ((c.tc : Thread Cert.EDownRefIdeal.nD Cert.EDownRefIdeal.τ).loc Cert.EDownRefIdeal.main_arg1)
      ∧ r.2.mem ((c.tc : Thread Cert.EDownRefIdeal.nD Cert.EDownRefIdeal.τ).loc Cert.EDownRefIdeal.main_arg2) = m ((c.tc : Thread Cert.EDownRefIdeal.nD Cert.EDownRefIdeal.τ).loc Cert.EDownRefIdeal.main_arg2))
      ∧ r.2.sem = fun _ => 0)

def quiescent_EDownRefIdeal_pre_expert_table [hEDownRefIdeal : Cert.EDownRefIdeal.Facts] [hPre_expert_table : Cert.Pre_expert_table.Facts] : Prop :=
  ∀ (m : (ℓ : Loc Cert.EDownRefIdeal.nD Cert.EDownRefIdeal.τ Cert.EDownRefIdeal.sig) → Buf (Elt Ideal) ℓ) (g : Dev Cert.EDownRefIdeal.nD → PrngReg), Pre_EDownRefIdeal_expert_table m →
    θ_run (Cert.EDownRefIdeal.defs (F := Ideal)) (onTc (τ := Cert.EDownRefIdeal.τ) (Cert.EDownRefIdeal.main (F := Ideal))) ⟨m, fun _ => 0, g⟩ (fun r => (∀ c : Dev Cert.EDownRefIdeal.nD,
      r.2.mem ((c.tc : Thread Cert.EDownRefIdeal.nD Cert.EDownRefIdeal.τ).loc Cert.EDownRefIdeal.main_arg0) = m ((c.tc : Thread Cert.EDownRefIdeal.nD Cert.EDownRefIdeal.τ).loc Cert.EDownRefIdeal.main_arg0)
      ∧ r.2.mem ((c.tc : Thread Cert.EDownRefIdeal.nD Cert.EDownRefIdeal.τ).loc Cert.EDownRefIdeal.main_arg1) = m ((c.tc : Thread Cert.EDownRefIdeal.nD Cert.EDownRefIdeal.τ).loc Cert.EDownRefIdeal.main_arg1)
      ∧ r.2.mem ((c.tc : Thread Cert.EDownRefIdeal.nD Cert.EDownRefIdeal.τ).loc Cert.EDownRefIdeal.main_arg2) = m ((c.tc : Thread Cert.EDownRefIdeal.nD Cert.EDownRefIdeal.τ).loc Cert.EDownRefIdeal.main_arg2))
      ∧ r.2.sem = fun _ => 0)

def quiescent_EGlu [hEGlu : Cert.EGlu.Facts] [hPre_expert_table_glu : Cert.Pre_expert_table_glu.Facts] : Prop :=
  ∀ (m : (ℓ : Loc Cert.EGlu.nD Cert.EGlu.τ Cert.EGlu.sig) → Buf (Elt Bits) ℓ) (g : Dev Cert.EGlu.nD → PrngReg), Pre_EGlu m →
    θ_run (Cert.EGlu.defs (F := Bits)) (onTc (τ := Cert.EGlu.τ) (Cert.EGlu.main (F := Bits))) ⟨m, fun _ => 0, g⟩ (fun r => (∀ c : Dev Cert.EGlu.nD,
      r.2.mem ((c.tc : Thread Cert.EGlu.nD Cert.EGlu.τ).loc Cert.EGlu.main_arg0) = m ((c.tc : Thread Cert.EGlu.nD Cert.EGlu.τ).loc Cert.EGlu.main_arg0)
      ∧ r.2.mem ((c.tc : Thread Cert.EGlu.nD Cert.EGlu.τ).loc Cert.EGlu.main_arg1) = m ((c.tc : Thread Cert.EGlu.nD Cert.EGlu.τ).loc Cert.EGlu.main_arg1)
      ∧ r.2.mem ((c.tc : Thread Cert.EGlu.nD Cert.EGlu.τ).loc Cert.EGlu.main_arg2) = m ((c.tc : Thread Cert.EGlu.nD Cert.EGlu.τ).loc Cert.EGlu.main_arg2)
      ∧ r.2.mem ((c.tc : Thread Cert.EGlu.nD Cert.EGlu.τ).loc Cert.EGlu.main_arg3) = m ((c.tc : Thread Cert.EGlu.nD Cert.EGlu.τ).loc Cert.EGlu.main_arg3))
      ∧ r.2.sem = fun _ => 0)

def quiescent_EGluIdeal [hEGluIdeal : Cert.EGluIdeal.Facts] [hPre_expert_table_glu : Cert.Pre_expert_table_glu.Facts] : Prop :=
  ∀ (m : (ℓ : Loc Cert.EGluIdeal.nD Cert.EGluIdeal.τ Cert.EGluIdeal.sig) → Buf (Elt Ideal) ℓ) (g : Dev Cert.EGluIdeal.nD → PrngReg), Pre_EGluIdeal m →
    θ_run (Cert.EGluIdeal.defs (F := Ideal)) (onTc (τ := Cert.EGluIdeal.τ) (Cert.EGluIdeal.main (F := Ideal))) ⟨m, fun _ => 0, g⟩ (fun r => (∀ c : Dev Cert.EGluIdeal.nD,
      r.2.mem ((c.tc : Thread Cert.EGluIdeal.nD Cert.EGluIdeal.τ).loc Cert.EGluIdeal.main_arg0) = m ((c.tc : Thread Cert.EGluIdeal.nD Cert.EGluIdeal.τ).loc Cert.EGluIdeal.main_arg0)
      ∧ r.2.mem ((c.tc : Thread Cert.EGluIdeal.nD Cert.EGluIdeal.τ).loc Cert.EGluIdeal.main_arg1) = m ((c.tc : Thread Cert.EGluIdeal.nD Cert.EGluIdeal.τ).loc Cert.EGluIdeal.main_arg1)
      ∧ r.2.mem ((c.tc : Thread Cert.EGluIdeal.nD Cert.EGluIdeal.τ).loc Cert.EGluIdeal.main_arg2) = m ((c.tc : Thread Cert.EGluIdeal.nD Cert.EGluIdeal.τ).loc Cert.EGluIdeal.main_arg2)
      ∧ r.2.mem ((c.tc : Thread Cert.EGluIdeal.nD Cert.EGluIdeal.τ).loc Cert.EGluIdeal.main_arg3) = m ((c.tc : Thread Cert.EGluIdeal.nD Cert.EGluIdeal.τ).loc Cert.EGluIdeal.main_arg3))
      ∧ r.2.sem = fun _ => 0)

def quiescent_EGluRefIdeal [hEGluRefIdeal : Cert.EGluRefIdeal.Facts] : Prop :=
  ∀ (m : (ℓ : Loc Cert.EGluRefIdeal.nD Cert.EGluRefIdeal.τ Cert.EGluRefIdeal.sig) → Buf (Elt Ideal) ℓ) (g : Dev Cert.EGluRefIdeal.nD → PrngReg), Pre_EGluRefIdeal m →
    θ_run (Cert.EGluRefIdeal.defs (F := Ideal)) (onTc (τ := Cert.EGluRefIdeal.τ) (Cert.EGluRefIdeal.main (F := Ideal))) ⟨m, fun _ => 0, g⟩ (fun r => (∀ c : Dev Cert.EGluRefIdeal.nD,
      r.2.mem ((c.tc : Thread Cert.EGluRefIdeal.nD Cert.EGluRefIdeal.τ).loc Cert.EGluRefIdeal.main_arg0) = m ((c.tc : Thread Cert.EGluRefIdeal.nD Cert.EGluRefIdeal.τ).loc Cert.EGluRefIdeal.main_arg0)
      ∧ r.2.mem ((c.tc : Thread Cert.EGluRefIdeal.nD Cert.EGluRefIdeal.τ).loc Cert.EGluRefIdeal.main_arg1) = m ((c.tc : Thread Cert.EGluRefIdeal.nD Cert.EGluRefIdeal.τ).loc Cert.EGluRefIdeal.main_arg1)
      ∧ r.2.mem ((c.tc : Thread Cert.EGluRefIdeal.nD Cert.EGluRefIdeal.τ).loc Cert.EGluRefIdeal.main_arg2) = m ((c.tc : Thread Cert.EGluRefIdeal.nD Cert.EGluRefIdeal.τ).loc Cert.EGluRefIdeal.main_arg2)
      ∧ r.2.mem ((c.tc : Thread Cert.EGluRefIdeal.nD Cert.EGluRefIdeal.τ).loc Cert.EGluRefIdeal.main_arg3) = m ((c.tc : Thread Cert.EGluRefIdeal.nD Cert.EGluRefIdeal.τ).loc Cert.EGluRefIdeal.main_arg3))
      ∧ r.2.sem = fun _ => 0)

def quiescent_EGluRefIdeal_pre_expert_table_glu [hEGluRefIdeal : Cert.EGluRefIdeal.Facts] [hPre_expert_table_glu : Cert.Pre_expert_table_glu.Facts] : Prop :=
  ∀ (m : (ℓ : Loc Cert.EGluRefIdeal.nD Cert.EGluRefIdeal.τ Cert.EGluRefIdeal.sig) → Buf (Elt Ideal) ℓ) (g : Dev Cert.EGluRefIdeal.nD → PrngReg), Pre_EGluRefIdeal_expert_table_glu m →
    θ_run (Cert.EGluRefIdeal.defs (F := Ideal)) (onTc (τ := Cert.EGluRefIdeal.τ) (Cert.EGluRefIdeal.main (F := Ideal))) ⟨m, fun _ => 0, g⟩ (fun r => (∀ c : Dev Cert.EGluRefIdeal.nD,
      r.2.mem ((c.tc : Thread Cert.EGluRefIdeal.nD Cert.EGluRefIdeal.τ).loc Cert.EGluRefIdeal.main_arg0) = m ((c.tc : Thread Cert.EGluRefIdeal.nD Cert.EGluRefIdeal.τ).loc Cert.EGluRefIdeal.main_arg0)
      ∧ r.2.mem ((c.tc : Thread Cert.EGluRefIdeal.nD Cert.EGluRefIdeal.τ).loc Cert.EGluRefIdeal.main_arg1) = m ((c.tc : Thread Cert.EGluRefIdeal.nD Cert.EGluRefIdeal.τ).loc Cert.EGluRefIdeal.main_arg1)
      ∧ r.2.mem ((c.tc : Thread Cert.EGluRefIdeal.nD Cert.EGluRefIdeal.τ).loc Cert.EGluRefIdeal.main_arg2) = m ((c.tc : Thread Cert.EGluRefIdeal.nD Cert.EGluRefIdeal.τ).loc Cert.EGluRefIdeal.main_arg2)
      ∧ r.2.mem ((c.tc : Thread Cert.EGluRefIdeal.nD Cert.EGluRefIdeal.τ).loc Cert.EGluRefIdeal.main_arg3) = m ((c.tc : Thread Cert.EGluRefIdeal.nD Cert.EGluRefIdeal.τ).loc Cert.EGluRefIdeal.main_arg3))
      ∧ r.2.sem = fun _ => 0)

def preserves_Attn_AttnIdeal : Prop :=
  True

def algebraic_AttnIdeal_AttnRefIdeal_pre_finite_tables [hAttnIdeal : Cert.AttnIdeal.Facts] [hAttnRefIdeal : Cert.AttnRefIdeal.Facts] [hPre_finite_tables : Cert.Pre_finite_tables.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_tables m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v21)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v21) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v109) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v7) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v18) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v18) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_DownB_DownBIdeal : Prop :=
  True

def algebraic_DownBIdeal_DownBRefIdeal [hDownBIdeal : Cert.DownBIdeal.Facts] [hDownBRefIdeal : Cert.DownBRefIdeal.Facts] : Prop :=
  ∀ (m : (ℓ : Loc Cert.DownBIdeal.nD Cert.DownBIdeal.τ Cert.DownBIdeal.sig) → Buf (Elt Ideal) ℓ) (g : Dev Cert.DownBIdeal.nD → PrngReg)
    (m' : (ℓ : Loc Cert.DownBRefIdeal.nD Cert.DownBRefIdeal.τ Cert.DownBRefIdeal.sig) → Buf (Elt Ideal) ℓ) (g' : Dev Cert.DownBRefIdeal.nD → PrngReg), Pre_DownBIdeal m →
    (∀ c : Dev Cert.DownBIdeal.nD,
      m' ((c.tc : Thread Cert.DownBRefIdeal.nD Cert.DownBRefIdeal.τ).loc Cert.DownBRefIdeal.main_arg0) = m ((c.tc : Thread Cert.DownBIdeal.nD Cert.DownBIdeal.τ).loc Cert.DownBIdeal.main_arg0)
      ∧ m' ((c.tc : Thread Cert.DownBRefIdeal.nD Cert.DownBRefIdeal.τ).loc Cert.DownBRefIdeal.main_arg1) = m ((c.tc : Thread Cert.DownBIdeal.nD Cert.DownBIdeal.τ).loc Cert.DownBIdeal.main_arg1)
      ∧ m' ((c.tc : Thread Cert.DownBRefIdeal.nD Cert.DownBRefIdeal.τ).loc Cert.DownBRefIdeal.main_arg2) = m ((c.tc : Thread Cert.DownBIdeal.nD Cert.DownBIdeal.τ).loc Cert.DownBIdeal.main_arg2)
      ∧ m' ((c.tc : Thread Cert.DownBRefIdeal.nD Cert.DownBRefIdeal.τ).loc Cert.DownBRefIdeal.main_arg3) = m ((c.tc : Thread Cert.DownBIdeal.nD Cert.DownBIdeal.τ).loc Cert.DownBIdeal.main_arg3)
      ∧ m' ((c.tc : Thread Cert.DownBRefIdeal.nD Cert.DownBRefIdeal.τ).loc Cert.DownBRefIdeal.main_arg4) = m ((c.tc : Thread Cert.DownBIdeal.nD Cert.DownBIdeal.τ).loc Cert.DownBIdeal.main_arg4)) →
    ∃ (v0 : (c : Dev Cert.DownBIdeal.nD) → Buf (Elt Ideal) ((c.tc : Thread Cert.DownBIdeal.nD Cert.DownBIdeal.τ).loc Cert.DownBIdeal.main_v0)),
      θ_run (Cert.DownBIdeal.defs (F := Ideal)) (onTc (τ := Cert.DownBIdeal.τ) (Cert.DownBIdeal.main (F := Ideal))) ⟨m, fun _ => 0, g⟩ (fun r => ∀ c : Dev Cert.DownBIdeal.nD,
          r.2.mem ((c.tc : Thread Cert.DownBIdeal.nD Cert.DownBIdeal.τ).loc Cert.DownBIdeal.main_v0) = v0 c
          ∧ r.2.mem ((c.tc : Thread Cert.DownBIdeal.nD Cert.DownBIdeal.τ).loc Cert.DownBIdeal.main_arg0) = m ((c.tc : Thread Cert.DownBIdeal.nD Cert.DownBIdeal.τ).loc Cert.DownBIdeal.main_arg0)
          ∧ r.2.mem ((c.tc : Thread Cert.DownBIdeal.nD Cert.DownBIdeal.τ).loc Cert.DownBIdeal.main_arg1) = m ((c.tc : Thread Cert.DownBIdeal.nD Cert.DownBIdeal.τ).loc Cert.DownBIdeal.main_arg1)
          ∧ r.2.mem ((c.tc : Thread Cert.DownBIdeal.nD Cert.DownBIdeal.τ).loc Cert.DownBIdeal.main_arg2) = m ((c.tc : Thread Cert.DownBIdeal.nD Cert.DownBIdeal.τ).loc Cert.DownBIdeal.main_arg2)
          ∧ r.2.mem ((c.tc : Thread Cert.DownBIdeal.nD Cert.DownBIdeal.τ).loc Cert.DownBIdeal.main_arg3) = m ((c.tc : Thread Cert.DownBIdeal.nD Cert.DownBIdeal.τ).loc Cert.DownBIdeal.main_arg3)
          ∧ r.2.mem ((c.tc : Thread Cert.DownBIdeal.nD Cert.DownBIdeal.τ).loc Cert.DownBIdeal.main_arg4) = m ((c.tc : Thread Cert.DownBIdeal.nD Cert.DownBIdeal.τ).loc Cert.DownBIdeal.main_arg4))
      ∧ θ_run (Cert.DownBRefIdeal.defs (F := Ideal)) (onTc (τ := Cert.DownBRefIdeal.τ) (Cert.DownBRefIdeal.main (F := Ideal))) ⟨m', fun _ => 0, g'⟩ (fun r => ∀ c : Dev Cert.DownBRefIdeal.nD,
          r.2.mem ((c.tc : Thread Cert.DownBRefIdeal.nD Cert.DownBRefIdeal.τ).loc Cert.DownBRefIdeal.main_v18) = v0 c
          ∧ r.2.mem ((c.tc : Thread Cert.DownBRefIdeal.nD Cert.DownBRefIdeal.τ).loc Cert.DownBRefIdeal.main_arg0) = m' ((c.tc : Thread Cert.DownBRefIdeal.nD Cert.DownBRefIdeal.τ).loc Cert.DownBRefIdeal.main_arg0)
          ∧ r.2.mem ((c.tc : Thread Cert.DownBRefIdeal.nD Cert.DownBRefIdeal.τ).loc Cert.DownBRefIdeal.main_arg1) = m' ((c.tc : Thread Cert.DownBRefIdeal.nD Cert.DownBRefIdeal.τ).loc Cert.DownBRefIdeal.main_arg1)
          ∧ r.2.mem ((c.tc : Thread Cert.DownBRefIdeal.nD Cert.DownBRefIdeal.τ).loc Cert.DownBRefIdeal.main_arg2) = m' ((c.tc : Thread Cert.DownBRefIdeal.nD Cert.DownBRefIdeal.τ).loc Cert.DownBRefIdeal.main_arg2)
          ∧ r.2.mem ((c.tc : Thread Cert.DownBRefIdeal.nD Cert.DownBRefIdeal.τ).loc Cert.DownBRefIdeal.main_arg3) = m' ((c.tc : Thread Cert.DownBRefIdeal.nD Cert.DownBRefIdeal.τ).loc Cert.DownBRefIdeal.main_arg3)
          ∧ r.2.mem ((c.tc : Thread Cert.DownBRefIdeal.nD Cert.DownBRefIdeal.τ).loc Cert.DownBRefIdeal.main_arg4) = m' ((c.tc : Thread Cert.DownBRefIdeal.nD Cert.DownBRefIdeal.τ).loc Cert.DownBRefIdeal.main_arg4))

def preserves_EDown_EDownIdeal : Prop :=
  True

def algebraic_EDownIdeal_EDownRefIdeal [hEDownIdeal : Cert.EDownIdeal.Facts] [hEDownRefIdeal : Cert.EDownRefIdeal.Facts] [hPre_expert_table : Cert.Pre_expert_table.Facts] : Prop :=
  ∀ (m : (ℓ : Loc Cert.EDownIdeal.nD Cert.EDownIdeal.τ Cert.EDownIdeal.sig) → Buf (Elt Ideal) ℓ) (g : Dev Cert.EDownIdeal.nD → PrngReg)
    (m' : (ℓ : Loc Cert.EDownRefIdeal.nD Cert.EDownRefIdeal.τ Cert.EDownRefIdeal.sig) → Buf (Elt Ideal) ℓ) (g' : Dev Cert.EDownRefIdeal.nD → PrngReg), Pre_EDownIdeal m →
    (∀ c : Dev Cert.EDownIdeal.nD,
      m' ((c.tc : Thread Cert.EDownRefIdeal.nD Cert.EDownRefIdeal.τ).loc Cert.EDownRefIdeal.main_arg0) = m ((c.tc : Thread Cert.EDownIdeal.nD Cert.EDownIdeal.τ).loc Cert.EDownIdeal.main_arg0)
      ∧ m' ((c.tc : Thread Cert.EDownRefIdeal.nD Cert.EDownRefIdeal.τ).loc Cert.EDownRefIdeal.main_arg1) = m ((c.tc : Thread Cert.EDownIdeal.nD Cert.EDownIdeal.τ).loc Cert.EDownIdeal.main_arg1)
      ∧ m' ((c.tc : Thread Cert.EDownRefIdeal.nD Cert.EDownRefIdeal.τ).loc Cert.EDownRefIdeal.main_arg2) = m ((c.tc : Thread Cert.EDownIdeal.nD Cert.EDownIdeal.τ).loc Cert.EDownIdeal.main_arg2)) →
    ∃ (v0 : (c : Dev Cert.EDownIdeal.nD) → Buf (Elt Ideal) ((c.tc : Thread Cert.EDownIdeal.nD Cert.EDownIdeal.τ).loc Cert.EDownIdeal.main_v0)),
      θ_run (Cert.EDownIdeal.defs (F := Ideal)) (onTc (τ := Cert.EDownIdeal.τ) (Cert.EDownIdeal.main (F := Ideal))) ⟨m, fun _ => 0, g⟩ (fun r => ∀ c : Dev Cert.EDownIdeal.nD,
          r.2.mem ((c.tc : Thread Cert.EDownIdeal.nD Cert.EDownIdeal.τ).loc Cert.EDownIdeal.main_v0) = v0 c
          ∧ r.2.mem ((c.tc : Thread Cert.EDownIdeal.nD Cert.EDownIdeal.τ).loc Cert.EDownIdeal.main_arg0) = m ((c.tc : Thread Cert.EDownIdeal.nD Cert.EDownIdeal.τ).loc Cert.EDownIdeal.main_arg0)
          ∧ r.2.mem ((c.tc : Thread Cert.EDownIdeal.nD Cert.EDownIdeal.τ).loc Cert.EDownIdeal.main_arg1) = m ((c.tc : Thread Cert.EDownIdeal.nD Cert.EDownIdeal.τ).loc Cert.EDownIdeal.main_arg1)
          ∧ r.2.mem ((c.tc : Thread Cert.EDownIdeal.nD Cert.EDownIdeal.τ).loc Cert.EDownIdeal.main_arg2) = m ((c.tc : Thread Cert.EDownIdeal.nD Cert.EDownIdeal.τ).loc Cert.EDownIdeal.main_arg2))
      ∧ θ_run (Cert.EDownRefIdeal.defs (F := Ideal)) (onTc (τ := Cert.EDownRefIdeal.τ) (Cert.EDownRefIdeal.main (F := Ideal))) ⟨m', fun _ => 0, g'⟩ (fun r => ∀ c : Dev Cert.EDownRefIdeal.nD,
          r.2.mem ((c.tc : Thread Cert.EDownRefIdeal.nD Cert.EDownRefIdeal.τ).loc Cert.EDownRefIdeal.main_v74) = v0 c
          ∧ r.2.mem ((c.tc : Thread Cert.EDownRefIdeal.nD Cert.EDownRefIdeal.τ).loc Cert.EDownRefIdeal.main_arg0) = m' ((c.tc : Thread Cert.EDownRefIdeal.nD Cert.EDownRefIdeal.τ).loc Cert.EDownRefIdeal.main_arg0)
          ∧ r.2.mem ((c.tc : Thread Cert.EDownRefIdeal.nD Cert.EDownRefIdeal.τ).loc Cert.EDownRefIdeal.main_arg1) = m' ((c.tc : Thread Cert.EDownRefIdeal.nD Cert.EDownRefIdeal.τ).loc Cert.EDownRefIdeal.main_arg1)
          ∧ r.2.mem ((c.tc : Thread Cert.EDownRefIdeal.nD Cert.EDownRefIdeal.τ).loc Cert.EDownRefIdeal.main_arg2) = m' ((c.tc : Thread Cert.EDownRefIdeal.nD Cert.EDownRefIdeal.τ).loc Cert.EDownRefIdeal.main_arg2))

def preserves_EGlu_EGluIdeal : Prop :=
  True

def algebraic_EGluIdeal_EGluRefIdeal [hEGluIdeal : Cert.EGluIdeal.Facts] [hEGluRefIdeal : Cert.EGluRefIdeal.Facts] [hPre_expert_table_glu : Cert.Pre_expert_table_glu.Facts] : Prop :=
  ∀ (m : (ℓ : Loc Cert.EGluIdeal.nD Cert.EGluIdeal.τ Cert.EGluIdeal.sig) → Buf (Elt Ideal) ℓ) (g : Dev Cert.EGluIdeal.nD → PrngReg)
    (m' : (ℓ : Loc Cert.EGluRefIdeal.nD Cert.EGluRefIdeal.τ Cert.EGluRefIdeal.sig) → Buf (Elt Ideal) ℓ) (g' : Dev Cert.EGluRefIdeal.nD → PrngReg), Pre_EGluIdeal m →
    (∀ c : Dev Cert.EGluIdeal.nD,
      m' ((c.tc : Thread Cert.EGluRefIdeal.nD Cert.EGluRefIdeal.τ).loc Cert.EGluRefIdeal.main_arg0) = m ((c.tc : Thread Cert.EGluIdeal.nD Cert.EGluIdeal.τ).loc Cert.EGluIdeal.main_arg0)
      ∧ m' ((c.tc : Thread Cert.EGluRefIdeal.nD Cert.EGluRefIdeal.τ).loc Cert.EGluRefIdeal.main_arg1) = m ((c.tc : Thread Cert.EGluIdeal.nD Cert.EGluIdeal.τ).loc Cert.EGluIdeal.main_arg1)
      ∧ m' ((c.tc : Thread Cert.EGluRefIdeal.nD Cert.EGluRefIdeal.τ).loc Cert.EGluRefIdeal.main_arg2) = m ((c.tc : Thread Cert.EGluIdeal.nD Cert.EGluIdeal.τ).loc Cert.EGluIdeal.main_arg2)
      ∧ m' ((c.tc : Thread Cert.EGluRefIdeal.nD Cert.EGluRefIdeal.τ).loc Cert.EGluRefIdeal.main_arg3) = m ((c.tc : Thread Cert.EGluIdeal.nD Cert.EGluIdeal.τ).loc Cert.EGluIdeal.main_arg3)) →
    ∃ (v0 : (c : Dev Cert.EGluIdeal.nD) → Buf (Elt Ideal) ((c.tc : Thread Cert.EGluIdeal.nD Cert.EGluIdeal.τ).loc Cert.EGluIdeal.main_v0)),
      θ_run (Cert.EGluIdeal.defs (F := Ideal)) (onTc (τ := Cert.EGluIdeal.τ) (Cert.EGluIdeal.main (F := Ideal))) ⟨m, fun _ => 0, g⟩ (fun r => ∀ c : Dev Cert.EGluIdeal.nD,
          r.2.mem ((c.tc : Thread Cert.EGluIdeal.nD Cert.EGluIdeal.τ).loc Cert.EGluIdeal.main_v0) = v0 c
          ∧ r.2.mem ((c.tc : Thread Cert.EGluIdeal.nD Cert.EGluIdeal.τ).loc Cert.EGluIdeal.main_arg0) = m ((c.tc : Thread Cert.EGluIdeal.nD Cert.EGluIdeal.τ).loc Cert.EGluIdeal.main_arg0)
          ∧ r.2.mem ((c.tc : Thread Cert.EGluIdeal.nD Cert.EGluIdeal.τ).loc Cert.EGluIdeal.main_arg1) = m ((c.tc : Thread Cert.EGluIdeal.nD Cert.EGluIdeal.τ).loc Cert.EGluIdeal.main_arg1)
          ∧ r.2.mem ((c.tc : Thread Cert.EGluIdeal.nD Cert.EGluIdeal.τ).loc Cert.EGluIdeal.main_arg2) = m ((c.tc : Thread Cert.EGluIdeal.nD Cert.EGluIdeal.τ).loc Cert.EGluIdeal.main_arg2)
          ∧ r.2.mem ((c.tc : Thread Cert.EGluIdeal.nD Cert.EGluIdeal.τ).loc Cert.EGluIdeal.main_arg3) = m ((c.tc : Thread Cert.EGluIdeal.nD Cert.EGluIdeal.τ).loc Cert.EGluIdeal.main_arg3))
      ∧ θ_run (Cert.EGluRefIdeal.defs (F := Ideal)) (onTc (τ := Cert.EGluRefIdeal.τ) (Cert.EGluRefIdeal.main (F := Ideal))) ⟨m', fun _ => 0, g'⟩ (fun r => ∀ c : Dev Cert.EGluRefIdeal.nD,
          r.2.mem ((c.tc : Thread Cert.EGluRefIdeal.nD Cert.EGluRefIdeal.τ).loc Cert.EGluRefIdeal.main_v121) = v0 c
          ∧ r.2.mem ((c.tc : Thread Cert.EGluRefIdeal.nD Cert.EGluRefIdeal.τ).loc Cert.EGluRefIdeal.main_arg0) = m' ((c.tc : Thread Cert.EGluRefIdeal.nD Cert.EGluRefIdeal.τ).loc Cert.EGluRefIdeal.main_arg0)
          ∧ r.2.mem ((c.tc : Thread Cert.EGluRefIdeal.nD Cert.EGluRefIdeal.τ).loc Cert.EGluRefIdeal.main_arg1) = m' ((c.tc : Thread Cert.EGluRefIdeal.nD Cert.EGluRefIdeal.τ).loc Cert.EGluRefIdeal.main_arg1)
          ∧ r.2.mem ((c.tc : Thread Cert.EGluRefIdeal.nD Cert.EGluRefIdeal.τ).loc Cert.EGluRefIdeal.main_arg2) = m' ((c.tc : Thread Cert.EGluRefIdeal.nD Cert.EGluRefIdeal.τ).loc Cert.EGluRefIdeal.main_arg2)
          ∧ r.2.mem ((c.tc : Thread Cert.EGluRefIdeal.nD Cert.EGluRefIdeal.τ).loc Cert.EGluRefIdeal.main_arg3) = m' ((c.tc : Thread Cert.EGluRefIdeal.nD Cert.EGluRefIdeal.τ).loc Cert.EGluRefIdeal.main_arg3))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hDown : Cert.Down.Facts) (hDownIdeal : Cert.DownIdeal.Facts) (hDownRefIdeal : Cert.DownRefIdeal.Facts) (hDownB : Cert.DownB.Facts) (hDownBIdeal : Cert.DownBIdeal.Facts) (hDownBRefIdeal : Cert.DownBRefIdeal.Facts) (hEDown : Cert.EDown.Facts) (hEDownIdeal : Cert.EDownIdeal.Facts) (hEDownRefIdeal : Cert.EDownRefIdeal.Facts) (hEGlu : Cert.EGlu.Facts) (hEGluIdeal : Cert.EGluIdeal.Facts) (hEGluRefIdeal : Cert.EGluRefIdeal.Facts) (hPre_finite_tables : Cert.Pre_finite_tables.Facts) (hPre_expert_table : Cert.Pre_expert_table.Facts) (hPre_expert_table_glu : Cert.Pre_expert_table_glu.Facts),
    quiescent_Attn (hAttn := hAttn)
    ∧ quiescent_AttnIdeal (hAttnIdeal := hAttnIdeal)
    ∧ quiescent_AttnIdeal_pre_finite_tables (hAttnIdeal := hAttnIdeal) (hPre_finite_tables := hPre_finite_tables)
    ∧ quiescent_AttnRefIdeal (hAttnRefIdeal := hAttnRefIdeal)
    ∧ quiescent_AttnRefIdeal_pre_finite_tables (hAttnRefIdeal := hAttnRefIdeal) (hPre_finite_tables := hPre_finite_tables)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Down (hDown := hDown)
    ∧ quiescent_DownIdeal (hDownIdeal := hDownIdeal)
    ∧ quiescent_DownRefIdeal (hDownRefIdeal := hDownRefIdeal)
    ∧ quiescent_DownB (hDownB := hDownB)
    ∧ quiescent_DownBIdeal (hDownBIdeal := hDownBIdeal)
    ∧ quiescent_DownBRefIdeal (hDownBRefIdeal := hDownBRefIdeal)
    ∧ quiescent_EDown (hEDown := hEDown) (hPre_expert_table := hPre_expert_table)
    ∧ quiescent_EDownIdeal (hEDownIdeal := hEDownIdeal) (hPre_expert_table := hPre_expert_table)
    ∧ quiescent_EDownRefIdeal (hEDownRefIdeal := hEDownRefIdeal)
    ∧ quiescent_EDownRefIdeal_pre_expert_table (hEDownRefIdeal := hEDownRefIdeal) (hPre_expert_table := hPre_expert_table)
    ∧ quiescent_EGlu (hEGlu := hEGlu) (hPre_expert_table_glu := hPre_expert_table_glu)
    ∧ quiescent_EGluIdeal (hEGluIdeal := hEGluIdeal) (hPre_expert_table_glu := hPre_expert_table_glu)
    ∧ quiescent_EGluRefIdeal (hEGluRefIdeal := hEGluRefIdeal)
    ∧ quiescent_EGluRefIdeal_pre_expert_table_glu (hEGluRefIdeal := hEGluRefIdeal) (hPre_expert_table_glu := hPre_expert_table_glu)
    ∧ preserves_Attn_AttnIdeal
    ∧ algebraic_AttnIdeal_AttnRefIdeal_pre_finite_tables (hAttnIdeal := hAttnIdeal) (hAttnRefIdeal := hAttnRefIdeal) (hPre_finite_tables := hPre_finite_tables)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Down_DownIdeal
    ∧ algebraic_DownIdeal_DownRefIdeal (hDownIdeal := hDownIdeal) (hDownRefIdeal := hDownRefIdeal)
    ∧ preserves_DownB_DownBIdeal
    ∧ algebraic_DownBIdeal_DownBRefIdeal (hDownBIdeal := hDownBIdeal) (hDownBRefIdeal := hDownBRefIdeal)
    ∧ preserves_EDown_EDownIdeal
    ∧ algebraic_EDownIdeal_EDownRefIdeal (hEDownIdeal := hEDownIdeal) (hEDownRefIdeal := hEDownRefIdeal) (hPre_expert_table := hPre_expert_table)
    ∧ preserves_EGlu_EGluIdeal
    ∧ algebraic_EGluIdeal_EGluRefIdeal (hEGluIdeal := hEGluIdeal) (hEGluRefIdeal := hEGluRefIdeal) (hPre_expert_table_glu := hPre_expert_table_glu)
-- ==== Pre_expert_table.lean ====
abbrev S36864x5120 : Shape := ⟨2, ![36864, 5120]⟩
abbrev S1x8x5120x4096 : Shape := ⟨4, ![1, 8, 5120, 4096]⟩
abbrev S73 : Shape := ⟨1, ![73]⟩
abbrev S72 : Shape := ⟨1, ![72]⟩
abbrev S_ : Shape := ⟨0, ![]⟩

class Facts : Prop where
  slices_S73_S72_0 : S73.Slices ![0] S72
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S36864x5120 .bf16) (main_arg1 : FVec F S1x8x5120x4096 .f32) (main_arg2 : IVec S73 32) : IVec S_ 1 :=
  let main_v0 : IVec S72 32 := (extractStridedSlice S72 ![0] · slices_S73_S72_0) main_arg2
  let main_c : IVec S_ 32 := constantI S_ 32 0#32
  let main_v1 : IVec S72 32 := broadcastInDim S72 ![] bcast_S_S72 main_c
  let main_v2 : IVec S72 1 := cmpi .sge main_v0 main_v1
  let main_v3 : IVec S72 32 := (extractStridedSlice S72 ![0] · slices_S73_S72_0) main_arg2
  let main_c_0 : IVec S_ 32 := constantI S_ 32 8#32
  let main_v4 : IVec S72 32 := broadcastInDim S72 ![] bcast_S_S72 main_c_0
  let main_v5 : IVec S72 1 := cmpi .slt main_v3 main_v4
  let main_v6 : IVec S72 1 := andi main_v2 main_v5
  let main_c_1 : IVec S_ 1 := constantI S_ 1 1#1
  let main_v7 : IVec S_ 1 := (fun x v => Host.reduce IntOp.andi x v reducesTo_S72_S_d0 h_S_) main_v6 main_c_1
  main_v7
-- ==== Pre_expert_table_glu.lean ====
abbrev S36864x2048 : Shape := ⟨2, ![36864, 2048]⟩
abbrev S1x8x4096x5120 : Shape := ⟨4, ![1, 8, 4096, 5120]⟩
abbrev S73 : Shape := ⟨1, ![73]⟩
abbrev S72 : Shape := ⟨1, ![72]⟩
abbrev S_ : Shape := ⟨0, ![]⟩

class Facts : Prop where
  slices_S73_S72_0 : S73.Slices ![0] S72
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : IVec S36864x2048 32) (main_arg1 : FVec F S1x8x4096x5120 .f32) (main_arg2 : FVec F S1x8x4096x5120 .f32) (main_arg3 : IVec S73 32) : IVec S_ 1 :=
  let main_v0 : IVec S72 32 := (extractStridedSlice S72 ![0] · slices_S73_S72_0) main_arg3
  let main_c : IVec S_ 32 := constantI S_ 32 0#32
  let main_v1 : IVec S72 32 := broadcastInDim S72 ![] bcast_S_S72 main_c
  let main_v2 : IVec S72 1 := cmpi .sge main_v0 main_v1
  let main_v3 : IVec S72 32 := (extractStridedSlice S72 ![0] · slices_S73_S72_0) main_arg3
  let main_c_0 : IVec S_ 32 := constantI S_ 32 8#32
  let main_v4 : IVec S72 32 := broadcastInDim S72 ![] bcast_S_S72 main_c_0
  let main_v5 : IVec S72 1 := cmpi .slt main_v3 main_v4
  let main_v6 : IVec S72 1 := andi main_v2 main_v5
  let main_c_1 : IVec S_ 1 := constantI S_ 1 1#1
  let main_v7 : IVec S_ 1 := (fun x v => Host.reduce IntOp.andi x v reducesTo_S72_S_d0 h_S_) main_v6 main_c_1
  main_v7
-- ==== Pre_finite_tables.lean ====
abbrev S8x92x2048x128 : Shape := ⟨4, ![8, 92, 2048, 128]⟩
abbrev S12x257 : Shape := ⟨2, ![12, 257]⟩
abbrev S128 : Shape := ⟨1, ![128]⟩
abbrev S_ : Shape := ⟨0, ![]⟩

class Facts : Prop where
  bcast_S_S12x257 : S_.BroadcastsInDim S12x257 (![] : Fin 0 → Fin S12x257.rank)
  reducesTo_S12x257_S_d0_1 : S12x257.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S8x92x2048x128 .bf16) (main_arg1 : FVec F S12x257 .f32) (main_arg2 : FVec F S128 .f32) (main_arg3 : FVec F S128 .f32) : IVec S_ 1 :=
  let main_v0 : FVec F S12x257 .f32 := Host.absf main_arg1
  let main_cst : FVec F S_ .f32 := constant S_ .f32 0x7F800000#32
  let main_v1 : FVec F S12x257 .f32 := broadcastInDim S12x257 ![] bcast_S_S12x257 main_cst
  let main_v2 : IVec S12x257 1 := cmpf .olt main_v0 main_v1
  let main_c : IVec S_ 1 := constantI S_ 1 1#1
  let main_v3 : IVec S_ 1 := (fun x v => Host.reduce IntOp.andi x v reducesTo_S12x257_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Attn.lean ====
abbrev S8x92x2048x128 : Shape := ⟨4, ![8, 92, 2048, 128]⟩
abbrev S12x257 : Shape := ⟨2, ![12, 257]⟩
abbrev S128 : Shape := ⟨1, ![128]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S12x64x576 : Shape := ⟨3, ![12, 64, 576]⟩
abbrev S1x128 : Shape := ⟨2, ![1, 128]⟩
abbrev S8x2048x1536 : Shape := ⟨3, ![8, 2048, 1536]⟩
abbrev S1x1x2048x128 : Shape := ⟨4, ![1, 1, 2048, 128]⟩
abbrev S1x64x576 : Shape := ⟨3, ![1, 64, 576]⟩
abbrev S1x2048x128 : Shape := ⟨3, ![1, 2048, 128]⟩
abbrev S2560x128 : Shape := ⟨2, ![2560, 128]⟩
abbrev S512x128 : Shape := ⟨2, ![512, 128]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩
abbrev S1x1x64x128 : Shape := ⟨4, ![1, 1, 64, 128]⟩
abbrev S64x128 : Shape := ⟨2, ![64, 128]⟩
abbrev S576x128 : Shape := ⟨2, ![576, 128]⟩
abbrev S1x64x128 : Shape := ⟨3, ![1, 64, 128]⟩

abbrev nBuf : Space → Nat
  | .hbm => 37
  | .vmem => 14
  | .smem => 0
  | _ => 0

abbrev bufTy : (tb : Table) → Fin (tcTables nBuf tb) → BufTy
  | .hbm, ⟨0, _⟩ => ⟨S8x92x2048x128, .bf16⟩
  | .hbm, ⟨1, _⟩ => ⟨S12x257, .f32⟩
  | .hbm, ⟨2, _⟩ => ⟨S128, .f32⟩
  | .hbm, ⟨3, _⟩ => ⟨S128, .f32⟩
  | .hbm, ⟨4, _⟩ => ⟨S64, .i32⟩
  | .hbm, ⟨5, _⟩ => ⟨S64x1, .i32⟩
  | .hbm, ⟨6, _⟩ => ⟨S_, .i32⟩
  | .hbm, ⟨7, _⟩ => ⟨S64x1, .i32⟩
  | .hbm, ⟨8, _⟩ => ⟨S64x1, .i32⟩
  | .hbm, ⟨9, _⟩ => ⟨S576, .i32⟩
  | .hbm, ⟨10, _⟩ => ⟨S1x576, .i32⟩
  | .hbm, ⟨11, _⟩ => ⟨S64x576, .i32⟩
  | .hbm, ⟨12, _⟩ => ⟨S64x576, .i32⟩
  | .hbm, ⟨13, _⟩ => ⟨S64x576, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S64x576, .i32⟩
  | .hbm, ⟨18, _⟩ => ⟨S64x576, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i1⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S64x576, .i32⟩
  | .hbm, ⟨32, _⟩ => ⟨S64x576x1, .i32⟩
  | .hbm, ⟨33, _⟩ => ⟨S12x64x576, .f32⟩
  | .hbm, ⟨34, _⟩ => ⟨S1x128, .f32⟩
  | .hbm, ⟨35, _⟩ => ⟨S1x128, .f32⟩
  | .hbm, ⟨36, _⟩ => ⟨S8x2048x1536, .bf16⟩
  | .local _ .vmem, ⟨0, _⟩ => ⟨S1x1x2048x128, .bf16⟩
  | .local _ .vmem, ⟨1, _⟩ => ⟨S1x1x2048x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x64x576, .f32⟩
  | .local _ .vmem, ⟨7, _⟩ => ⟨S1x64x576, .f32⟩
  | .local _ .vmem, ⟨8, _⟩ => ⟨S1x128, .f32⟩
  | .local _ .vmem, ⟨9, _⟩ => ⟨S1x128, .f32⟩
  | .local _ .vmem, ⟨10, _⟩ => ⟨S1x2048x128, .bf16⟩
  | .local _ .vmem, ⟨11, _⟩ => ⟨S1x2048x128, .bf16⟩
  | .local _ .vmem, ⟨12, _⟩ => ⟨S2560x128, .bf16⟩
  | .local _ .vmem, ⟨13, _⟩ => ⟨S2560x128, .bf16⟩
  | _, _ => ⟨S8x92x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 12], ![false, false]⟩

@[reducible] def k0_t1_loop : Scf.Loop 32 :=
  let c0_i32 : BitVec 32 := 0#32
  let c8_i32 : BitVec 32 := 8#32
  let v15 : BitVec 32 := Scalar.addi c0_i32 c8_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v17 : BitVec 32 := Scalar.muli arg11 c256_i32
  v17
def k0_mult2 (k0_t1 : Fin k0_t1_loop.trips) : BitVec 32 :=
  let c512_i32 : BitVec 32 := 512#32
  let c0_i32 : BitVec 32 := 0#32
  let c1_i32 : BitVec 32 := 1#32
  let arg11 : BitVec 32 := Scf.iv c0_i32 c1_i32 k0_t1
  let c256_i32_15 : BitVec 32 := 256#32
  let v19 : BitVec 32 := Scalar.muli arg11 c256_i32_15
  let v20 : BitVec 32 := Scalar.addi c512_i32 v19
  v20
def k0_off1 (k0_t1 : Fin k0_t1_loop.trips) : Fin 4 → Nat :=
  let c0_16 : Index := 0#32
  let c0_17 : Index := 0#32
  let c0_i32 : BitVec 32 := 0#32
  let c1_i32 : BitVec 32 := 1#32
  let arg11 : BitVec 32 := Scf.iv c0_i32 c1_i32 k0_t1
  let c256_i32 : BitVec 32 := 256#32
  let v17 : BitVec 32 := Scalar.muli arg11 c256_i32
  let v18 : BitVec 32 := v17
  let v22 : Index := Scalar.indexCast v18
  let c0_18 : Index := 0#32
  ![0, 0, v22.toNat, 0]
def k0_off2 (k0_t1 : Fin k0_t1_loop.trips) : Fin 2 → Nat :=
  let c512_i32 : BitVec 32 := 512#32
  let c0_i32 : BitVec 32 := 0#32
  let c1_i32 : BitVec 32 := 1#32
  let arg11 : BitVec 32 := Scf.iv c0_i32 c1_i32 k0_t1
  let c256_i32_15 : BitVec 32 := 256#32
  let v19 : BitVec 32 := Scalar.muli arg11 c256_i32_15
  let v20 : BitVec 32 := Scalar.addi c512_i32 v19
  let v21 : BitVec 32 := v20
  let v39 : Index := Scalar.indexCast v21
  let c0_22 : Index := 0#32
  ![v39.toNat, 0]
@[reducible] def k0_t2_loop : Scf.Loop 32 :=
  let c0_i32_12 : BitVec 32 := 0#32
  let c32_i32 : BitVec 32 := 32#32
  let v16 : BitVec 32 := Scalar.addi c0_i32_12 c32_i32
  let c1_i32_13 : BitVec 32 := 1#32
  ⟨c0_i32_12, v16, c1_i32_13⟩
def k0_mult3 (k0_t2 : Fin k0_t2_loop.trips) : BitVec 32 :=
  let c0_i32_12 : BitVec 32 := 0#32
  let c1_i32_13 : BitVec 32 := 1#32
  let arg11 : BitVec 32 := Scf.iv c0_i32_12 c1_i32_13 k0_t2
  let c64_i32 : BitVec 32 := 64#32
  let v17 : BitVec 32 := Scalar.muli arg11 c64_i32
  v17
def k0_off3 (k0_t2 : Fin k0_t2_loop.trips) : Fin 4 → Nat :=
  let c0_15 : Index := 0#32
  let c0_16 : Index := 0#32
  let c0_i32_12 : BitVec 32 := 0#32
  let c1_i32_13 : BitVec 32 := 1#32
  let arg11 : BitVec 32 := Scf.iv c0_i32_12 c1_i32_13 k0_t2
  let c64_i32 : BitVec 32 := 64#32
  let v17 : BitVec 32 := Scalar.muli arg11 c64_i32
  let v18 : BitVec 32 := v17
  let v19 : Index := Scalar.indexCast v18
  let c0_17 : Index := 0#32
  ![0, 0, v19.toNat, 0]
def k0_off4 (k0_t2 : Fin k0_t2_loop.trips) : Fin 2 → Nat :=
  let c0_i32_12 : BitVec 32 := 0#32
  let c1_i32_13 : BitVec 32 := 1#32
  let arg11 : BitVec 32 := Scf.iv c0_i32_12 c1_i32_13 k0_t2
  let c64_i32 : BitVec 32 := 64#32
  let v17 : BitVec 32 := Scalar.muli arg11 c64_i32
  let v18 : BitVec 32 := v17
  let v36 : Index := Scalar.indexCast v18
  let c0_21 : Index := 0#32
  ![v36.toNat, 0]
def k0_off5 (k0_t2 : Fin k0_t2_loop.trips) : Fin 3 → Nat :=
  let c0_29 : Index := 0#32
  let c0_i32_12 : BitVec 32 := 0#32
  let c1_i32_13 : BitVec 32 := 1#32
  let arg11 : BitVec 32 := Scf.iv c0_i32_12 c1_i32_13 k0_t2
  let c64_i32 : BitVec 32 := 64#32
  let v17 : BitVec 32 := Scalar.muli arg11 c64_i32
  let v18 : BitVec 32 := v17
  let v62 : Index := Scalar.indexCast v18
  let c0_30 : Index := 0#32
  ![0, v62.toNat, 0]
def cc0_transform_0 (i : grid0.Coords) : Fin 4 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c60_i32 : BitVec 32 := 60#32
  let v0 : BitVec 32 := Scalar.addi c60_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnRefIdeal.lean ====
abbrev S8x92x2048x128 : Shape := ⟨4, ![8, 92, 2048, 128]⟩
abbrev S12x257 : Shape := ⟨2, ![12, 257]⟩
abbrev S128 : Shape := ⟨1, ![128]⟩
abbrev S8x12x2048x128 : Shape := ⟨4, ![8, 12, 2048, 128]⟩
abbrev S_ : Shape := ⟨0, ![]⟩
abbrev S8x12x2048 : Shape := ⟨3, ![8, 12, 2048]⟩
abbrev S8x12x2048x1 : Shape := ⟨4, ![8, 12, 2048, 1]⟩
abbrev S1x1x1x128 : Shape := ⟨4, ![1, 1, 1, 128]⟩
abbrev S8x12x2560x128 : Shape := ⟨4, ![8, 12, 2560, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S12x64x576 : Shape := ⟨3, ![12, 64, 576]⟩
abbrev S32 : Shape := ⟨1, ![32]⟩
abbrev S32x1 : Shape := ⟨2, ![32, 1]⟩
abbrev S32x576 : Shape := ⟨2, ![32, 576]⟩
abbrev S8x12x32x64x128 : Shape := ⟨5, ![8, 12, 32, 64, 128]⟩
abbrev S8x12x40x64x128 : Shape := ⟨5, ![8, 12, 40, 64, 128]⟩
abbrev S8x12x32x576x128 : Shape := ⟨5, ![8, 12, 32, 576, 128]⟩
abbrev S8x12x32x64x576 : Shape := ⟨5, ![8, 12, 32, 64, 576]⟩
abbrev S1x12x1x64x576 : Shape := ⟨5, ![1, 12, 1, 64, 576]⟩
abbrev S1x1x32x1x576 : Shape := ⟨5, ![1, 1, 32, 1, 576]⟩
abbrev S8x12x32x64 : Shape := ⟨4, ![8, 12, 32, 64]⟩
abbrev S8x12x32x64x1 : Shape := ⟨5, ![8, 12, 32, 64, 1]⟩
abbrev S8x32x64x12x128 : Shape := ⟨5, ![8, 32, 64, 12, 128]⟩
abbrev S8x2048x1536 : Shape := ⟨3, ![8, 2048, 1536]⟩

abbrev nBuf : Space → Nat
  | .hbm => 146
  | .vmem => 0
  | .smem => 0
  | _ => 0

abbrev hbmTy0_0 (i : Nat) : BufTy := match i % 128 with
  | 0 => ⟨S8x92x2048x128, .bf16⟩
  | 1 => ⟨S12x257, .f32⟩
  | 2 => ⟨S128, .f32⟩
  | 3 => ⟨S128, .f32⟩
  | 4 => ⟨S8x92x2048x128, .f32⟩
  | 5 => ⟨S8x12x2048x128, .f32⟩
  | 6 => ⟨S8x12x2048x128, .f32⟩
  | 7 => ⟨S_, .f32⟩
  | 8 => ⟨S8x12x2048, .f32⟩
  | 9 => ⟨S8x12x2048x1, .f32⟩
  | 10 => ⟨S_, .f32⟩
  | 11 => ⟨S8x12x2048x1, .f32⟩
  | 12 => ⟨S8x12x2048x1, .f32⟩
  | 13 => ⟨S_, .f32⟩
  | 14 => ⟨S8x12x2048x1, .f32⟩
  | 15 => ⟨S8x12x2048x1, .f32⟩
  | 16 => ⟨S8x12x2048x1, .f32⟩
  | 17 => ⟨S8x12x2048x128, .f32⟩
  | 18 => ⟨S8x12x2048x128, .f32⟩
  | 19 => ⟨S1x1x1x128, .f32⟩
  | 20 => ⟨S8x12x2048x128, .f32⟩
  | 21 => ⟨S8x12x2048x128, .f32⟩
  | 22 => ⟨S8x12x2048x128, .f32⟩
  | 23 => ⟨S8x12x2048x128, .f32⟩
  | 24 => ⟨S_, .f32⟩
  | 25 => ⟨S8x12x2048, .f32⟩
  | 26 => ⟨S8x12x2048x1, .f32⟩
  | 27 => ⟨S_, .f32⟩
  | 28 => ⟨S8x12x2048x1, .f32⟩
  | 29 => ⟨S8x12x2048x1, .f32⟩
  | 30 => ⟨S_, .f32⟩
  | 31 => ⟨S8x12x2048x1, .f32⟩
  | 32 => ⟨S8x12x2048x1, .f32⟩
  | 33 => ⟨S8x12x2048x1, .f32⟩
  | 34 => ⟨S8x12x2048x128, .f32⟩
  | 35 => ⟨S8x12x2048x128, .f32⟩
  | 36 => ⟨S1x1x1x128, .f32⟩
  | 37 => ⟨S8x12x2048x128, .f32⟩
  | 38 => ⟨S8x12x2048x128, .f32⟩
  | 39 => ⟨S8x12x2048x128, .f32⟩
  | 40 => ⟨S_, .i32⟩
  | 41 => ⟨S_, .f32⟩
  | 42 => ⟨S8x12x2560x128, .f32⟩
  | 43 => ⟨S_, .i32⟩
  | 44 => ⟨S_, .f32⟩
  | 45 => ⟨S8x12x2560x128, .f32⟩
  | 46 => ⟨S64, .i32⟩
  | 47 => ⟨S64x1, .i32⟩
  | 48 => ⟨S_, .i32⟩
  | 49 => ⟨S64x1, .i32⟩
  | 50 => ⟨S64x1, .i32⟩
  | 51 => ⟨S576, .i32⟩
  | 52 => ⟨S1x576, .i32⟩
  | 53 => ⟨S64x576, .i32⟩
  | 54 => ⟨S64x576, .i32⟩
  | 55 => ⟨S64x576, .i32⟩
  | 56 => ⟨S_, .i32⟩
  | 57 => ⟨S_, .i32⟩
  | 58 => ⟨S_, .i32⟩
  | 59 => ⟨S64x576, .i32⟩
  | 60 => ⟨S64x576, .i32⟩
  | 61 => ⟨S_, .i32⟩
  | 62 => ⟨S64x576, .i32⟩
  | 63 => ⟨S64x576, .i32⟩
  | 64 => ⟨S_, .i32⟩
  | 65 => ⟨S64x576, .i32⟩
  | 66 => ⟨S64x576, .i32⟩
  | 67 => ⟨S_, .i32⟩
  | 68 => ⟨S64x576, .i32⟩
  | 69 => ⟨S64x576, .i1⟩
  | 70 => ⟨S_, .i32⟩
  | 71 => ⟨S64x576, .i32⟩
  | 72 => ⟨S64x576, .i32⟩
  | 73 => ⟨S64x576, .i32⟩
  | 74 => ⟨S64x576x1, .i32⟩
  | 75 => ⟨S12x64x576, .f32⟩
  | 76 => ⟨S32, .i32⟩
  | 77 => ⟨S32x1, .i32⟩
  | 78 => ⟨S_, .i32⟩
  | 79 => ⟨S32x1, .i32⟩
  | 80 => ⟨S32x1, .i32⟩
  | 81 => ⟨S576, .i32⟩
  | 82 => ⟨S1x576, .i32⟩
  | 83 => ⟨S32x576, .i32⟩
  | 84 => ⟨S32x576, .i32⟩
  | 85 => ⟨S32x576, .i32⟩
  | 86 => ⟨S_, .i32⟩
  | 87 => ⟨S32x576, .i32⟩
  | 88 => ⟨S32x576, .i32⟩
  | 89 => ⟨S8x12x32x64x128, .f32⟩
  | 90 => ⟨S8x12x40x64x128, .f32⟩
  | 91 => ⟨S8x12x40x64x128, .f32⟩
  | 92 => ⟨S8x12x32x64x128, .f32⟩
  | 93 => ⟨S8x12x32x64x128, .f32⟩
  | 94 => ⟨S8x12x32x64x128, .f32⟩
  | 95 => ⟨S8x12x32x64x128, .f32⟩
  | 96 => ⟨S8x12x32x64x128, .f32⟩
  | 97 => ⟨S8x12x32x64x128, .f32⟩
  | 98 => ⟨S8x12x32x64x128, .f32⟩
  | 99 => ⟨S8x12x32x64x128, .f32⟩
  | 100 => ⟨S8x12x32x64x128, .f32⟩
  | 101 => ⟨S8x12x32x576x128, .f32⟩
  | 102 => ⟨S8x12x32x64x128, .f32⟩
  | 103 => ⟨S8x12x32x64x128, .f32⟩
  | 104 => ⟨S8x12x32x64x128, .f32⟩
  | 105 => ⟨S8x12x32x64x128, .f32⟩
  | 106 => ⟨S8x12x32x64x128, .f32⟩
  | 107 => ⟨S8x12x32x64x128, .f32⟩
  | 108 => ⟨S8x12x32x64x128, .f32⟩
  | 109 => ⟨S8x12x32x64x128, .f32⟩
  | 110 => ⟨S8x12x32x64x128, .f32⟩
  | 111 => ⟨S8x12x32x576x128, .f32⟩
  | 112 => ⟨S8x12x32x64x576, .f32⟩
  | 113 => ⟨S_, .f32⟩
  | 114 => ⟨S8x12x32x64x576, .f32⟩
  | 115 => ⟨S8x12x32x64x576, .f32⟩
  | 116 => ⟨S1x12x1x64x576, .f32⟩
  | 117 => ⟨S8x12x32x64x576, .f32⟩
  | 118 => ⟨S8x12x32x64x576, .f32⟩
  | 119 => ⟨S_, .i32⟩
  | 120 => ⟨S32x576, .i32⟩
  | 121 => ⟨S32x576, .i1⟩
  | 122 => ⟨S1x1x32x1x576, .i1⟩
  | 123 => ⟨S_, .f32⟩
  | 124 => ⟨S_, .f32⟩
  | 125 => ⟨S8x12x32x64x576, .i1⟩
  | 126 => ⟨S8x12x32x64x576, .f32⟩
  | 127 => ⟨S8x12x32x64x576, .f32⟩
  | _ => ⟨S8x92x2048x128, .bf16⟩

abbrev hbmTy0_1 (i : Nat) : BufTy := match i % 128 with
  | 0 => ⟨S_, .f32⟩
  | 1 => ⟨S8x12x32x64, .f32⟩
  | 2 => ⟨S_, .f32⟩
  | 3 => ⟨S8x12x32x64, .f32⟩
  | 4 => ⟨S8x12x32x64, .f32⟩
  | 5 => ⟨S8x12x32x64x1, .f32⟩
  | 6 => ⟨S8x12x32x64x576, .f32⟩
  | 7 => ⟨S8x12x32x64x576, .f32⟩
  | 8 => ⟨S8x12x32x64x576, .f32⟩
  | 9 => ⟨S_, .f32⟩
  | 10 => ⟨S8x12x32x64, .f32⟩
  | 11 => ⟨S8x12x32x64x1, .f32⟩
  | 12 => ⟨S8x12x32x64x576, .f32⟩
  | 13 => ⟨S8x12x32x64x576, .f32⟩
  | 14 => ⟨S8x12x32x64x128, .f32⟩
  | 15 => ⟨S8x32x64x12x128, .f32⟩
  | 16 => ⟨S8x2048x1536, .f32⟩
  | 17 => ⟨S8x2048x1536, .bf16⟩
  | _ => ⟨S8x92x2048x128, .bf16⟩

abbrev hbmTy (i : Nat) : BufTy := match i / 128 with
  | 0 => hbmTy0_0 i
  | 1 => hbmTy0_1 i
  | _ => ⟨S8x92x2048x128, .bf16⟩

abbrev bufTy : (tb : Table) → Fin (tcTables nBuf tb) → BufTy
  | .hbm, ⟨i, _⟩ => hbmTy i
  | _, _ => ⟨S8x92x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_v30 : Ref sig .tc := ⟨.hbm, 42, rfl⟩
abbrev main_c_5 : Ref sig .tc := ⟨.hbm, 43, rfl⟩
abbrev main_call1_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_c_8 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_14 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_c_15 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_16 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_v94 : Ref sig .tc := ⟨.hbm, 127, rfl⟩
abbrev main_cst_17 : Ref sig .tc := ⟨.hbm, 128, rfl⟩
abbrev main_v95 : Ref sig .tc := ⟨.hbm, 129, rfl⟩
abbrev main_cst_18 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_19 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩

abbrev nD : Nat := 1
abbrev τ : Topo := Topo.v7x

variable {F : FTy → Type} [FloatOps F]
-- ==== InProj.lean ====
abbrev S16384x4096 : Shape := ⟨2, ![16384, 4096]⟩
abbrev S2x4096x11776 : Shape := ⟨3, ![2, 4096, 11776]⟩
abbrev S8x92x2048x128 : Shape := ⟨4, ![8, 92, 2048, 128]⟩
abbrev S1024x4096 : Shape := ⟨2, ![1024, 4096]⟩
abbrev S1x4096x512 : Shape := ⟨3, ![1, 4096, 512]⟩
abbrev S1x4x1024x128 : Shape := ⟨4, ![1, 4, 1024, 128]⟩
abbrev S4096x512 : Shape := ⟨2, ![4096, 512]⟩
abbrev S1x512x512 : Shape := ⟨3, ![1, 512, 512]⟩
abbrev S512x512 : Shape := ⟨2, ![512, 512]⟩
abbrev S1024x512 : Shape := ⟨2, ![1024, 512]⟩
abbrev S1024x128 : Shape := ⟨2, ![1024, 128]⟩
abbrev S1x1x1024x128 : Shape := ⟨4, ![1, 1, 1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S2x4096x11776, .f32⟩
  | .hbm, ⟨2, _⟩ => ⟨S8x92x2048x128, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x4x1024x128, .bf16⟩
  | .local _ .vmem, ⟨5, _⟩ => ⟨S1x4x1024x128, .bf16⟩
  | .local _ .vmem, ⟨6, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![23, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_17 : BitVec 32 := 0#32
  let c8_i32 : BitVec 32 := 8#32
  let v26 : BitVec 32 := Scalar.addi c0_i32_17 c8_i32
  let c1_i32 : BitVec 32 := 1#32
  ⟨c0_i32_17, v26, c1_i32⟩
def k0_mult1 (k0_t1 : Fin k0_t1_loop.trips) : BitVec 32 :=
  let c0_i32_17 : BitVec 32 := 0#32
  let c1_i32 : BitVec 32 := 1#32
  let arg6 : BitVec 32 := Scf.iv c0_i32_17 c1_i32 k0_t1
  let c512_i32 : BitVec 32 := 512#32
  let v27 : BitVec 32 := Scalar.muli arg6 c512_i32
  v27
def k0_off1 (k0_t1 : Fin k0_t1_loop.trips) : Fin 3 → Nat :=
  let c0_19 : Index := 0#32
  let c0_i32_17 : BitVec 32 := 0#32
  let c1_i32 : BitVec 32 := 1#32
  let arg6 : BitVec 32 := Scf.iv c0_i32_17 c1_i32 k0_t1
  let c512_i32 : BitVec 32 := 512#32
  let v27 : BitVec 32 := Scalar.muli arg6 c512_i32
  let v28 : BitVec 32 := v27
  let v29 : Index := Scalar.indexCast v28
  let c0_20 : Index := 0#32
  ![0, v29.toNat, 0]
def k0_off2 (k0_t1 : Fin k0_t1_loop.trips) : Fin 2 → Nat :=
  let c0_i32_17 : BitVec 32 := 0#32
  let c1_i32 : BitVec 32 := 1#32
  let arg6 : BitVec 32 := Scf.iv c0_i32_17 c1_i32 k0_t1
  let c512_i32 : BitVec 32 := 512#32
  let v27 : BitVec 32 := Scalar.muli arg6 c512_i32
  let v28 : BitVec 32 := v27
  let v33 : Index := Scalar.indexCast v28
  let c0_21 : Index := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, c0_i32_10.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S16384x4096 : Shape := ⟨2, ![16384, 4096]⟩
abbrev S2x4096x11776 : Shape := ⟨3, ![2, 4096, 11776]⟩
abbrev S8x2048x4096 : Shape := ⟨3, ![8, 2048, 4096]⟩
abbrev S1x4096x11776 : Shape := ⟨3, ![1, 4096, 11776]⟩
abbrev S4096x11776 : Shape := ⟨2, ![4096, 11776]⟩
abbrev S8x2048x11776 : Shape := ⟨3, ![8, 2048, 11776]⟩
abbrev S8x2048x92x128 : Shape := ⟨4, ![8, 2048, 92, 128]⟩
abbrev S8x92x2048x128 : Shape := ⟨4, ![8, 92, 2048, 128]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x11776, .f32⟩
  | .hbm, ⟨2, _⟩ => ⟨S16384x4096, .f32⟩
  | .hbm, ⟨3, _⟩ => ⟨S8x2048x4096, .f32⟩
  | .hbm, ⟨4, _⟩ => ⟨S1x4096x11776, .f32⟩
  | .hbm, ⟨5, _⟩ => ⟨S4096x11776, .f32⟩
  | .hbm, ⟨6, _⟩ => ⟨S8x2048x11776, .f32⟩
  | .hbm, ⟨7, _⟩ => ⟨S8x2048x92x128, .f32⟩
  | .hbm, ⟨8, _⟩ => ⟨S8x92x2048x128, .f32⟩
  | .hbm, ⟨9, _⟩ => ⟨S8x92x2048x128, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== OutProj.lean ====
abbrev S16384x1536 : Shape := ⟨2, ![16384, 1536]⟩
abbrev S16384x1024 : Shape := ⟨2, ![16384, 1024]⟩
abbrev S2x4096x4096 : Shape := ⟨3, ![2, 4096, 4096]⟩
abbrev S16384x4096 : Shape := ⟨2, ![16384, 4096]⟩
abbrev S8x6x4096 : Shape := ⟨3, ![8, 6, 4096]⟩
abbrev S2x6x4096 : Shape := ⟨3, ![2, 6, 4096]⟩
abbrev S1024x1536 : Shape := ⟨2, ![1024, 1536]⟩
abbrev S1024x1024 : Shape := ⟨2, ![1024, 1024]⟩
abbrev S1x4096x512 : Shape := ⟨3, ![1, 4096, 512]⟩
abbrev S1024x512 : Shape := ⟨2, ![1024, 512]⟩
abbrev S1x6x512 : Shape := ⟨3, ![1, 6, 512]⟩
abbrev S4096x512 : Shape := ⟨2, ![4096, 512]⟩
abbrev S1x512x512 : Shape := ⟨3, ![1, 512, 512]⟩
abbrev S512x512 : Shape := ⟨2, ![512, 512]⟩
abbrev S1536x512 : Shape := ⟨2, ![1536, 512]⟩
abbrev S1x1x512 : Shape := ⟨3, ![1, 1, 512]⟩
abbrev S1x512 : Shape := ⟨2, ![1, 512]⟩

abbrev nBuf : Space → Nat
  | .hbm => 8
  | .vmem => 17
  | .smem => 0
  | _ => 0

abbrev bufTy : (tb : Table) → Fin (tcTables nBuf tb) → BufTy
  | .hbm, ⟨0, _⟩ => ⟨S16384x1536, .bf16⟩
  | .hbm, ⟨1, _⟩ => ⟨S16384x1536, .bf16⟩
  | .hbm, ⟨2, _⟩ => ⟨S16384x1024, .bf16⟩
  | .hbm, ⟨3, _⟩ => ⟨S2x4096x4096, .f32⟩
  | .hbm, ⟨4, _⟩ => ⟨S16384x4096, .f32⟩
  | .hbm, ⟨5, _⟩ => ⟨S8x6x4096, .f32⟩
  | .hbm, ⟨6, _⟩ => ⟨S2x6x4096, .f32⟩
  | .hbm, ⟨7, _⟩ => ⟨S16384x4096, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1x4096x512, .f32⟩
  | .local _ .vmem, ⟨7, _⟩ => ⟨S1x4096x512, .f32⟩
  | .local _ .vmem, ⟨8, _⟩ => ⟨S1024x512, .f32⟩
  | .local _ .vmem, ⟨9, _⟩ => ⟨S1024x512, .f32⟩
  | .local _ .vmem, ⟨10, _⟩ => ⟨S1x6x512, .f32⟩
  | .local _ .vmem, ⟨11, _⟩ => ⟨S1x6x512, .f32⟩
  | .local _ .vmem, ⟨12, _⟩ => ⟨S1x6x512, .f32⟩
  | .local _ .vmem, ⟨13, _⟩ => ⟨S1x6x512, .f32⟩
  | .local _ .vmem, ⟨14, _⟩ => ⟨S1024x512, .f32⟩
  | .local _ .vmem, ⟨15, _⟩ => ⟨S1024x512, .f32⟩
  | .local _ .vmem, ⟨16, _⟩ => ⟨S4096x512, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_21 : BitVec 32 := 0#32
  let c8_i32 : BitVec 32 := 8#32
  let v24 : BitVec 32 := Scalar.addi c0_i32_21 c8_i32
  let c1_i32 : BitVec 32 := 1#32
  ⟨c0_i32_21, v24, c1_i32⟩
def k0_mult1 (k0_t1 : Fin k0_t1_loop.trips) : BitVec 32 :=
  let c0_i32_21 : BitVec 32 := 0#32
  let c1_i32 : BitVec 32 := 1#32
  let arg11 : BitVec 32 := Scf.iv c0_i32_21 c1_i32 k0_t1
  let c512_i32 : BitVec 32 := 512#32
  let v25 : BitVec 32 := Scalar.muli arg11 c512_i32
  v25
def k0_off1 (k0_t1 : Fin k0_t1_loop.trips) : Fin 3 → Nat :=
  let c0_23 : Index := 0#32
  let c0_i32_21 : BitVec 32 := 0#32
  let c1_i32 : BitVec 32 := 1#32
  let arg11 : BitVec 32 := Scf.iv c0_i32_21 c1_i32 k0_t1
  let c512_i32 : BitVec 32 := 512#32
  let v25 : BitVec 32 := Scalar.muli arg11 c512_i32
  let v26 : BitVec 32 := v25
  let v27 : Index := Scalar.indexCast v26
  let c0_24 : Index := 0#32
  ![0, v27.toNat, 0]
def k0_off2 (k0_t1 : Fin k0_t1_loop.trips) : Fin 2 → Nat :=
  let c0_i32_21 : BitVec 32 := 0#32
  let c1_i32 : BitVec 32 := 1#32
  let arg11 : BitVec 32 := Scf.iv c0_i32_21 c1_i32 k0_t1
  let c512_i32 : BitVec 32 := 512#32
  let v25 : BitVec 32 := Scalar.muli arg11 c512_i32
  let v26 : BitVec 32 := v25
  let v31 : Index := Scalar.indexCast v26
  let c0_25 : Index := 0#32
  ![v31.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutProjRefIdeal.lean ====
abbrev S16384x1536 : Shape := ⟨2, ![16384, 1536]⟩
abbrev S16384x1024 : Shape := ⟨2, ![16384, 1024]⟩
abbrev S2x4096x4096 : Shape := ⟨3, ![2, 4096, 4096]⟩
abbrev S16384x4096 : Shape := ⟨2, ![16384, 4096]⟩
abbrev S8x6x4096 : Shape := ⟨3, ![8, 6, 4096]⟩
abbrev S2x6x4096 : Shape := ⟨3, ![2, 6, 4096]⟩
abbrev S1x6x4096 : Shape := ⟨3, ![1, 6, 4096]⟩
abbrev S6x4096 : Shape := ⟨2, ![6, 4096]⟩
abbrev S8x1x4096 : Shape := ⟨3, ![8, 1, 4096]⟩
abbrev S8x4096 : Shape := ⟨2, ![8, 4096]⟩
abbrev S8x2048x4096 : Shape := ⟨3, ![8, 2048, 4096]⟩
abbrev S1x4096x4096 : Shape := ⟨3, ![1, 4096, 4096]⟩
abbrev S4096x4096 : Shape := ⟨2, ![4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x1536, .bf16⟩
  | .hbm, ⟨2, _⟩ => ⟨S16384x1024, .bf16⟩
  | .hbm, ⟨3, _⟩ => ⟨S2x4096x4096, .f32⟩
  | .hbm, ⟨4, _⟩ => ⟨S16384x4096, .f32⟩
  | .hbm, ⟨5, _⟩ => ⟨S8x6x4096, .f32⟩
  | .hbm, ⟨6, _⟩ => ⟨S2x6x4096, .f32⟩
  | .hbm, ⟨7, _⟩ => ⟨S1x6x4096, .f32⟩
  | .hbm, ⟨8, _⟩ => ⟨S6x4096, .f32⟩
  | .hbm, ⟨9, _⟩ => ⟨S1x6x4096, .f32⟩
  | .hbm, ⟨10, _⟩ => ⟨S8x6x4096, .f32⟩
  | .hbm, ⟨11, _⟩ => ⟨S8x6x4096, .f32⟩
  | .hbm, ⟨12, _⟩ => ⟨S8x1x4096, .f32⟩
  | .hbm, ⟨13, _⟩ => ⟨S8x4096, .f32⟩
  | .hbm, ⟨14, _⟩ => ⟨S8x1x4096, .f32⟩
  | .hbm, ⟨15, _⟩ => ⟨S16384x4096, .bf16⟩
  | .hbm, ⟨16, _⟩ => ⟨S16384x4096, .f32⟩
  | .hbm, ⟨17, _⟩ => ⟨S8x2048x4096, .f32⟩
  | .hbm, ⟨18, _⟩ => ⟨S1x4096x4096, .f32⟩
  | .hbm, ⟨19, _⟩ => ⟨S4096x4096, .f32⟩
  | .hbm, ⟨20, _⟩ => ⟨S8x2048x4096, .f32⟩
  | .hbm, ⟨21, _⟩ => ⟨S8x2048x4096, .f32⟩
  | .hbm, ⟨22, _⟩ => ⟨S8x2048x4096, .f32⟩
  | .hbm, ⟨23, _⟩ => ⟨S8x2048x4096, .f32⟩
  | .hbm, ⟨24, _⟩ => ⟨S8x2048x4096, .f32⟩
  | .hbm, ⟨25, _⟩ => ⟨S16384x4096, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Down.lean ====
abbrev S16384x11008 : Shape := ⟨2, ![16384, 11008]⟩
abbrev S1x11008x4096 : Shape := ⟨3, ![1, 11008, 4096]⟩
abbrev S16384x4096 : Shape := ⟨2, ![16384, 4096]⟩
abbrev S8x6x4096 : Shape := ⟨3, ![8, 6, 4096]⟩
abbrev S2x6x4096 : Shape := ⟨3, ![2, 6, 4096]⟩
abbrev S512x5504 : Shape := ⟨2, ![512, 5504]⟩
abbrev S1x5504x512 : Shape := ⟨3, ![1, 5504, 512]⟩
abbrev S512x512 : Shape := ⟨2, ![512, 512]⟩
abbrev S1x6x512 : Shape := ⟨3, ![1, 6, 512]⟩
abbrev S5504x512 : Shape := ⟨2, ![5504, 512]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .f32⟩
  | .hbm, ⟨2, _⟩ => ⟨S16384x4096, .f32⟩
  | .hbm, ⟨3, _⟩ => ⟨S8x6x4096, .f32⟩
  | .hbm, ⟨4, _⟩ => ⟨S2x6x4096, .f32⟩
  | .hbm, ⟨5, _⟩ => ⟨S16384x4096, .f32⟩
  | .local _ .vmem, ⟨0, _⟩ => ⟨S512x5504, .bf16⟩
  | .local _ .vmem, ⟨1, _⟩ => ⟨S512x5504, .bf16⟩
  | .local _ .vmem, ⟨2, _⟩ => ⟨S1x5504x512, .f32⟩
  | .local _ .vmem, ⟨3, _⟩ => ⟨S1x5504x512, .f32⟩
  | .local _ .vmem, ⟨4, _⟩ => ⟨S512x512, .f32⟩
  | .local _ .vmem, ⟨5, _⟩ => ⟨S512x512, .f32⟩
  | .local _ .vmem, ⟨6, _⟩ => ⟨S1x6x512, .f32⟩
  | .local _ .vmem, ⟨7, _⟩ => ⟨S1x6x512, .f32⟩
  | .local _ .vmem, ⟨8, _⟩ => ⟨S1x6x512, .f32⟩
  | .local _ .vmem, ⟨9, _⟩ => ⟨S1x6x512, .f32⟩
  | .local _ .vmem, ⟨10, _⟩ => ⟨S512x512, .f32⟩
  | .local _ .vmem, ⟨11, _⟩ => ⟨S512x512, .f32⟩
  | .local _ .vmem, ⟨12, _⟩ => ⟨S5504x512, .bf16⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c43_i32 : BitVec 32 := 43#32
  let v16 : BitVec 32 := Scalar.addi c0_i32_13 c43_i32
  let c1_i32 : BitVec 32 := 1#32
  ⟨c0_i32_13, v16, c1_i32⟩
def k0_mult1 (k0_t1 : Fin k0_t1_loop.trips) : BitVec 32 :=
  let c0_i32_13 : BitVec 32 := 0#32
  let c1_i32 : BitVec 32 := 1#32
  let arg9 : BitVec 32 := Scf.iv c0_i32_13 c1_i32 k0_t1
  let c128_i32 : BitVec 32 := 128#32
  let v17 : BitVec 32 := Scalar.muli arg9 c128_i32
  v17
def k0_off1 (k0_t1 : Fin k0_t1_loop.trips) : Fin 3 → Nat :=
  let c0_15 : Index := 0#32
  let c0_i32_13 : BitVec 32 := 0#32
  let c1_i32 : BitVec 32 := 1#32
  let arg9 : BitVec 32 := Scf.iv c0_i32_13 c1_i32 k0_t1
  let c128_i32 : BitVec 32 := 128#32
  let v17 : BitVec 32 := Scalar.muli arg9 c128_i32
  let v18 : BitVec 32 := v17
  let v19 : Index := Scalar.indexCast v18
  let c0_16 : Index := 0#32
  ![0, v19.toNat, 0]
def k0_off2 (k0_t1 : Fin k0_t1_loop.trips) : Fin 2 → Nat :=
  let c0_i32_13 : BitVec 32 := 0#32
  let c1_i32 : BitVec 32 := 1#32
  let arg9 : BitVec 32 := Scf.iv c0_i32_13 c1_i32 k0_t1
  let c128_i32 : BitVec 32 := 128#32
  let v17 : BitVec 32 := Scalar.muli arg9 c128_i32
  let v18 : BitVec 32 := v17
  let v23 : Index := Scalar.indexCast v18
  let c0_17 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5504x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S16384x11008 : Shape := ⟨2, ![16384, 11008]⟩
abbrev S1x11008x4096 : Shape := ⟨3, ![1, 11008, 4096]⟩
abbrev S16384x4096 : Shape := ⟨2, ![16384, 4096]⟩
abbrev S8x6x4096 : Shape := ⟨3, ![8, 6, 4096]⟩
abbrev S2x6x4096 : Shape := ⟨3, ![2, 6, 4096]⟩
abbrev S1x6x4096 : Shape := ⟨3, ![1, 6, 4096]⟩
abbrev S6x4096 : Shape := ⟨2, ![6, 4096]⟩
abbrev S8x1x4096 : Shape := ⟨3, ![8, 1, 4096]⟩
abbrev S8x4096 : Shape := ⟨2, ![8, 4096]⟩
abbrev S16384x5504 : Shape := ⟨2, ![16384, 5504]⟩
abbrev S8x2048x5504 : Shape := ⟨3, ![8, 2048, 5504]⟩
abbrev S11008x4096 : Shape := ⟨2, ![11008, 4096]⟩
abbrev S5504x4096 : Shape := ⟨2, ![5504, 4096]⟩
abbrev S8x2048x4096 : Shape := ⟨3, ![8, 2048, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .f32⟩
  | .hbm, ⟨2, _⟩ => ⟨S16384x4096, .f32⟩
  | .hbm, ⟨3, _⟩ => ⟨S8x6x4096, .f32⟩
  | .hbm, ⟨4, _⟩ => ⟨S2x6x4096, .f32⟩
  | .hbm, ⟨5, _⟩ => ⟨S1x6x4096, .f32⟩
  | .hbm, ⟨6, _⟩ => ⟨S6x4096, .f32⟩
  | .hbm, ⟨7, _⟩ => ⟨S1x6x4096, .f32⟩
  | .hbm, ⟨8, _⟩ => ⟨S8x6x4096, .f32⟩
  | .hbm, ⟨9, _⟩ => ⟨S8x6x4096, .f32⟩
  | .hbm, ⟨10, _⟩ => ⟨S8x1x4096, .f32⟩
  | .hbm, ⟨11, _⟩ => ⟨S8x4096, .f32⟩
  | .hbm, ⟨12, _⟩ => ⟨S8x1x4096, .f32⟩
  | .hbm, ⟨13, _⟩ => ⟨S16384x11008, .f32⟩
  | .hbm, ⟨14, _⟩ => ⟨S16384x5504, .f32⟩
  | .hbm, ⟨15, _⟩ => ⟨S8x2048x5504, .f32⟩
  | .hbm, ⟨16, _⟩ => ⟨S11008x4096, .f32⟩
  | .hbm, ⟨17, _⟩ => ⟨S5504x4096, .f32⟩
  | .hbm, ⟨18, _⟩ => ⟨S8x2048x4096, .f32⟩
  | .hbm, ⟨19, _⟩ => ⟨S8x2048x4096, .f32⟩
  | .hbm, ⟨20, _⟩ => ⟨S8x2048x4096, .f32⟩
  | .hbm, ⟨21, _⟩ => ⟨S8x2048x4096, .f32⟩
  | .hbm, ⟨22, _⟩ => ⟨S8x2048x4096, .f32⟩
  | .hbm, ⟨23, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== DownB.lean ====
abbrev S16384x11008 : Shape := ⟨2, ![16384, 11008]⟩
abbrev S1x11008x4096 : Shape := ⟨3, ![1, 11008, 4096]⟩
abbrev S16384x4096 : Shape := ⟨2, ![16384, 4096]⟩
abbrev S8x6x4096 : Shape := ⟨3, ![8, 6, 4096]⟩
abbrev S2x6x4096 : Shape := ⟨3, ![2, 6, 4096]⟩
abbrev S512x5504 : Shape := ⟨2, ![512, 5504]⟩
abbrev S1x5504x512 : Shape := ⟨3, ![1, 5504, 512]⟩
abbrev S512x512 : Shape := ⟨2, ![512, 512]⟩
abbrev S1x6x512 : Shape := ⟨3, ![1, 6, 512]⟩
abbrev S5504x512 : Shape := ⟨2, ![5504, 512]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .f32⟩
  | .hbm, ⟨2, _⟩ => ⟨S16384x4096, .f32⟩
  | .hbm, ⟨3, _⟩ => ⟨S8x6x4096, .f32⟩
  | .hbm, ⟨4, _⟩ => ⟨S2x6x4096, .f32⟩
  | .hbm, ⟨5, _⟩ => ⟨S16384x4096, .f32⟩
  | .local _ .vmem, ⟨0, _⟩ => ⟨S512x5504, .bf16⟩
  | .local _ .vmem, ⟨1, _⟩ => ⟨S512x5504, .bf16⟩
  | .local _ .vmem, ⟨2, _⟩ => ⟨S1x5504x512, .f32⟩
  | .local _ .vmem, ⟨3, _⟩ => ⟨S1x5504x512, .f32⟩
  | .local _ .vmem, ⟨4, _⟩ => ⟨S512x512, .f32⟩
  | .local _ .vmem, ⟨5, _⟩ => ⟨S512x512, .f32⟩
  | .local _ .vmem, ⟨6, _⟩ => ⟨S1x6x512, .f32⟩
  | .local _ .vmem, ⟨7, _⟩ => ⟨S1x6x512, .f32⟩
  | .local _ .vmem, ⟨8, _⟩ => ⟨S1x6x512, .f32⟩
  | .local _ .vmem, ⟨9, _⟩ => ⟨S1x6x512, .f32⟩
  | .local _ .vmem, ⟨10, _⟩ => ⟨S512x512, .f32⟩
  | .local _ .vmem, ⟨11, _⟩ => ⟨S512x512, .f32⟩
  | .local _ .vmem, ⟨12, _⟩ => ⟨S5504x512, .bf16⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c43_i32 : BitVec 32 := 43#32
  let v16 : BitVec 32 := Scalar.addi c0_i32_13 c43_i32
  let c1_i32 : BitVec 32 := 1#32
  ⟨c0_i32_13, v16, c1_i32⟩
def k0_mult1 (k0_t1 : Fin k0_t1_loop.trips) : BitVec 32 :=
  let c0_i32_13 : BitVec 32 := 0#32
  let c1_i32 : BitVec 32 := 1#32
  let arg9 : BitVec 32 := Scf.iv c0_i32_13 c1_i32 k0_t1
  let c128_i32 : BitVec 32 := 128#32
  let v17 : BitVec 32 := Scalar.muli arg9 c128_i32
  v17
def k0_off1 (k0_t1 : Fin k0_t1_loop.trips) : Fin 3 → Nat :=
  let c0_15 : Index := 0#32
  let c0_i32_13 : BitVec 32 := 0#32
  let c1_i32 : BitVec 32 := 1#32
  let arg9 : BitVec 32 := Scf.iv c0_i32_13 c1_i32 k0_t1
  let c128_i32 : BitVec 32 := 128#32
  let v17 : BitVec 32 := Scalar.muli arg9 c128_i32
  let v18 : BitVec 32 := v17
  let v19 : Index := Scalar.indexCast v18
  let c0_16 : Index := 0#32
  ![0, v19.toNat, 0]
def k0_off2 (k0_t1 : Fin k0_t1_loop.trips) : Fin 2 → Nat :=
  let c0_i32_13 : BitVec 32 := 0#32
  let c1_i32 : BitVec 32 := 1#32
  let arg9 : BitVec 32 := Scf.iv c0_i32_13 c1_i32 k0_t1
  let c128_i32 : BitVec 32 := 128#32
  let v17 : BitVec 32 := Scalar.muli arg9 c128_i32
  let v18 : BitVec 32 := v17
  let v23 : Index := Scalar.indexCast v18
  let c0_17 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5504x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownBRefIdeal.lean ====
abbrev S16384x11008 : Shape := ⟨2, ![16384, 11008]⟩
abbrev S1x11008x4096 : Shape := ⟨3, ![1, 11008, 4096]⟩
abbrev S16384x4096 : Shape := ⟨2, ![16384, 4096]⟩
abbrev S8x6x4096 : Shape := ⟨3, ![8, 6, 4096]⟩
abbrev S2x6x4096 : Shape := ⟨3, ![2, 6, 4096]⟩
abbrev S1x6x4096 : Shape := ⟨3, ![1, 6, 4096]⟩
abbrev S6x4096 : Shape := ⟨2, ![6, 4096]⟩
abbrev S8x1x4096 : Shape := ⟨3, ![8, 1, 4096]⟩
abbrev S8x4096 : Shape := ⟨2, ![8, 4096]⟩
abbrev S16384x5504 : Shape := ⟨2, ![16384, 5504]⟩
abbrev S8x2048x5504 : Shape := ⟨3, ![8, 2048, 5504]⟩
abbrev S11008x4096 : Shape := ⟨2, ![11008, 4096]⟩
abbrev S5504x4096 : Shape := ⟨2, ![5504, 4096]⟩
abbrev S8x2048x4096 : Shape := ⟨3, ![8, 2048, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .f32⟩
  | .hbm, ⟨2, _⟩ => ⟨S16384x4096, .f32⟩
  | .hbm, ⟨3, _⟩ => ⟨S8x6x4096, .f32⟩
  | .hbm, ⟨4, _⟩ => ⟨S2x6x4096, .f32⟩
  | .hbm, ⟨5, _⟩ => ⟨S1x6x4096, .f32⟩
  | .hbm, ⟨6, _⟩ => ⟨S6x4096, .f32⟩
  | .hbm, ⟨7, _⟩ => ⟨S1x6x4096, .f32⟩
  | .hbm, ⟨8, _⟩ => ⟨S8x6x4096, .f32⟩
  | .hbm, ⟨9, _⟩ => ⟨S8x6x4096, .f32⟩
  | .hbm, ⟨10, _⟩ => ⟨S8x1x4096, .f32⟩
  | .hbm, ⟨11, _⟩ => ⟨S8x4096, .f32⟩
  | .hbm, ⟨12, _⟩ => ⟨S8x1x4096, .f32⟩
  | .hbm, ⟨13, _⟩ => ⟨S16384x11008, .f32⟩
  | .hbm, ⟨14, _⟩ => ⟨S16384x5504, .f32⟩
  | .hbm, ⟨15, _⟩ => ⟨S8x2048x5504, .f32⟩
  | .hbm, ⟨16, _⟩ => ⟨S11008x4096, .f32⟩
  | .hbm, ⟨17, _⟩ => ⟨S5504x4096, .f32⟩
  | .hbm, ⟨18, _⟩ => ⟨S8x2048x4096, .f32⟩
  | .hbm, ⟨19, _⟩ => ⟨S8x2048x4096, .f32⟩
  | .hbm, ⟨20, _⟩ => ⟨S8x2048x4096, .f32⟩
  | .hbm, ⟨21, _⟩ => ⟨S8x2048x4096, .f32⟩
  | .hbm, ⟨22, _⟩ => ⟨S8x2048x4096, .f32⟩
  | .hbm, ⟨23, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== EDown.lean ====
abbrev S36864x5120 : Shape := ⟨2, ![36864, 5120]⟩
abbrev S1x8x5120x4096 : Shape := ⟨4, ![1, 8, 5120, 4096]⟩
abbrev S73 : Shape := ⟨1, ![73]⟩
abbrev S36864x4096 : Shape := ⟨2, ![36864, 4096]⟩
abbrev S512x5120 : Shape := ⟨2, ![512, 5120]⟩
abbrev S1x1x5120x512 : Shape := ⟨4, ![1, 1, 5120, 512]⟩
abbrev S1 : Shape := ⟨1, ![1]⟩
abbrev S512x512 : Shape := ⟨2, ![512, 512]⟩
abbrev S5120x512 : Shape := ⟨2, ![5120, 512]⟩
abbrev S1x1x512x512 : Shape := ⟨4, ![1, 1, 512, 512]⟩

abbrev nBuf : Space → Nat
  | .hbm => 3
  | .vmem => 7
  | .smem => 1
  | _ => 0

abbrev bufTy : (tb : Table) → Fin (tcTables nBuf tb) → BufTy
  | .hbm, ⟨0, _⟩ => ⟨S36864x5120, .bf16⟩
  | .hbm, ⟨1, _⟩ => ⟨S1x8x5120x4096, .f32⟩
  | .hbm, ⟨2, _⟩ => ⟨S36864x4096, .f32⟩
  | .local _ .vmem, ⟨0, _⟩ => ⟨S512x5120, .bf16⟩
  | .local _ .vmem, ⟨1, _⟩ => ⟨S512x5120, .bf16⟩
  | .local _ .vmem, ⟨2, _⟩ => ⟨S1x1x5120x512, .f32⟩
  | .local _ .vmem, ⟨3, _⟩ => ⟨S1x1x5120x512, .f32⟩
  | .local _ .vmem, ⟨4, _⟩ => ⟨S512x512, .f32⟩
  | .local _ .vmem, ⟨5, _⟩ => ⟨S512x512, .f32⟩
  | .local _ .vmem, ⟨6, _⟩ => ⟨S5120x512, .bf16⟩
  | .local _ .smem, ⟨0, _⟩ => ⟨S73, .i32⟩
  | _, _ => ⟨S36864x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 72], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
@[reducible] def k0_t1_loop : Scf.Loop 32 :=
  let c0_i32_4 : BitVec 32 := 0#32
  let c10_i32 : BitVec 32 := 10#32
  let v18 : BitVec 32 := Scalar.addi c0_i32_4 c10_i32
  let c1_i32_5 : BitVec 32 := 1#32
  ⟨c0_i32_4, v18, c1_i32_5⟩
def k0_mult1 (k0_t1 : Fin k0_t1_loop.trips) : BitVec 32 :=
  let c0_i32_4 : BitVec 32 := 0#32
  let c1_i32_5 : BitVec 32 := 1#32
  let arg7 : BitVec 32 := Scf.iv c0_i32_4 c1_i32_5 k0_t1
  let c512_i32 : BitVec 32 := 512#32
  let v19 : BitVec 32 := Scalar.muli arg7 c512_i32
  v19
def k0_off3 (k0_t1 : Fin k0_t1_loop.trips) : Fin 4 → Nat :=
  let c0 : Index := 0#32
  let c0_7 : Index := 0#32
  let c0_i32_4 : BitVec 32 := 0#32
  let c1_i32_5 : BitVec 32 := 1#32
  let arg7 : BitVec 32 := Scf.iv c0_i32_4 c1_i32_5 k0_t1
  let c512_i32 : BitVec 32 := 512#32
  let v19 : BitVec 32 := Scalar.muli arg7 c512_i32
  let v20 : BitVec 32 := v19
  let v21 : Index := Scalar.indexCast v20
  let c0_8 : Index := 0#32
  ![0, 0, v21.toNat, 0]
def k0_off4 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c512_i32 : BitVec 32 := 512#32
  let v19 : BitVec 32 := Scalar.muli arg7 c512_i32
  let v20 : BitVec 32 := v19
  let v25 : Index := Scalar.indexCast v20
  let c0_9 : Index := 0#32
  ![v25.toNat, 0]
def k0_cond2 (i : grid0.Coords) (v9 : BitVec 32) : BitVec 1 :=
  let arg1 : BitVec 32 := BitVec.ofNat 32 (i 1).val
  let v10 : BitVec 1 := Scalar.cmpi .slt arg1 v9
  let v13 : BitVec 32 := Scalar.extui v10
  let c0_i32_2 : BitVec 32 := 0#32
  let v14 : BitVec 1 := Scalar.cmpi .ne v13 c0_i32_2
  v14

def k0_cond3 (i : grid0.Coords) (v9 : BitVec 32) : BitVec 1 :=
  let arg1 : BitVec 32 := BitVec.ofNat 32 (i 1).val
  let v10 : BitVec 1 := Scalar.cmpi .slt arg1 v9
  let v_true : BitVec 1 := 1#1
  let v15 : BitVec 1 := Scalar.xori v10 v_true
  let v16 : BitVec 32 := Scalar.extui v15
  let c0_i32_3 : BitVec 32 := 0#32
  let v17 : BitVec 1 := Scalar.cmpi .ne v16 c0_i32_3
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S73.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S73) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x5120x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EDownRefIdeal.lean ====
abbrev S36864x5120 : Shape := ⟨2, ![36864, 5120]⟩
abbrev S1x8x5120x4096 : Shape := ⟨4, ![1, 8, 5120, 4096]⟩
abbrev S73 : Shape := ⟨1, ![73]⟩
abbrev S72x512x5120 : Shape := ⟨3, ![72, 512, 5120]⟩
abbrev S_ : Shape := ⟨0, ![]⟩
abbrev S72x512x4096 : Shape := ⟨3, ![72, 512, 4096]⟩
abbrev S72 : Shape := ⟨1, ![72]⟩
abbrev S72x1x1 : Shape := ⟨3, ![72, 1, 1]⟩
abbrev S1x1x5120x4096 : Shape := ⟨4, ![1, 1, 5120, 4096]⟩
abbrev S5120x4096 : Shape := ⟨2, ![5120, 4096]⟩
abbrev S1 : Shape := ⟨1, ![1]⟩
abbrev S36864x4096 : Shape := ⟨2, ![36864, 4096]⟩

abbrev nBuf : Space → Nat
  | .hbm => 99
  | .vmem => 0
  | .smem => 0
  | _ => 0

abbrev bufTy : (tb : Table) → Fin (tcTables nBuf tb) → BufTy
  | .hbm, ⟨0, _⟩ => ⟨S36864x5120, .bf16⟩
  | .hbm, ⟨1, _⟩ => ⟨S1x8x5120x4096, .f32⟩
  | .hbm, ⟨2, _⟩ => ⟨S73, .i32⟩
  | .hbm, ⟨3, _⟩ => ⟨S36864x5120, .f32⟩
  | .hbm, ⟨4, _⟩ => ⟨S72x512x5120, .f32⟩
  | .hbm, ⟨5, _⟩ => ⟨S_, .f32⟩
  | .hbm, ⟨6, _⟩ => ⟨S72x512x4096, .f32⟩
  | .hbm, ⟨7, _⟩ => ⟨S72, .i32⟩
  | .hbm, ⟨8, _⟩ => ⟨S_, .i32⟩
  | .hbm, ⟨9, _⟩ => ⟨S72, .i32⟩
  | .hbm, ⟨10, _⟩ => ⟨S72, .i1⟩
  | .hbm, ⟨11, _⟩ => ⟨S72x1x1, .i1⟩
  | .hbm, ⟨12, _⟩ => ⟨S1x1x5120x4096, .f32⟩
  | .hbm, ⟨13, _⟩ => ⟨S5120x4096, .f32⟩
  | .hbm, ⟨14, _⟩ => ⟨S72x512x4096, .f32⟩
  | .hbm, ⟨15, _⟩ => ⟨S72x512x4096, .i1⟩
  | .hbm, ⟨16, _⟩ => ⟨S72x512x4096, .f32⟩
  | .hbm, ⟨17, _⟩ => ⟨S72, .i32⟩
  | .hbm, ⟨18, _⟩ => ⟨S_, .i32⟩
  | .hbm, ⟨19, _⟩ => ⟨S72, .i32⟩
  | .hbm, ⟨20, _⟩ => ⟨S72, .i1⟩
  | .hbm, ⟨21, _⟩ => ⟨S72x1x1, .i1⟩
  | .hbm, ⟨22, _⟩ => ⟨S1x1x5120x4096, .f32⟩
  | .hbm, ⟨23, _⟩ => ⟨S5120x4096, .f32⟩
  | .hbm, ⟨24, _⟩ => ⟨S72x512x4096, .f32⟩
  | .hbm, ⟨25, _⟩ => ⟨S72x512x4096, .i1⟩
  | .hbm, ⟨26, _⟩ => ⟨S72x512x4096, .f32⟩
  | .hbm, ⟨27, _⟩ => ⟨S72, .i32⟩
  | .hbm, ⟨28, _⟩ => ⟨S_, .i32⟩
  | .hbm, ⟨29, _⟩ => ⟨S72, .i32⟩
  | .hbm, ⟨30, _⟩ => ⟨S72, .i1⟩
  | .hbm, ⟨31, _⟩ => ⟨S72x1x1, .i1⟩
  | .hbm, ⟨32, _⟩ => ⟨S1x1x5120x4096, .f32⟩
  | .hbm, ⟨33, _⟩ => ⟨S5120x4096, .f32⟩
  | .hbm, ⟨34, _⟩ => ⟨S72x512x4096, .f32⟩
  | .hbm, ⟨35, _⟩ => ⟨S72x512x4096, .i1⟩
  | .hbm, ⟨36, _⟩ => ⟨S72x512x4096, .f32⟩
  | .hbm, ⟨37, _⟩ => ⟨S72, .i32⟩
  | .hbm, ⟨38, _⟩ => ⟨S_, .i32⟩
  | .hbm, ⟨39, _⟩ => ⟨S72, .i32⟩
  | .hbm, ⟨40, _⟩ => ⟨S72, .i1⟩
  | .hbm, ⟨41, _⟩ => ⟨S72x1x1, .i1⟩
  | .hbm, ⟨42, _⟩ => ⟨S1x1x5120x4096, .f32⟩
  | .hbm, ⟨43, _⟩ => ⟨S5120x4096, .f32⟩
  | .hbm, ⟨44, _⟩ => ⟨S72x512x4096, .f32⟩
  | .hbm, ⟨45, _⟩ => ⟨S72x512x4096, .i1⟩
  | .hbm, ⟨46, _⟩ => ⟨S72x512x4096, .f32⟩
  | .hbm, ⟨47, _⟩ => ⟨S72, .i32⟩
  | .hbm, ⟨48, _⟩ => ⟨S_, .i32⟩
  | .hbm, ⟨49, _⟩ => ⟨S72, .i32⟩
  | .hbm, ⟨50, _⟩ => ⟨S72, .i1⟩
  | .hbm, ⟨51, _⟩ => ⟨S72x1x1, .i1⟩
  | .hbm, ⟨52, _⟩ => ⟨S1x1x5120x4096, .f32⟩
  | .hbm, ⟨53, _⟩ => ⟨S5120x4096, .f32⟩
  | .hbm, ⟨54, _⟩ => ⟨S72x512x4096, .f32⟩
  | .hbm, ⟨55, _⟩ => ⟨S72x512x4096, .i1⟩
  | .hbm, ⟨56, _⟩ => ⟨S72x512x4096, .f32⟩
  | .hbm, ⟨57, _⟩ => ⟨S72, .i32⟩
  | .hbm, ⟨58, _⟩ => ⟨S_, .i32⟩
  | .hbm, ⟨59, _⟩ => ⟨S72, .i32⟩
  | .hbm, ⟨60, _⟩ => ⟨S72, .i1⟩
  | .hbm, ⟨61, _⟩ => ⟨S72x1x1, .i1⟩
  | .hbm, ⟨62, _⟩ => ⟨S1x1x5120x4096, .f32⟩
  | .hbm, ⟨63, _⟩ => ⟨S5120x4096, .f32⟩
  | .hbm, ⟨64, _⟩ => ⟨S72x512x4096, .f32⟩
  | .hbm, ⟨65, _⟩ => ⟨S72x512x4096, .i1⟩
  | .hbm, ⟨66, _⟩ => ⟨S72x512x4096, .f32⟩
  | .hbm, ⟨67, _⟩ => ⟨S72, .i32⟩
  | .hbm, ⟨68, _⟩ => ⟨S_, .i32⟩
  | .hbm, ⟨69, _⟩ => ⟨S72, .i32⟩
  | .hbm, ⟨70, _⟩ => ⟨S72, .i1⟩
  | .hbm, ⟨71, _⟩ => ⟨S72x1x1, .i1⟩
  | .hbm, ⟨72, _⟩ => ⟨S1x1x5120x4096, .f32⟩
  | .hbm, ⟨73, _⟩ => ⟨S5120x4096, .f32⟩
  | .hbm, ⟨74, _⟩ => ⟨S72x512x4096, .f32⟩
  | .hbm, ⟨75, _⟩ => ⟨S72x512x4096, .i1⟩
  | .hbm, ⟨76, _⟩ => ⟨S72x512x4096, .f32⟩
  | .hbm, ⟨77, _⟩ => ⟨S72, .i32⟩
  | .hbm, ⟨78, _⟩ => ⟨S_, .i32⟩
  | .hbm, ⟨79, _⟩ => ⟨S72, .i32⟩
  | .hbm, ⟨80, _⟩ => ⟨S72, .i1⟩
  | .hbm, ⟨81, _⟩ => ⟨S72x1x1, .i1⟩
  | .hbm, ⟨82, _⟩ => ⟨S1x1x5120x4096, .f32⟩
  | .hbm, ⟨83, _⟩ => ⟨S5120x4096, .f32⟩
  | .hbm, ⟨84, _⟩ => ⟨S72x512x4096, .f32⟩
  | .hbm, ⟨85, _⟩ => ⟨S72x512x4096, .i1⟩
  | .hbm, ⟨86, _⟩ => ⟨S72x512x4096, .f32⟩
  | .hbm, ⟨87, _⟩ => ⟨S72, .i32⟩
  | .hbm, ⟨88, _⟩ => ⟨S1, .i32⟩
  | .hbm, ⟨89, _⟩ => ⟨S_, .i32⟩
  | .hbm, ⟨90, _⟩ => ⟨S72, .i32⟩
  | .hbm, ⟨91, _⟩ => ⟨S72, .i1⟩
  | .hbm, ⟨92, _⟩ => ⟨S72x1x1, .i1⟩
  | .hbm, ⟨93, _⟩ => ⟨S_, .f32⟩
  | .hbm, ⟨94, _⟩ => ⟨S_, .f32⟩
  | .hbm, ⟨95, _⟩ => ⟨S72x512x4096, .i1⟩
  | .hbm, ⟨96, _⟩ => ⟨S72x512x4096, .f32⟩
  | .hbm, ⟨97, _⟩ => ⟨S72x512x4096, .f32⟩
  | .hbm, ⟨98, _⟩ => ⟨S36864x4096, .f32⟩
  | _, _ => ⟨S36864x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call1_v0 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call2_v0 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call3_v0 : Ref sig .tc := ⟨.hbm, 45, rfl⟩
abbrev main_v34 : Ref sig .tc := ⟨.hbm, 46, rfl⟩
abbrev main_v35 : Ref sig .tc := ⟨.hbm, 47, rfl⟩
abbrev main_c_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call4_v0 : Ref sig .tc := ⟨.hbm, 55, rfl⟩
abbrev main_v42 : Ref sig .tc := ⟨.hbm, 56, rfl⟩
abbrev main_v43 : Ref sig .tc := ⟨.hbm, 57, rfl⟩
abbrev main_c_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call5_v0 : Ref sig .tc := ⟨.hbm, 65, rfl⟩
abbrev main_v50 : Ref sig .tc := ⟨.hbm, 66, rfl⟩
abbrev main_v51 : Ref sig .tc := ⟨.hbm, 67, rfl⟩
abbrev main_c_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_call6_v0 : Ref sig .tc := ⟨.hbm, 75, rfl⟩
abbrev main_v58 : Ref sig .tc := ⟨.hbm, 76, rfl⟩
abbrev main_v59 : Ref sig .tc := ⟨.hbm, 77, rfl⟩
abbrev main_c_6 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call7_v0 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_7 : Ref sig .tc := ⟨.hbm, 93, rfl⟩
abbrev main_call8_v0 : Ref sig .tc := ⟨.hbm, 94, rfl⟩
abbrev main_call8_v1 : Ref sig .tc := ⟨.hbm, 95, rfl⟩
abbrev main_call8_v2 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== EGlu.lean ====
abbrev S36864x2048 : Shape := ⟨2, ![36864, 2048]⟩
abbrev S1x8x4096x5120 : Shape := ⟨4, ![1, 8, 4096, 5120]⟩
abbrev S73 : Shape := ⟨1, ![73]⟩
abbrev S36864x5120 : Shape := ⟨2, ![36864, 5120]⟩
abbrev S512x2048 : Shape := ⟨2, ![512, 2048]⟩
abbrev S1x1x4096x256 : Shape := ⟨4, ![1, 1, 4096, 256]⟩
abbrev S1 : Shape := ⟨1, ![1]⟩
abbrev S512x256 : Shape := ⟨2, ![512, 256]⟩
abbrev S4096x256 : Shape := ⟨2, ![4096, 256]⟩
abbrev S1x1x512x256 : Shape := ⟨4, ![1, 1, 512, 256]⟩
abbrev S2048x256 : Shape := ⟨2, ![2048, 256]⟩

abbrev nBuf : Space → Nat
  | .hbm => 4
  | .vmem => 10
  | .smem => 1
  | _ => 0

abbrev bufTy : (tb : Table) → Fin (tcTables nBuf tb) → BufTy
  | .hbm, ⟨0, _⟩ => ⟨S36864x2048, .i32⟩
  | .hbm, ⟨1, _⟩ => ⟨S1x8x4096x5120, .f32⟩
  | .hbm, ⟨2, _⟩ => ⟨S1x8x4096x5120, .f32⟩
  | .hbm, ⟨3, _⟩ => ⟨S36864x5120, .bf16⟩
  | .local _ .vmem, ⟨0, _⟩ => ⟨S512x2048, .i32⟩
  | .local _ .vmem, ⟨1, _⟩ => ⟨S512x2048, .i32⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S512x256, .bf16⟩
  | .local _ .vmem, ⟨7, _⟩ => ⟨S512x256, .bf16⟩
  | .local _ .vmem, ⟨8, _⟩ => ⟨S4096x256, .bf16⟩
  | .local _ .vmem, ⟨9, _⟩ => ⟨S4096x256, .bf16⟩
  | .local _ .smem, ⟨0, _⟩ => ⟨S73, .i32⟩
  | _, _ => ⟨S36864x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![20, 72], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
@[reducible] def k0_t1_loop : Scf.Loop 32 :=
  let c0_i32_4 : BitVec 32 := 0#32
  let c8_i32 : BitVec 32 := 8#32
  let v18 : BitVec 32 := Scalar.addi c0_i32_4 c8_i32
  let c1_i32_5 : BitVec 32 := 1#32
  ⟨c0_i32_4, v18, c1_i32_5⟩
def k0_mult1 (k0_t1 : Fin k0_t1_loop.trips) : BitVec 32 :=
  let c0_i32_4 : BitVec 32 := 0#32
  let c1_i32_5 : BitVec 32 := 1#32
  let arg9 : BitVec 32 := Scf.iv c0_i32_4 c1_i32_5 k0_t1
  let c512_i32 : BitVec 32 := 512#32
  let v20 : BitVec 32 := Scalar.muli arg9 c512_i32
  v20
def k0_off3 (k0_t1 : Fin k0_t1_loop.trips) : Fin 4 → Nat :=
  let c0 : Index := 0#32
  let c0_11 : Index := 0#32
  let c0_i32_4 : BitVec 32 := 0#32
  let c1_i32_5 : BitVec 32 := 1#32
  let arg9 : BitVec 32 := Scf.iv c0_i32_4 c1_i32_5 k0_t1
  let c512_i32 : BitVec 32 := 512#32
  let v20 : BitVec 32 := Scalar.muli arg9 c512_i32
  let v21 : BitVec 32 := v20
  let v22 : Index := Scalar.indexCast v21
  let c0_12 : Index := 0#32
  ![0, 0, v22.toNat, 0]
def k0_off4 (k0_t1 : Fin k0_t1_loop.trips) : Fin 2 → Nat :=
  let c0_i32_4 : BitVec 32 := 0#32
  let c1_i32_5 : BitVec 32 := 1#32
  let arg9 : BitVec 32 := Scf.iv c0_i32_4 c1_i32_5 k0_t1
  let c512_i32 : BitVec 32 := 512#32
  let v20 : BitVec 32 := Scalar.muli arg9 c512_i32
  let v21 : BitVec 32 := v20
  let v26 : Index := Scalar.indexCast v21
  let c0_13 : Index := 0#32
  ![v26.toNat, 0]
@[reducible] def k0_t2_loop : Scf.Loop 32 :=
  let c0_i32_7 : BitVec 32 := 0#32
  let c8_i32_8 : BitVec 32 := 8#32
  let v19 : BitVec 32 := Scalar.addi c0_i32_7 c8_i32_8
  let c1_i32_9 : BitVec 32 := 1#32
  ⟨c0_i32_7, v19, c1_i32_9⟩
def k0_mult2 (k0_t2 : Fin k0_t2_loop.trips) : BitVec 32 :=
  let c0_i32_7 : BitVec 32 := 0#32
  let c1_i32_9 : BitVec 32 := 1#32
  let arg9 : BitVec 32 := Scf.iv c0_i32_7 c1_i32_9 k0_t2
  let c512_i32 : BitVec 32 := 512#32
  let v20 : BitVec 32 := Scalar.muli arg9 c512_i32
  v20
def k0_off5 (k0_t2 : Fin k0_t2_loop.trips) : Fin 4 → Nat :=
  let c0 : Index := 0#32
  let c0_11 : Index := 0#32
  let c0_i32_7 : BitVec 32 := 0#32
  let c1_i32_9 : BitVec 32 := 1#32
  let arg9 : BitVec 32 := Scf.iv c0_i32_7 c1_i32_9 k0_t2
  let c512_i32 : BitVec 32 := 512#32
  let v20 : BitVec 32 := Scalar.muli arg9 c512_i32
  let v21 : BitVec 32 := v20
  let v22 : Index := Scalar.indexCast v21
  let c0_12 : Index := 0#32
  ![0, 0, v22.toNat, 0]
def k0_off6 (k0_t2 : Fin k0_t2_loop.trips) : Fin 2 → Nat :=
  let c0_i32_7 : BitVec 32 := 0#32
  let c1_i32_9 : BitVec 32 := 1#32
  let arg9 : BitVec 32 := Scf.iv c0_i32_7 c1_i32_9 k0_t2
  let c512_i32 : BitVec 32 := 512#32
  let v20 : BitVec 32 := Scalar.muli arg9 c512_i32
  let v21 : BitVec 32 := v20
  let v26 : Index := Scalar.indexCast v21
  let c0_13 : Index := 0#32
  ![v26.toNat, 0]
def k0_cond2 (i : grid0.Coords) (v9 : BitVec 32) : BitVec 1 :=
  let arg1 : BitVec 32 := BitVec.ofNat 32 (i 1).val
  let v10 : BitVec 1 := Scalar.cmpi .slt arg1 v9
  let v13 : BitVec 32 := Scalar.extui v10
  let c0_i32_2 : BitVec 32 := 0#32
  let v14 : BitVec 1 := Scalar.cmpi .ne v13 c0_i32_2
  v14

def k0_cond3 (i : grid0.Coords) (v9 : BitVec 32) : BitVec 1 :=
  let arg1 : BitVec 32 := BitVec.ofNat 32 (i 1).val
  let v10 : BitVec 1 := Scalar.cmpi .slt arg1 v9
  let v_true : BitVec 1 := 1#1
  let v15 : BitVec 1 := Scalar.xori v10 v_true
  let v16 : BitVec 32 := Scalar.extui v15
  let c0_i32_3 : BitVec 32 := 0#32
  let v17 : BitVec 1 := Scalar.cmpi .ne v16 c0_i32_3
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S73.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S73) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S73.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S73) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EGluRefIdeal.lean ====
abbrev S36864x2048 : Shape := ⟨2, ![36864, 2048]⟩
abbrev S1x8x4096x5120 : Shape := ⟨4, ![1, 8, 4096, 5120]⟩
abbrev S73 : Shape := ⟨1, ![73]⟩
abbrev S_ : Shape := ⟨0, ![]⟩
abbrev S36864x4096 : Shape := ⟨2, ![36864, 4096]⟩
abbrev S72x512x4096 : Shape := ⟨3, ![72, 512, 4096]⟩
abbrev S72x512x5120 : Shape := ⟨3, ![72, 512, 5120]⟩
abbrev S1x1x4096x5120 : Shape := ⟨4, ![1, 1, 4096, 5120]⟩
abbrev S4096x5120 : Shape := ⟨2, ![4096, 5120]⟩
abbrev S72 : Shape := ⟨1, ![72]⟩
abbrev S72x1x1 : Shape := ⟨3, ![72, 1, 1]⟩
abbrev S1 : Shape := ⟨1, ![1]⟩
abbrev S36864x5120 : Shape := ⟨2, ![36864, 5120]⟩

abbrev nBuf : Space → Nat
  | .hbm => 213
  | .vmem => 0
  | .smem => 0
  | _ => 0

abbrev hbmTy0_0 (i : Nat) : BufTy := match i % 128 with
  | 0 => ⟨S36864x2048, .i32⟩
  | 1 => ⟨S1x8x4096x5120, .f32⟩
  | 2 => ⟨S1x8x4096x5120, .f32⟩
  | 3 => ⟨S73, .i32⟩
  | 4 => ⟨S_, .i32⟩
  | 5 => ⟨S36864x2048, .i32⟩
  | 6 => ⟨S36864x2048, .i32⟩
  | 7 => ⟨S36864x2048, .f32⟩
  | 8 => ⟨S_, .i32⟩
  | 9 => ⟨S36864x2048, .i32⟩
  | 10 => ⟨S36864x2048, .i32⟩
  | 11 => ⟨S36864x2048, .f32⟩
  | 12 => ⟨S36864x4096, .f32⟩
  | 13 => ⟨S72x512x4096, .f32⟩
  | 14 => ⟨S_, .f32⟩
  | 15 => ⟨S72x512x5120, .f32⟩
  | 16 => ⟨S1x1x4096x5120, .f32⟩
  | 17 => ⟨S4096x5120, .f32⟩
  | 18 => ⟨S72x512x5120, .f32⟩
  | 19 => ⟨S72x512x5120, .f32⟩
  | 20 => ⟨S72x512x5120, .f32⟩
  | 21 => ⟨S_, .f32⟩
  | 22 => ⟨S72x512x5120, .f32⟩
  | 23 => ⟨S72x512x5120, .f32⟩
  | 24 => ⟨S_, .f32⟩
  | 25 => ⟨S72x512x5120, .f32⟩
  | 26 => ⟨S72x512x5120, .f32⟩
  | 27 => ⟨S72x512x5120, .f32⟩
  | 28 => ⟨S1x1x4096x5120, .f32⟩
  | 29 => ⟨S4096x5120, .f32⟩
  | 30 => ⟨S72x512x5120, .f32⟩
  | 31 => ⟨S72x512x5120, .f32⟩
  | 32 => ⟨S72, .i32⟩
  | 33 => ⟨S_, .i32⟩
  | 34 => ⟨S72, .i32⟩
  | 35 => ⟨S72, .i1⟩
  | 36 => ⟨S72x1x1, .i1⟩
  | 37 => ⟨S72x512x5120, .i1⟩
  | 38 => ⟨S72x512x5120, .f32⟩
  | 39 => ⟨S1x1x4096x5120, .f32⟩
  | 40 => ⟨S4096x5120, .f32⟩
  | 41 => ⟨S72x512x5120, .f32⟩
  | 42 => ⟨S72x512x5120, .f32⟩
  | 43 => ⟨S72x512x5120, .f32⟩
  | 44 => ⟨S_, .f32⟩
  | 45 => ⟨S72x512x5120, .f32⟩
  | 46 => ⟨S72x512x5120, .f32⟩
  | 47 => ⟨S_, .f32⟩
  | 48 => ⟨S72x512x5120, .f32⟩
  | 49 => ⟨S72x512x5120, .f32⟩
  | 50 => ⟨S72x512x5120, .f32⟩
  | 51 => ⟨S1x1x4096x5120, .f32⟩
  | 52 => ⟨S4096x5120, .f32⟩
  | 53 => ⟨S72x512x5120, .f32⟩
  | 54 => ⟨S72x512x5120, .f32⟩
  | 55 => ⟨S72, .i32⟩
  | 56 => ⟨S_, .i32⟩
  | 57 => ⟨S72, .i32⟩
  | 58 => ⟨S72, .i1⟩
  | 59 => ⟨S72x1x1, .i1⟩
  | 60 => ⟨S72x512x5120, .i1⟩
  | 61 => ⟨S72x512x5120, .f32⟩
  | 62 => ⟨S1x1x4096x5120, .f32⟩
  | 63 => ⟨S4096x5120, .f32⟩
  | 64 => ⟨S72x512x5120, .f32⟩
  | 65 => ⟨S72x512x5120, .f32⟩
  | 66 => ⟨S72x512x5120, .f32⟩
  | 67 => ⟨S_, .f32⟩
  | 68 => ⟨S72x512x5120, .f32⟩
  | 69 => ⟨S72x512x5120, .f32⟩
  | 70 => ⟨S_, .f32⟩
  | 71 => ⟨S72x512x5120, .f32⟩
  | 72 => ⟨S72x512x5120, .f32⟩
  | 73 => ⟨S72x512x5120, .f32⟩
  | 74 => ⟨S1x1x4096x5120, .f32⟩
  | 75 => ⟨S4096x5120, .f32⟩
  | 76 => ⟨S72x512x5120, .f32⟩
  | 77 => ⟨S72x512x5120, .f32⟩
  | 78 => ⟨S72, .i32⟩
  | 79 => ⟨S_, .i32⟩
  | 80 => ⟨S72, .i32⟩
  | 81 => ⟨S72, .i1⟩
  | 82 => ⟨S72x1x1, .i1⟩
  | 83 => ⟨S72x512x5120, .i1⟩
  | 84 => ⟨S72x512x5120, .f32⟩
  | 85 => ⟨S1x1x4096x5120, .f32⟩
  | 86 => ⟨S4096x5120, .f32⟩
  | 87 => ⟨S72x512x5120, .f32⟩
  | 88 => ⟨S72x512x5120, .f32⟩
  | 89 => ⟨S72x512x5120, .f32⟩
  | 90 => ⟨S_, .f32⟩
  | 91 => ⟨S72x512x5120, .f32⟩
  | 92 => ⟨S72x512x5120, .f32⟩
  | 93 => ⟨S_, .f32⟩
  | 94 => ⟨S72x512x5120, .f32⟩
  | 95 => ⟨S72x512x5120, .f32⟩
  | 96 => ⟨S72x512x5120, .f32⟩
  | 97 => ⟨S1x1x4096x5120, .f32⟩
  | 98 => ⟨S4096x5120, .f32⟩
  | 99 => ⟨S72x512x5120, .f32⟩
  | 100 => ⟨S72x512x5120, .f32⟩
  | 101 => ⟨S72, .i32⟩
  | 102 => ⟨S_, .i32⟩
  | 103 => ⟨S72, .i32⟩
  | 104 => ⟨S72, .i1⟩
  | 105 => ⟨S72x1x1, .i1⟩
  | 106 => ⟨S72x512x5120, .i1⟩
  | 107 => ⟨S72x512x5120, .f32⟩
  | 108 => ⟨S1x1x4096x5120, .f32⟩
  | 109 => ⟨S4096x5120, .f32⟩
  | 110 => ⟨S72x512x5120, .f32⟩
  | 111 => ⟨S72x512x5120, .f32⟩
  | 112 => ⟨S72x512x5120, .f32⟩
  | 113 => ⟨S_, .f32⟩
  | 114 => ⟨S72x512x5120, .f32⟩
  | 115 => ⟨S72x512x5120, .f32⟩
  | 116 => ⟨S_, .f32⟩
  | 117 => ⟨S72x512x5120, .f32⟩
  | 118 => ⟨S72x512x5120, .f32⟩
  | 119 => ⟨S72x512x5120, .f32⟩
  | 120 => ⟨S1x1x4096x5120, .f32⟩
  | 121 => ⟨S4096x5120, .f32⟩
  | 122 => ⟨S72x512x5120, .f32⟩
  | 123 => ⟨S72x512x5120, .f32⟩
  | 124 => ⟨S72, .i32⟩
  | 125 => ⟨S_, .i32⟩
  | 126 => ⟨S72, .i32⟩
  | 127 => ⟨S72, .i1⟩
  | _ => ⟨S36864x2048, .i32⟩

abbrev hbmTy0_1 (i : Nat) : BufTy := match i % 128 with
  | 0 => ⟨S72x1x1, .i1⟩
  | 1 => ⟨S72x512x5120, .i1⟩
  | 2 => ⟨S72x512x5120, .f32⟩
  | 3 => ⟨S1x1x4096x5120, .f32⟩
  | 4 => ⟨S4096x5120, .f32⟩
  | 5 => ⟨S72x512x5120, .f32⟩
  | 6 => ⟨S72x512x5120, .f32⟩
  | 7 => ⟨S72x512x5120, .f32⟩
  | 8 => ⟨S_, .f32⟩
  | 9 => ⟨S72x512x5120, .f32⟩
  | 10 => ⟨S72x512x5120, .f32⟩
  | 11 => ⟨S_, .f32⟩
  | 12 => ⟨S72x512x5120, .f32⟩
  | 13 => ⟨S72x512x5120, .f32⟩
  | 14 => ⟨S72x512x5120, .f32⟩
  | 15 => ⟨S1x1x4096x5120, .f32⟩
  | 16 => ⟨S4096x5120, .f32⟩
  | 17 => ⟨S72x512x5120, .f32⟩
  | 18 => ⟨S72x512x5120, .f32⟩
  | 19 => ⟨S72, .i32⟩
  | 20 => ⟨S_, .i32⟩
  | 21 => ⟨S72, .i32⟩
  | 22 => ⟨S72, .i1⟩
  | 23 => ⟨S72x1x1, .i1⟩
  | 24 => ⟨S72x512x5120, .i1⟩
  | 25 => ⟨S72x512x5120, .f32⟩
  | 26 => ⟨S1x1x4096x5120, .f32⟩
  | 27 => ⟨S4096x5120, .f32⟩
  | 28 => ⟨S72x512x5120, .f32⟩
  | 29 => ⟨S72x512x5120, .f32⟩
  | 30 => ⟨S72x512x5120, .f32⟩
  | 31 => ⟨S_, .f32⟩
  | 32 => ⟨S72x512x5120, .f32⟩
  | 33 => ⟨S72x512x5120, .f32⟩
  | 34 => ⟨S_, .f32⟩
  | 35 => ⟨S72x512x5120, .f32⟩
  | 36 => ⟨S72x512x5120, .f32⟩
  | 37 => ⟨S72x512x5120, .f32⟩
  | 38 => ⟨S1x1x4096x5120, .f32⟩
  | 39 => ⟨S4096x5120, .f32⟩
  | 40 => ⟨S72x512x5120, .f32⟩
  | 41 => ⟨S72x512x5120, .f32⟩
  | 42 => ⟨S72, .i32⟩
  | 43 => ⟨S_, .i32⟩
  | 44 => ⟨S72, .i32⟩
  | 45 => ⟨S72, .i1⟩
  | 46 => ⟨S72x1x1, .i1⟩
  | 47 => ⟨S72x512x5120, .i1⟩
  | 48 => ⟨S72x512x5120, .f32⟩
  | 49 => ⟨S1x1x4096x5120, .f32⟩
  | 50 => ⟨S4096x5120, .f32⟩
  | 51 => ⟨S72x512x5120, .f32⟩
  | 52 => ⟨S72x512x5120, .f32⟩
  | 53 => ⟨S72x512x5120, .f32⟩
  | 54 => ⟨S_, .f32⟩
  | 55 => ⟨S72x512x5120, .f32⟩
  | 56 => ⟨S72x512x5120, .f32⟩
  | 57 => ⟨S_, .f32⟩
  | 58 => ⟨S72x512x5120, .f32⟩
  | 59 => ⟨S72x512x5120, .f32⟩
  | 60 => ⟨S72x512x5120, .f32⟩
  | 61 => ⟨S1x1x4096x5120, .f32⟩
  | 62 => ⟨S4096x5120, .f32⟩
  | 63 => ⟨S72x512x5120, .f32⟩
  | 64 => ⟨S72x512x5120, .f32⟩
  | 65 => ⟨S72, .i32⟩
  | 66 => ⟨S_, .i32⟩
  | 67 => ⟨S72, .i32⟩
  | 68 => ⟨S72, .i1⟩
  | 69 => ⟨S72x1x1, .i1⟩
  | 70 => ⟨S72x512x5120, .i1⟩
  | 71 => ⟨S72x512x5120, .f32⟩
  | 72 => ⟨S72, .i32⟩
  | 73 => ⟨S1, .i32⟩
  | 74 => ⟨S_, .i32⟩
  | 75 => ⟨S72, .i32⟩
  | 76 => ⟨S72, .i1⟩
  | 77 => ⟨S72x1x1, .i1⟩
  | 78 => ⟨S_, .f32⟩
  | 79 => ⟨S_, .f32⟩
  | 80 => ⟨S72x512x5120, .i1⟩
  | 81 => ⟨S72x512x5120, .f32⟩
  | 82 => ⟨S72x512x5120, .f32⟩
  | 83 => ⟨S36864x5120, .f32⟩
  | 84 => ⟨S36864x5120, .bf16⟩
  | _ => ⟨S36864x2048, .i32⟩

abbrev hbmTy (i : Nat) : BufTy := match i / 128 with
  | 0 => hbmTy0_0 i
  | 1 => hbmTy0_1 i
  | _ => ⟨S36864x2048, .i32⟩

abbrev bufTy : (tb : Table) → Fin (tcTables nBuf tb) → BufTy
  | .hbm, ⟨i, _⟩ => hbmTy i
  | _, _ => ⟨S36864x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call3_v0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call4_v0 : Ref sig .tc := ⟨.hbm, 65, rfl⟩
abbrev main_call4_v1 : Ref sig .tc := ⟨.hbm, 66, rfl⟩
abbrev main_call4_cst : Ref sig .tc := ⟨.hbm, 67, rfl⟩
abbrev main_call4_v2 : Ref sig .tc := ⟨.hbm, 68, rfl⟩
abbrev main_call4_v3 : Ref sig .tc := ⟨.hbm, 69, rfl⟩
abbrev main_call4_cst_0 : Ref sig .tc := ⟨.hbm, 70, rfl⟩
abbrev main_call4_v4 : Ref sig .tc := ⟨.hbm, 71, rfl⟩
abbrev main_call4_v5 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_3 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_call5_v0 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_call6_v0 : Ref sig .tc := ⟨.hbm, 88, rfl⟩
abbrev main_call6_v1 : Ref sig .tc := ⟨.hbm, 89, rfl⟩
abbrev main_call6_cst : Ref sig .tc := ⟨.hbm, 90, rfl⟩
abbrev main_call6_v2 : Ref sig .tc := ⟨.hbm, 91, rfl⟩
abbrev main_call6_v3 : Ref sig .tc := ⟨.hbm, 92, rfl⟩
abbrev main_call6_cst_0 : Ref sig .tc := ⟨.hbm, 93, rfl⟩
abbrev main_call6_v4 : Ref sig .tc := ⟨.hbm, 94, rfl⟩
abbrev main_call6_v5 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_c_4 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_call7_v0 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_call8_v0 : Ref sig .tc := ⟨.hbm, 111, rfl⟩
abbrev main_call8_v1 : Ref sig .tc := ⟨.hbm, 112, rfl⟩
abbrev main_call8_cst : Ref sig .tc := ⟨.hbm, 113, rfl⟩
abbrev main_call8_v2 : Ref sig .tc := ⟨.hbm, 114, rfl⟩
abbrev main_call8_v3 : Ref sig .tc := ⟨.hbm, 115, rfl⟩
abbrev main_call8_cst_0 : Ref sig .tc := ⟨.hbm, 116, rfl⟩
abbrev main_call8_v4 : Ref sig .tc := ⟨.hbm, 117, rfl⟩
abbrev main_call8_v5 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_c_5 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_call9_v0 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_call10_v0 : Ref sig .tc := ⟨.hbm, 134, rfl⟩
abbrev main_call10_v1 : Ref sig .tc := ⟨.hbm, 135, rfl⟩
abbrev main_call10_cst : Ref sig .tc := ⟨.hbm, 136, rfl⟩
abbrev main_call10_v2 : Ref sig .tc := ⟨.hbm, 137, rfl⟩
abbrev main_call10_v3 : Ref sig .tc := ⟨.hbm, 138, rfl⟩
abbrev main_call10_cst_0 : Ref sig .tc := ⟨.hbm, 139, rfl⟩
abbrev main_call10_v4 : Ref sig .tc := ⟨.hbm, 140, rfl⟩
abbrev main_call10_v5 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_c_6 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_call11_v0 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_call12_v0 : Ref sig .tc := ⟨.hbm, 157, rfl⟩
abbrev main_call12_v1 : Ref sig .tc := ⟨.hbm, 158, rfl⟩
abbrev main_call12_cst : Ref sig .tc := ⟨.hbm, 159, rfl⟩
abbrev main_call12_v2 : Ref sig .tc := ⟨.hbm, 160, rfl⟩
abbrev main_call12_v3 : Ref sig .tc := ⟨.hbm, 161, rfl⟩
abbrev main_call12_cst_0 : Ref sig .tc := ⟨.hbm, 162, rfl⟩
abbrev main_call12_v4 : Ref sig .tc := ⟨.hbm, 163, rfl⟩
abbrev main_call12_v5 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_c_7 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_call13_v0 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_call14_v0 : Ref sig .tc := ⟨.hbm, 180, rfl⟩
abbrev main_call14_v1 : Ref sig .tc := ⟨.hbm, 181, rfl⟩
abbrev main_call14_cst : Ref sig .tc := ⟨.hbm, 182, rfl⟩
abbrev main_call14_v2 : Ref sig .tc := ⟨.hbm, 183, rfl⟩
abbrev main_call14_v3 : Ref sig .tc := ⟨.hbm, 184, rfl⟩
abbrev main_call14_cst_0 : Ref sig .tc := ⟨.hbm, 185, rfl⟩
abbrev main_call14_v4 : Ref sig .tc := ⟨.hbm, 186, rfl⟩
abbrev main_call14_v5 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_c_8 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_call15_v0 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_cst_9 : Ref sig .tc := ⟨.hbm, 206, rfl⟩
abbrev main_call16_v0 : Ref sig .tc := ⟨.hbm, 207, rfl⟩
abbrev main_call16_v1 : Ref sig .tc := ⟨.hbm, 208, rfl⟩
abbrev main_call16_v2 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩

abbrev nD : Nat := 1
abbrev τ : Topo := Topo.v7x

variable {F : FTy → Type} [FloatOps F]
-- ==== Proof.Attn.Scratch.lean ====
module

public import proofs.«01_k».proof.Proof.Gen.AttnIdeal.Frame.Runs
public import Idealize.ShloMosaic.Lib.Claim
public import Idealize.ShloMosaic.Lib.Pipeline.Value
public import Idealize.ShloMosaic.Lib.Pipeline.ValueKit

/-!
What the two padded key and value buffers of the band attention hold once they are filled,
and what one pass over the 32 chunks leaves in the output block.
-/

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

/-- A buffer written by pieces that are all blocks of one array, and that together reach every index, holds that array. -/
theorem read_of_blocks {κ : Kind} {sp : Space} {s : Shape} {e : EltTy} (v : View sig κ sp s e)
    (f : v.ty.Contents (Elt F)) (L : List (View.Piece (Elt F) s e)) (G : s.Idx → Elt F e)
    (h : ∀ p ∈ L, ∀ x : p.1.shape.Idx, p.2 x = G (p.1.emb x)) (cov : ∀ y, ∃ p ∈ L, y ∈ p.1.set) :
    v.read (Elt F) (v.writes (Elt F) f L) = G :=
  (View.read_writes_eq_canon v f L cov).trans (funext fun y => View.canon_apply_of_pieces G L h y (cov y))

/-- The pieces a counted loop has left after `n` trips, when each trip puts its own before the earlier ones. -/
theorem mem_pieces {α : Type} {N : ℕ} (pb : ℕ → List α) (T : Fin N → List α) (h0 : pb 0 = [])
    (hs : ∀ k : Fin N, pb (k.val + 1) = T k ++ pb k.val) (p : α) :
    ∀ n, n ≤ N → (p ∈ pb n ↔ ∃ k : Fin N, k.val < n ∧ p ∈ T k)
  | 0, _ => by simp [h0]
  | n + 1, hn => by
    rw [hs ⟨n, hn⟩, List.mem_append, mem_pieces pb T h0 hs p n (Nat.le_of_succ_le hn)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with hk | hk
      · exact Or.inr ⟨k, hk, h⟩
      · refine Or.inl ?_
        have : k = ⟨n, hn⟩ := Fin.ext hk
        rwa [this] at h

/-- The one piece of a singleton list is in it. -/
theorem mem_of_eq {α : Type} {l : List α} {a : α} (h : l = [a]) : a ∈ l := h ▸ List.mem_singleton_self a

/-- The loop that fills the padded buffers runs eight times, -/
theorem trips1 : k0_t1_loop.trips = 8 := by decide +kernel
/-- and the loop over the chunks 32 times. -/
theorem trips2 : k0_t2_loop.trips = 32 := by decide +kernel

/-- The trip that fills padded row `r` (for `r ≥ 512`). -/
def trip1 (r : Fin 2560) : Fin k0_t1_loop.trips := ⟨(r.val - 512) / 256, by rw [trips1]; omega⟩
/-- The trip that computes output row `r`. -/
def trip2 (r : Fin 2048) : Fin k0_t2_loop.trips := ⟨r.val / 64, by rw [trips2]; omega⟩

/-- The padded keys: 512 rows of zeros, then the keys normalised and weighted, 256 rows at a time. -/
def KP (w : Vec F S1x128 .f32) (x : Vec F S1x1x2048x128 .bf16) : Vec F S2560x128 .bf16 := fun y =>
  if h : (y 0).val < 512 then k0_pay3 (ix2 ⟨(y 0).val, h⟩ (y 1))
  else k0_pay5 w (View.ld x (Rect.unit (s := S1x1x2048x128) (k0_off1 (trip1 (y 0))) S1x1x256x128.size (k0_off1_inb (trip1 (y 0)))))
    (ix2 ⟨((y 0).val - 512) % 256, Nat.mod_lt _ (by decide)⟩ (y 1))

/-- The padded values: 512 rows of zeros, then the values. -/
def VP (x : Vec F S1x1x2048x128 .bf16) : Vec F S2560x128 .bf16 := fun y =>
  if h : (y 0).val < 512 then k0_pay4 (ix2 ⟨(y 0).val, h⟩ (y 1))
  else k0_pay6 (View.ld x (Rect.unit (s := S1x1x2048x128) (k0_off1 (trip1 (y 0))) S1x1x256x128.size (k0_off1_inb (trip1 (y 0)))))
    (ix2 ⟨((y 0).val - 512) % 256, Nat.mod_lt _ (by decide)⟩ (y 1))

/-- The column numbers the mask compares with. -/
def colv : IVec S64x576 32 := iota .tc S64x576 32 [1] iota_S64x576_d1_w32

/-- What trip `k` over the chunks computes from its 64 queries and the padded keys and values. -/
def CH (k : Fin k0_t2_loop.trips) (x0 : Vec F S1x1x2048x128 .bf16) (kp vp : Vec F S2560x128 .bf16)
    (x3 : Vec F S1x64x576 .f32) (x4 : Vec F S1x128 .f32) : Vec F S1x64x128 .bf16 :=
  k0_pay7
    (k0_pay9 (k0_pay1 x4) (k0_pay2 x3) colv 0#32 1#32 k
      (View.ld x0 (Rect.unit (s := S1x1x2048x128) (k0_off3 k) S1x1x64x128.size (k0_off3_inb k)))
      (View.ld kp (Rect.unit (s := S2560x128) (k0_off4 k) S576x128.size (k0_off4_inb k)))
      (View.ld vp (Rect.unit (s := S2560x128) (k0_off4 k) S576x128.size (k0_off4_inb k))))
    (k0_pay10 (k0_pay1 x4) (k0_pay2 x3) colv 0#32 1#32 k
      (View.ld x0 (Rect.unit (s := S1x1x2048x128) (k0_off3 k) S1x1x64x128.size (k0_off3_inb k)))
      (View.ld kp (Rect.unit (s := S2560x128) (k0_off4 k) S576x128.size (k0_off4_inb k))))

/-- What the body leaves in its output block. -/
def OUT (x0 x1 x2 : Vec F S1x1x2048x128 .bf16) (x3 : Vec F S1x64x576 .f32) (x4 x5 : Vec F S1x128 .f32) : Vec F S1x2048x128 .bf16 := fun y =>
  CH (trip2 (y 1)) x0 (KP x5 x1) (VP x2) x3 x4 (ix3 0 ⟨(y 1).val % 64, Nat.mod_lt _ (by decide)⟩ (y 2))

/-- A trip of the filling loop leaves one piece in the key buffer: its 256 rows normalised, -/
theorem trip1_keys (𝒱 : Variants) (c : Dev nD) (bd : Option 𝒱.V) (i : grid0.Coords) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x64x576 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048x128 .bf16) (harg8 : arg8.IsWhole) (arg9 : Memref sig .tc .vmem S2560x128 .bf16) (harg9 : arg9.IsWhole) (arg10 : Memref sig .tc .vmem S2560x128 .bf16) (harg10 : arg10.IsWhole) (w : Vec F S1x128 .f32) (X3 : BufTy.Contents (Elt F) arg3.view.ty) (X4 : BufTy.Contents (Elt F) arg4.view.ty) (k : Fin k0_t1_loop.trips) :
    (trip_k0_t1 𝒱 c bd i arg2 harg2 arg3 harg3 arg4 harg4 arg5 harg5 arg6 harg6 arg7 harg7 arg8 harg8 arg9 harg9 arg10 harg10 w X3 X4 k).1 = [⟨Rect.unit (s := S2560x128) (k0_off2 k) S256x128.size (k0_off2_inb k),
      k0_pay5 w (View.readAt (Elt F) arg3.view (Rect.unit (s := S1x1x2048x128) (k0_off1 k) S1x1x256x128.size (k0_off1_inb k)).toLoadRect X3)⟩] := by
  unfold trip_k0_t1; dsimp only

/-- and one in the value buffer: its 256 rows. -/
theorem trip1_values (𝒱 : Variants) (c : Dev nD) (bd : Option 𝒱.V) (i : grid0.Coords) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x64x576 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048x128 .bf16) (harg8 : arg8.IsWhole) (arg9 : Memref sig .tc .vmem S2560x128 .bf16) (harg9 : arg9.IsWhole) (arg10 : Memref sig .tc .vmem S2560x128 .bf16) (harg10 : arg10.IsWhole) (w : Vec F S1x128 .f32) (X3 : BufTy.Contents (Elt F) arg3.view.ty) (X4 : BufTy.Contents (Elt F) arg4.view.ty) (k : Fin k0_t1_loop.trips) :
    (trip_k0_t1 𝒱 c bd i arg2 harg2 arg3 harg3 arg4 harg4 arg5 harg5 arg6 harg6 arg7 harg7 arg8 harg8 arg9 harg9 arg10 harg10 w X3 X4 k).2.1 = [⟨Rect.unit (s := S2560x128) (k0_off2 k) S256x128.size (k0_off2_inb k),
      k0_pay6 (View.readAt (Elt F) arg4.view (Rect.unit (s := S1x1x2048x128) (k0_off1 k) S1x1x256x128.size (k0_off1_inb k)).toLoadRect X4)⟩] := by
  unfold trip_k0_t1; dsimp only

/-- A trip over the chunks leaves one piece: its 64 rows of the output. -/
theorem trip2_rows (𝒱 : Variants) (c : Dev nD) (bd : Option 𝒱.V) (i : grid0.Coords) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x64x576 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048x128 .bf16) (harg8 : arg8.IsWhole) (arg9 : Memref sig .tc .vmem S2560x128 .bf16) (harg9 : arg9.IsWhole) (arg10 : Memref sig .tc .vmem S2560x128 .bf16) (harg10 : arg10.IsWhole) (v0 : Vec F S1x128 .f32) (v4 : Vec F S1x64x576 .f32) (v6 : IVec S64x576 32) (X2 : BufTy.Contents (Elt F) arg2.view.ty) (X9 : BufTy.Contents (Elt F) arg9.view.ty) (X10 : BufTy.Contents (Elt F) arg10.view.ty) (k : Fin k0_t2_loop.trips) :
    (trip_k0_t2 𝒱 c bd i arg2 harg2 arg3 harg3 arg4 harg4 arg5 harg5 arg6 harg6 arg7 harg7 arg8 harg8 arg9 harg9 arg10 harg10 v0 v4 v6 X2 X9 X10 k).1 = [⟨Rect.unit (s := S1x2048x128) (k0_off5 k) S1x64x128.size (k0_off5_inb k),
      k0_pay7
        (k0_pay9 (k0_pay1 v0) (k0_pay2 v4) v6 0#32 1#32 k
          (View.readAt (Elt F) arg2.view (Rect.unit (s := S1x1x2048x128) (k0_off3 k) S1x1x64x128.size (k0_off3_inb k)).toLoadRect X2)
          (View.readAt (Elt F) arg9.view (Rect.unit (s := S2560x128) (k0_off4 k) S576x128.size (k0_off4_inb k)).toLoadRect X9)
          (View.readAt (Elt F) arg10.view (Rect.unit (s := S2560x128) (k0_off4 k) S576x128.size (k0_off4_inb k)).toLoadRect X10))
        (k0_pay10 (k0_pay1 v0) (k0_pay2 v4) v6 0#32 1#32 k
          (View.readAt (Elt F) arg2.view (Rect.unit (s := S1x1x2048x128) (k0_off3 k) S1x1x64x128.size (k0_off3_inb k)).toLoadRect X2)
          (View.readAt (Elt F) arg9.view (Rect.unit (s := S2560x128) (k0_off4 k) S576x128.size (k0_off4_inb k)).toLoadRect X9))⟩] := by
  unfold trip_k0_t2; dsimp only; rfl

/-- A row of a trip's piece is the padded key row it is written to, -/
theorem KP_at (w : Vec F S1x128 .f32) (x : Vec F S1x1x2048x128 .bf16) (k : Fin k0_t1_loop.trips) (j : S256x128.Idx) (y : S2560x128.Idx)
    (h0 : (y 0).val = 256 * k.val + 512 + (j 0).val) (h1 : (y 1).val = (j 1).val) :
    k0_pay5 w (View.ld x (Rect.unit (s := S1x1x2048x128) (k0_off1 k) S1x1x256x128.size (k0_off1_inb k))) j = KP w x y := by
  have hj : (j 0).val < 256 := (j 0).isLt
  obtain rfl : k = trip1 (y 0) := Fin.ext (by show k.val = ((y 0).val - 512) / 256; omega)
  unfold KP
  rw [dif_neg (by omega)]
  refine congrArg _ (funext (Fin.forall_fin_two.mpr ⟨Fin.ext ?_, Fin.ext ?_⟩))
  · show (j 0).val = ((y 0).val - 512) % 256
    omega
  · exact h1.symm

/-- and likewise for the values. -/
theorem VP_at (x : Vec F S1x1x2048x128 .bf16) (k : Fin k0_t1_loop.trips) (j : S256x128.Idx) (y : S2560x128.Idx)
    (h0 : (y 0).val = 256 * k.val + 512 + (j 0).val) (h1 : (y 1).val = (j 1).val) :
    k0_pay6 (View.ld x (Rect.unit (s := S1x1x2048x128) (k0_off1 k) S1x1x256x128.size (k0_off1_inb k))) j = VP x y := by
  have hj : (j 0).val < 256 := (j 0).isLt
  obtain rfl : k = trip1 (y 0) := Fin.ext (by show k.val = ((y 0).val - 512) / 256; omega)
  unfold VP
  rw [dif_neg (by omega)]
  refine congrArg _ (funext (Fin.forall_fin_two.mpr ⟨Fin.ext ?_, Fin.ext ?_⟩))
  · show (j 0).val = ((y 0).val - 512) % 256
    omega
  · exact h1.symm

/-- The rows above the first key are the zeros written first, -/
theorem KP_zero (w : Vec F S1x128 .f32) (x : Vec F S1x1x2048x128 .bf16) (j : S512x128.Idx) (y : S2560x128.Idx)
    (h0 : (y 0).val = (j 0).val) (h1 : (y 1).val = (j 1).val) : k0_pay3 j = KP w x y := by
  have hj : (j 0).val < 512 := (j 0).isLt
  unfold KP
  rw [dif_pos (by omega)]
  exact congrArg _ (funext (Fin.forall_fin_two.mpr ⟨Fin.ext h0.symm, Fin.ext h1.symm⟩))

/-- for the values too. -/
theorem VP_zero (x : Vec F S1x1x2048x128 .bf16) (j : S512x128.Idx) (y : S2560x128.Idx)
    (h0 : (y 0).val = (j 0).val) (h1 : (y 1).val = (j 1).val) : k0_pay4 j = VP x y := by
  have hj : (j 0).val < 512 := (j 0).isLt
  unfold VP
  rw [dif_pos (by omega)]
  exact congrArg _ (funext (Fin.forall_fin_two.mpr ⟨Fin.ext h0.symm, Fin.ext h1.symm⟩))

/-- A row of a chunk is the output row it is written to. -/
theorem OUT_at (x0 x1 x2 : Vec F S1x1x2048x128 .bf16) (x3 : Vec F S1x64x576 .f32) (x4 x5 : Vec F S1x128 .f32) (k : Fin k0_t2_loop.trips) (j : S1x64x128.Idx) (y : S1x2048x128.Idx)
    (h1 : (y 1).val = 64 * k.val + (j 1).val) (h2 : (y 2).val = (j 2).val) :
    CH k x0 (KP x5 x1) (VP x2) x3 x4 j = OUT x0 x1 x2 x3 x4 x5 y := by
  have hj : (j 1).val < 64 := (j 1).isLt
  have hj0 : (j 0).val < 1 := (j 0).isLt
  obtain rfl : k = trip2 (y 1) := Fin.ext (by show k.val = (y 1).val / 64; omega)
  unfold OUT
  refine congrArg _ (funext fun a => ?_)
  match a with
  | ⟨0, _⟩ => exact Fin.ext (by show (j 0).val = 0; omega)
  | ⟨1, _⟩ => exact Fin.ext (by show (j 1).val = (y 1).val % 64; omega)
  | ⟨2, _⟩ => exact Fin.ext h2.symm

/-- A filled row belongs to the piece of its trip. -/
theorem mem_row1 (y : S2560x128.Idx) (h : 512 ≤ (y 0).val) :
    y ∈ (Rect.unit (s := S2560x128) (k0_off2 (trip1 (y 0))) S256x128.size (k0_off2_inb (trip1 (y 0)))).set := by
  have h0 := (y 0).isLt
  have h1 := (y 1).isLt
  rw [Rect.mem_set_unit, k0_off2_eq]
  have e0 : S2560x128.size 0 = 2560 := rfl
  refine Fin.forall_fin_two.mpr ⟨?_, ?_⟩
  · show 256 * (((y 0).val - 512) / 256) + 512 ≤ (y 0).val ∧ (y 0).val < 256 * (((y 0).val - 512) / 256) + 512 + 256
    omega
  · exact ⟨Nat.zero_le _, by show (y 1).val < 0 + 128; have : S2560x128.size 1 = 128 := rfl; omega⟩

/-- Once filled, the key buffer holds the padded keys. -/
theorem keys_filled (𝒱 : Variants) (c : Dev nD) (bd : Option 𝒱.V) (i : grid0.Coords) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x64x576 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048x128 .bf16) (harg8 : arg8.IsWhole) (arg9 : Memref sig .tc .vmem S2560x128 .bf16) (harg9 : arg9.IsWhole) (arg10 : Memref sig .tc .vmem S2560x128 .bf16) (harg10 : arg10.IsWhole) (w : Vec F S1x128 .f32) (X3 : BufTy.Contents (Elt F) arg3.view.ty) (X4 : BufTy.Contents (Elt F) arg4.view.ty) (f : BufTy.Contents (Elt F) arg9.view.ty) :
    arg9.view.read (Elt F) (arg9.view.writes (Elt F) f ((pb_k0_t1 𝒱 c bd i arg2 harg2 arg3 harg3 arg4 harg4 arg5 harg5 arg6 harg6 arg7 harg7 arg8 harg8 arg9 harg9 arg10 harg10 w X3 X4 k0_t1_loop.trips).1
      ++ [⟨Rect.unit (s := S2560x128) ![0, 0] S512x128.size inb_S2560x128_S512x128_0_0, k0_pay3⟩]))
      = KP w (arg3.view.read (Elt F) X3) := by
  have hmem := fun p => mem_pieces (fun n => (pb_k0_t1 𝒱 c bd i arg2 harg2 arg3 harg3 arg4 harg4 arg5 harg5 arg6 harg6 arg7 harg7 arg8 harg8 arg9 harg9 arg10 harg10 w X3 X4 n).1)
    (fun k => (trip_k0_t1 𝒱 c bd i arg2 harg2 arg3 harg3 arg4 harg4 arg5 harg5 arg6 harg6 arg7 harg7 arg8 harg8 arg9 harg9 arg10 harg10 w X3 X4 k).1) rfl
    (fun k => by rw [pb_k0_t1_succ]) p _ le_rfl
  refine read_of_blocks _ _ _ _ ?_ ?_
  · intro p hp x
    rcases List.mem_append.mp hp with hp | hp
    · obtain ⟨k, -, hk⟩ := (hmem p).mp hp
      rw [trip1_keys] at hk
      obtain rfl := List.mem_singleton.mp hk
      refine KP_at w _ k x _ ?_ ?_
      · exact (Rect.idx_unit_val (s := S2560x128) (k0_off2 k) S256x128.size (k0_off2_inb k) x 0).trans ((congrArg (· + (x 0).val) (congrFun (k0_off2_eq k) 0)).trans rfl)
      · exact (Rect.idx_unit_val (s := S2560x128) (k0_off2 k) S256x128.size (k0_off2_inb k) x 1).trans ((congrArg (· + (x 1).val) (congrFun (k0_off2_eq k) 1)).trans (Nat.zero_add _))
    · obtain rfl := List.mem_singleton.mp hp
      refine KP_zero w _ x _ ?_ ?_
      · exact (Rect.idx_unit_val (s := S2560x128) ![0, 0] S512x128.size inb_S2560x128_S512x128_0_0 x 0).trans (Nat.zero_add (x _).val)
      · exact (Rect.idx_unit_val (s := S2560x128) ![0, 0] S512x128.size inb_S2560x128_S512x128_0_0 x 1).trans (Nat.zero_add (x _).val)
  · intro y
    by_cases h : (y 0).val < 512
    · refine ⟨_, List.mem_append_right _ (List.mem_singleton_self _), ?_⟩
      rw [Rect.mem_set_unit]
      refine Fin.forall_fin_two.mpr ⟨⟨Nat.zero_le _, ?_⟩, ⟨Nat.zero_le _, ?_⟩⟩
      · show (y 0).val < 0 + 512
        omega
      · show (y 1).val < 0 + 128
        have := (y 1).isLt
        have : S2560x128.size 1 = 128 := rfl
        omega
    · refine ⟨_, List.mem_append_left _ ((hmem _).mpr ⟨trip1 (y 0), (trip1 (y 0)).isLt, mem_of_eq (trip1_keys 𝒱 c bd i arg2 harg2 arg3 harg3 arg4 harg4 arg5 harg5 arg6 harg6 arg7 harg7 arg8 harg8 arg9 harg9 arg10 harg10 w X3 X4 (trip1 (y 0)))⟩), mem_row1 y (by omega)⟩

/-- Once filled, the value buffer holds the padded values. -/
theorem values_filled (𝒱 : Variants) (c : Dev nD) (bd : Option 𝒱.V) (i : grid0.Coords) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x64x576 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048x128 .bf16) (harg8 : arg8.IsWhole) (arg9 : Memref sig .tc .vmem S2560x128 .bf16) (harg9 : arg9.IsWhole) (arg10 : Memref sig .tc .vmem S2560x128 .bf16) (harg10 : arg10.IsWhole) (w : Vec F S1x128 .f32) (X3 : BufTy.Contents (Elt F) arg3.view.ty) (X4 : BufTy.Contents (Elt F) arg4.view.ty) (f : BufTy.Contents (Elt F) arg10.view.ty) :
    arg10.view.read (Elt F) (arg10.view.writes (Elt F) f ((pb_k0_t1 𝒱 c bd i arg2 harg2 arg3 harg3 arg4 harg4 arg5 harg5 arg6 harg6 arg7 harg7 arg8 harg8 arg9 harg9 arg10 harg10 w X3 X4 k0_t1_loop.trips).2
      ++ [⟨Rect.unit (s := S2560x128) ![0, 0] S512x128.size inb_S2560x128_S512x128_0_0, k0_pay4⟩]))
      = VP (arg4.view.read (Elt F) X4) := by
  have hmem := fun p => mem_pieces (fun n => (pb_k0_t1 𝒱 c bd i arg2 harg2 arg3 harg3 arg4 harg4 arg5 harg5 arg6 harg6 arg7 harg7 arg8 harg8 arg9 harg9 arg10 harg10 w X3 X4 n).2)
    (fun k => (trip_k0_t1 𝒱 c bd i arg2 harg2 arg3 harg3 arg4 harg4 arg5 harg5 arg6 harg6 arg7 harg7 arg8 harg8 arg9 harg9 arg10 harg10 w X3 X4 k).2.1) rfl
    (fun k => by rw [pb_k0_t1_succ]) p _ le_rfl
  refine read_of_blocks _ _ _ _ ?_ ?_
  · intro p hp x
    rcases List.mem_append.mp hp with hp | hp
    · obtain ⟨k, -, hk⟩ := (hmem p).mp hp
      rw [trip1_values] at hk
      obtain rfl := List.mem_singleton.mp hk
      refine VP_at (arg4.view.read (Elt F) X4) k x _ ?_ ?_
      · exact (Rect.idx_unit_val (s := S2560x128) (k0_off2 k) S256x128.size (k0_off2_inb k) x 0).trans ((congrArg (· + (x 0).val) (congrFun (k0_off2_eq k) 0)).trans rfl)
      · exact (Rect.idx_unit_val (s := S2560x128) (k0_off2 k) S256x128.size (k0_off2_inb k) x 1).trans ((congrArg (· + (x 1).val) (congrFun (k0_off2_eq k) 1)).trans (Nat.zero_add _))
    · obtain rfl := List.mem_singleton.mp hp
      refine VP_zero (arg4.view.read (Elt F) X4) x _ ?_ ?_
      · exact (Rect.idx_unit_val (s := S2560x128) ![0, 0] S512x128.size inb_S2560x128_S512x128_0_0 x 0).trans (Nat.zero_add (x _).val)
      · exact (Rect.idx_unit_val (s := S2560x128) ![0, 0] S512x128.size inb_S2560x128_S512x128_0_0 x 1).trans (Nat.zero_add (x _).val)
  · intro y
    by_cases h : (y 0).val < 512
    · refine ⟨_, List.mem_append_right _ (List.mem_singleton_self _), ?_⟩
      rw [Rect.mem_set_unit]
      refine Fin.forall_fin_two.mpr ⟨⟨Nat.zero_le _, ?_⟩, ⟨Nat.zero_le _, ?_⟩⟩
      · show (y 0).val < 0 + 512
        omega
      · show (y 1).val < 0 + 128
        have := (y 1).isLt
        have : S2560x128.size 1 = 128 := rfl
        omega
    · refine ⟨_, List.mem_append_left _ ((hmem _).mpr ⟨trip1 (y 0), (trip1 (y 0)).isLt, mem_of_eq (trip1_values 𝒱 c bd i arg2 harg2 arg3 harg3 arg4 harg4 arg5 harg5 arg6 harg6 arg7 harg7 arg8 harg8 arg9 harg9 arg10 harg10 w X3 X4 (trip1 (y 0)))⟩), mem_row1 y (by omega)⟩

/-- The 32 pieces of the output are blocks of `OUT` and reach every row of it. -/
theorem rows_filled (𝒱 : Variants) (c : Dev nD) (bd : Option 𝒱.V) (i : grid0.Coords) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x64x576 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048x128 .bf16) (harg8 : arg8.IsWhole) (arg9 : Memref sig .tc .vmem S2560x128 .bf16) (harg9 : arg9.IsWhole) (arg10 : Memref sig .tc .vmem S2560x128 .bf16) (harg10 : arg10.IsWhole) (x0 x1 x2 : Vec F S1x1x2048x128 .bf16) (x3 : Vec F S1x64x576 .f32) (x4 x5 : Vec F S1x128 .f32)
    (f : BufTy.Contents (Elt F) arg8.view.ty) :
    arg8.view.read (Elt F) (arg8.view.writes (Elt F) f
      (pb_k0_t2 𝒱 c bd i arg2 harg2 arg3 harg3 arg4 harg4 arg5 harg5 arg6 harg6 arg7 harg7 arg8 harg8 arg9 harg9 arg10 harg10 x4 x3 colv (harg2.unread x0) (harg9.unread (KP x5 x1)) (harg10.unread (VP x2)) k0_t2_loop.trips))
      = OUT x0 x1 x2 x3 x4 x5 := by
  have hmem := fun p => mem_pieces (fun n => pb_k0_t2 𝒱 c bd i arg2 harg2 arg3 harg3 arg4 harg4 arg5 harg5 arg6 harg6 arg7 harg7 arg8 harg8 arg9 harg9 arg10 harg10 x4 x3 colv (harg2.unread x0) (harg9.unread (KP x5 x1)) (harg10.unread (VP x2)) n)
    (fun k => (trip_k0_t2 𝒱 c bd i arg2 harg2 arg3 harg3 arg4 harg4 arg5 harg5 arg6 harg6 arg7 harg7 arg8 harg8 arg9 harg9 arg10 harg10 x4 x3 colv (harg2.unread x0) (harg9.unread (KP x5 x1)) (harg10.unread (VP x2)) k).1) rfl
    (fun k => by rw [pb_k0_t2_succ]) p _ le_rfl
  refine read_of_blocks _ _ _ _ ?_ ?_
  · intro p hp x
    obtain ⟨k, -, hk⟩ := (hmem p).mp hp
    rw [trip2_rows] at hk
    obtain rfl := List.mem_singleton.mp hk
    simp only [View.readAt_eq_ld, harg2.read_unread, harg9.read_unread, harg10.read_unread]
    refine OUT_at x0 x1 x2 x3 x4 x5 k x _ ?_ ?_
    · exact (Rect.idx_unit_val (s := S1x2048x128) (k0_off5 k) S1x64x128.size (k0_off5_inb k) x 1).trans ((congrArg (· + (x 1).val) (congrFun (k0_off5_eq k) 1)).trans rfl)
    · exact (Rect.idx_unit_val (s := S1x2048x128) (k0_off5 k) S1x64x128.size (k0_off5_inb k) x 2).trans ((congrArg (· + (x 2).val) (congrFun (k0_off5_eq k) 2)).trans (Nat.zero_add _))
  · intro y
    refine ⟨_, (hmem _).mpr ⟨trip2 (y 1), (trip2 (y 1)).isLt, mem_of_eq (trip2_rows 𝒱 c bd i arg2 harg2 arg3 harg3 arg4 harg4 arg5 harg5 arg6 harg6 arg7 harg7 arg8 harg8 arg9 harg9 arg10 harg10 x4 x3 colv (harg2.unread x0) (harg9.unread (KP x5 x1)) (harg10.unread (VP x2)) (trip2 (y 1)))⟩, ?_⟩
    · rw [Rect.mem_set_unit, k0_off5_eq]
      have h0 : (y 0).val < 1 := (y 0).isLt
      have h1 : (y 1).val < 2048 := (y 1).isLt
      have h2 : (y 2).val < 128 := (y 2).isLt
      intro a
      match a with
      | ⟨0, _⟩ => exact ⟨Nat.zero_le _, by show (y 0).val < 0 + 1; omega⟩
      | ⟨1, _⟩ =>
        show 64 * ((y 1).val / 64) ≤ (y 1).val ∧ (y 1).val < 64 * ((y 1).val / 64) + 64
        omega
      | ⟨2, _⟩ => exact ⟨Nat.zero_le _, by show (y 2).val < 0 + 128; omega⟩

end Cert.AttnIdeal.Hand

end
-- ==== Proof.Attn.Run.lean ====
module

public import proofs.«01_k».proof.Proof.Attn.Scratch
public import Idealize.ShloMosaic.Lib.Claim
public import Idealize.ShloMosaic.Lib.Pipeline.Value
public import Idealize.ShloMosaic.Lib.Pipeline.ValueKit

/-!
The run of the band attention's body on whole buffers, the launch built on it, and the frame.
-/

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

set_option maxHeartbeats 2000000 in
/-- The body on whole buffers: from the six inputs' blocks, the output block at anything and the two padded buffers at
anything, it ends with the inputs as they were and the output block at `OUT`. After the filling loop the two buffers
hold `KP` and `VP` whatever they held before, so the loop over the chunks runs from those. -/
theorem body_run (c : Dev nD) (i : grid0.Coords) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x64x576 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048x128 .bf16) (harg8 : arg8.IsWhole) (arg9 : Memref sig .tc .vmem S2560x128 .bf16) (harg9 : arg9.IsWhole) (arg10 : Memref sig .tc .vmem S2560x128 .bf16) (harg10 : arg10.IsWhole) (x0 x1 x2 : Vec F S1x1x2048x128 .bf16) (x3 : Vec F S1x64x576 .f32) (x4 x5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (OUT x0 x1 x2 x3 x4 x5) ∗ (∃ d, owns (c : Thread nD τ) arg9 fullShare d) ∗ (∃ d, owns (c : Thread nD τ) arg10 fullShare d)) -∗ K ⟨⟩))
      ⊢ wp frame (wpE (defs₀ (F := F)) Variants.none c none) E (cc0_band_attention i arg2 harg2 arg3 harg3 arg4 harg4 arg5 harg5 arg6 harg6 arg7 harg7 arg8 harg8 arg9 harg9 arg10 harg10) K := by
  simp only [cc0_band_attention_eq_skeleton]; unfold cc0_band_attention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  sl_step
  have e5 : View.readAt (Elt F) arg7.view (Rect.unit (s := S1x128) ![0, 0] S1x128.size inb_S1x128_S1x128_0_0).toLoadRect (harg7.unread x5) = x5 := by
    rw [View.readAt_eq_ld, harg7.read_unread]; exact View.ld_unit_lit inb_S1x128_S1x128_0_0 x5 (by decide)
  have e4 : View.readAt (Elt F) arg6.view (Rect.unit (s := S1x128) ![0, 0] S1x128.size inb_S1x128_S1x128_0_0).toLoadRect (harg6.unread x4) = x4 := by
    rw [View.readAt_eq_ld, harg6.read_unread]; exact View.ld_unit_lit inb_S1x128_S1x128_0_0 x4 (by decide)
  have e3 : View.readAt (Elt F) arg5.view (Rect.unit (s := S1x64x576) ![0, 0, 0] S1x64x576.size inb_S1x64x576_S1x64x576_0_0_0).toLoadRect (harg5.unread x3) = x3 := by
    rw [View.readAt_eq_ld, harg5.read_unread]; exact View.ld_unit_lit inb_S1x64x576_S1x64x576_0_0_0 x3 (by decide)
  have e9 := harg9.eq_unread (keys_filled Variants.none c none i arg2 harg2 arg3 harg3 arg4 harg4 arg5 harg5 arg6 harg6 arg7 harg7 arg8 harg8 arg9 harg9 arg10 harg10 x5 (harg3.unread x1) (harg4.unread x2) fs0)
  have e10 := harg10.eq_unread (values_filled Variants.none c none i arg2 harg2 arg3 harg3 arg4 harg4 arg5 harg5 arg6 harg6 arg7 harg7 arg8 harg8 arg9 harg9 arg10 harg10 x5 (harg3.unread x1) (harg4.unread x2) fs1)
  rw [harg3.read_unread] at e9
  rw [harg4.read_unread] at e10
  have e8 := rows_filled Variants.none c none i arg2 harg2 arg3 harg3 arg4 harg4 arg5 harg5 arg6 harg6 arg7 harg7 arg8 harg8 arg9 harg9 arg10 harg10 x0 x1 x2 x3 x4 x5 f6
  rw [← e9, ← e10] at e8
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [e3, e4, e5]
    exact e8
  isplitl [HS0]
  · iexists _, _; isplitr; swap; · iexact HS0
    ipureintro; rfl
  iexists _, _; isplitr; swap; · iexact HS1
  ipureintro; rfl

variable (m : (ℓ : Loc nD τ sig) → Buf (Elt F) ℓ) (ρ : Dev nD → PrngReg)

/-! ## What the outputs hold after each point -/

/-- What the outputs' staging buffers hold after the body at point `t`: the run's contents at
    the point's memrefs and input blocks. -/
def outsAt0 (c : Dev nD) (t : Fin cfg0.N) : Vec F S1x2048x128 .bf16 :=
  OUT (iblk m c 0 t) (iblk m c 1 t) (iblk m c 2 t) (iblk m c 3 t) (iblk m c 4 t) (iblk m c 5 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_AttnIdeal`'s statement (Defs.lean) at any `F` — Proof.lean cites it at `Bits`:
    `theorem Cert.Proof.claim : Cert.Claim := ⟨Cert.AttnIdeal.Gen.facts, fun m ρ _ => Cert.AttnIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.AttnIdeal.Hand

end
-- ==== Proof.Attn.Spec.lean ====
/-
The attention of one head, row by row, over the extended reals: the normalised row, the keys and values a chunk
sees, the scores of a query, and the two ways to write their softmax.
-/
module

public import Idealize.ShloMosaic.Lib.Pipeline.ValueKit

@[expose] public section
noncomputable section
namespace Cert.AttnMath
open Idealize.ShloMosaic

/-- A row of 128 numbers over its root mean square, times the weights. -/
def rms (x w : Fin 128 → EReal) (d : Fin 128) : EReal :=
  x d * Ideal.rsqrt (Ideal.div (∑ e, x e * x e) (Ideal.ofBits FTy.f32 0x43000000#32) + Ideal.ofBits FTy.f32 0x358637BD#32) * w d

/-- A column of tokens behind 512 zeros. -/
def behind (f : Fin 2048 → EReal) (p : ℕ) : EReal :=
  if h : 512 ≤ p ∧ p - 512 < 2048 then f ⟨p - 512, h.2⟩ else 0

/-- The score of a query `q` of chunk `n` with column `k` of its band: far down where the column is no token. -/
def score (n : ℕ) (q : Fin 128 → EReal) (keys : ℕ → Fin 128 → EReal) (bias : Fin 576 → EReal) (k : Fin 576) : EReal :=
  if 512 ≤ n * 64 + k.val then (∑ e, q e * keys (n * 64 + k.val) e) * Ideal.ofBits FTy.f32 0x3DB504F3#32 + bias k
  else Ideal.ofBits FTy.f32 0xCE6E6B28#32

/-- The largest of the scores. -/
def top (s : Fin 576 → EReal) : EReal := Finset.fold max (Ideal.ofBits FTy.f32 0xFF800000#32) s Finset.univ

/-- A weight before the division by their sum. -/
def weight (s : Fin 576 → EReal) (k : Fin 576) : EReal := Ideal.exp (s k - top s)

/-- The division last. -/
def mixLate (s v : Fin 576 → EReal) : EReal := Ideal.div (∑ k, weight s k * v k) (∑ k, weight s k)

/-- The division first. -/
def mixEarly (s v : Fin 576 → EReal) : EReal := ∑ k, Ideal.div (weight s k) (∑ j, weight s j) * v k

end Cert.AttnMath
end
-- ==== Proof.Attn.KerVal.lean ====
/-
The band attention's body over the extended reals: the padded keys and values, the scores of a chunk's queries, and
the output block, each at an index.
-/
module

public import proofs.«01_k».proof.Proof.Attn.Run
public import proofs.«01_k».proof.Proof.Attn.Spec
public import Idealize.ShloMosaic.Lib.IdealHost

@[expose] public section
set_option maxRecDepth 16384
noncomputable section
namespace Cert.AttnIdeal.KerVal
open Idealize.ShloMosaic Idealize.ShloMosaic.TcCoe
open Cert.AttnIdeal Cert.AttnIdeal.Gen Cert.AttnIdeal.Hand Cert.AttnMath

theorem k1_lt (k : Fin k0_t1_loop.trips) : k.val < 8 := lt_of_lt_of_eq k.isLt trips1
theorem k2_lt (k : Fin k0_t2_loop.trips) : k.val < 32 := lt_of_lt_of_eq k.isLt trips2

/-- The 256 rows a trip of the filling loop reads. -/
theorem ld1 (x : FVec Ideal S1x1x2048x128 .bf16) (k : Fin k0_t1_loop.trips) (r : Fin 256) (d : Fin 128) :
    View.ld (Val := Elt Ideal) (e' := .bf16) x (Rect.unit (s := S1x1x2048x128) (k0_off1 k) S1x1x256x128.size (k0_off1_inb k)) (ix4 0 0 r d)
      = x (ix4 0 0 ⟨256 * k.val + r.val, by have := k1_lt k; omega⟩ d) := by
  rw [View.ld_apply]
  refine congrArg x (funext fun a => Fin.ext ?_)
  rw [Rect.idx_unit_val]
  match a with
  | ⟨0, _⟩ => rw [congrFun (k0_off1_eq k)]; rfl
  | ⟨1, _⟩ => rw [congrFun (k0_off1_eq k)]; rfl
  | ⟨2, _⟩ => rw [congrFun (k0_off1_eq k)]; rfl
  | ⟨3, _⟩ => rw [congrFun (k0_off1_eq k)]; exact Nat.zero_add _

/-- The 64 rows of queries a trip over the chunks reads. -/
theorem ld3 (x : FVec Ideal S1x1x2048x128 .bf16) (k : Fin k0_t2_loop.trips) (r : Fin 64) (d : Fin 128) :
    View.ld (Val := Elt Ideal) (e' := .bf16) x (Rect.unit (s := S1x1x2048x128) (k0_off3 k) S1x1x64x128.size (k0_off3_inb k)) (ix4 0 0 r d)
      = x (ix4 0 0 ⟨64 * k.val + r.val, by have := k2_lt k; omega⟩ d) := by
  rw [View.ld_apply]
  refine congrArg x (funext fun a => Fin.ext ?_)
  rw [Rect.idx_unit_val]
  match a with
  | ⟨0, _⟩ => rw [congrFun (k0_off3_eq k)]; rfl
  | ⟨1, _⟩ => rw [congrFun (k0_off3_eq k)]; rfl
  | ⟨2, _⟩ => rw [congrFun (k0_off3_eq k)]; rfl
  | ⟨3, _⟩ => rw [congrFun (k0_off3_eq k)]; exact Nat.zero_add _

/-- The 576 padded rows a trip over the chunks reads. -/
theorem ld4 (x : FVec Ideal S2560x128 .bf16) (k : Fin k0_t2_loop.trips) (r : Fin 576) (d : Fin 128) :
    View.ld (Val := Elt Ideal) (e' := .bf16) x (Rect.unit (s := S2560x128) (k0_off4 k) S576x128.size (k0_off4_inb k)) (ix2 r d)
      = x (ix2 ⟨64 * k.val + r.val, by have := k2_lt k; omega⟩ d) := by
  rw [View.ld_apply]
  refine congrArg x (funext fun a => Fin.ext ?_)
  rw [Rect.idx_unit_val]
  match a with
  | ⟨0, _⟩ => rw [congrFun (k0_off4_eq k)]; rfl
  | ⟨1, _⟩ => rw [congrFun (k0_off4_eq k)]; exact Nat.zero_add _

theorem pay3_at (r : Fin 512) (d : Fin 128) : k0_pay3 (F := Ideal) (ix2 r d) = 0 := by
  pointwise [k0_pay3]

theorem pay4_at (r : Fin 512) (d : Fin 128) : k0_pay4 (F := Ideal) (ix2 r d) = 0 := by
  pointwise [k0_pay4]

theorem pay5_at (w : FVec Ideal S1x128 .f32) (x : FVec Ideal S1x1x256x128 .bf16) (r : Fin 256) (d : Fin 128) :
    k0_pay5 (F := Ideal) w x (ix2 r d) = rms (fun e => x (ix4 0 0 r e)) (fun e => w (ix2 0 e)) d := by
  pointwise [k0_pay5]
  rfl

theorem pay6_at (x : FVec Ideal S1x1x256x128 .bf16) (r : Fin 256) (d : Fin 128) :
    k0_pay6 (F := Ideal) x (ix2 r d) = x (ix4 0 0 r d) := by
  pointwise [k0_pay6]

/-- The padded keys at a row. -/
theorem KP_val (w : FVec Ideal S1x128 .f32) (x : FVec Ideal S1x1x2048x128 .bf16) (p : Fin 2560) (d : Fin 128) :
    KP (F := Ideal) w x (ix2 p d) = behind (fun s => rms (fun e => x (ix4 0 0 s e)) (fun e => w (ix2 0 e)) d) p.val := by
  by_cases h : p.val < 512
  · unfold KP behind
    rw [dif_pos (show ((ix2 p d : S2560x128.Idx) 0).val < 512 from h), dif_neg (by omega)]
    exact pay3_at ⟨p.val, h⟩ d
  · unfold KP behind
    rw [dif_neg (show ¬ ((ix2 p d : S2560x128.Idx) 0).val < 512 from h), dif_pos ⟨by omega, by omega⟩]
    refine (pay5_at w _ ⟨(p.val - 512) % 256, Nat.mod_lt _ (by decide)⟩ d).trans ?_
    refine congrArg (fun g => rms g _ d) (funext fun e => (ld1 x _ _ e).trans (congrArg x ?_))
    refine congrArg (fun s : Fin 2048 => (ix4 0 0 s e : S1x1x2048x128.Idx)) (Fin.ext ?_)
    show 256 * ((p.val - 512) / 256) + (p.val - 512) % 256 = p.val - 512
    omega

/-- The padded values at a row. -/
theorem VP_val (x : FVec Ideal S1x1x2048x128 .bf16) (p : Fin 2560) (d : Fin 128) :
    VP (F := Ideal) x (ix2 p d) = behind (fun s => x (ix4 0 0 s d)) p.val := by
  by_cases h : p.val < 512
  · unfold VP behind
    rw [dif_pos (show ((ix2 p d : S2560x128.Idx) 0).val < 512 from h), dif_neg (by omega)]
    exact pay4_at ⟨p.val, h⟩ d
  · unfold VP behind
    rw [dif_neg (show ¬ ((ix2 p d : S2560x128.Idx) 0).val < 512 from h), dif_pos ⟨by omega, by omega⟩]
    refine (pay6_at _ ⟨(p.val - 512) % 256, Nat.mod_lt _ (by decide)⟩ d).trans ?_
    rw [ld1]
    refine congrArg x (congrArg (fun s : Fin 2048 => (ix4 0 0 s d : S1x1x2048x128.Idx)) (Fin.ext ?_))
    show 256 * ((p.val - 512) / 256) + (p.val - 512) % 256 = p.val - 512
    omega

theorem toInt_lt (n : ℕ) (h : n < 2 ^ 31) : (BitVec.ofNat 32 n).toInt = n := by
  rw [BitVec.toInt_eq_toNat_of_lt] <;> simp only [BitVec.toNat_ofNat] <;> omega

/-- The mask's bit: the column stands for a token. -/
theorem mask_word (n k : ℕ) (hn : n < 32) (hk : k < 576) :
    IntOp.cmpi CmpIPredicate.sge (IntOp.addi (BitVec.ofNat 32 k) (Scalar.muli (Scf.iv 0#32 1#32 n) 64#32)) 512#32
      = if 512 ≤ n * 64 + k then 1#1 else 0#1 := by
  have e : IntOp.addi (BitVec.ofNat 32 k) (Scalar.muli (Scf.iv 0#32 1#32 n) 64#32) = BitVec.ofNat 32 (n * 64 + k) := by
    apply BitVec.eq_of_toNat_eq
    simp [IntOp.addi, IntOp.muli, Scalar.muli, Scf.iv]
    omega
  have t : (BitVec.ofNat 32 (n * 64 + k)).toInt = (n * 64 + k : ℕ) := toInt_lt _ (by omega)
  rw [e]
  simp only [IntOp.cmpi, BitVec.sle, t]
  by_cases h : 512 ≤ n * 64 + k
  · rw [if_pos h, decide_eq_true (by simp; omega)]; rfl
  · rw [if_neg h, decide_eq_false (by simp; omega)]; rfl

theorem select_if (p : Prop) [Decidable p] (a b : EReal) : Scalar.select (if p then 1#1 else 0#1) a b = if p then a else b := by
  split_ifs <;> rfl

/-- A weight of a chunk's query, its keys being `keys` from the chunk's first padded row on. -/
theorem pay8_at (k : Fin k0_t2_loop.trips) (x4 : FVec Ideal S1x128 .f32) (x3 : FVec Ideal S1x64x576 .f32)
    (q : FVec Ideal S1x1x64x128 .bf16) (kp : FVec Ideal S576x128 .bf16) (keys : ℕ → Fin 128 → EReal)
    (hk : ∀ j e, kp (ix2 j e) = keys (k.val * 64 + j.val) e) (r : Fin 64) (j : Fin 576) :
    k0_pay8 (F := Ideal) (k0_pay1 x4) (k0_pay2 x3) colv 0#32 1#32 k q kp (ix2 r j)
      = weight (score k.val (rms (fun e => q (ix4 0 0 r e)) (fun e => x4 (ix2 0 e))) keys (fun j => x3 (ix3 0 r j))) j := by
  pointwise [k0_pay8, k0_pay1, k0_pay2, colv]
  unfold weight top score
  simp only [mask_word k.val _ (k2_lt k) (Fin.isLt _), select_if, hk]
  rfl

/-- The queries of a chunk, mixed. -/
theorem chunk_at (k : Fin k0_t2_loop.trips) (x4 : FVec Ideal S1x128 .f32) (x3 : FVec Ideal S1x64x576 .f32)
    (q : FVec Ideal S1x1x64x128 .bf16) (kp vp : FVec Ideal S576x128 .bf16) (keys : ℕ → Fin 128 → EReal)
    (hk : ∀ j e, kp (ix2 j e) = keys (k.val * 64 + j.val) e) (r : Fin 64) (d : Fin 128) :
    k0_pay7 (F := Ideal) (k0_pay9 (k0_pay1 x4) (k0_pay2 x3) colv 0#32 1#32 k q kp vp)
        (k0_pay10 (k0_pay1 x4) (k0_pay2 x3) colv 0#32 1#32 k q kp) (ix3 0 r d)
      = mixLate (score k.val (rms (fun e => q (ix4 0 0 r e)) (fun e => x4 (ix2 0 e))) keys (fun j => x3 (ix3 0 r j)))
          (fun j => vp (ix2 j d)) := by
  pointwise [k0_pay7, k0_pay9, k0_pay10]
  simp only [pay8_at k x4 x3 q kp keys hk]
  rfl

/-- The output block at a row. -/
theorem OUT_val (x0 x1 x2 : FVec Ideal S1x1x2048x128 .bf16) (x3 : FVec Ideal S1x64x576 .f32) (x4 x5 : FVec Ideal S1x128 .f32)
    (s : Fin 2048) (d : Fin 128) :
    OUT (F := Ideal) x0 x1 x2 x3 x4 x5 (ix3 0 s d)
      = mixLate (score (s.val / 64) (rms (fun e => x0 (ix4 0 0 s e)) (fun e => x4 (ix2 0 e)))
          (fun p e => behind (fun t => rms (fun e => x1 (ix4 0 0 t e)) (fun e => x5 (ix2 0 e)) e) p)
          (fun j => x3 (ix3 0 ⟨s.val % 64, Nat.mod_lt _ (by decide)⟩ j)))
          (fun j => behind (fun t => x2 (ix4 0 0 t d)) (s.val / 64 * 64 + j.val)) := by
  refine (chunk_at (trip2 s) x4 x3 _ _ _
    (fun p e => behind (fun t => rms (fun e => x1 (ix4 0 0 t e)) (fun e => x5 (ix2 0 e)) e) p) (fun j e => ?_)
    ⟨s.val % 64, Nat.mod_lt _ (by decide)⟩ d).trans ?_
  · rw [ld4, KP_val]
    refine congrArg (behind _) ?_
    show 64 * (s.val / 64) + j.val = s.val / 64 * 64 + j.val
    omega
  · refine congrArg₂ mixLate (congrArg (fun g => score _ g _ _) ?_) (funext fun j => ?_)
    · refine congrArg (fun g => rms g _) (funext fun e => ?_)
      rw [ld3]
      refine congrArg x0 (congrArg (fun s : Fin 2048 => (ix4 0 0 s e : S1x1x2048x128.Idx)) (Fin.ext ?_))
      show 64 * (s.val / 64) + s.val % 64 = s.val
      omega
    · rw [ld4, VP_val]
      refine congrArg (behind _) ?_
      show 64 * (s.val / 64) + j.val = s.val / 64 * 64 + j.val
      omega

end Cert.AttnIdeal.KerVal
end
-- ==== Proof.Attn.RefParts.lean ====
/-
What the plain attention computes, in the steps it is written in, each as an array of its arguments.
-/
module

public import proofs.«01_k».proof.Proof.Gen.AttnRefIdeal.Run
public import Idealize.ShloMosaic.Lib.Pipeline.ValueKit

@[expose] public section
set_option maxRecDepth 16384
noncomputable section
namespace Cert.AttnRefIdeal.Parts
open Idealize.ShloMosaic Idealize.ShloMosaic.TcCoe Idealize.SL.Sem Cert.AttnRefIdeal Cert.AttnRefIdeal.Gen Cert.AttnRefIdeal.Value

/-- The projection, widened. -/
def f32x (x : FVec Ideal S8x92x2048x128 .bf16) : FVec Ideal S8x92x2048x128 .f32 :=
  extf .f32 x bitsLt_bf16_f32

/-- Its twelve query heads. -/
def qsl (x : FVec Ideal S8x92x2048x128 .bf16) : FVec Ideal S8x12x2048x128 .f32 :=
  extractStridedSlice S8x12x2048x128 ![0, 48, 0, 0] (f32x x) slices_S8x92x2048x128_S8x12x2048x128_0_48_0_0

/-- Its twelve key heads. -/
def ksl (x : FVec Ideal S8x92x2048x128 .bf16) : FVec Ideal S8x12x2048x128 .f32 :=
  extractStridedSlice S8x12x2048x128 ![0, 60, 0, 0] (f32x x) slices_S8x92x2048x128_S8x12x2048x128_0_60_0_0

/-- Its twelve value heads. -/
def vsl (x : FVec Ideal S8x92x2048x128 .bf16) : FVec Ideal S8x12x2048x128 .f32 :=
  extractStridedSlice S8x12x2048x128 ![0, 72, 0, 0] (f32x x) slices_S8x92x2048x128_S8x12x2048x128_0_72_0_0

/-- The normalised keys. -/
def kn (x : FVec Ideal S8x92x2048x128 .bf16) (wk : FVec Ideal S128 .f32) : FVec Ideal S8x12x2048x128 .f32 :=
  mulf (mulf (ksl x) (broadcastInDim S8x12x2048x128 ![0, 1, 2, 3] bcast_S8x12x2048x1_S8x12x2048x128_0_1_2_3 (Host.rsqrt (addf (Host.divf (broadcastInDim S8x12x2048x1 ![0, 1, 2] bcast_S8x12x2048_S8x12x2048x1_0_1_2 (Host.reduceAdd (mulf (ksl x) (ksl x)) (constant S_ .f32 0x00000000#32) reducesTo_S8x12x2048x128_S8x12x2048_d3 h_S_)) (broadcastInDim S8x12x2048x1 ![] bcast_S_S8x12x2048x1 (constant S_ .f32 0x43000000#32))) (broadcastInDim S8x12x2048x1 ![] bcast_S_S8x12x2048x1 (constant S_ .f32 0x358637BD#32)))))) (broadcastInDim S8x12x2048x128 ![0, 1, 2, 3] bcast_S1x1x1x128_S8x12x2048x128_0_1_2_3 (broadcastInDim S1x1x1x128 ![3] bcast_S128_S1x1x1x128_3 wk))

/-- The keys after eight chunks of zeros. -/
def kpad (x : FVec Ideal S8x92x2048x128 .bf16) (wk : FVec Ideal S128 .f32) : FVec Ideal S8x12x2560x128 .f32 :=
  pad S8x12x2560x128 ![0, 0, 512, 0] ![0, 0, 0, 0] ![0, 0, 0, 0] (kn x wk) (sitofp .f32 (constantI S_ 32 0#32)) pads_S8x12x2048x128_S8x12x2560x128_000_000_51200_000 h_S_

/-- The values after eight chunks of zeros. -/
def vpad (x : FVec Ideal S8x92x2048x128 .bf16) : FVec Ideal S8x12x2560x128 .f32 :=
  pad S8x12x2560x128 ![0, 0, 512, 0] ![0, 0, 0, 0] ![0, 0, 0, 0] (vsl x) (sitofp .f32 (constantI S_ 32 0#32)) pads_S8x12x2048x128_S8x12x2560x128_000_000_51200_000 h_S_

/-- The normalised queries. -/
def qn (x : FVec Ideal S8x92x2048x128 .bf16) (wq : FVec Ideal S128 .f32) : FVec Ideal S8x12x2048x128 .f32 :=
  mulf (mulf (qsl x) (broadcastInDim S8x12x2048x128 ![0, 1, 2, 3] bcast_S8x12x2048x1_S8x12x2048x128_0_1_2_3 (Host.rsqrt (addf (Host.divf (broadcastInDim S8x12x2048x1 ![0, 1, 2] bcast_S8x12x2048_S8x12x2048x1_0_1_2 (Host.reduceAdd (mulf (qsl x) (qsl x)) (constant S_ .f32 0x00000000#32) reducesTo_S8x12x2048x128_S8x12x2048_d3 h_S_)) (broadcastInDim S8x12x2048x1 ![] bcast_S_S8x12x2048x1 (constant S_ .f32 0x43000000#32))) (broadcastInDim S8x12x2048x1 ![] bcast_S_S8x12x2048x1 (constant S_ .f32 0x358637BD#32)))))) (broadcastInDim S8x12x2048x128 ![0, 1, 2, 3] bcast_S1x1x1x128_S8x12x2048x128_0_1_2_3 (broadcastInDim S1x1x1x128 ![3] bcast_S128_S1x1x1x128_3 wq))

/-- The normalised queries by chunk. -/
def qch (x : FVec Ideal S8x92x2048x128 .bf16) (wq : FVec Ideal S128 .f32) : FVec Ideal S8x12x32x64x128 .f32 :=
  shapeCast _ (qn x wq) shapeCasts_S8x12x2048x128_S8x12x32x64x128

/-- The padded keys by chunk. -/
def kpc (x : FVec Ideal S8x92x2048x128 .bf16) (wk : FVec Ideal S128 .f32) : FVec Ideal S8x12x40x64x128 .f32 :=
  shapeCast _ (kpad x wk) shapeCasts_S8x12x2560x128_S8x12x40x64x128

/-- The padded values by chunk. -/
def vpc (x : FVec Ideal S8x92x2048x128 .bf16) : FVec Ideal S8x12x40x64x128 .f32 :=
  shapeCast _ (vpad x) shapeCasts_S8x12x2560x128_S8x12x40x64x128

/-- For every chunk, the nine chunks of keys it sees. -/
def kband (x : FVec Ideal S8x92x2048x128 .bf16) (wk : FVec Ideal S128 .f32) : FVec Ideal S8x12x32x576x128 .f32 :=
  concatenate S8x12x32x576x128 3 [⟨S8x12x32x64x128, ((extractStridedSlice S8x12x32x64x128 ![0, 0, 0, 0, 0] (kpc x wk) slices_S8x12x40x64x128_S8x12x32x64x128_0_0_0_0_0) : (⟨S8x12x32x64x128, .f32⟩ : BufTy).Contents (Elt Ideal))⟩, ⟨S8x12x32x64x128, ((extractStridedSlice S8x12x32x64x128 ![0, 0, 1, 0, 0] (kpc x wk) slices_S8x12x40x64x128_S8x12x32x64x128_0_0_1_0_0) : (⟨S8x12x32x64x128, .f32⟩ : BufTy).Contents (Elt Ideal))⟩, ⟨S8x12x32x64x128, ((extractStridedSlice S8x12x32x64x128 ![0, 0, 2, 0, 0] (kpc x wk) slices_S8x12x40x64x128_S8x12x32x64x128_0_0_2_0_0) : (⟨S8x12x32x64x128, .f32⟩ : BufTy).Contents (Elt Ideal))⟩, ⟨S8x12x32x64x128, ((extractStridedSlice S8x12x32x64x128 ![0, 0, 3, 0, 0] (kpc x wk) slices_S8x12x40x64x128_S8x12x32x64x128_0_0_3_0_0) : (⟨S8x12x32x64x128, .f32⟩ : BufTy).Contents (Elt Ideal))⟩, ⟨S8x12x32x64x128, ((extractStridedSlice S8x12x32x64x128 ![0, 0, 4, 0, 0] (kpc x wk) slices_S8x12x40x64x128_S8x12x32x64x128_0_0_4_0_0) : (⟨S8x12x32x64x128, .f32⟩ : BufTy).Contents (Elt Ideal))⟩, ⟨S8x12x32x64x128, ((extractStridedSlice S8x12x32x64x128 ![0, 0, 5, 0, 0] (kpc x wk) slices_S8x12x40x64x128_S8x12x32x64x128_0_0_5_0_0) : (⟨S8x12x32x64x128, .f32⟩ : BufTy).Contents (Elt Ideal))⟩, ⟨S8x12x32x64x128, ((extractStridedSlice S8x12x32x64x128 ![0, 0, 6, 0, 0] (kpc x wk) slices_S8x12x40x64x128_S8x12x32x64x128_0_0_6_0_0) : (⟨S8x12x32x64x128, .f32⟩ : BufTy).Contents (Elt Ideal))⟩, ⟨S8x12x32x64x128, ((extractStridedSlice S8x12x32x64x128 ![0, 0, 7, 0, 0] (kpc x wk) slices_S8x12x40x64x128_S8x12x32x64x128_0_0_7_0_0) : (⟨S8x12x32x64x128, .f32⟩ : BufTy).Contents (Elt Ideal))⟩, ⟨S8x12x32x64x128, ((extractStridedSlice S8x12x32x64x128 ![0, 0, 8, 0, 0] (kpc x wk) slices_S8x12x40x64x128_S8x12x32x64x128_0_0_8_0_0) : (⟨S8x12x32x64x128, .f32⟩ : BufTy).Contents (Elt Ideal))⟩] concatenates_S8x12x32x64x128_S8x12x32x64x128_S8x12x32x64x128_S8x12x32x64x128_S8x12x32x64x128_S8x12x32x64x128_S8x12x32x64x128_S8x12x32x64x128_S8x12x32x64x128_S8x12x32x576x128_d3

/-- For every chunk, the nine chunks of values it sees. -/
def vband (x : FVec Ideal S8x92x2048x128 .bf16) : FVec Ideal S8x12x32x576x128 .f32 :=
  concatenate S8x12x32x576x128 3 [⟨S8x12x32x64x128, ((extractStridedSlice S8x12x32x64x128 ![0, 0, 0, 0, 0] (vpc x) slices_S8x12x40x64x128_S8x12x32x64x128_0_0_0_0_0) : (⟨S8x12x32x64x128, .f32⟩ : BufTy).Contents (Elt Ideal))⟩, ⟨S8x12x32x64x128, ((extractStridedSlice S8x12x32x64x128 ![0, 0, 1, 0, 0] (vpc x) slices_S8x12x40x64x128_S8x12x32x64x128_0_0_1_0_0) : (⟨S8x12x32x64x128, .f32⟩ : BufTy).Contents (Elt Ideal))⟩, ⟨S8x12x32x64x128, ((extractStridedSlice S8x12x32x64x128 ![0, 0, 2, 0, 0] (vpc x) slices_S8x12x40x64x128_S8x12x32x64x128_0_0_2_0_0) : (⟨S8x12x32x64x128, .f32⟩ : BufTy).Contents (Elt Ideal))⟩, ⟨S8x12x32x64x128, ((extractStridedSlice S8x12x32x64x128 ![0, 0, 3, 0, 0] (vpc x) slices_S8x12x40x64x128_S8x12x32x64x128_0_0_3_0_0) : (⟨S8x12x32x64x128, .f32⟩ : BufTy).Contents (Elt Ideal))⟩, ⟨S8x12x32x64x128, ((extractStridedSlice S8x12x32x64x128 ![0, 0, 4, 0, 0] (vpc x) slices_S8x12x40x64x128_S8x12x32x64x128_0_0_4_0_0) : (⟨S8x12x32x64x128, .f32⟩ : BufTy).Contents (Elt Ideal))⟩, ⟨S8x12x32x64x128, ((extractStridedSlice S8x12x32x64x128 ![0, 0, 5, 0, 0] (vpc x) slices_S8x12x40x64x128_S8x12x32x64x128_0_0_5_0_0) : (⟨S8x12x32x64x128, .f32⟩ : BufTy).Contents (Elt Ideal))⟩, ⟨S8x12x32x64x128, ((extractStridedSlice S8x12x32x64x128 ![0, 0, 6, 0, 0] (vpc x) slices_S8x12x40x64x128_S8x12x32x64x128_0_0_6_0_0) : (⟨S8x12x32x64x128, .f32⟩ : BufTy).Contents (Elt Ideal))⟩, ⟨S8x12x32x64x128, ((extractStridedSlice S8x12x32x64x128 ![0, 0, 7, 0, 0] (vpc x) slices_S8x12x40x64x128_S8x12x32x64x128_0_0_7_0_0) : (⟨S8x12x32x64x128, .f32⟩ : BufTy).Contents (Elt Ideal))⟩, ⟨S8x12x32x64x128, ((extractStridedSlice S8x12x32x64x128 ![0, 0, 8, 0, 0] (vpc x) slices_S8x12x40x64x128_S8x12x32x64x128_0_0_8_0_0) : (⟨S8x12x32x64x128, .f32⟩ : BufTy).Contents (Elt Ideal))⟩] concatenates_S8x12x32x64x128_S8x12x32x64x128_S8x12x32x64x128_S8x12x32x64x128_S8x12x32x64x128_S8x12x32x64x128_S8x12x32x64x128_S8x12x32x64x128_S8x12x32x64x128_S8x12x32x576x128_d3

/-- The row of the bias table a distance names. -/
def relIdx  : IVec S64x576 32 :=
  addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))

/-- The bias of a query and a key by their distance. -/
def tbl (b : FVec Ideal S12x257 .f32) : FVec Ideal S12x64x576 .f32 :=
  Host.gather gather_S12x257_S64x576x1_S12x64x576_0_1_n_n_1_2_121 b (broadcastInDim S64x576x1 ![0, 1] bcast_S64x576_S64x576x1_0_1 (select (cmpi .slt (relIdx) (broadcastInDim S64x576 ![] bcast_S_S64x576 (constantI S_ 32 0#32))) (addi (relIdx) (broadcastInDim S64x576 ![] bcast_S_S64x576 (constantI S_ 32 257#32))) (relIdx)))

/-- Whether a column of the band is a token at all. -/
def live  : IVec S32x576 1 :=
  cmpi .sge (subi (addi (broadcastInDim S32x576 ![0, 1] bcast_S32x1_S32x576_0_1 (muli (broadcastInDim S32x1 ![0] bcast_S32_S32x1_0 (iotaInDim S32 32 0)) (broadcastInDim S32x1 ![] bcast_S_S32x1 (constantI S_ 32 64#32)))) (broadcastInDim S32x576 ![0, 1] bcast_S1x576_S32x576_0_1 (broadcastInDim S1x576 ![1] bcast_S576_S1x576_1 (iotaInDim S576 32 0)))) (broadcastInDim S32x576 ![] bcast_S_S32x576 (constantI S_ 32 512#32))) (broadcastInDim S32x576 ![] bcast_S_S32x576 (constantI S_ 32 0#32))

/-- The masked scores. -/
def scores (x : FVec Ideal S8x92x2048x128 .bf16) (b : FVec Ideal S12x257 .f32) (wq : FVec Ideal S128 .f32) (wk : FVec Ideal S128 .f32) : FVec Ideal S8x12x32x64x576 .f32 :=
  select (broadcastInDim S8x12x32x64x576 ![0, 1, 2, 3, 4] bcast_S1x1x32x1x576_S8x12x32x64x576_0_1_2_3_4 (broadcastInDim S1x1x32x1x576 ![2, 4] bcast_S32x576_S1x1x32x1x576_2_4 (live))) (addf (mulf (Host.dotGeneral dot_S8x12x32x64x128_S8x12x32x576x128_S8x12x32x64x576_4_4_3_3_012_012 none (qch x wq) ((kband x wk))) (broadcastInDim S8x12x32x64x576 ![] bcast_S_S8x12x32x64x576 (constant S_ .f32 0x3DB504F3#32))) (broadcastInDim S8x12x32x64x576 ![0, 1, 2, 3, 4] bcast_S1x12x1x64x576_S8x12x32x64x576_0_1_2_3_4 (broadcastInDim S1x12x1x64x576 ![1, 3, 4] bcast_S12x64x576_S1x12x1x64x576_1_3_4 (tbl b)))) (broadcastInDim S8x12x32x64x576 ![] bcast_S_S8x12x32x64x576 (id (constant S_ .f32 0xCE6E6B28#32)))

/-- The largest score of a row. -/
def rowmax (sc : FVec Ideal S8x12x32x64x576 .f32) : FVec Ideal S8x12x32x64 .f32 :=
  maximumf (broadcastInDim S8x12x32x64 ![] bcast_S_S8x12x32x64 (constant S_ .f32 0xFF800000#32)) (Host.reduce FloatOps.maximumf sc (constant S_ .f32 0xFF800000#32) reducesTo_S8x12x32x64x576_S8x12x32x64_d4 h_S_)

/-- The weights before they are divided by their sum. -/
def probs (sc : FVec Ideal S8x12x32x64x576 .f32) : FVec Ideal S8x12x32x64x576 .f32 :=
  Host.exp (subf sc (broadcastInDim S8x12x32x64x576 ![0, 1, 2, 3, 4] bcast_S8x12x32x64x1_S8x12x32x64x576_0_1_2_3_4 (broadcastInDim S8x12x32x64x1 ![0, 1, 2, 3] bcast_S8x12x32x64_S8x12x32x64x1_0_1_2_3 (rowmax sc))))

/-- The sum of the weights of a row. -/
def den (sc : FVec Ideal S8x12x32x64x576 .f32) : FVec Ideal S8x12x32x64 .f32 :=
  Host.reduceAdd (probs sc) (constant S_ .f32 0x00000000#32) reducesTo_S8x12x32x64x576_S8x12x32x64_d4 h_S_

/-- The weighted values. -/
def ctx (sc : FVec Ideal S8x12x32x64x576 .f32) (vb : FVec Ideal S8x12x32x576x128 .f32) : FVec Ideal S8x12x32x64x128 .f32 :=
  Host.dotGeneral dot_S8x12x32x64x576_S8x12x32x576x128_S8x12x32x64x128_4_3_3_4_012_012 none (Host.divf (probs sc) (broadcastInDim S8x12x32x64x576 ![0, 1, 2, 3, 4] bcast_S8x12x32x64x1_S8x12x32x64x576_0_1_2_3_4 (broadcastInDim S8x12x32x64x1 ![0, 1, 2, 3] bcast_S8x12x32x64_S8x12x32x64x1_0_1_2_3 (den sc)))) vb

/-- The heads side by side: the result. -/
def outv (x : FVec Ideal S8x92x2048x128 .bf16) (b : FVec Ideal S12x257 .f32) (wq : FVec Ideal S128 .f32) (wk : FVec Ideal S128 .f32) : FVec Ideal S8x2048x1536 .bf16 :=
  truncf .bf16 (shapeCast _ (transpose S8x32x64x12x128 [0, 2, 3, 1, 4] (ctx (scores x b wq wk) (vband x)) transposes_S8x12x32x64x128_S8x32x64x12x128_0_2_3_1_4) shapeCasts_S8x32x64x12x128_S8x2048x1536) bitsLt_bf16_f32

/-- The run's result is the last of these steps. -/
theorem res_eq (m : (ℓ : Loc nD τ sig) → Buf (Elt Ideal) ℓ) (c : Dev nD) :
    res_main_v109 m c = outv (m ((c.tc : Thread nD τ).loc main_arg0)) (m ((c.tc : Thread nD τ).loc main_arg1))
      (m ((c.tc : Thread nD τ).loc main_arg2)) (m ((c.tc : Thread nD τ).loc main_arg3)) := rfl

end Cert.AttnRefIdeal.Parts
end
-- ==== Proof.Attn.RefVal.lean ====
/-
The plain attention at an index: the weighted values of a row of its scores.
-/
module

public import proofs.«01_k».proof.Proof.Attn.RefParts
public import proofs.«01_k».proof.Proof.Attn.Spec
public import Idealize.ShloMosaic.Lib.KernelVsHost

@[expose] public section
set_option maxRecDepth 16384
noncomputable section
namespace Cert.AttnRefIdeal.Parts
open Idealize.ShloMosaic Idealize.ShloMosaic.TcCoe
open Cert.AttnRefIdeal Cert.AttnRefIdeal.Gen Cert.AttnMath

section Rows
variable (sc : FVec Ideal S8x12x32x64x576 .f32)

theorem red5 : S8x12x32x64x576.Reduces [4] S8x12x32x64 := by decide

theorem topOf_at (i : Fin 8) (h : Fin 12) (n : Fin 32) (r : Fin 64) :
    multiReduction .maximumf [4] S8x12x32x64 sc 0xFF800000#32 red5 (.inl rfl) rfl (ix4 i h n r)
      = Finset.fold max (Ideal.ofBits FTy.f32 0xFF800000#32) (fun k => sc (ix5 i h n r k)) Finset.univ := by
  pointwise []

theorem red_eq : Host.reduce FloatOps.maximumf sc (constant S_ .f32 0xFF800000#32) reducesTo_S8x12x32x64x576_S8x12x32x64_d4 h_S_
    = multiReduction .maximumf [4] S8x12x32x64 sc 0xFF800000#32 red5 (.inl rfl) rfl :=
  hostReduce_maximumf_eq_multiReduction sc 0xFF800000#32 reducesTo_S8x12x32x64x576_S8x12x32x64_d4 h_S_ red5 (.inl rfl) rfl

theorem rowmax_eq : rowmax sc = maximumf (broadcastInDim S8x12x32x64 ![] bcast_S_S8x12x32x64 (constant S_ .f32 0xFF800000#32))
    (multiReduction .maximumf [4] S8x12x32x64 sc 0xFF800000#32 red5 (.inl rfl) rfl) := by
  unfold rowmax
  rw [red_eq]

theorem max_at (X : FVec Ideal S8x12x32x64 .f32) (i : Fin 8) (h : Fin 12) (n : Fin 32) (r : Fin 64) :
    maximumf (broadcastInDim S8x12x32x64 ![] bcast_S_S8x12x32x64 (constant S_ .f32 0xFF800000#32)) X (ix4 i h n r)
      = max (Ideal.ofBits FTy.f32 0xFF800000#32) (X (ix4 i h n r)) := by
  pointwise []

/-- The row's largest score: a further −∞ changes nothing. -/
theorem rowmax_at (i : Fin 8) (h : Fin 12) (n : Fin 32) (r : Fin 64) :
    rowmax sc (ix4 i h n r) = top (fun k => sc (ix5 i h n r k)) := by
  rw [rowmax_eq, max_at, topOf_at]
  exact max_eq_right ((Finset.le_fold_max _).mpr (Or.inl le_rfl))

theorem probs_at (i : Fin 8) (h : Fin 12) (n : Fin 32) (r : Fin 64) (k : Fin 576) :
    probs sc (ix5 i h n r k) = weight (fun k => sc (ix5 i h n r k)) k := by
  have e : probs sc (ix5 i h n r k) = Ideal.exp (sc (ix5 i h n r k) - rowmax sc (ix4 i h n r)) := by pointwise [probs]
  rw [e, rowmax_at]
  rfl

theorem ctx_at (vb : FVec Ideal S8x12x32x576x128 .f32) (i : Fin 8) (h : Fin 12) (n : Fin 32) (r : Fin 64) (d : Fin 128) :
    ctx sc vb (ix5 i h n r d) = mixEarly (fun k => sc (ix5 i h n r k)) (fun k => vb (ix5 i h n k d)) := by
  have e : ctx sc vb (ix5 i h n r d)
      = ∑ k, Ideal.div (probs sc (ix5 i h n r k)) (∑ j, probs sc (ix5 i h n r j)) * vb (ix5 i h n k d) := by pointwise [ctx, den]
  rw [e]
  simp only [probs_at]
  rfl
end Rows

variable (x : FVec Ideal S8x92x2048x128 .bf16) (b : FVec Ideal S12x257 .f32) (wq wk : FVec Ideal S128 .f32)

/-- A query's, a key's and a value's row, out of the projection's column blocks. -/
def qRow (i : Fin 8) (h : Fin 12) (s : Fin 2048) (d : Fin 128) : EReal := x (ix4 i ⟨48 + h.val, by omega⟩ s d)
def kRow (i : Fin 8) (h : Fin 12) (s : Fin 2048) (d : Fin 128) : EReal := x (ix4 i ⟨60 + h.val, by omega⟩ s d)
def vRow (i : Fin 8) (h : Fin 12) (s : Fin 2048) (d : Fin 128) : EReal := x (ix4 i ⟨72 + h.val, by omega⟩ s d)

theorem kn_at (i : Fin 8) (h : Fin 12) (s : Fin 2048) (d : Fin 128) :
    kn x wk (ix4 i h s d) = rms (kRow x i h s) (fun e => wk (ix1 e)) d := by
  pointwise [kn, ksl, f32x]
  rfl

theorem vsl_at (i : Fin 8) (h : Fin 12) (s : Fin 2048) (d : Fin 128) : vsl x (ix4 i h s d) = vRow x i h s d := by
  pointwise [vsl, f32x]
  rfl

theorem zero_of_int : (FloatOps.sitofp FTy.f32 0#32 : Ideal FTy.f32) = (0 : EReal) := by
  simp [FloatOps.sitofp]

theorem kpc_at (i : Fin 8) (h : Fin 12) (n : Fin 40) (r : Fin 64) (d : Fin 128) :
    kpc x wk (ix5 i h n r d) = behind (fun s => rms (kRow x i h s) (fun e => wk (ix1 e)) d) (n.val * 64 + r.val) := by
  pointwise [kpc]
  pointwise [kpad]
  unfold behind
  simp only [kn_at, zero_of_int]

theorem vpc_at (i : Fin 8) (h : Fin 12) (n : Fin 40) (r : Fin 64) (d : Fin 128) :
    vpc x (ix5 i h n r d) = behind (fun s => vRow x i h s d) (n.val * 64 + r.val) := by
  pointwise [vpc]
  pointwise [vpad]
  unfold behind
  simp only [vsl_at, zero_of_int]

theorem kband_at (i : Fin 8) (h : Fin 12) (n : Fin 32) (k : Fin 576) (d : Fin 128) :
    kband x wk (ix5 i h n k d) = behind (fun s => rms (kRow x i h s) (fun e => wk (ix1 e)) d) (n.val * 64 + k.val) := by
  pointwise [kband]
  split_ifs <;> rw [kpc_at] <;> congr 1 <;> simp <;> omega

theorem vband_at (i : Fin 8) (h : Fin 12) (n : Fin 32) (k : Fin 576) (d : Fin 128) :
    vband x (ix5 i h n k d) = behind (fun s => vRow x i h s d) (n.val * 64 + k.val) := by
  pointwise [vband]
  split_ifs <;> rw [vpc_at] <;> congr 1 <;> simp <;> omega

theorem qch_at (i : Fin 8) (h : Fin 12) (n : Fin 32) (r : Fin 64) (d : Fin 128) :
    qch x wq (ix5 i h n r d) = rms (qRow x i h ⟨n.val * 64 + r.val, by omega⟩) (fun e => wq (ix1 e)) d := by
  pointwise [qch, qn, qsl, f32x]
  rfl

theorem toInt_small (n : ℕ) (h : n < 2 ^ 31) : (BitVec.ofNat 32 n).toInt = n := by
  rw [BitVec.toInt_eq_toNat_of_lt] <;> simp only [BitVec.toNat_ofNat] <;> omega

theorem live_word (n k : ℕ) (hn : n < 32) (hk : k < 576) :
    IntOp.cmpi CmpIPredicate.sge (IntOp.subi (IntOp.addi (IntOp.muli (BitVec.ofNat 32 n) 64#32) (BitVec.ofNat 32 k)) 512#32) 0#32
      = if 512 ≤ n * 64 + k then 1#1 else 0#1 := by
  have e : IntOp.subi (IntOp.addi (IntOp.muli (BitVec.ofNat 32 n) 64#32) (BitVec.ofNat 32 k)) 512#32
      = BitVec.ofInt 32 ((n * 64 + k : ℤ) - 512) := by
    apply BitVec.eq_of_toInt_eq
    simp [IntOp.subi, IntOp.addi, IntOp.muli, BitVec.toInt_ofInt, BitVec.toInt_sub, BitVec.toInt_add, BitVec.toInt_mul,
      toInt_small n (by omega), toInt_small k (by omega)]
  have f : ((n * 64 + k : ℤ) - 512).bmod (2 ^ 32) = (n * 64 + k : ℤ) - 512 := by
    rw [Int.bmod_def]; split <;> omega
  rw [e]
  simp only [IntOp.cmpi, BitVec.sle, BitVec.toInt_ofInt, f]
  by_cases h : 512 ≤ n * 64 + k
  · rw [if_pos h, decide_eq_true (by simp; omega)]; rfl
  · rw [if_neg h, decide_eq_false (by simp; omega)]; rfl

theorem scores_at (i : Fin 8) (h : Fin 12) (n : Fin 32) (r : Fin 64) (k : Fin 576) :
    scores x b wq wk (ix5 i h n r k) = score n.val
      (rms (qRow x i h ⟨n.val * 64 + r.val, by omega⟩) (fun e => wq (ix1 e)))
      (fun p d => behind (fun s => rms (kRow x i h s) (fun e => wk (ix1 e)) d) p)
      (fun k => tbl b (ix3 h r k)) k := by
  pointwise [scores, live]
  rw [live_word n.val k.val n.isLt k.isLt]
  simp only [qch_at, kband_at]
  unfold score
  split_ifs <;> rfl

/-- The plain attention's result at an index. -/
theorem outv_at (i : Fin 8) (s : Fin 2048) (d : Fin 1536) :
    outv x b wq wk (ix3 i s d) = mixEarly
      (score (s.val / 64) (rms (qRow x i ⟨d.val / 128, by omega⟩ s) (fun e => wq (ix1 e)))
        (fun p e => behind (fun s => rms (kRow x i ⟨d.val / 128, by omega⟩ s) (fun e => wk (ix1 e)) e) p)
        (fun k => tbl b (ix3 ⟨d.val / 128, by omega⟩ ⟨s.val % 64, by omega⟩ k)))
      (fun k => behind (fun s => vRow x i ⟨d.val / 128, by omega⟩ s ⟨d.val % 128, by omega⟩) (s.val / 64 * 64 + k.val)) := by
  pointwise [outv]
  rw [ctx_at]
  simp only [scores_at, vband_at]
  have e : (⟨s.val / 64 * 64 + s.val % 64, by omega⟩ : Fin 2048) = s := Fin.ext (by simp; omega)
  rw [e]

end Cert.AttnRefIdeal.Parts
end
-- ==== Proof.Attn.Mix.lean ====
/-
The two ways to write the softmax agree where the scores of the row are real numbers, and the scores are real
numbers where the tables are, whatever the projection holds.
-/
module

public import proofs.«01_k».proof.Proof.Attn.Spec

@[expose] public section
noncomputable section
namespace Cert.AttnMath
open Idealize.ShloMosaic

/-- A real number. -/
def Real' (x : EReal) : Prop := ∃ r : ℝ, x = (r : EReal)

theorem Real'.add {x y : EReal} : Real' x → Real' y → Real' (x + y)
  | ⟨a, ha⟩, ⟨b, hb⟩ => ⟨a + b, by rw [ha, hb, EReal.coe_add]⟩
theorem Real'.mul {x y : EReal} : Real' x → Real' y → Real' (x * y)
  | ⟨a, ha⟩, ⟨b, hb⟩ => ⟨a * b, by rw [ha, hb, EReal.coe_mul]⟩
theorem Real'.zero : Real' 0 := ⟨0, EReal.coe_zero.symm⟩
theorem Real'.sum {ι : Type} (s : Finset ι) (f : ι → EReal) (h : ∀ i, Real' (f i)) : Real' (∑ i ∈ s, f i) := by
  classical
  induction s using Finset.induction_on with
  | empty => simpa using Real'.zero
  | insert a s ha ih => rw [Finset.sum_insert ha]; exact (h a).add ih

theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_sum' {ι : Type} (s : Finset ι) (c : ℝ) (hc : 0 ≤ c) (f : ι → EReal) : (∑ i ∈ s, f i) * (c : EReal) = ∑ i ∈ s, f i * (c : EReal) := by
  classical
  induction s using Finset.induction_on with
  | empty => simp
  | insert a s ha ih =>
    rw [Finset.sum_insert ha, Finset.sum_insert ha, ← ih]
    rw [mul_comm, EReal.left_distrib_of_nonneg_of_ne_top (by exact_mod_cast hc) (EReal.coe_ne_top c), mul_comm _ (f a), mul_comm (c : EReal)]

/-- The literals are what they read. -/
theorem scale_real : Real' (Ideal.ofBits FTy.f32 0x3DB504F3#32) := ⟨_, by rw [Ideal.ofBits, Ideal.ieee]; simp; rfl⟩
theorem mask_real : Real' (Ideal.ofBits FTy.f32 0xCE6E6B28#32) := ⟨_, by rw [Ideal.ofBits, Ideal.ieee]; simp; rfl⟩
theorem low_eq : Ideal.ofBits FTy.f32 0xFF800000#32 = ⊥ := by simp [Ideal.ofBits, Ideal.ieee]
theorem count_eq : Ideal.ofBits FTy.f32 0x43000000#32 = ((128 : ℝ) : EReal) := by
  simp [Ideal.ofBits, Ideal.ieee]
  norm_cast
  norm_num
theorem eps_real : ∃ e : ℝ, 0 < e ∧ Ideal.ofBits FTy.f32 0x358637BD#32 = (e : EReal) :=
  ⟨((8388608 + 407485 : ℝ) * 2 ^ (-43 : ℤ)), by norm_num, by
    rw [Ideal.ofBits, Ideal.ieee]; simp; norm_cast⟩

theorem sum_exp_pos {n : ℕ} (k : Fin n) (r : Fin n → ℝ) : (0 : ℝ) < ∑ k, Real.exp (r k) :=
  Finset.sum_pos (fun k _ => Real.exp_pos _) ⟨k, Finset.mem_univ _⟩

theorem top_real (s : Fin 576 → EReal) (h : ∀ k, Real' (s k)) : Real' (top s) := by
  have h1 : top s ≠ ⊤ := by
    refine ne_of_lt ((Finset.fold_max_lt _).mpr ⟨?_, fun k _ => ?_⟩)
    · rw [low_eq]; exact bot_lt_top
    · obtain ⟨r, hr⟩ := h k; rw [hr]; exact EReal.coe_lt_top r
  have h2 : top s ≠ ⊥ := by
    obtain ⟨r, hr⟩ := h 0
    have : s 0 ≤ top s := (Finset.le_fold_max _).mpr (Or.inr ⟨0, Finset.mem_univ _, le_rfl⟩)
    intro e
    rw [e, hr] at this
    exact absurd (EReal.bot_lt_coe r) (not_lt.mpr this)
  exact ⟨(top s).toReal, (EReal.coe_toReal h1 h2).symm⟩

/-- Over a row of real scores the division may come last. -/
theorem mix_eq (s v : Fin 576 → EReal) (h : ∀ k, Real' (s k)) : mixLate s v = mixEarly s v := by
  obtain ⟨t, ht⟩ := top_real s h
  choose r hr using h
  have hw : ∀ k, weight s k = ((Real.exp (r k - t) : ℝ) : EReal) := fun k => by
    rw [weight, hr, ht, ← EReal.coe_sub]; rfl
  have hd : ∑ k, weight s k = ((∑ k, Real.exp (r k - t) : ℝ) : EReal) := by
    rw [coe_sum']; exact Finset.sum_congr rfl fun k _ => hw k
  have hpos : (0 : ℝ) < ∑ k, Real.exp (r k - t) := sum_exp_pos (⟨0, by decide⟩ : Fin 576) fun k => r k - t
  unfold mixLate mixEarly
  rw [hd, Ideal.div_coe hpos.ne', mul_sum' _ _ (one_div_nonneg.mpr hpos.le)]
  refine Finset.sum_congr rfl fun k _ => ?_
  rw [Ideal.div_coe hpos.ne', mul_right_comm]

theorem sq_nonneg' (x : EReal) : 0 ≤ x * x := by
  induction x with
  | bot => simp
  | top => simp
  | coe r => rw [← EReal.coe_mul]; exact_mod_cast mul_self_nonneg r

/-- A normalised row is real whatever the row: an infinite entry makes the scale 0. -/
theorem rms_real (x w : Fin 128 → EReal) (hw : ∀ d, Real' (w d)) (d : Fin 128) : Real' (rms x w d) := by
  obtain ⟨e, he, hE⟩ := eps_real
  unfold rms
  rw [hE, count_eq, Ideal.div_coe (by norm_num)]
  by_cases hx : ∀ a, Real' (x a)
  · choose r hr using hx
    have hs : ∑ a, x a * x a = ((∑ a, r a * r a : ℝ) : EReal) := by
      rw [coe_sum']; exact Finset.sum_congr rfl fun a _ => by rw [hr, EReal.coe_mul]
    have h0 : (0 : ℝ) ≤ ∑ a, r a * r a := Finset.sum_nonneg fun a _ => mul_self_nonneg _
    have hp : (0 : ℝ) < (∑ a, r a * r a) * (1 / 128) + e := by positivity
    rw [hs, ← EReal.coe_mul, ← EReal.coe_add, hr]
    refine Real'.mul (Real'.mul ⟨_, rfl⟩ ?_) (hw d)
    refine ⟨(Real.sqrt ((∑ a, r a * r a) * (1 / 128) + e))⁻¹, ?_⟩
    show (if _ < (0 : ℝ) then _ else if _ = (0 : ℝ) then _ else _) = _
    rw [if_neg (not_lt.mpr hp.le), if_neg hp.ne']
  · obtain ⟨a, ha⟩ := not_forall.mp hx
    have hinf : x a * x a = ⊤ := by
      induction hxa : x a with
      | bot => simp
      | top => simp
      | coe r => exact absurd ⟨r, hxa⟩ ha
    have hs : ∑ a, x a * x a = ⊤ := top_le_iff.mp (hinf ▸ Finset.single_le_sum (f := fun a => x a * x a) (fun b _ => sq_nonneg' (x b)) (Finset.mem_univ a))
    rw [hs, EReal.top_mul_coe_of_pos (by norm_num), EReal.top_add_coe]
    show Real' (x d * 0 * w d)
    rw [mul_zero, zero_mul]
    exact Real'.zero

theorem behind_real (f : Fin 2048 → EReal) (h : ∀ s, Real' (f s)) (p : ℕ) : Real' (behind f p) := by
  unfold behind; split
  · exact h _
  · exact Real'.zero

theorem score_real (n : ℕ) (q : Fin 128 → EReal) (keys : ℕ → Fin 128 → EReal) (bias : Fin 576 → EReal)
    (hq : ∀ d, Real' (q d)) (hk : ∀ p d, Real' (keys p d)) (hb : ∀ k, Real' (bias k)) (k : Fin 576) : Real' (score n q keys bias k) := by
  unfold score; split
  · exact ((Real'.sum _ _ fun e => (hq e).mul (hk _ e)).mul scale_real).add (hb k)
  · exact mask_real

end Cert.AttnMath
end
-- ==== Proof.Attn.Tables.lean ====
/-
The three small tables the band attention's kernel is handed: the bias by column, and the weights of the queries and of
the keys as one row each.
-/
module

public import proofs.«01_k».proof.Proof.Attn.Run
public import proofs.«01_k».proof.Proof.Attn.RefParts

@[expose] public section
set_option maxRecDepth 16384
noncomputable section
namespace Cert.AttnIdeal.Tables
open Idealize.ShloMosaic Idealize.ShloMosaic.TcCoe Idealize.SL.Sem Idealize.ShloMosaic.StableHlo
open Cert.AttnIdeal Cert.AttnIdeal.Gen

variable (m : (ℓ : Loc nD τ sig) → Buf (Elt Ideal) ℓ)

/-- The bias table the kernel is handed. -/
theorem bias_eq (c : Dev nD) : V m c main_v18 = Cert.AttnRefIdeal.Parts.tbl (m ((c : Thread nD τ).loc main_arg1)) := by
  unfold V
  simp only [hostOps0, hostOps0_1, hostOps0_2, List.flatten_cons, List.flatten_nil, List.append_nil, List.cons_append, List.nil_append, TRef.binary, TRef.ternary, TRef.unary, TRef.toBuf, TRef.ofBuf, cast_eq]
  after_results_simp
  rfl

/-- The weights of the queries and of the keys it is handed. -/
theorem qw_eq (c : Dev nD) : V m c main_v19 = shapeCast S1x128 (m ((c : Thread nD τ).loc main_arg2)) shapeCasts_S128_S1x128 := by
  unfold V
  simp only [hostOps0, hostOps0_1, hostOps0_2, List.flatten_cons, List.flatten_nil, List.append_nil, List.cons_append, List.nil_append, TRef.binary, TRef.ternary, TRef.unary, TRef.toBuf, TRef.ofBuf, cast_eq]
  after_results_simp
  rfl

theorem kw_eq (c : Dev nD) : V m c main_v20 = shapeCast S1x128 (m ((c : Thread nD τ).loc main_arg3)) shapeCasts_S128_S1x128 := by
  unfold V
  simp only [hostOps0, hostOps0_1, hostOps0_2, List.flatten_cons, List.flatten_nil, List.append_nil, List.cons_append, List.nil_append, TRef.binary, TRef.ternary, TRef.unary, TRef.toBuf, TRef.ofBuf, cast_eq]
  after_results_simp
  rfl

/-- The same weights at a coordinate. -/
theorem qw_at (c : Dev nD) (e : Fin 128) : (V m c main_v19 : FVec Ideal S1x128 .f32) (ix2 0 e) = m ((c : Thread nD τ).loc main_arg2) (ix1 e) := by
  rw [qw_eq]
  pointwise
theorem kw_at (c : Dev nD) (e : Fin 128) : (V m c main_v20 : FVec Ideal S1x128 .f32) (ix2 0 e) = m ((c : Thread nD τ).loc main_arg3) (ix1 e) := by
  rw [kw_eq]
  pointwise

/-- A bias is one of the table's numbers. -/
theorem tbl_mem (b : FVec Ideal Cert.AttnRefIdeal.S12x257 .f32) (y : Cert.AttnRefIdeal.S12x64x576.Idx) : ∃ j, Cert.AttnRefIdeal.Parts.tbl b y = b j :=
  ⟨_, rfl⟩
end Cert.AttnIdeal.Tables
end
-- ==== Proof.Attn.Final.lean ====
/-
What the band attention's kernel leaves in its result array, and that it is the plain attention.
-/
module

public import proofs.«01_k».proof.Proof.Attn.KerVal
public import proofs.«01_k».proof.Proof.Attn.RefVal
public import proofs.«01_k».proof.Proof.Attn.Mix
public import proofs.«01_k».proof.Proof.Attn.Tables

@[expose] public section
set_option maxRecDepth 16384
noncomputable section
namespace Cert.AttnIdeal.Final
open Idealize.ShloMosaic Idealize.ShloMosaic.TcCoe Idealize.SL.Sem
open Cert.AttnIdeal Cert.AttnIdeal.Gen Cert.AttnIdeal.Hand Cert.AttnIdeal.Tables Cert.AttnMath

variable (m : (ℓ : Loc nD τ sig) → Buf (Elt Ideal) ℓ) (ρ : Dev nD → PrngReg)

theorem idx : ∀ t : Fin cfg0.N, win0_0.index t = ![t.val / 12, 48 + t.val % 12, 0, 0] ∧ win0_1.index t = ![t.val / 12, 60 + t.val % 12, 0, 0]
    ∧ win0_2.index t = ![t.val / 12, 72 + t.val % 12, 0, 0] ∧ win0_3.index t = ![t.val % 12, 0, 0]
    ∧ win0_4.index t = ![0, 0] ∧ win0_5.index t = ![0, 0] ∧ win0_6.index t = ![t.val / 12, 0, t.val % 12] := (by decide +kernel : ∀ t : Fin grid0.N, _)

/-- The inputs' blocks at a point, read at an index. -/
theorem q_at (c : Dev nD) (t : Fin cfg0.N) (s : Fin 2048) (d : Fin 128) : (iblk m c 0 t : FVec Ideal S1x1x2048x128 .bf16) (ix4 0 0 s d)
    = (m ((c : Thread nD τ).loc main_arg0) : FVec Ideal S8x92x2048x128 .bf16) (ix4 ⟨t.val / 12, by have := lt_of_lt_of_eq t.isLt N_0; omega⟩ ⟨48 + t.val % 12, by omega⟩ s d) := by
  rw [← V_main_arg0 m c]
  blk_ext [iblk, idx t]
theorem k_at (c : Dev nD) (t : Fin cfg0.N) (s : Fin 2048) (d : Fin 128) : (iblk m c 1 t : FVec Ideal S1x1x2048x128 .bf16) (ix4 0 0 s d)
    = (m ((c : Thread nD τ).loc main_arg0) : FVec Ideal S8x92x2048x128 .bf16) (ix4 ⟨t.val / 12, by have := lt_of_lt_of_eq t.isLt N_0; omega⟩ ⟨60 + t.val % 12, by omega⟩ s d) := by
  rw [← V_main_arg0 m c]
  blk_ext [iblk, idx t]
theorem v_at (c : Dev nD) (t : Fin cfg0.N) (s : Fin 2048) (d : Fin 128) : (iblk m c 2 t : FVec Ideal S1x1x2048x128 .bf16) (ix4 0 0 s d)
    = (m ((c : Thread nD τ).loc main_arg0) : FVec Ideal S8x92x2048x128 .bf16) (ix4 ⟨t.val / 12, by have := lt_of_lt_of_eq t.isLt N_0; omega⟩ ⟨72 + t.val % 12, by omega⟩ s d) := by
  rw [← V_main_arg0 m c]
  blk_ext [iblk, idx t]
theorem b_at (c : Dev nD) (t : Fin cfg0.N) (s : Fin 64) (d : Fin 576) : (iblk m c 3 t : FVec Ideal S1x64x576 .f32) (ix3 0 s d)
    = (Cert.AttnRefIdeal.Parts.tbl (m ((c : Thread nD τ).loc main_arg1)) : FVec Ideal S12x64x576 .f32) (ix3 ⟨t.val % 12, by omega⟩ s d) := by
  rw [← bias_eq m c]
  blk_ext [iblk, idx t]
theorem wq_at (c : Dev nD) (t : Fin cfg0.N) (e : Fin 128) : (iblk m c 4 t : FVec Ideal S1x128 .f32) (ix2 0 e)
    = m ((c : Thread nD τ).loc main_arg2) (ix1 e) := by
  rw [← qw_at m c]
  blk_ext [iblk, idx t]
theorem wk_at (c : Dev nD) (t : Fin cfg0.N) (e : Fin 128) : (iblk m c 5 t : FVec Ideal S1x128 .f32) (ix2 0 e)
    = m ((c : Thread nD τ).loc main_arg3) (ix1 e) := by
  rw [← kw_at m c]
  blk_ext [iblk, idx t]

/-- The kernel's block at a point is the plain attention's, where the bias and the two weights are real. -/
theorem point (c : Dev nD) (hb : ∀ y, Real' ((m ((c : Thread nD τ).loc main_arg1) : FVec Ideal S12x257 .f32) y))
    (hq : ∀ y, Real' ((m ((c : Thread nD τ).loc main_arg2) : FVec Ideal S128 .f32) y)) (hk : ∀ y, Real' ((m ((c : Thread nD τ).loc main_arg3) : FVec Ideal S128 .f32) y))
    (t : Fin cfg0.N) (s : Fin 2048) (d : Fin 128) :
    (outsAt0 m c t : FVec Ideal S1x2048x128 .bf16) (ix3 0 s d)
      = Cert.AttnRefIdeal.Parts.outv (m ((c : Thread nD τ).loc main_arg0)) (m ((c : Thread nD τ).loc main_arg1)) (m ((c : Thread nD τ).loc main_arg2)) (m ((c : Thread nD τ).loc main_arg3))
          (ix3 ⟨t.val / 12, by have := lt_of_lt_of_eq t.isLt N_0; omega⟩ s ⟨t.val % 12 * 128 + d.val, by omega⟩) := by
  have e1 : ∀ h, (⟨(t.val % 12 * 128 + d.val) / 128, h⟩ : Fin 12) = ⟨t.val % 12, by omega⟩ := fun h => Fin.ext (by show (t.val % 12 * 128 + d.val) / 128 = t.val % 12; omega)
  have e2 : ∀ h, (⟨(t.val % 12 * 128 + d.val) % 128, h⟩ : Fin 128) = d := fun h => Fin.ext (by show (t.val % 12 * 128 + d.val) % 128 = d.val; omega)
  rw [Cert.AttnRefIdeal.Parts.outv_at]
  simp only [e1, e2]
  rw [← mix_eq]
  · unfold outsAt0
    refine (KerVal.OUT_val _ _ _ _ _ _ s d).trans ?_
    simp only [q_at, k_at, v_at, b_at, wq_at, wk_at]
    rfl
  · intro k
    refine score_real _ _ _ _ (fun e => rms_real _ _ (fun e => hq _) e) (fun p e => behind_real _ (fun s => rms_real _ _ (fun e => hk _) e) p) (fun k => ?_) k
    obtain ⟨j, hj⟩ := tbl_mem (m ((c : Thread nD τ).loc main_arg1)) (ix3 ⟨t.val % 12, by omega⟩ ⟨s.val % 64, Nat.mod_lt _ (by decide)⟩ k)
    rw [hj]
    exact hb j

/-- The kernel's result array is the plain attention's result. -/
theorem final (c : Dev nD) (hb : ∀ y, Real' ((m ((c : Thread nD τ).loc main_arg1) : FVec Ideal S12x257 .f32) y))
    (hq : ∀ y, Real' ((m ((c : Thread nD τ).loc main_arg2) : FVec Ideal S128 .f32) y)) (hk : ∀ y, Real' ((m ((c : Thread nD τ).loc main_arg3) : FVec Ideal S128 .f32) y)) :
    (dats m 0 c).arrAt 6 cfg0.N
      = Cert.AttnRefIdeal.Parts.outv (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  idx_vars y
  obtain rfl : y0 = 0 := Subsingleton.elim _ _
  refine (point m c hb hq hk t y1 y2).trans (congrArg (Cert.AttnRefIdeal.Parts.outv _ _ _ _) ?_)
  blk_ext [idx t]

/-- The run: the result array at the plain attention, the arguments as they were. -/
theorem run (hb : ∀ c : Dev nD, ∀ y, Real' ((m ((c : Thread nD τ).loc main_arg1) : FVec Ideal S12x257 .f32) y))
    (hq : ∀ c : Dev nD, ∀ y, Real' ((m ((c : Thread nD τ).loc main_arg2) : FVec Ideal S128 .f32) y))
    (hk : ∀ c : Dev nD, ∀ y, Real' ((m ((c : Thread nD τ).loc main_arg3) : FVec Ideal S128 .f32) y)) :
    θ_run defs (onTc (τ := τ) (main (F := Ideal))) ⟨m, fun _ => 0, ρ⟩ fun r => ∀ c : Dev nD,
      r.2.mem ((c : Thread nD τ).loc main_v21) = Cert.AttnRefIdeal.Parts.outv (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 6).trans (final m c (hb c) (hq c) (hk c)),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.AttnIdeal.Final
end
-- ==== Proof.Attn.Finite.lean ====
/-
The precondition of the attention's value claim: the bias and the two weights hold real numbers.
-/
module

public import proofs.«01_k».proof.Proof.Gen.Pre_finite_tables
public import proofs.«01_k».proof.Proof.Attn.Mix
public import Idealize.ShloMosaic.Lib.ReduceAll

@[expose] public section
set_option maxRecDepth 16384
noncomputable section
namespace Cert.AttnMath
open Idealize.ShloMosaic Cert.Pre_finite_tables Cert.Pre_finite_tables.Gen

/-- Below `⊤` in absolute value is real. -/
theorem real_of_bit (x : EReal) (h : Ideal.cmp CmpFPredicate.olt (max x (-x)) (Ideal.ofBits FTy.f32 0x7F800000#32) = 1#1) : Real' x := by
  have e : Ideal.ofBits FTy.f32 0x7F800000#32 = ⊤ := by simp [Ideal.ofBits, Ideal.ieee]
  rw [e] at h
  have h' : max x (-x) < ⊤ := by
    by_contra hn
    rw [Ideal.cmp] at h
    simp [hn] at h
  induction x with
  | bot => simp at h'
  | top => simp at h'
  | coe r => exact ⟨r, rfl⟩

/-- What the precondition says. -/
theorem finite_of (x : FVec Ideal S8x92x2048x128 .bf16) (b : FVec Ideal S12x257 .f32) (q k : FVec Ideal S128 .f32)
    (h : Cert.Pre_finite_tables.fn (F := Ideal) x b q k = fun _ => 1#1) :
    (∀ y, Real' (b y)) ∧ (∀ y, Real' (q y)) ∧ (∀ y, Real' (k y)) := by
  have h0 := congrFun h (fun a => a.elim0)
  dsimp only [fn] at h0
  obtain ⟨h1, h2⟩ := IntOp.andi_eq_one.mp h0
  obtain ⟨h3, h4⟩ := IntOp.andi_eq_one.mp h1
  refine ⟨fun y => ?_, fun y => ?_, fun y => ?_⟩
  · exact real_of_bit _ (Host.reduce_andi_all _ _ _ _ _ h3 y)
  · exact real_of_bit _ (Host.reduce_andi_all _ _ _ _ _ h4 y)
  · exact real_of_bit _ (Host.reduce_andi_all _ _ _ _ _ h2 y)
end Cert.AttnMath
end
-- ==== Proof.InProj.Blocks.lean ====
/-
The body of the input projection's kernel: the scratch holds the block of weights, rounded to
the narrow format, and the output block is the rows' product with it, its columns in four
groups of 128.
-/
module

public import proofs.«01_k».proof.Proof.Gen.InProjIdeal.Value
public import Idealize.ShloMosaic.Lib.Claim
public import Idealize.ShloMosaic.Lib.Pipeline.ValueKit

@[expose] public section
set_option maxRecDepth 16384
noncomputable section
namespace Cert.InProjIdeal.Blocks
open Idealize.ShloMosaic Idealize.ShloMosaic.TcCoe Idealize.ShloMosaic.Tactic
open Cert.InProjIdeal Cert.InProjIdeal.Gen

/-- A buffer written by pieces that are all blocks of one array, and that together reach every index, holds that array. -/
theorem read_pieces {κ : Kind} {sp : Space} {s : Shape} {e : EltTy} (v : View sig κ sp s e)
    (f : v.ty.Contents (Elt Ideal)) (L : List (View.Piece (Elt Ideal) s e)) (G : s.Idx → Elt Ideal e)
    (h : ∀ p ∈ L, ∀ x : p.1.shape.Idx, p.2 x = G (p.1.emb x)) (cov : ∀ y, ∃ p ∈ L, y ∈ p.1.set) :
    v.read (Elt Ideal) (v.writes (Elt Ideal) f L) = G :=
  (View.read_writes_eq_canon v f L cov).trans (funext fun y => View.canon_apply_of_pieces G L h y (cov y))

/-- Every piece a counted loop has left comes from one of its trips, when each trip puts its own before the earlier ones. -/
theorem of_trips {α : Type} {N : ℕ} (pb : ℕ → List α) (T : Fin N → List α) (h0 : pb 0 = [])
    (hs : ∀ k : Fin N, pb (k.val + 1) = T k ++ pb k.val) (p : α) : ∀ n, n ≤ N → p ∈ pb n → ∃ k : Fin N, p ∈ T k
  | 0, _, hp => by rw [h0] at hp; exact absurd hp List.not_mem_nil
  | n + 1, hn, hp => by
    rw [hs ⟨n, hn⟩] at hp
    rcases List.mem_append.mp hp with hp | hp
    · exact ⟨_, hp⟩
    · exact of_trips pb T h0 hs p n (Nat.le_of_succ_le hn) hp

/-- The block of weights as the scratch holds it. -/
def W (x : FVec Ideal S1x4096x512 .f32) : FVec Ideal S4096x512 .bf16 := fun y => x (ix3 0 (y 0) (y 1))

/-- One trip rounds 512 rows of the weights. -/
theorem trip_rows (𝒱 : Variants) (c : Dev nD) (bd : Option 𝒱.V) (i : grid0.Coords) (arg2 : Memref sig .tc .vmem S1024x4096 .bf16) (harg2 : arg2.IsWhole) (arg3 : Memref sig .tc .vmem S1x4096x512 .f32) (harg3 : arg3.IsWhole) (arg4 : Memref sig .tc .vmem S1x4x1024x128 .bf16) (harg4 : arg4.IsWhole) (arg5 : Memref sig .tc .vmem S4096x512 .bf16) (harg5 : arg5.IsWhole) (h1 : k0_cond1 i = 1#1)
    (X : BufTy.Contents (Elt Ideal) arg3.view.ty) (k : Fin k0_t1_loop.trips) :
    (trip_k0_t1 (F := Ideal) 𝒱 c bd i arg2 harg2 arg3 harg3 arg4 harg4 arg5 harg5 h1 X k).1
      = [⟨Rect.unit (s := S4096x512) (k0_off2 k) S512x512.size (k0_off2_inb i k h1),
          k0_pay1 (View.readAt (Elt Ideal) arg3.view (Rect.unit (s := S1x4096x512) (k0_off1 k) S1x512x512.size (k0_off1_inb i k h1)).toLoadRect X)⟩] := by
  unfold trip_k0_t1; dsimp only

theorem pay1_at (x : FVec Ideal S1x512x512 .f32) (a b : Fin 512) : k0_pay1 (F := Ideal) x (ix2 a b) = x (ix3 0 a b) := by
  pointwise [k0_pay1]

/-- After the loop the scratch holds the rounded weights. -/
theorem filled (𝒱 : Variants) (c : Dev nD) (bd : Option 𝒱.V) (i : grid0.Coords) (arg2 : Memref sig .tc .vmem S1024x4096 .bf16) (harg2 : arg2.IsWhole) (arg3 : Memref sig .tc .vmem S1x4096x512 .f32) (harg3 : arg3.IsWhole) (arg4 : Memref sig .tc .vmem S1x4x1024x128 .bf16) (harg4 : arg4.IsWhole) (arg5 : Memref sig .tc .vmem S4096x512 .bf16) (harg5 : arg5.IsWhole) (h1 : k0_cond1 i = 1#1)
    (X : BufTy.Contents (Elt Ideal) arg3.view.ty) {κ : Kind} {sp : Space} (v : View sig κ sp S4096x512 .bf16) (f : v.ty.Contents (Elt Ideal)) :
    v.read (Elt Ideal) (v.writes (Elt Ideal) f (pb_k0_t1 (F := Ideal) 𝒱 c bd i arg2 harg2 arg3 harg3 arg4 harg4 arg5 harg5 h1 X k0_t1_loop.trips))
      = W (arg3.view.read (Elt Ideal) X) := by
  refine read_pieces v f _ _ (fun p hp x => ?_) (fun y => View.cover_of_tiledL (pb_k0_t1 (F := Ideal) 𝒱 c bd i arg2 harg2 arg3 harg3 arg4 harg4 arg5 harg5 h1 X k0_t1_loop.trips) S512x512.size (by sl_kernel_rfl) y)
  obtain ⟨k, hk⟩ := of_trips (fun n => pb_k0_t1 (F := Ideal) 𝒱 c bd i arg2 harg2 arg3 harg3 arg4 harg4 arg5 harg5 h1 X n)
    (fun k => (trip_k0_t1 (F := Ideal) 𝒱 c bd i arg2 harg2 arg3 harg3 arg4 harg4 arg5 harg5 h1 X k).1) rfl
    (fun k => by rw [pb_k0_t1_succ]) p _ le_rfl hp
  rw [trip_rows] at hk
  obtain rfl := List.mem_singleton.mp hk
  idx_vars x
  rw [View.readAt_eq_ld]
  refine (pay1_at _ _ _).trans ?_
  unfold W
  refine congrArg (arg3.view.read (Elt Ideal) X) (funext fun a => Fin.ext ?_)
  match a with
  | ⟨0, _⟩ => exact (Rect.idx_unit_val (s := S1x4096x512) (k0_off1 k) S1x512x512.size (k0_off1_inb i k h1) (ix3 0 x0 x1) 0).trans ((congrArg (· + 0) (congrFun (k0_off1_eq k) 0)).trans rfl)
  | ⟨1, _⟩ => exact (Rect.idx_unit_val (s := S1x4096x512) (k0_off1 k) S1x512x512.size (k0_off1_inb i k h1) (ix3 0 x0 x1) 1).trans (((congrArg (· + x0.val) (congrFun (k0_off1_eq k) 1)).trans rfl).trans
      ((Rect.idx_unit_val (s := S4096x512) (k0_off2 k) S512x512.size (k0_off2_inb i k h1) (ix2 x0 x1) 0).trans ((congrArg (· + x0.val) (congrFun (k0_off2_eq k) 0)).trans rfl)).symm)
  | ⟨2, _⟩ => exact (Rect.idx_unit_val (s := S1x4096x512) (k0_off1 k) S1x512x512.size (k0_off1_inb i k h1) (ix3 0 x0 x1) 2).trans (((congrArg (· + x1.val) (congrFun (k0_off1_eq k) 2)).trans rfl).trans
      ((Rect.idx_unit_val (s := S4096x512) (k0_off2 k) S512x512.size (k0_off2_inb i k h1) (ix2 x0 x1) 1).trans ((congrArg (· + x1.val) (congrFun (k0_off2_eq k) 1)).trans rfl)).symm)

/-- The output block: the product of the rows with the rounded weights, 128 columns at a time. -/
def B (h : FVec Ideal S1024x4096 .bf16) (w : FVec Ideal S4096x512 .bf16) : FVec Ideal S1x4x1024x128 .bf16 := fun y =>
  ∑ k : Fin 4096, h (ix2 (y 2) k) * w (ix2 k ⟨128 * (y 1).val + (y 3).val, by have := (y 1).isLt; have := (y 3).isLt; have : S1x4x1024x128.size 1 = 4 := rfl; have : S1x4x1024x128.size 3 = 128 := rfl; omega⟩)

/-- The four pieces the body stores, the last first. -/
def P4 (h : FVec Ideal S1024x4096 .bf16) (w : FVec Ideal S4096x512 .bf16) : List (View.Piece (Elt Ideal) S1x4x1024x128 .bf16) :=
  [⟨Rect.unit (s := S1x4x1024x128) ![0, 3, 0, 0] S1x1x1024x128.size inb_S1x4x1024x128_S1x1x1024x128_0_3_0_0, k0_pay6 (F := Ideal) h w⟩,
   ⟨Rect.unit (s := S1x4x1024x128) ![0, 2, 0, 0] S1x1x1024x128.size inb_S1x4x1024x128_S1x1x1024x128_0_2_0_0, k0_pay5 (F := Ideal) h w⟩,
   ⟨Rect.unit (s := S1x4x1024x128) ![0, 1, 0, 0] S1x1x1024x128.size inb_S1x4x1024x128_S1x1x1024x128_0_1_0_0, k0_pay4 (F := Ideal) h w⟩,
   ⟨Rect.unit (s := S1x4x1024x128) ![0, 0, 0, 0] S1x1x1024x128.size inb_S1x4x1024x128_S1x1x1024x128_0_0_0_0, k0_pay3 (F := Ideal) h w⟩]

theorem pay2_at (h : FVec Ideal S1024x4096 .bf16) (w : FVec Ideal S4096x512 .bf16) (r : Fin 1024) (n : Fin 512) :
    k0_pay2 (F := Ideal) h w (ix2 r n) = ∑ k : Fin 4096, h (ix2 r k) * w (ix2 k n) := by
  pointwise [k0_pay2]

theorem pay3_at (h : FVec Ideal S1024x4096 .bf16) (w : FVec Ideal S4096x512 .bf16) (r : Fin 1024) (n : Fin 128) :
    k0_pay3 (F := Ideal) h w (ix4 0 0 r n) = k0_pay2 (F := Ideal) h w (ix2 r ⟨n.val, by omega⟩) := by
  pointwise [k0_pay3]
theorem pay4_at (h : FVec Ideal S1024x4096 .bf16) (w : FVec Ideal S4096x512 .bf16) (r : Fin 1024) (n : Fin 128) :
    k0_pay4 (F := Ideal) h w (ix4 0 0 r n) = k0_pay2 (F := Ideal) h w (ix2 r ⟨128 + n.val, by omega⟩) := by
  pointwise [k0_pay4]
theorem pay5_at (h : FVec Ideal S1024x4096 .bf16) (w : FVec Ideal S4096x512 .bf16) (r : Fin 1024) (n : Fin 128) :
    k0_pay5 (F := Ideal) h w (ix4 0 0 r n) = k0_pay2 (F := Ideal) h w (ix2 r ⟨256 + n.val, by omega⟩) := by
  pointwise [k0_pay5]
theorem pay6_at (h : FVec Ideal S1024x4096 .bf16) (w : FVec Ideal S4096x512 .bf16) (r : Fin 1024) (n : Fin 128) :
    k0_pay6 (F := Ideal) h w (ix4 0 0 r n) = k0_pay2 (F := Ideal) h w (ix2 r ⟨384 + n.val, by omega⟩) := by
  pointwise [k0_pay6]

theorem B_at (h : FVec Ideal S1024x4096 .bf16) (w : FVec Ideal S4096x512 .bf16) (y : S1x4x1024x128.Idx) (r : Fin 1024) (n : Fin 512)
    (h2 : (y 2).val = r.val) (h3 : 128 * (y 1).val + (y 3).val = n.val) :
    k0_pay2 (F := Ideal) h w (ix2 r n) = B h w y := by
  rw [pay2_at]
  unfold B
  obtain rfl : y 2 = r := Fin.ext h2
  exact Finset.sum_congr rfl fun k _ => congrArg (fun n => h (ix2 (y 2) k) * w (ix2 k n)) (Fin.ext h3.symm)

/-- The four pieces make up the output block. -/
theorem block {κ : Kind} {sp : Space} (v : View sig κ sp S1x4x1024x128 .bf16) (f : v.ty.Contents (Elt Ideal)) (h : FVec Ideal S1024x4096 .bf16) (w : FVec Ideal S4096x512 .bf16) :
    v.read (Elt Ideal) (v.writes (Elt Ideal) f (P4 h w)) = B h w := by
  refine read_pieces v f _ _ (fun p hp x => ?_) (fun y => View.cover_of_tiledL (P4 h w) S1x1x1024x128.size (by sl_kernel_rfl) y)
  unfold P4 at hp
  rcases List.mem_cons.mp hp with rfl | hp
  · idx_vars x
    obtain rfl : x0 = 0 := Subsingleton.elim _ _
    obtain rfl : x1 = 0 := Subsingleton.elim _ _
    refine (pay6_at h w x2 x3).trans (B_at h w _ _ _ ?_ ?_)
    · exact (Rect.idx_unit_val (s := S1x4x1024x128) ![0, 3, 0, 0] S1x1x1024x128.size inb_S1x4x1024x128_S1x1x1024x128_0_3_0_0 (ix4 0 0 x2 x3) 2).trans (Nat.zero_add _)
    · exact congrArg₂ (fun a b => 128 * a + b) (Rect.idx_unit_val (s := S1x4x1024x128) ![0, 3, 0, 0] S1x1x1024x128.size inb_S1x4x1024x128_S1x1x1024x128_0_3_0_0 (ix4 0 0 x2 x3) 1)
        ((Rect.idx_unit_val (s := S1x4x1024x128) ![0, 3, 0, 0] S1x1x1024x128.size inb_S1x4x1024x128_S1x1x1024x128_0_3_0_0 (ix4 0 0 x2 x3) 3).trans (Nat.zero_add _))
  rcases List.mem_cons.mp hp with rfl | hp
  · idx_vars x
    obtain rfl : x0 = 0 := Subsingleton.elim _ _
    obtain rfl : x1 = 0 := Subsingleton.elim _ _
    refine (pay5_at h w x2 x3).trans (B_at h w _ _ _ ?_ ?_)
    · exact (Rect.idx_unit_val (s := S1x4x1024x128) ![0, 2, 0, 0] S1x1x1024x128.size inb_S1x4x1024x128_S1x1x1024x128_0_2_0_0 (ix4 0 0 x2 x3) 2).trans (Nat.zero_add _)
    · exact congrArg₂ (fun a b => 128 * a + b) (Rect.idx_unit_val (s := S1x4x1024x128) ![0, 2, 0, 0] S1x1x1024x128.size inb_S1x4x1024x128_S1x1x1024x128_0_2_0_0 (ix4 0 0 x2 x3) 1)
        ((Rect.idx_unit_val (s := S1x4x1024x128) ![0, 2, 0, 0] S1x1x1024x128.size inb_S1x4x1024x128_S1x1x1024x128_0_2_0_0 (ix4 0 0 x2 x3) 3).trans (Nat.zero_add _))
  rcases List.mem_cons.mp hp with rfl | hp
  · idx_vars x
    obtain rfl : x0 = 0 := Subsingleton.elim _ _
    obtain rfl : x1 = 0 := Subsingleton.elim _ _
    refine (pay4_at h w x2 x3).trans (B_at h w _ _ _ ?_ ?_)
    · exact (Rect.idx_unit_val (s := S1x4x1024x128) ![0, 1, 0, 0] S1x1x1024x128.size inb_S1x4x1024x128_S1x1x1024x128_0_1_0_0 (ix4 0 0 x2 x3) 2).trans (Nat.zero_add _)
    · exact congrArg₂ (fun a b => 128 * a + b) (Rect.idx_unit_val (s := S1x4x1024x128) ![0, 1, 0, 0] S1x1x1024x128.size inb_S1x4x1024x128_S1x1x1024x128_0_1_0_0 (ix4 0 0 x2 x3) 1)
        ((Rect.idx_unit_val (s := S1x4x1024x128) ![0, 1, 0, 0] S1x1x1024x128.size inb_S1x4x1024x128_S1x1x1024x128_0_1_0_0 (ix4 0 0 x2 x3) 3).trans (Nat.zero_add _))
  · obtain rfl := List.mem_singleton.mp hp
    idx_vars x
    obtain rfl : x0 = 0 := Subsingleton.elim _ _
    obtain rfl : x1 = 0 := Subsingleton.elim _ _
    refine (pay3_at h w x2 x3).trans (B_at h w _ _ _ ?_ ?_)
    · exact (Rect.idx_unit_val (s := S1x4x1024x128) ![0, 0, 0, 0] S1x1x1024x128.size inb_S1x4x1024x128_S1x1x1024x128_0_0_0_0 (ix4 0 0 x2 x3) 2).trans (Nat.zero_add _)
    · exact (congrArg₂ (fun a b => 128 * a + b) (Rect.idx_unit_val (s := S1x4x1024x128) ![0, 0, 0, 0] S1x1x1024x128.size inb_S1x4x1024x128_S1x1x1024x128_0_0_0_0 (ix4 0 0 x2 x3) 1)
        ((Rect.idx_unit_val (s := S1x4x1024x128) ![0, 0, 0, 0] S1x1x1024x128.size inb_S1x4x1024x128_S1x1x1024x128_0_0_0_0 (ix4 0 0 x2 x3) 3).trans (Nat.zero_add _))).trans (Nat.zero_add _)

/-- A block loaded whole is itself. -/
theorem whole_h (x : Vec Ideal S1024x4096 .bf16) : View.ld (Val := Elt Ideal) (e' := .bf16) x (Rect.unit (s := S1024x4096) ![0, 0] S1024x4096.size inb_S1024x4096_S1024x4096_0_0) = x :=
  View.ld_unit_lit inb_S1024x4096_S1024x4096_0_0 x (by decide)
theorem whole_w (x : Vec Ideal S4096x512 .bf16) : View.ld (Val := Elt Ideal) (e' := .bf16) x (Rect.unit (s := S4096x512) ![0, 0] S4096x512.size inb_S4096x512_S4096x512_0_0) = x :=
  View.ld_unit_lit inb_S4096x512_S4096x512_0_0 x (by decide)

/-- At the first point of a column of the grid the scratch is filled, -/
theorem scratch_A (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1x4x1024x128 .bf16) (harg4 : arg4.IsWhole) (arg5 : Memref sig .tc .vmem S4096x512 .bf16) (harg5 : arg5.IsWhole) (hc0 : cond0_0 i)
    (x0 : Vec Ideal S1024x4096 .bf16) (x1 : Vec Ideal S1x4096x512 .f32) :
    sout0_A_0 (F := Ideal) c i arg2 harg2 arg3 harg3 arg4 harg4 arg5 harg5 hc0 x0 x1 = W x1 := by
  have e : (kernelRun0_A (F := Ideal) c i arg2 harg2 arg3 harg3 arg4 harg4 arg5 harg5 hc0 x0 x1).2.1
      = pb_k0_t1 (F := Ideal) Variants.none c none i arg2 harg2 arg3 harg3 arg4 harg4 arg5 harg5 hc0 (harg3.unread x1) k0_t1_loop.trips := by
    unfold kernelRun0_A; dsimp only
  unfold sout0_A_0
  rw [e, filled, harg3.read_unread]

/-- and the output block is the product with what was filled; -/
theorem out_A (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1x4x1024x128 .bf16) (harg4 : arg4.IsWhole) (arg5 : Memref sig .tc .vmem S4096x512 .bf16) (harg5 : arg5.IsWhole) (hc0 : cond0_0 i)
    (x0 : Vec Ideal S1024x4096 .bf16) (x1 : Vec Ideal S1x4096x512 .f32) :
    out0_A_2 (F := Ideal) c i arg2 harg2 arg3 harg3 arg4 harg4 arg5 harg5 hc0 x0 x1 = B x0 (W x1) := by
  have e : (kernelRun0_A (F := Ideal) c i arg2 harg2 arg3 harg3 arg4 harg4 arg5 harg5 hc0 x0 x1).1
      = P4 (View.readAt (Elt Ideal) arg2.view (Rect.unit (s := S1024x4096) ![0, 0] S1024x4096.size inb_S1024x4096_S1024x4096_0_0).toLoadRect (harg2.unread x0))
          (arg5.view.readCov (pb_k0_t1 (F := Ideal) Variants.none c none i arg2 harg2 arg3 harg3 arg4 harg4 arg5 harg5 hc0 (harg3.unread x1) k0_t1_loop.trips) (Rect.unit (s := S4096x512) ![0, 0] S4096x512.size inb_S4096x512_S4096x512_0_0).toLoadRect) := by
    unfold kernelRun0_A; dsimp only; rfl
  unfold out0_A_2
  rw [e, block, View.readAt_eq_ld, harg2.read_unread]
  unfold View.readCov
  rw [View.readAt_eq_ld, filled, harg3.read_unread]
  exact congrArg₂ B (whole_h x0) (whole_w (W x1))

/-- at the others it is the product with what the scratch holds. -/
theorem out_B (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1x4x1024x128 .bf16) (harg4 : arg4.IsWhole) (arg5 : Memref sig .tc .vmem S4096x512 .bf16) (harg5 : arg5.IsWhole) (hc0 : ¬cond0_0 i)
    (x0 : Vec Ideal S1024x4096 .bf16) (x1 : Vec Ideal S1x4096x512 .f32) (xs : Vec Ideal S4096x512 .bf16) :
    out0_B_2 (F := Ideal) c i arg2 harg2 arg3 harg3 arg4 harg4 arg5 harg5 hc0 x0 x1 xs = B x0 xs := by
  have e : (kernelRun0_B (F := Ideal) c i arg2 harg2 arg3 harg3 arg4 harg4 arg5 harg5 hc0 x0 x1 xs).1
      = P4 (View.readAt (Elt Ideal) arg2.view (Rect.unit (s := S1024x4096) ![0, 0] S1024x4096.size inb_S1024x4096_S1024x4096_0_0).toLoadRect (harg2.unread x0))
          (View.readAt (Elt Ideal) arg5.view (Rect.unit (s := S4096x512) ![0, 0] S4096x512.size inb_S4096x512_S4096x512_0_0).toLoadRect (harg5.unread xs)) := by
    unfold kernelRun0_B; dsimp only; rfl
  unfold out0_B_2
  rw [e, block, View.readAt_eq_ld, View.readAt_eq_ld, harg2.read_unread, harg5.read_unread]
  exact congrArg₂ B (whole_h x0) (whole_w xs)

end Cert.InProjIdeal.Blocks
end
-- ==== Proof.InProj.Final.lean ====
/-
What the input projection's kernel leaves in its result array, and that it is the plain projection.
-/
module

public import proofs.«01_k».proof.Proof.InProj.Blocks
public import Idealize.ShloMosaic.Lib.Pipeline.Covers

@[expose] public section
set_option maxRecDepth 16384
noncomputable section
namespace Cert.InProjIdeal.Final
open Idealize.ShloMosaic Idealize.ShloMosaic.TcCoe Idealize.SL.Sem
open Cert.InProjIdeal Cert.InProjIdeal.Gen Cert.InProjIdeal.Blocks

variable (m : (ℓ : Loc nD τ sig) → Buf (Elt Ideal) ℓ) (ρ : Dev nD → PrngReg)

theorem idx : ∀ t : Fin cfg0.N, win0_0.index t = ![t.val % 16, 0] ∧ win0_1.index t = ![0, 0, t.val / 16]
    ∧ win0_2.index t = ![t.val % 16 / 2, t.val / 16, t.val % 16 % 2, 0] := (by decide +kernel : ∀ t : Fin grid0.N, _)

theorem lt_col (t : Fin cfg0.N) : t.val / 16 < 23 := by have := lt_of_lt_of_eq t.isLt N_0; omega

/-- The rows and the weights at a point, read at an index. -/
theorem h_at (c : Dev nD) (t : Fin cfg0.N) (r : Fin 1024) (k : Fin 4096) : (iblk m c 0 t : FVec Ideal S1024x4096 .bf16) (ix2 r k)
    = (m ((c : Thread nD τ).loc main_arg0) : FVec Ideal S16384x4096 .bf16) (ix2 ⟨t.val % 16 * 1024 + r.val, by omega⟩ k) := by
  rw [← V_main_arg0 m c]
  blk_ext [iblk, idx t]
theorem w_at (c : Dev nD) (t : Fin cfg0.N) (k : Fin 4096) (n : Fin 512) : (iblk m c 1 t : FVec Ideal S1x4096x512 .f32) (ix3 0 k n)
    = (m ((c : Thread nD τ).loc main_arg1) : FVec Ideal S2x4096x11776 .f32) (ix3 0 k ⟨t.val / 16 * 512 + n.val, by have := lt_col t; omega⟩) := by
  rw [← V_main_arg1 m c]
  blk_ext [iblk, idx t]

/-- After each point the scratch holds the weights of the point's column of the grid. -/
theorem scratch (c : Dev nD) : ∀ n (hn : n < cfg0.N) (k : Fin 4096) (e : Fin 512), (outsAt0 (F := Ideal) m c n hn).2 (ix2 k e)
    = (m ((c : Thread nD τ).loc main_arg1) : FVec Ideal S2x4096x11776 .f32) (ix3 0 k ⟨n / 16 * 512 + e.val, by have := lt_col ⟨n, hn⟩; dsimp only at this; omega⟩) := by
  intro n
  induction n with
  | zero =>
    intro hn k e
    rw [outsAt0_A m c ⟨0, hn⟩ (Nat.zero_mod _)]
    dsimp only
    rw [scratch_A]
    exact w_at m c ⟨0, hn⟩ k e
  | succ n ih =>
    intro hn k e
    by_cases h : (n + 1) % 16 = 0
    · rw [outsAt0_A m c ⟨n + 1, hn⟩ h]
      dsimp only
      rw [scratch_A]
      exact w_at m c ⟨n + 1, hn⟩ k e
    · rw [outsAt0_B m c ⟨n + 1, hn⟩ h]
      dsimp only
      unfold sout0_B_0
      refine (ih (Nat.lt_of_succ_lt hn) k e).trans (congrArg _ ?_)
      have h2 : n / 16 = (n + 1) / 16 := by omega
      simp only [h2]

/-- The plain projection: row `s` of batch `b` times column `128 j + e` of the first layer's weights. -/
def proj (h : FVec Ideal S16384x4096 .bf16) (w : FVec Ideal S2x4096x11776 .f32) : FVec Ideal S8x92x2048x128 .bf16 := fun y =>
  ∑ k : Fin 4096, h (ix2 ⟨(y 0).val * 2048 + (y 2).val, by have h0 := (y 0).isLt; have h2 := (y 2).isLt; change (y 0).val < 8 at h0; change (y 2).val < 2048 at h2; omega⟩ k)
    * w (ix3 0 k ⟨(y 1).val * 128 + (y 3).val, by have h0 := (y 1).isLt; have h2 := (y 3).isLt; change (y 1).val < 92 at h0; change (y 3).val < 128 at h2; omega⟩)

/-- One of its entries, from the number of its row and of its column. -/
theorem proj_at (h : FVec Ideal S16384x4096 .bf16) (w : FVec Ideal S2x4096x11776 .f32) (b : Fin 8) (j : Fin 92) (s : Fin 2048) (e : Fin 128) (r : Fin 16384) (n : Fin 11776)
    (hr : b.val * 2048 + s.val = r.val) (hn : j.val * 128 + e.val = n.val) :
    proj h w (ix4 b j s e) = ∑ k : Fin 4096, h (ix2 r k) * w (ix3 0 k n) := by
  have e1 : ∀ hh, (⟨b.val * 2048 + s.val, hh⟩ : Fin 16384) = r := fun _ => Fin.ext hr
  have e2 : ∀ hh, (⟨j.val * 128 + e.val, hh⟩ : Fin 11776) = n := fun _ => Fin.ext hn
  exact Finset.sum_congr rfl fun k _ => congrArg₂ (fun (a : Fin 16384) (b : Fin 11776) => h (ix2 a k) * w (ix3 0 k b)) (e1 _) (e2 _)

/-- The block of the result at a point. -/
theorem point (c : Dev nD) (t : Fin cfg0.N) (j : Fin 4) (r : Fin 1024) (e : Fin 128) :
    (outsAt0 (F := Ideal) m c t.val t.isLt).1 (ix4 0 j r e)
      = proj (m ((c : Thread nD τ).loc main_arg0)) (m ((c : Thread nD τ).loc main_arg1))
          (ix4 ⟨t.val % 16 / 2, by omega⟩ ⟨t.val / 16 * 4 + j.val, by have := lt_col t; omega⟩ ⟨t.val % 16 % 2 * 1024 + r.val, by omega⟩ e) := by
  rw [proj_at _ _ _ _ _ _ ⟨t.val % 16 * 1024 + r.val, by omega⟩ ⟨t.val / 16 * 512 + (128 * j.val + e.val), by have := lt_col t; omega⟩ (by dsimp only; omega) (by dsimp only; omega)]
  by_cases h : t.val % 16 = 0
  · rw [outsAt0_A m c t h]
    dsimp only
    rw [out_A]
    refine Finset.sum_congr rfl fun k _ => ?_
    exact congrArg₂ (fun (a b : Ideal .bf16) => a * b) (h_at m c t r k) (w_at m c t k _)
  · have hp : 0 < t.val := Nat.pos_of_ne_zero fun h0 => h (by rw [h0])
    rw [outsAt0_B m c t h]
    dsimp only
    rw [out_B]
    refine Finset.sum_congr rfl fun k _ => ?_
    refine congrArg₂ (fun (a b : Ideal .bf16) => a * b) (h_at m c t r k) ((scratch m c _ _ k _).trans (congrArg _ ?_))
    have h2 : (t.val - 1) / 16 = t.val / 16 := by omega
    exact congrArg (ix3 0 k) (Fin.ext (congrArg (fun a => a * 512 + (128 * j.val + e.val)) h2))

/-- The kernel's result array is the plain projection. -/
theorem final (c : Dev nD) : (dats m 0 c).arrAt 2 cfg0.N
    = proj (m ((c : Thread nD τ).loc main_arg0)) (m ((c : Thread nD τ).loc main_arg1)) := by
  refine (dats m 0 c).arrAt_eq_of_covers 2 _ (by decide +kernel) fun t _ y => ?_
  blk_simp
  rw [after0_2]
  idx_vars y
  obtain rfl : y0 = 0 := Subsingleton.elim _ _
  refine (point m c t y1 y2 y3).trans (congrArg (proj _ _) ?_)
  blk_ext [idx t]

/-- The run: the result array at the plain projection, the arguments as they were. -/
theorem run : θ_run defs (onTc (τ := τ) (main (F := Ideal))) ⟨m, fun _ => 0, ρ⟩ fun r => ∀ c : Dev nD,
      r.2.mem ((c : Thread nD τ).loc main_v0) = proj (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.InProjIdeal.Value.run_blocks m ρ)

end Cert.InProjIdeal.Final
end
-- ==== Proof.InProj.Plain.lean ====
/-
The reference's input projection, entry by entry.
-/
module

public import proofs.«01_k».proof.Proof.InProj.Final
public import proofs.«01_k».proof.Proof.Gen.InProjRefIdeal.Run

@[expose] public section
set_option maxRecDepth 16384
noncomputable section
namespace Cert.InProjRefIdeal.Plain
open Idealize.ShloMosaic Idealize.ShloMosaic.TcCoe
open Cert.InProjRefIdeal Cert.InProjRefIdeal.Gen

/-- The product at a row and a column. -/
theorem dot_at (x : FVec Ideal S8x2048x4096 .f32) (w : FVec Ideal S4096x11776 .f32) (b : Fin 8) (s : Fin 2048) (n : Fin 11776) :
    (Host.dotGeneral dot_S8x2048x4096_S4096x11776_S8x2048x11776_2_0_01_1_n_n none x w : FVec Ideal S8x2048x11776 .f32) (ix3 b s n)
      = ∑ k : Fin 4096, x (ix3 b s k) * w (ix2 k n) := by
  pointwise

/-- The reference's term is the plain projection. -/
theorem plain (h : FVec Ideal S16384x4096 .bf16) (w : FVec Ideal S2x4096x11776 .f32) :
    Cert.InProjIdeal.Final.proj h w = truncf .bf16 (transpose S8x92x2048x128 [0, 2, 1, 3] (shapeCast _ (Host.dotGeneral dot_S8x2048x4096_S4096x11776_S8x2048x11776_2_0_01_1_n_n none (shapeCast _ (extf .f32 h bitsLt_bf16_f32) shapeCasts_S16384x4096_S8x2048x4096) (shapeCast _ (extractStridedSlice S1x4096x11776 ![0, 0, 0] w slices_S2x4096x11776_S1x4096x11776_0_0_0) shapeCasts_S1x4096x11776_S4096x11776)) shapeCasts_S8x2048x11776_S8x2048x92x128) transposes_S8x2048x92x128_S8x92x2048x128_0_2_1_3) bitsLt_bf16_f32 := by
  funext y
  idx_vars y
  rw [Cert.InProjIdeal.Final.proj_at _ _ _ _ _ _ ⟨y0.val * 2048 + y2.val, by omega⟩ ⟨y1.val * 128 + y3.val, by omega⟩ rfl rfl]
  pointwise

end Cert.InProjRefIdeal.Plain
end
-- ==== Proof.OutProj.Blocks.lean ====
/-
The body of the kernel of the output projection: the scratch holds the block of weights,
rounded to the narrow format, and the output block is the residual plus the gated product.
-/
module

public import proofs.«01_k».proof.Proof.Gen.OutProjIdeal.Value
public import Idealize.ShloMosaic.Lib.Claim
public import Idealize.ShloMosaic.Lib.Pipeline.ValueKit

@[expose] public section
set_option maxRecDepth 16384
noncomputable section
namespace Cert.OutProjIdeal.Blocks
open Idealize.ShloMosaic Idealize.ShloMosaic.TcCoe Idealize.ShloMosaic.Tactic
open Cert.OutProjIdeal Cert.OutProjIdeal.Gen

/-- A buffer written by pieces that are all blocks of one array, and that together reach every index, holds that array. -/
theorem read_pieces {κ : Kind} {sp : Space} {s : Shape} {e : EltTy} (v : View sig κ sp s e)
    (f : v.ty.Contents (Elt Ideal)) (L : List (View.Piece (Elt Ideal) s e)) (G : s.Idx → Elt Ideal e)
    (h : ∀ p ∈ L, ∀ x : p.1.shape.Idx, p.2 x = G (p.1.emb x)) (cov : ∀ y, ∃ p ∈ L, y ∈ p.1.set) :
    v.read (Elt Ideal) (v.writes (Elt Ideal) f L) = G :=
  (View.read_writes_eq_canon v f L cov).trans (funext fun y => View.canon_apply_of_pieces G L h y (cov y))

/-- Every piece a counted loop has left comes from one of its trips, when each trip puts its own before the earlier ones. -/
theorem of_trips {α : Type} {N : ℕ} (pb : ℕ → List α) (T : Fin N → List α) (h0 : pb 0 = [])
    (hs : ∀ k : Fin N, pb (k.val + 1) = T k ++ pb k.val) (p : α) : ∀ n, n ≤ N → p ∈ pb n → ∃ k : Fin N, p ∈ T k
  | 0, _, hp => by rw [h0] at hp; exact absurd hp List.not_mem_nil
  | n + 1, hn, hp => by
    rw [hs ⟨n, hn⟩] at hp
    rcases List.mem_append.mp hp with hp | hp
    · exact ⟨_, hp⟩
    · exact of_trips pb T h0 hs p n (Nat.le_of_succ_le hn) hp

/-- The block of weights as the scratch holds it. -/
def W (x : FVec Ideal S1x4096x512 .f32) : FVec Ideal S4096x512 .bf16 := fun y => x (ix3 0 (y 0) (y 1))

/-- One trip rounds 512 rows of the weights. -/
theorem trip_rows (𝒱 : Variants) (c : Dev nD) (bd : Option 𝒱.V) (i : grid0.Coords) (arg2 : Memref sig .tc .vmem S1024x1536 .bf16) (harg2 : arg2.IsWhole) (arg3 : Memref sig .tc .vmem S1024x1536 .bf16) (harg3 : arg3.IsWhole) (arg4 : Memref sig .tc .vmem S1024x1024 .bf16) (harg4 : arg4.IsWhole) (arg5 : Memref sig .tc .vmem S1x4096x512 .f32) (harg5 : arg5.IsWhole) (arg6 : Memref sig .tc .vmem S1024x512 .f32) (harg6 : arg6.IsWhole) (arg7 : Memref sig .tc .vmem S1x6x512 .f32) (harg7 : arg7.IsWhole) (arg8 : Memref sig .tc .vmem S1x6x512 .f32) (harg8 : arg8.IsWhole) (arg9 : Memref sig .tc .vmem S1024x512 .f32) (harg9 : arg9.IsWhole) (arg10 : Memref sig .tc .vmem S4096x512 .bf16) (harg10 : arg10.IsWhole) (h1 : k0_cond1 i = 1#1)
    (X : BufTy.Contents (Elt Ideal) arg5.view.ty) (k : Fin k0_t1_loop.trips) :
    (trip_k0_t1 (F := Ideal) 𝒱 c bd i arg2 harg2 arg3 harg3 arg4 harg4 arg5 harg5 arg6 harg6 arg7 harg7 arg8 harg8 arg9 harg9 arg10 harg10 h1 X k).1
      = [⟨Rect.unit (s := S4096x512) (k0_off2 k) S512x512.size (k0_off2_inb i k h1),
          k0_pay1 (View.readAt (Elt Ideal) arg5.view (Rect.unit (s := S1x4096x512) (k0_off1 k) S1x512x512.size (k0_off1_inb i k h1)).toLoadRect X)⟩] := by
  unfold trip_k0_t1; dsimp only

theorem pay1_at (x : FVec Ideal S1x512x512 .f32) (a : Fin 512) (b : Fin 512) : k0_pay1 (F := Ideal) x (ix2 a b) = x (ix3 0 a b) := by
  pointwise [k0_pay1]

/-- After the loop the scratch holds the rounded weights. -/
theorem filled (𝒱 : Variants) (c : Dev nD) (bd : Option 𝒱.V) (i : grid0.Coords) (arg2 : Memref sig .tc .vmem S1024x1536 .bf16) (harg2 : arg2.IsWhole) (arg3 : Memref sig .tc .vmem S1024x1536 .bf16) (harg3 : arg3.IsWhole) (arg4 : Memref sig .tc .vmem S1024x1024 .bf16) (harg4 : arg4.IsWhole) (arg5 : Memref sig .tc .vmem S1x4096x512 .f32) (harg5 : arg5.IsWhole) (arg6 : Memref sig .tc .vmem S1024x512 .f32) (harg6 : arg6.IsWhole) (arg7 : Memref sig .tc .vmem S1x6x512 .f32) (harg7 : arg7.IsWhole) (arg8 : Memref sig .tc .vmem S1x6x512 .f32) (harg8 : arg8.IsWhole) (arg9 : Memref sig .tc .vmem S1024x512 .f32) (harg9 : arg9.IsWhole) (arg10 : Memref sig .tc .vmem S4096x512 .bf16) (harg10 : arg10.IsWhole) (h1 : k0_cond1 i = 1#1)
    (X : BufTy.Contents (Elt Ideal) arg5.view.ty) {κ : Kind} {sp : Space} (v : View sig κ sp S4096x512 .bf16) (f : v.ty.Contents (Elt Ideal)) :
    v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 h1 X k0_t1_loop.trips))
      = W (arg5.view.read (Elt Ideal) X) := by
  refine read_pieces v f _ _ (fun p hp x => ?_) (fun y => View.cover_of_tiledL (pb_k0_t1 (F := Ideal) 𝒱 c bd i arg2 harg2 arg3 harg3 arg4 harg4 arg5 harg5 arg6 harg6 arg7 harg7 arg8 harg8 arg9 harg9 arg10 harg10 h1 X k0_t1_loop.trips) S512x512.size (by sl_kernel_rfl) y)
  obtain ⟨k, hk⟩ := of_trips (fun n => pb_k0_t1 (F := Ideal) 𝒱 c bd i arg2 harg2 arg3 harg3 arg4 harg4 arg5 harg5 arg6 harg6 arg7 harg7 arg8 harg8 arg9 harg9 arg10 harg10 h1 X n)
    (fun k => (trip_k0_t1 (F := Ideal) 𝒱 c bd i arg2 harg2 arg3 harg3 arg4 harg4 arg5 harg5 arg6 harg6 arg7 harg7 arg8 harg8 arg9 harg9 arg10 harg10 h1 X k).1) rfl
    (fun k => by rw [pb_k0_t1_succ]) p _ le_rfl hp
  rw [trip_rows] at hk
  obtain rfl := List.mem_singleton.mp hk
  idx_vars x
  rw [View.readAt_eq_ld]
  refine (pay1_at _ _ _).trans ?_
  unfold W
  refine congrArg (arg5.view.read (Elt Ideal) X) (funext fun a => Fin.ext ?_)
  match a with
  | ⟨0, _⟩ => exact (Rect.idx_unit_val (s := S1x4096x512) (k0_off1 k) S1x512x512.size (k0_off1_inb i k h1) (ix3 0 x0 x1) 0).trans ((congrArg (· + 0) (congrFun (k0_off1_eq k) 0)).trans rfl)
  | ⟨1, _⟩ => exact (Rect.idx_unit_val (s := S1x4096x512) (k0_off1 k) S1x512x512.size (k0_off1_inb i k h1) (ix3 0 x0 x1) 1).trans (((congrArg (· + x0.val) (congrFun (k0_off1_eq k) 1)).trans rfl).trans
      ((Rect.idx_unit_val (s := S4096x512) (k0_off2 k) S512x512.size (k0_off2_inb i k h1) (ix2 x0 x1) 0).trans ((congrArg (· + x0.val) (congrFun (k0_off2_eq k) 0)).trans rfl)).symm)
  | ⟨2, _⟩ => exact (Rect.idx_unit_val (s := S1x4096x512) (k0_off1 k) S1x512x512.size (k0_off1_inb i k h1) (ix3 0 x0 x1) 2).trans (((congrArg (· + x1.val) (congrFun (k0_off1_eq k) 2)).trans rfl).trans
      ((Rect.idx_unit_val (s := S4096x512) (k0_off2 k) S512x512.size (k0_off2_inb i k h1) (ix2 x0 x1) 1).trans ((congrArg (· + x1.val) (congrFun (k0_off2_eq k) 1)).trans rfl)).symm)

/-- The output block from the blocks of the arguments and the rounded weights. -/
def B (x0 : Vec Ideal S1024x1536 .bf16) (x1 : Vec Ideal S1024x1536 .bf16) (x2 : Vec Ideal S1024x1024 .bf16) (x4 : Vec Ideal S1024x512 .f32) (x5 : Vec Ideal S1x6x512 .f32) (x6 : Vec Ideal S1x6x512 .f32) (w : Vec Ideal S4096x512 .bf16) : Vec Ideal S1024x512 .f32 :=
  k0_pay2 (F := Ideal) (View.ld (Val := Elt Ideal) (e' := .bf16) x0 (Rect.unit (s := S1024x1536) ![0, 0] S1024x1536.size inb_S1024x1536_S1024x1536_0_0)) (View.ld (Val := Elt Ideal) (e' := .bf16) w (Rect.unit (s := S4096x512) ![0, 0] S1536x512.size inb_S4096x512_S1536x512_0_0)) (View.ld (Val := Elt Ideal) (e' := .bf16) x1 (Rect.unit (s := S1024x1536) ![0, 0] S1024x1536.size inb_S1024x1536_S1024x1536_0_0)) (View.ld (Val := Elt Ideal) (e' := .bf16) w (Rect.unit (s := S4096x512) ![1536, 0] S1536x512.size inb_S4096x512_S1536x512_1536_0)) (View.ld (Val := Elt Ideal) (e' := .bf16) x2 (Rect.unit (s := S1024x1024) ![0, 0] S1024x1024.size inb_S1024x1024_S1024x1024_0_0)) (View.ld (Val := Elt Ideal) (e' := .bf16) w (Rect.unit (s := S4096x512) ![3072, 0] S1024x512.size inb_S4096x512_S1024x512_3072_0)) (View.ld (Val := Elt Ideal) (e' := .f32) x4 (Rect.unit (s := S1024x512) ![0, 0] S1024x512.size inb_S1024x512_S1024x512_0_0)) (View.ld (Val := Elt Ideal) (e' := .f32) x5 (Rect.unit (s := S1x6x512) ![0, 2, 0] S1x1x512.size inb_S1x6x512_S1x1x512_0_2_0)) (View.ld (Val := Elt Ideal) (e' := .f32) x6 (Rect.unit (s := S1x6x512) ![0, 2, 0] S1x1x512.size inb_S1x6x512_S1x1x512_0_2_0))

/-- A block stored whole is the block held. -/
theorem block {κ : Kind} {sp : Space} (v : View sig κ sp S1024x512 .f32) (f : v.ty.Contents (Elt Ideal)) (p : Vec Ideal S1024x512 .f32) :
    v.read (Elt Ideal) (v.writes (Elt Ideal) f [⟨(Rect.unit (s := S1024x512) ![0, 0] S1024x512.size inb_S1024x512_S1024x512_0_0), p⟩]) = p := by
  refine read_pieces v f _ _ (fun q hq x => ?_) (fun y => View.cover_of_tiledL [⟨(Rect.unit (s := S1024x512) ![0, 0] S1024x512.size inb_S1024x512_S1024x512_0_0), p⟩] S1024x512.size (by sl_kernel_rfl) y)
  obtain rfl := List.mem_singleton.mp hq
  refine congrArg p (funext (Fin.forall_fin_two.mpr ⟨Fin.ext ?_, Fin.ext ?_⟩))
  · exact ((Rect.idx_unit_val (s := S1024x512) ![0, 0] S1024x512.size inb_S1024x512_S1024x512_0_0 x 0).trans (Nat.zero_add (x _).val)).symm
  · exact ((Rect.idx_unit_val (s := S1024x512) ![0, 0] S1024x512.size inb_S1024x512_S1024x512_0_0 x 1).trans (Nat.zero_add (x _).val)).symm

/-- At the first point of a column of the grid the scratch is filled, -/
theorem scratch_A (c : Dev nD) (i : grid0.Coords) (arg2 : Memref sig .tc .vmem S1024x1536 .bf16) (harg2 : arg2.IsWhole) (arg3 : Memref sig .tc .vmem S1024x1536 .bf16) (harg3 : arg3.IsWhole) (arg4 : Memref sig .tc .vmem S1024x1024 .bf16) (harg4 : arg4.IsWhole) (arg5 : Memref sig .tc .vmem S1x4096x512 .f32) (harg5 : arg5.IsWhole) (arg6 : Memref sig .tc .vmem S1024x512 .f32) (harg6 : arg6.IsWhole) (arg7 : Memref sig .tc .vmem S1x6x512 .f32) (harg7 : arg7.IsWhole) (arg8 : Memref sig .tc .vmem S1x6x512 .f32) (harg8 : arg8.IsWhole) (arg9 : Memref sig .tc .vmem S1024x512 .f32) (harg9 : arg9.IsWhole) (arg10 : Memref sig .tc .vmem S4096x512 .bf16) (harg10 : arg10.IsWhole) (hc0 : cond0_0 i)
    (x0 : Vec Ideal S1024x1536 .bf16) (x1 : Vec Ideal S1024x1536 .bf16) (x2 : Vec Ideal S1024x1024 .bf16) (x3 : Vec Ideal S1x4096x512 .f32) (x4 : Vec Ideal S1024x512 .f32) (x5 : Vec Ideal S1x6x512 .f32) (x6 : Vec Ideal S1x6x512 .f32) :
    sout0_A_0 (F := Ideal) c i arg2 harg2 arg3 harg3 arg4 harg4 arg5 harg5 arg6 harg6 arg7 harg7 arg8 harg8 arg9 harg9 arg10 harg10 hc0 x0 x1 x2 x3 x4 x5 x6 = W x3 := by
  have e : (kernelRun0_A (F := Ideal) c i arg2 harg2 arg3 harg3 arg4 harg4 arg5 harg5 arg6 harg6 arg7 harg7 arg8 harg8 arg9 harg9 arg10 harg10 hc0 x0 x1 x2 x3 x4 x5 x6).2.1
      = pb_k0_t1 (F := Ideal) Variants.none c none i arg2 harg2 arg3 harg3 arg4 harg4 arg5 harg5 arg6 harg6 arg7 harg7 arg8 harg8 arg9 harg9 arg10 harg10 hc0 (harg5.unread x3) k0_t1_loop.trips := by
    unfold kernelRun0_A; dsimp only
  unfold sout0_A_0
  rw [e, filled, harg5.read_unread]

/-- and the output block is computed from what was filled; -/
theorem out_A (c : Dev nD) (i : grid0.Coords) (arg2 : Memref sig .tc .vmem S1024x1536 .bf16) (harg2 : arg2.IsWhole) (arg3 : Memref sig .tc .vmem S1024x1536 .bf16) (harg3 : arg3.IsWhole) (arg4 : Memref sig .tc .vmem S1024x1024 .bf16) (harg4 : arg4.IsWhole) (arg5 : Memref sig .tc .vmem S1x4096x512 .f32) (harg5 : arg5.IsWhole) (arg6 : Memref sig .tc .vmem S1024x512 .f32) (harg6 : arg6.IsWhole) (arg7 : Memref sig .tc .vmem S1x6x512 .f32) (harg7 : arg7.IsWhole) (arg8 : Memref sig .tc .vmem S1x6x512 .f32) (harg8 : arg8.IsWhole) (arg9 : Memref sig .tc .vmem S1024x512 .f32) (harg9 : arg9.IsWhole) (arg10 : Memref sig .tc .vmem S4096x512 .bf16) (harg10 : arg10.IsWhole) (hc0 : cond0_0 i)
    (x0 : Vec Ideal S1024x1536 .bf16) (x1 : Vec Ideal S1024x1536 .bf16) (x2 : Vec Ideal S1024x1024 .bf16) (x3 : Vec Ideal S1x4096x512 .f32) (x4 : Vec Ideal S1024x512 .f32) (x5 : Vec Ideal S1x6x512 .f32) (x6 : Vec Ideal S1x6x512 .f32) :
    out0_A_7 (F := Ideal) c i arg2 harg2 arg3 harg3 arg4 harg4 arg5 harg5 arg6 harg6 arg7 harg7 arg8 harg8 arg9 harg9 arg10 harg10 hc0 x0 x1 x2 x3 x4 x5 x6 = B x0 x1 x2 x4 x5 x6 (W x3) := by
  have e : (kernelRun0_A (F := Ideal) c i arg2 harg2 arg3 harg3 arg4 harg4 arg5 harg5 arg6 harg6 arg7 harg7 arg8 harg8 arg9 harg9 arg10 harg10 hc0 x0 x1 x2 x3 x4 x5 x6).1
      = [⟨(Rect.unit (s := S1024x512) ![0, 0] S1024x512.size inb_S1024x512_S1024x512_0_0), k0_pay2 (F := Ideal) (View.readAt (Elt Ideal) arg2.view (Rect.unit (s := S1024x1536) ![0, 0] S1024x1536.size inb_S1024x1536_S1024x1536_0_0).toLoadRect (harg2.unread x0)) (arg10.view.readCov (pb_k0_t1 (F := Ideal) Variants.none c none i arg2 harg2 arg3 harg3 arg4 harg4 arg5 harg5 arg6 harg6 arg7 harg7 arg8 harg8 arg9 harg9 arg10 harg10 hc0 (harg5.unread x3) k0_t1_loop.trips) (Rect.unit (s := S4096x512) ![0, 0] S1536x512.size inb_S4096x512_S1536x512_0_0).toLoadRect) (View.readAt (Elt Ideal) arg3.view (Rect.unit (s := S1024x1536) ![0, 0] S1024x1536.size inb_S1024x1536_S1024x1536_0_0).toLoadRect (harg3.unread x1)) (arg10.view.readCov (pb_k0_t1 (F := Ideal) Variants.none c none i arg2 harg2 arg3 harg3 arg4 harg4 arg5 harg5 arg6 harg6 arg7 harg7 arg8 harg8 arg9 harg9 arg10 harg10 hc0 (harg5.unread x3) k0_t1_loop.trips) (Rect.unit (s := S4096x512) ![1536, 0] S1536x512.size inb_S4096x512_S1536x512_1536_0).toLoadRect) (View.readAt (Elt Ideal) arg4.view (Rect.unit (s := S1024x1024) ![0, 0] S1024x1024.size inb_S1024x1024_S1024x1024_0_0).toLoadRect (harg4.unread x2)) (arg10.view.readCov (pb_k0_t1 (F := Ideal) Variants.none c none i arg2 harg2 arg3 harg3 arg4 harg4 arg5 harg5 arg6 harg6 arg7 harg7 arg8 harg8 arg9 harg9 arg10 harg10 hc0 (harg5.unread x3) k0_t1_loop.trips) (Rect.unit (s := S4096x512) ![3072, 0] S1024x512.size inb_S4096x512_S1024x512_3072_0).toLoadRect) (View.readAt (Elt Ideal) arg6.view (Rect.unit (s := S1024x512) ![0, 0] S1024x512.size inb_S1024x512_S1024x512_0_0).toLoadRect (harg6.unread x4)) (View.readAt (Elt Ideal) arg7.view (Rect.unit (s := S1x6x512) ![0, 2, 0] S1x1x512.size inb_S1x6x512_S1x1x512_0_2_0).toLoadRect (harg7.unread x5)) (View.readAt (Elt Ideal) arg8.view (Rect.unit (s := S1x6x512) ![0, 2, 0] S1x1x512.size inb_S1x6x512_S1x1x512_0_2_0).toLoadRect (harg8.unread x6))⟩] := by
    unfold kernelRun0_A; dsimp only
  unfold out0_A_7
  rw [e, block]
  unfold View.readCov
  simp only [View.readAt_eq_ld, harg2.read_unread, harg3.read_unread, harg4.read_unread, harg6.read_unread, harg7.read_unread, harg8.read_unread, filled, harg5.read_unread]
  rfl

/-- at the others it is computed from what the scratch holds. -/
theorem out_B (c : Dev nD) (i : grid0.Coords) (arg2 : Memref sig .tc .vmem S1024x1536 .bf16) (harg2 : arg2.IsWhole) (arg3 : Memref sig .tc .vmem S1024x1536 .bf16) (harg3 : arg3.IsWhole) (arg4 : Memref sig .tc .vmem S1024x1024 .bf16) (harg4 : arg4.IsWhole) (arg5 : Memref sig .tc .vmem S1x4096x512 .f32) (harg5 : arg5.IsWhole) (arg6 : Memref sig .tc .vmem S1024x512 .f32) (harg6 : arg6.IsWhole) (arg7 : Memref sig .tc .vmem S1x6x512 .f32) (harg7 : arg7.IsWhole) (arg8 : Memref sig .tc .vmem S1x6x512 .f32) (harg8 : arg8.IsWhole) (arg9 : Memref sig .tc .vmem S1024x512 .f32) (harg9 : arg9.IsWhole) (arg10 : Memref sig .tc .vmem S4096x512 .bf16) (harg10 : arg10.IsWhole) (hc0 : ¬cond0_0 i)
    (x0 : Vec Ideal S1024x1536 .bf16) (x1 : Vec Ideal S1024x1536 .bf16) (x2 : Vec Ideal S1024x1024 .bf16) (x3 : Vec Ideal S1x4096x512 .f32) (x4 : Vec Ideal S1024x512 .f32) (x5 : Vec Ideal S1x6x512 .f32) (x6 : Vec Ideal S1x6x512 .f32) (xs : Vec Ideal S4096x512 .bf16) :
    out0_B_7 (F := Ideal) c i arg2 harg2 arg3 harg3 arg4 harg4 arg5 harg5 arg6 harg6 arg7 harg7 arg8 harg8 arg9 harg9 arg10 harg10 hc0 x0 x1 x2 x3 x4 x5 x6 xs = B x0 x1 x2 x4 x5 x6 xs := by
  have e : (kernelRun0_B (F := Ideal) c i arg2 harg2 arg3 harg3 arg4 harg4 arg5 harg5 arg6 harg6 arg7 harg7 arg8 harg8 arg9 harg9 arg10 harg10 hc0 x0 x1 x2 x3 x4 x5 x6 xs).1
      = [⟨(Rect.unit (s := S1024x512) ![0, 0] S1024x512.size inb_S1024x512_S1024x512_0_0), k0_pay2 (F := Ideal) (View.readAt (Elt Ideal) arg2.view (Rect.unit (s := S1024x1536) ![0, 0] S1024x1536.size inb_S1024x1536_S1024x1536_0_0).toLoadRect (harg2.unread x0)) (View.readAt (Elt Ideal) arg10.view (Rect.unit (s := S4096x512) ![0, 0] S1536x512.size inb_S4096x512_S1536x512_0_0).toLoadRect (harg10.unread xs)) (View.readAt (Elt Ideal) arg3.view (Rect.unit (s := S1024x1536) ![0, 0] S1024x1536.size inb_S1024x1536_S1024x1536_0_0).toLoadRect (harg3.unread x1)) (View.readAt (Elt Ideal) arg10.view (Rect.unit (s := S4096x512) ![1536, 0] S1536x512.size inb_S4096x512_S1536x512_1536_0).toLoadRect (harg10.unread xs)) (View.readAt (Elt Ideal) arg4.view (Rect.unit (s := S1024x1024) ![0, 0] S1024x1024.size inb_S1024x1024_S1024x1024_0_0).toLoadRect (harg4.unread x2)) (View.readAt (Elt Ideal) arg10.view (Rect.unit (s := S4096x512) ![3072, 0] S1024x512.size inb_S4096x512_S1024x512_3072_0).toLoadRect (harg10.unread xs)) (View.readAt (Elt Ideal) arg6.view (Rect.unit (s := S1024x512) ![0, 0] S1024x512.size inb_S1024x512_S1024x512_0_0).toLoadRect (harg6.unread x4)) (View.readAt (Elt Ideal) arg7.view (Rect.unit (s := S1x6x512) ![0, 2, 0] S1x1x512.size inb_S1x6x512_S1x1x512_0_2_0).toLoadRect (harg7.unread x5)) (View.readAt (Elt Ideal) arg8.view (Rect.unit (s := S1x6x512) ![0, 2, 0] S1x1x512.size inb_S1x6x512_S1x1x512_0_2_0).toLoadRect (harg8.unread x6))⟩] := by
    unfold kernelRun0_B; dsimp only
  unfold out0_B_7
  rw [e, block]
  simp only [View.readAt_eq_ld, harg2.read_unread, harg3.read_unread, harg4.read_unread, harg6.read_unread, harg7.read_unread, harg8.read_unread, harg10.read_unread]
  rfl

/-- What the loads read, entry by entry. -/
theorem ld0_at (x : Vec Ideal S1024x1536 .bf16) (a : Fin 1024) (b : Fin 1536) :
    View.ld (Val := Elt Ideal) (e' := .bf16) x (Rect.unit (s := S1024x1536) ![0, 0] S1024x1536.size inb_S1024x1536_S1024x1536_0_0) (ix2 a b) = x (ix2 a b) := by
  refine congrArg x (funext (Fin.forall_fin_two.mpr ⟨Fin.ext ?_, Fin.ext ?_⟩))
  · exact (Rect.idx_unit_val (s := S1024x1536) ![0, 0] S1024x1536.size inb_S1024x1536_S1024x1536_0_0 (ix2 a b) 0).trans (Nat.zero_add _)
  · exact (Rect.idx_unit_val (s := S1024x1536) ![0, 0] S1024x1536.size inb_S1024x1536_S1024x1536_0_0 (ix2 a b) 1).trans (Nat.zero_add _)
theorem ld1_at (x : Vec Ideal S4096x512 .bf16) (a : Fin 1536) (b : Fin 512) :
    View.ld (Val := Elt Ideal) (e' := .bf16) x (Rect.unit (s := S4096x512) ![0, 0] S1536x512.size inb_S4096x512_S1536x512_0_0) (ix2 a b) = x (ix2 ⟨a.val, by omega⟩ b) := by
  refine congrArg x (funext (Fin.forall_fin_two.mpr ⟨Fin.ext ?_, Fin.ext ?_⟩))
  · exact (Rect.idx_unit_val (s := S4096x512) ![0, 0] S1536x512.size inb_S4096x512_S1536x512_0_0 (ix2 a b) 0).trans (Nat.zero_add _)
  · exact (Rect.idx_unit_val (s := S4096x512) ![0, 0] S1536x512.size inb_S4096x512_S1536x512_0_0 (ix2 a b) 1).trans (Nat.zero_add _)
theorem ld2_at (x : Vec Ideal S4096x512 .bf16) (a : Fin 1536) (b : Fin 512) :
    View.ld (Val := Elt Ideal) (e' := .bf16) x (Rect.unit (s := S4096x512) ![1536, 0] S1536x512.size inb_S4096x512_S1536x512_1536_0) (ix2 a b) = x (ix2 ⟨1536 + a.val, by omega⟩ b) := by
  refine congrArg x (funext (Fin.forall_fin_two.mpr ⟨Fin.ext ?_, Fin.ext ?_⟩))
  · exact (Rect.idx_unit_val (s := S4096x512) ![1536, 0] S1536x512.size inb_S4096x512_S1536x512_1536_0 (ix2 a b) 0)
  · exact (Rect.idx_unit_val (s := S4096x512) ![1536, 0] S1536x512.size inb_S4096x512_S1536x512_1536_0 (ix2 a b) 1).trans (Nat.zero_add _)
theorem ld3_at (x : Vec Ideal S1024x1024 .bf16) (a : Fin 1024) (b : Fin 1024) :
    View.ld (Val := Elt Ideal) (e' := .bf16) x (Rect.unit (s := S1024x1024) ![0, 0] S1024x1024.size inb_S1024x1024_S1024x1024_0_0) (ix2 a b) = x (ix2 a b) := by
  refine congrArg x (funext (Fin.forall_fin_two.mpr ⟨Fin.ext ?_, Fin.ext ?_⟩))
  · exact (Rect.idx_unit_val (s := S1024x1024) ![0, 0] S1024x1024.size inb_S1024x1024_S1024x1024_0_0 (ix2 a b) 0).trans (Nat.zero_add _)
  · exact (Rect.idx_unit_val (s := S1024x1024) ![0, 0] S1024x1024.size inb_S1024x1024_S1024x1024_0_0 (ix2 a b) 1).trans (Nat.zero_add _)
theorem ld4_at (x : Vec Ideal S4096x512 .bf16) (a : Fin 1024) (b : Fin 512) :
    View.ld (Val := Elt Ideal) (e' := .bf16) x (Rect.unit (s := S4096x512) ![3072, 0] S1024x512.size inb_S4096x512_S1024x512_3072_0) (ix2 a b) = x (ix2 ⟨3072 + a.val, by omega⟩ b) := by
  refine congrArg x (funext (Fin.forall_fin_two.mpr ⟨Fin.ext ?_, Fin.ext ?_⟩))
  · exact (Rect.idx_unit_val (s := S4096x512) ![3072, 0] S1024x512.size inb_S4096x512_S1024x512_3072_0 (ix2 a b) 0)
  · exact (Rect.idx_unit_val (s := S4096x512) ![3072, 0] S1024x512.size inb_S4096x512_S1024x512_3072_0 (ix2 a b) 1).trans (Nat.zero_add _)
theorem ld5_at (x : Vec Ideal S1024x512 .f32) (a : Fin 1024) (b : Fin 512) :
    View.ld (Val := Elt Ideal) (e' := .f32) x (Rect.unit (s := S1024x512) ![0, 0] S1024x512.size inb_S1024x512_S1024x512_0_0) (ix2 a b) = x (ix2 a b) := by
  refine congrArg x (funext (Fin.forall_fin_two.mpr ⟨Fin.ext ?_, Fin.ext ?_⟩))
  · exact (Rect.idx_unit_val (s := S1024x512) ![0, 0] S1024x512.size inb_S1024x512_S1024x512_0_0 (ix2 a b) 0).trans (Nat.zero_add _)
  · exact (Rect.idx_unit_val (s := S1024x512) ![0, 0] S1024x512.size inb_S1024x512_S1024x512_0_0 (ix2 a b) 1).trans (Nat.zero_add _)
theorem ld6_at (x : Vec Ideal S1x6x512 .f32) (b : Fin 512) :
    View.ld (Val := Elt Ideal) (e' := .f32) x (Rect.unit (s := S1x6x512) ![0, 2, 0] S1x1x512.size inb_S1x6x512_S1x1x512_0_2_0) (ix3 0 0 b) = x (ix3 0 2 b) := by
  refine congrArg x (funext fun a => Fin.ext ?_)
  match a with
  | ⟨0, _⟩ => exact Rect.idx_unit_val (s := S1x6x512) ![0, 2, 0] S1x1x512.size inb_S1x6x512_S1x1x512_0_2_0 (ix3 0 0 b) 0
  | ⟨1, _⟩ => exact Rect.idx_unit_val (s := S1x6x512) ![0, 2, 0] S1x1x512.size inb_S1x6x512_S1x1x512_0_2_0 (ix3 0 0 b) 1
  | ⟨2, _⟩ => exact (Rect.idx_unit_val (s := S1x6x512) ![0, 2, 0] S1x1x512.size inb_S1x6x512_S1x1x512_0_2_0 (ix3 0 0 b) 2).trans (Nat.zero_add _)

/-- The stored value, entry by entry. -/
theorem pay2_at (v3 : Vec Ideal S1024x1536 .bf16) (v4 : Vec Ideal S1536x512 .bf16) (v6 : Vec Ideal S1024x1536 .bf16) (v7 : Vec Ideal S1536x512 .bf16) (v10 : Vec Ideal S1024x1024 .bf16) (v11 : Vec Ideal S1024x512 .bf16)
    (v14 : Vec Ideal S1024x512 .f32) (v15 v17 : Vec Ideal S1x1x512 .f32) (r : Fin 1024) (n : Fin 512) :
    k0_pay2 (F := Ideal) v3 v4 v6 v7 v10 v11 v14 v15 v17 (ix2 r n)
      = v14 (ix2 r n) + (v15 (ix3 0 0 n) + v17 (ix3 0 0 n)) * ((∑ k : Fin 1536, v3 (ix2 r k) * v4 (ix2 k n)) + (∑ k : Fin 1536, v6 (ix2 r k) * v7 (ix2 k n)) + (∑ k : Fin 1024, v10 (ix2 r k) * v11 (ix2 k n))) := by
  pointwise [k0_pay2]

theorem B_at (x0 : Vec Ideal S1024x1536 .bf16) (x1 : Vec Ideal S1024x1536 .bf16) (x2 : Vec Ideal S1024x1024 .bf16) (x4 : Vec Ideal S1024x512 .f32) (x5 : Vec Ideal S1x6x512 .f32) (x6 : Vec Ideal S1x6x512 .f32) (w : Vec Ideal S4096x512 .bf16) (r : Fin 1024) (n : Fin 512) :
    B x0 x1 x2 x4 x5 x6 w (ix2 r n)
      = x4 (ix2 r n) + (x5 (ix3 0 2 n) + x6 (ix3 0 2 n)) * ((∑ k : Fin 1536, x0 (ix2 r k) * w (ix2 ⟨k.val, by omega⟩ n)) + (∑ k : Fin 1536, x1 (ix2 r k) * w (ix2 ⟨1536 + k.val, by omega⟩ n)) + (∑ k : Fin 1024, x2 (ix2 r k) * w (ix2 ⟨3072 + k.val, by omega⟩ n))) := by
  unfold B
  rw [pay2_at]
  exact congrArg₂ (fun (a b : Ideal .f32) => a + b) (ld5_at _ _ _) (congrArg₂ (fun (a b : Ideal .f32) => a * b) (congrArg₂ (fun (a b : Ideal .f32) => a + b) (ld6_at _ _) (ld6_at _ _))
    (congrArg₂ (fun (a b : Ideal .f32) => a + b) (congrArg₂ (fun (a b : Ideal .f32) => a + b) (Finset.sum_congr rfl fun k _ => congrArg₂ (fun (a b : Ideal .f32) => a * b) (ld0_at _ _ _) (ld1_at _ _ _)) (Finset.sum_congr rfl fun k _ => congrArg₂ (fun (a b : Ideal .f32) => a * b) (ld0_at _ _ _) (ld2_at _ _ _)))
      (Finset.sum_congr rfl fun k _ => congrArg₂ (fun (a b : Ideal .f32) => a * b) (ld3_at _ _ _) (ld4_at _ _ _))))

end Cert.OutProjIdeal.Blocks
end
-- ==== Proof.OutProj.Final.lean ====
/-
What the kernel of the output projection leaves in its result array, entry by entry.
-/
module

public import proofs.«01_k».proof.Proof.OutProj.Blocks

@[expose] public section
set_option maxRecDepth 16384
noncomputable section
namespace Cert.OutProjIdeal.Final
open Idealize.ShloMosaic Idealize.ShloMosaic.TcCoe Idealize.SL.Sem
open Cert.OutProjIdeal Cert.OutProjIdeal.Gen Cert.OutProjIdeal.Blocks

variable (m : (ℓ : Loc nD τ sig) → Buf (Elt Ideal) ℓ) (ρ : Dev nD → PrngReg)

theorem idx : ∀ t : Fin cfg0.N, win0_0.index t = ![t.val % 16, 0] ∧ win0_1.index t = ![t.val % 16, 0] ∧ win0_2.index t = ![t.val % 16, 0] ∧ win0_3.index t = ![0, 0, t.val / 16] ∧ win0_4.index t = ![t.val % 16, t.val / 16] ∧ win0_5.index t = ![t.val % 16 / 2, 0, t.val / 16] ∧ win0_6.index t = ![0, 0, t.val / 16] ∧ win0_7.index t = ![t.val % 16, t.val / 16] := (by decide +kernel : ∀ t : Fin grid0.N, _)

theorem lt_col (t : Fin cfg0.N) : t.val / 16 < 8 := by have := lt_of_lt_of_eq t.isLt N_0; omega

/-- The blocks at a point, read at an index. -/
theorem a0_at (c : Dev nD) (t : Fin cfg0.N) (r : Fin 1024) (k : Fin 1536) : (iblk m c 0 t : FVec Ideal S1024x1536 .bf16) (ix2 r k)
    = (m ((c : Thread nD τ).loc main_arg0) : FVec Ideal S16384x1536 .bf16) (ix2 ⟨t.val % 16 * 1024 + r.val, by omega⟩ k) := by
  rw [← V_main_arg0 m c]
  blk_ext [iblk, idx t]
theorem a1_at (c : Dev nD) (t : Fin cfg0.N) (r : Fin 1024) (k : Fin 1536) : (iblk m c 1 t : FVec Ideal S1024x1536 .bf16) (ix2 r k)
    = (m ((c : Thread nD τ).loc main_arg1) : FVec Ideal S16384x1536 .bf16) (ix2 ⟨t.val % 16 * 1024 + r.val, by omega⟩ k) := by
  rw [← V_main_arg1 m c]
  blk_ext [iblk, idx t]
theorem a2_at (c : Dev nD) (t : Fin cfg0.N) (r : Fin 1024) (k : Fin 1024) : (iblk m c 2 t : FVec Ideal S1024x1024 .bf16) (ix2 r k)
    = (m ((c : Thread nD τ).loc main_arg2) : FVec Ideal S16384x1024 .bf16) (ix2 ⟨t.val % 16 * 1024 + r.val, by omega⟩ k) := by
  rw [← V_main_arg2 m c]
  blk_ext [iblk, idx t]
theorem w_at (c : Dev nD) (t : Fin cfg0.N) (k : Fin 4096) (n : Fin 512) : (iblk m c 3 t : FVec Ideal S1x4096x512 .f32) (ix3 0 k n)
    = (m ((c : Thread nD τ).loc main_arg3) : FVec Ideal S2x4096x4096 .f32) (ix3 0 k ⟨t.val / 16 * 512 + n.val, by have := lt_col t; omega⟩) := by
  rw [← V_main_arg3 m c]
  blk_ext [iblk, idx t]
theorem x_at (c : Dev nD) (t : Fin cfg0.N) (r : Fin 1024) (n : Fin 512) : (iblk m c 4 t : FVec Ideal S1024x512 .f32) (ix2 r n)
    = (m ((c : Thread nD τ).loc main_arg4) : FVec Ideal S16384x4096 .f32) (ix2 ⟨t.val % 16 * 1024 + r.val, by omega⟩ ⟨t.val / 16 * 512 + n.val, by have := lt_col t; omega⟩) := by
  rw [← V_main_arg4 m c]
  blk_ext [iblk, idx t]
theorem md_at (c : Dev nD) (t : Fin cfg0.N) (n : Fin 512) : (iblk m c 5 t : FVec Ideal S1x6x512 .f32) (ix3 0 2 n)
    = (m ((c : Thread nD τ).loc main_arg5) : FVec Ideal S8x6x4096 .f32) (ix3 ⟨t.val % 16 / 2, by omega⟩ 2 ⟨t.val / 16 * 512 + n.val, by have := lt_col t; omega⟩) := by
  rw [← V_main_arg5 m c]
  blk_ext [iblk, idx t]
theorem ad_at (c : Dev nD) (t : Fin cfg0.N) (n : Fin 512) : (iblk m c 6 t : FVec Ideal S1x6x512 .f32) (ix3 0 2 n)
    = (m ((c : Thread nD τ).loc main_arg6) : FVec Ideal S2x6x4096 .f32) (ix3 0 2 ⟨t.val / 16 * 512 + n.val, by have := lt_col t; omega⟩) := by
  rw [← V_main_arg6 m c]
  blk_ext [iblk, idx t]

/-- After each point the scratch holds the weights of the point's column of the grid. -/
theorem scratch (c : Dev nD) : ∀ n (hn : n < cfg0.N) (k : Fin 4096) (e : Fin 512), (outsAt0 (F := Ideal) m c n hn).2 (ix2 k e)
    = (m ((c : Thread nD τ).loc main_arg3) : FVec Ideal S2x4096x4096 .f32) (ix3 0 k ⟨n / 16 * 512 + e.val, by have := lt_col ⟨n, hn⟩; dsimp only at this; omega⟩) := by
  intro n
  induction n with
  | zero =>
    intro hn k e
    rw [outsAt0_A m c ⟨0, hn⟩ (Nat.zero_mod _)]
    dsimp only
    rw [scratch_A]
    exact w_at m c ⟨0, hn⟩ k e
  | succ n ih =>
    intro hn k e
    by_cases h : (n + 1) % 16 = 0
    · rw [outsAt0_A m c ⟨n + 1, hn⟩ h]
      dsimp only
      rw [scratch_A]
      exact w_at m c ⟨n + 1, hn⟩ k e
    · rw [outsAt0_B m c ⟨n + 1, hn⟩ h]
      dsimp only
      unfold sout0_B_0
      refine (ih (Nat.lt_of_succ_lt hn) k e).trans (congrArg _ ?_)
      have h2 : n / 16 = (n + 1) / 16 := by omega
      simp only [h2]

/-- One entry, at row `r` of batch `b` and column `n`. -/
def entry (ya yb : FVec Ideal S16384x1536 .bf16) (yc : FVec Ideal S16384x1024 .bf16) (w : FVec Ideal S2x4096x4096 .f32) (x : FVec Ideal S16384x4096 .f32) (md : FVec Ideal S8x6x4096 .f32) (ad : FVec Ideal S2x6x4096 .f32) (b : Fin 8) (r : Fin 16384) (n : Fin 4096) : Ideal .f32 :=
  x (ix2 r n) + (md (ix3 b 2 n) + ad (ix3 0 2 n))
    * ((∑ k : Fin 1536, ya (ix2 r k) * w (ix3 0 ⟨k.val, by omega⟩ n)) + (∑ k : Fin 1536, yb (ix2 r k) * w (ix3 0 ⟨1536 + k.val, by omega⟩ n)) + (∑ k : Fin 1024, yc (ix2 r k) * w (ix3 0 ⟨3072 + k.val, by omega⟩ n)))

/-- The plain output projection: the residual plus the gate times the row of the three mixers, side by side, times a column of the first layer's weights. -/
def res (ya yb : FVec Ideal S16384x1536 .bf16) (yc : FVec Ideal S16384x1024 .bf16) (w : FVec Ideal S2x4096x4096 .f32) (x : FVec Ideal S16384x4096 .f32) (md : FVec Ideal S8x6x4096 .f32) (ad : FVec Ideal S2x6x4096 .f32) : FVec Ideal S16384x4096 .f32 := fun y =>
  entry ya yb yc w x md ad ⟨(y 0).val / 2048, by have h0 := (y 0).isLt; change (y 0).val < 16384 at h0; omega⟩ (y 0) (y 1)

theorem res_at (ya yb : FVec Ideal S16384x1536 .bf16) (yc : FVec Ideal S16384x1024 .bf16) (w : FVec Ideal S2x4096x4096 .f32) (x : FVec Ideal S16384x4096 .f32) (md : FVec Ideal S8x6x4096 .f32) (ad : FVec Ideal S2x6x4096 .f32) (b : Fin 8) (r : Fin 16384) (n : Fin 4096) (h : r.val / 2048 = b.val) : res ya yb yc w x md ad (ix2 r n) = entry ya yb yc w x md ad b r n := by
  have e : ∀ hh, (⟨r.val / 2048, hh⟩ : Fin 8) = b := fun _ => Fin.ext h
  exact congrArg (fun b => entry ya yb yc w x md ad b r n) (e _)

/-- The block of the result at a point. -/
theorem point (c : Dev nD) (t : Fin cfg0.N) (r : Fin 1024) (n : Fin 512) :
    (outsAt0 (F := Ideal) m c t.val t.isLt).1 (ix2 r n)
      = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨t.val % 16 * 1024 + r.val, by omega⟩ ⟨t.val / 16 * 512 + n.val, by have := lt_col t; omega⟩) := by
  rw [res_at _ _ _ _ _ _ _ ⟨t.val % 16 / 2, by omega⟩ _ _ (by dsimp only; omega)]
  unfold entry
  by_cases h : t.val % 16 = 0
  · rw [outsAt0_A m c t h]
    dsimp only
    rw [out_A, B_at]
    exact congrArg₂ (fun (a b : Ideal .f32) => a + b) (x_at m c t r n) (congrArg₂ (fun (a b : Ideal .f32) => a * b) (congrArg₂ (fun (a b : Ideal .f32) => a + b) (md_at m c t n) (ad_at m c t n))
      (congrArg₂ (fun (a b : Ideal .f32) => a + b) (congrArg₂ (fun (a b : Ideal .f32) => a + b) (Finset.sum_congr rfl fun k _ => congrArg₂ (fun (a b : Ideal .f32) => a * b) (a0_at m c t r k) (w_at m c t _ n)) (Finset.sum_congr rfl fun k _ => congrArg₂ (fun (a b : Ideal .f32) => a * b) (a1_at m c t r k) (w_at m c t _ n)))
        (Finset.sum_congr rfl fun k _ => congrArg₂ (fun (a b : Ideal .f32) => a * b) (a2_at m c t r k) (w_at m c t _ n))))
  · have hp : 0 < t.val := Nat.pos_of_ne_zero fun h0 => h (by rw [h0])
    have h2 : (t.val - 1) / 16 = t.val / 16 := by omega
    have hs : ∀ k : Fin 4096, (outsAt0 (F := Ideal) m c (t.val - 1) (Nat.lt_of_le_of_lt (Nat.sub_le _ _) t.isLt)).2 (ix2 k n)
        = (m ((c : Thread nD τ).loc main_arg3) : FVec Ideal S2x4096x4096 .f32) (ix3 0 k ⟨t.val / 16 * 512 + n.val, by have := lt_col t; omega⟩) := fun k =>
      (scratch m c _ _ k n).trans (congrArg (m ((c : Thread nD τ).loc main_arg3) : FVec Ideal S2x4096x4096 .f32) (congrArg (ix3 0 k) (Fin.ext (congrArg (fun a => a * 512 + n.val) h2))))
    rw [outsAt0_B m c t h]
    dsimp only
    rw [out_B, B_at]
    exact congrArg₂ (fun (a b : Ideal .f32) => a + b) (x_at m c t r n) (congrArg₂ (fun (a b : Ideal .f32) => a * b) (congrArg₂ (fun (a b : Ideal .f32) => a + b) (md_at m c t n) (ad_at m c t n))
      (congrArg₂ (fun (a b : Ideal .f32) => a + b) (congrArg₂ (fun (a b : Ideal .f32) => a + b) (Finset.sum_congr rfl fun k _ => congrArg₂ (fun (a b : Ideal .f32) => a * b) (a0_at m c t r k) (hs _)) (Finset.sum_congr rfl fun k _ => congrArg₂ (fun (a b : Ideal .f32) => a * b) (a1_at m c t r k) (hs _)))
        (Finset.sum_congr rfl fun k _ => congrArg₂ (fun (a b : Ideal .f32) => a * b) (a2_at m c t r k) (hs _))))

/-- The kernel's result array. -/
theorem final (c : Dev nD) : (dats m 0 c).arrAt 7 cfg0.N = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  idx_vars y
  refine (point m c t y0 y1).trans (congrArg (res _ _ _ _ _ _ _) ?_)
  blk_ext [idx t]

/-- The run: the result array, and the arguments as they were. -/
theorem run : θ_run defs (onTc (τ := τ) (main (F := Ideal))) ⟨m, fun _ => 0, ρ⟩ fun r => ∀ c : Dev nD,
      r.2.mem ((c : Thread nD τ).loc main_v0) = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.OutProjIdeal.Value.run_blocks m ρ)

end Cert.OutProjIdeal.Final
end
-- ==== Proof.OutProj.Plain.lean ====
/-
The reference of the output projection entry by entry.
-/
module

public import proofs.«01_k».proof.Proof.OutProj.Final
public import proofs.«01_k».proof.Proof.Gen.OutProjRefIdeal.Run

@[expose] public section
set_option maxRecDepth 16384
noncomputable section
namespace Cert.OutProjRefIdeal.Plain
open Idealize.ShloMosaic Idealize.ShloMosaic.TcCoe
open Cert.OutProjRefIdeal Cert.OutProjRefIdeal.Gen

/-- The product at a row and a column. -/
theorem dot_at (x : FVec Ideal S8x2048x4096 .f32) (w : FVec Ideal S4096x4096 .f32) (b : Fin 8) (s : Fin 2048) (n : Fin 4096) :
    (Host.dotGeneral dot_S8x2048x4096_S4096x4096_S8x2048x4096_2_0_01_1_n_n none x w : FVec Ideal S8x2048x4096 .f32) (ix3 b s n)
      = ∑ k : Fin 4096, x (ix3 b s k) * w (ix2 k n) := by
  pointwise

/-- The gate of a batch. -/
theorem gate_at (md : FVec Ideal S8x6x4096 .f32) (ad : FVec Ideal S2x6x4096 .f32) (b : Fin 8) (s : Fin 2048) (n : Fin 4096) :
    ((broadcastInDim S8x2048x4096 ![0, 1, 2] bcast_S8x1x4096_S8x2048x4096_0_1_2 (broadcastInDim S8x1x4096 ![0, 2] bcast_S8x4096_S8x1x4096_0_2 (shapeCast _ (extractStridedSlice S8x1x4096 ![0, 2, 0] (addf md (broadcastInDim S8x6x4096 ![0, 1, 2] bcast_S1x6x4096_S8x6x4096_0_1_2 (broadcastInDim S1x6x4096 ![1, 2] bcast_S6x4096_S1x6x4096_1_2 (shapeCast _ (extractStridedSlice S1x6x4096 ![0, 0, 0] ad slices_S2x6x4096_S1x6x4096_0_0_0) shapeCasts_S1x6x4096_S6x4096)))) slices_S8x6x4096_S8x1x4096_0_2_0) shapeCasts_S8x1x4096_S8x4096))) : FVec Ideal S8x2048x4096 .f32) (ix3 b s n) = md (ix3 b 2 n) + ad (ix3 0 2 n) := by
  pointwise

/-- A column of the weights. -/
theorem col_at (w : FVec Ideal S2x4096x4096 .f32) (k : Fin 4096) (n : Fin 4096) :
    ((shapeCast _ (extractStridedSlice S1x4096x4096 ![0, 0, 0] w slices_S2x4096x4096_S1x4096x4096_0_0_0) shapeCasts_S1x4096x4096_S4096x4096) : FVec Ideal S4096x4096 .f32) (ix2 k n) = w (ix3 0 k n) := by
  pointwise

/-- The three mixers side by side, by the third they are read from. -/
theorem side0 (ya yb : FVec Ideal S16384x1536 .bf16) (yc : FVec Ideal S16384x1024 .bf16) (b : Fin 8) (s : Fin 2048) (r : Fin 16384) (hr : r.val = b.val * 2048 + s.val) (k : Fin 1536) :
    ((shapeCast _ (extf .f32 ((concatenate S16384x4096 1 [⟨S16384x1536, (ya : (⟨S16384x1536, .bf16⟩ : BufTy).Contents (Elt Ideal))⟩, ⟨S16384x1536, (yb : (⟨S16384x1536, .bf16⟩ : BufTy).Contents (Elt Ideal))⟩, ⟨S16384x1024, (yc : (⟨S16384x1024, .bf16⟩ : BufTy).Contents (Elt Ideal))⟩] concatenates_S16384x1536_S16384x1536_S16384x1024_S16384x4096_d1 : (⟨S16384x4096, .bf16⟩ : BufTy).Contents (Elt Ideal))) bitsLt_bf16_f32) shapeCasts_S16384x4096_S8x2048x4096) : FVec Ideal S8x2048x4096 .f32) (ix3 b s ⟨k.val, by omega⟩) = ya (ix2 r k) := by
  rw [show r = ⟨b.val * 2048 + s.val, by omega⟩ from Fin.ext hr]
  pointwise
theorem side1 (ya yb : FVec Ideal S16384x1536 .bf16) (yc : FVec Ideal S16384x1024 .bf16) (b : Fin 8) (s : Fin 2048) (r : Fin 16384) (hr : r.val = b.val * 2048 + s.val) (k : Fin 1536) :
    ((shapeCast _ (extf .f32 ((concatenate S16384x4096 1 [⟨S16384x1536, (ya : (⟨S16384x1536, .bf16⟩ : BufTy).Contents (Elt Ideal))⟩, ⟨S16384x1536, (yb : (⟨S16384x1536, .bf16⟩ : BufTy).Contents (Elt Ideal))⟩, ⟨S16384x1024, (yc : (⟨S16384x1024, .bf16⟩ : BufTy).Contents (Elt Ideal))⟩] concatenates_S16384x1536_S16384x1536_S16384x1024_S16384x4096_d1 : (⟨S16384x4096, .bf16⟩ : BufTy).Contents (Elt Ideal))) bitsLt_bf16_f32) shapeCasts_S16384x4096_S8x2048x4096) : FVec Ideal S8x2048x4096 .f32) (ix3 b s ⟨1536 + k.val, by omega⟩) = yb (ix2 r k) := by
  rw [show r = ⟨b.val * 2048 + s.val, by omega⟩ from Fin.ext hr]
  pointwise
theorem side2 (ya yb : FVec Ideal S16384x1536 .bf16) (yc : FVec Ideal S16384x1024 .bf16) (b : Fin 8) (s : Fin 2048) (r : Fin 16384) (hr : r.val = b.val * 2048 + s.val) (k : Fin 1024) :
    ((shapeCast _ (extf .f32 ((concatenate S16384x4096 1 [⟨S16384x1536, (ya : (⟨S16384x1536, .bf16⟩ : BufTy).Contents (Elt Ideal))⟩, ⟨S16384x1536, (yb : (⟨S16384x1536, .bf16⟩ : BufTy).Contents (Elt Ideal))⟩, ⟨S16384x1024, (yc : (⟨S16384x1024, .bf16⟩ : BufTy).Contents (Elt Ideal))⟩] concatenates_S16384x1536_S16384x1536_S16384x1024_S16384x4096_d1 : (⟨S16384x4096, .bf16⟩ : BufTy).Contents (Elt Ideal))) bitsLt_bf16_f32) shapeCasts_S16384x4096_S8x2048x4096) : FVec Ideal S8x2048x4096 .f32) (ix3 b s ⟨3072 + k.val, by omega⟩) = yc (ix2 r k) := by
  rw [show r = ⟨b.val * 2048 + s.val, by omega⟩ from Fin.ext hr]
  pointwise
  rw [dif_neg (by omega), dif_neg (by omega)]
  exact congrArg yc (congrArg (ix2 _) (Fin.ext (by dsimp only; omega)))

/-- A sum over the 4096 terms, third by third. -/
theorem sum_thirds (f : Fin 4096 → Ideal .f32) :
    ∑ k, f k = (∑ k : Fin 1536, f ⟨k.val, by omega⟩) + (∑ k : Fin 1536, f ⟨1536 + k.val, by omega⟩) + (∑ k : Fin 1024, f ⟨3072 + k.val, by omega⟩) := by
  have h := Fin.sum_univ_add (M := Ideal .f32) (a := 1536 + 1536) (b := 1024) f
  rw [Fin.sum_univ_add (M := Ideal .f32) (a := 1536) (b := 1536)] at h
  exact h

/-- A row of the result is a row of a batch. -/
theorem row_at (z : FVec Ideal S8x2048x4096 .f32) (r : Fin 16384) (n : Fin 4096) :
    (shapeCast _ z shapeCasts_S8x2048x4096_S16384x4096 : FVec Ideal S16384x4096 .f32) (ix2 r n) = z (ix3 ⟨r.val / 2048, by omega⟩ ⟨r.val % 2048, by omega⟩ n) := by
  pointwise
theorem resid_at (x : FVec Ideal S16384x4096 .f32) (r : Fin 16384) (n : Fin 4096) :
    (shapeCast _ x shapeCasts_S16384x4096_S8x2048x4096 : FVec Ideal S8x2048x4096 .f32) (ix3 ⟨r.val / 2048, by omega⟩ ⟨r.val % 2048, by omega⟩ n) = x (ix2 r n) := by
  pointwise

/-- The reference's term is the plain one. -/
theorem plain (ya yb : FVec Ideal S16384x1536 .bf16) (yc : FVec Ideal S16384x1024 .bf16) (w : FVec Ideal S2x4096x4096 .f32) (x : FVec Ideal S16384x4096 .f32) (md : FVec Ideal S8x6x4096 .f32) (ad : FVec Ideal S2x6x4096 .f32) :
    Cert.OutProjIdeal.Final.res ya yb yc w x md ad = shapeCast _ (addf (shapeCast _ x shapeCasts_S16384x4096_S8x2048x4096) (mulf (broadcastInDim S8x2048x4096 ![0, 1, 2] bcast_S8x1x4096_S8x2048x4096_0_1_2 (broadcastInDim S8x1x4096 ![0, 2] bcast_S8x4096_S8x1x4096_0_2 (shapeCast _ (extractStridedSlice S8x1x4096 ![0, 2, 0] (addf md (broadcastInDim S8x6x4096 ![0, 1, 2] bcast_S1x6x4096_S8x6x4096_0_1_2 (broadcastInDim S1x6x4096 ![1, 2] bcast_S6x4096_S1x6x4096_1_2 (shapeCast _ (extractStridedSlice S1x6x4096 ![0, 0, 0] ad slices_S2x6x4096_S1x6x4096_0_0_0) shapeCasts_S1x6x4096_S6x4096)))) slices_S8x6x4096_S8x1x4096_0_2_0) shapeCasts_S8x1x4096_S8x4096))) (Host.dotGeneral dot_S8x2048x4096_S4096x4096_S8x2048x4096_2_0_01_1_n_n none (shapeCast _ (extf .f32 ((concatenate S16384x4096 1 [⟨S16384x1536, (ya : (⟨S16384x1536, .bf16⟩ : BufTy).Contents (Elt Ideal))⟩, ⟨S16384x1536, (yb : (⟨S16384x1536, .bf16⟩ : BufTy).Contents (Elt Ideal))⟩, ⟨S16384x1024, (yc : (⟨S16384x1024, .bf16⟩ : BufTy).Contents (Elt Ideal))⟩] concatenates_S16384x1536_S16384x1536_S16384x1024_S16384x4096_d1 : (⟨S16384x4096, .bf16⟩ : BufTy).Contents (Elt Ideal))) bitsLt_bf16_f32) shapeCasts_S16384x4096_S8x2048x4096) (shapeCast _ (extractStridedSlice S1x4096x4096 ![0, 0, 0] w slices_S2x4096x4096_S1x4096x4096_0_0_0) shapeCasts_S1x4096x4096_S4096x4096)))) shapeCasts_S8x2048x4096_S16384x4096 := by
  funext y
  idx_vars y
  have hr : y0.val = (⟨y0.val / 2048, by omega⟩ : Fin 8).val * 2048 + (⟨y0.val % 2048, by omega⟩ : Fin 2048).val := by dsimp only; omega
  generalize hr' : y0 = r at *
  generalize hn' : y1 = n at *
  refine Eq.symm ((row_at _ r n).trans (Eq.trans ?_ (Cert.OutProjIdeal.Final.res_at ya yb yc w x md ad ⟨r.val / 2048, by omega⟩ r n rfl).symm))
  exact congrArg₂ (fun (a b : Ideal .f32) => a + b) (resid_at x r n) (congrArg₂ (fun (a b : Ideal .f32) => a * b) (gate_at md ad _ _ n) ((dot_at _ _ _ _ n).trans
    ((sum_thirds _).trans (congrArg₂ (fun (a b : Ideal .f32) => a + b) (congrArg₂ (fun (a b : Ideal .f32) => a + b) (Finset.sum_congr rfl fun k _ => congrArg₂ (fun (a b : Ideal .f32) => a * b) (side0 ya yb yc _ _ r hr k) (col_at w _ n)) (Finset.sum_congr rfl fun k _ => congrArg₂ (fun (a b : Ideal .f32) => a * b) (side1 ya yb yc _ _ r hr k) (col_at w _ n)))
      (Finset.sum_congr rfl fun k _ => congrArg₂ (fun (a b : Ideal .f32) => a * b) (side2 ya yb yc _ _ r hr k) (col_at w _ n))))))

end Cert.OutProjRefIdeal.Plain
end
-- ==== Proof.Down.Blocks.lean ====
/-
The body of the kernel of the channel mixer's last product (the first half of its terms): the scratch holds the block of weights,
rounded to the narrow format, and the output block is the residual plus the gated product.
-/
module

public import proofs.«01_k».proof.Proof.Gen.DownIdeal.Value
public import Idealize.ShloMosaic.Lib.Claim
public import Idealize.ShloMosaic.Lib.Pipeline.ValueKit

@[expose] public section
set_option maxRecDepth 16384
noncomputable section
namespace Cert.DownIdeal.Blocks
open Idealize.ShloMosaic Idealize.ShloMosaic.TcCoe Idealize.ShloMosaic.Tactic
open Cert.DownIdeal Cert.DownIdeal.Gen

/-- A buffer written by pieces that are all blocks of one array, and that together reach every index, holds that array. -/
theorem read_pieces {κ : Kind} {sp : Space} {s : Shape} {e : EltTy} (v : View sig κ sp s e)
    (f : v.ty.Contents (Elt Ideal)) (L : List (View.Piece (Elt Ideal) s e)) (G : s.Idx → Elt Ideal e)
    (h : ∀ p ∈ L, ∀ x : p.1.shape.Idx, p.2 x = G (p.1.emb x)) (cov : ∀ y, ∃ p ∈ L, y ∈ p.1.set) :
    v.read (Elt Ideal) (v.writes (Elt Ideal) f L) = G :=
  (View.read_writes_eq_canon v f L cov).trans (funext fun y => View.canon_apply_of_pieces G L h y (cov y))

/-- Every piece a counted loop has left comes from one of its trips, when each trip puts its own before the earlier ones. -/
theorem of_trips {α : Type} {N : ℕ} (pb : ℕ → List α) (T : Fin N → List α) (h0 : pb 0 = [])
    (hs : ∀ k : Fin N, pb (k.val + 1) = T k ++ pb k.val) (p : α) : ∀ n, n ≤ N → p ∈ pb n → ∃ k : Fin N, p ∈ T k
  | 0, _, hp => by rw [h0] at hp; exact absurd hp List.not_mem_nil
  | n + 1, hn, hp => by
    rw [hs ⟨n, hn⟩] at hp
    rcases List.mem_append.mp hp with hp | hp
    · exact ⟨_, hp⟩
    · exact of_trips pb T h0 hs p n (Nat.le_of_succ_le hn) hp

/-- The block of weights as the scratch holds it. -/
def W (x : FVec Ideal S1x5504x512 .f32) : FVec Ideal S5504x512 .bf16 := fun y => x (ix3 0 (y 0) (y 1))

/-- One trip rounds 128 rows of the weights. -/
theorem trip_rows (𝒱 : Variants) (c : Dev nD) (bd : Option 𝒱.V) (i : grid0.Coords) (arg2 : Memref sig .tc .vmem S512x5504 .bf16) (harg2 : arg2.IsWhole) (arg3 : Memref sig .tc .vmem S1x5504x512 .f32) (harg3 : arg3.IsWhole) (arg4 : Memref sig .tc .vmem S512x512 .f32) (harg4 : arg4.IsWhole) (arg5 : Memref sig .tc .vmem S1x6x512 .f32) (harg5 : arg5.IsWhole) (arg6 : Memref sig .tc .vmem S1x6x512 .f32) (harg6 : arg6.IsWhole) (arg7 : Memref sig .tc .vmem S512x512 .f32) (harg7 : arg7.IsWhole) (arg8 : Memref sig .tc .vmem S5504x512 .bf16) (harg8 : arg8.IsWhole) (h1 : k0_cond1 i = 1#1)
    (X : BufTy.Contents (Elt Ideal) arg3.view.ty) (k : Fin k0_t1_loop.trips) :
    (trip_k0_t1 (F := Ideal) 𝒱 c bd i arg2 harg2 arg3 harg3 arg4 harg4 arg5 harg5 arg6 harg6 arg7 harg7 arg8 harg8 h1 X k).1
      = [⟨Rect.unit (s := S5504x512) (k0_off2 k) S128x512.size (k0_off2_inb i k h1),
          k0_pay1 (View.readAt (Elt Ideal) arg3.view (Rect.unit (s := S1x5504x512) (k0_off1 k) S1x128x512.size (k0_off1_inb i k h1)).toLoadRect X)⟩] := by
  unfold trip_k0_t1; dsimp only

theorem pay1_at (x : FVec Ideal S1x128x512 .f32) (a : Fin 128) (b : Fin 512) : k0_pay1 (F := Ideal) x (ix2 a b) = x (ix3 0 a b) := by
  pointwise [k0_pay1]

/-- After the loop the scratch holds the rounded weights. -/
theorem filled (𝒱 : Variants) (c : Dev nD) (bd : Option 𝒱.V) (i : grid0.Coords) (arg2 : Memref sig .tc .vmem S512x5504 .bf16) (harg2 : arg2.IsWhole) (arg3 : Memref sig .tc .vmem S1x5504x512 .f32) (harg3 : arg3.IsWhole) (arg4 : Memref sig .tc .vmem S512x512 .f32) (harg4 : arg4.IsWhole) (arg5 : Memref sig .tc .vmem S1x6x512 .f32) (harg5 : arg5.IsWhole) (arg6 : Memref sig .tc .vmem S1x6x512 .f32) (harg6 : arg6.IsWhole) (arg7 : Memref sig .tc .vmem S512x512 .f32) (harg7 : arg7.IsWhole) (arg8 : Memref sig .tc .vmem S5504x512 .bf16) (harg8 : arg8.IsWhole) (h1 : k0_cond1 i = 1#1)
    (X : BufTy.Contents (Elt Ideal) arg3.view.ty) {κ : Kind} {sp : Space} (v : View sig κ sp S5504x512 .bf16) (f : v.ty.Contents (Elt Ideal)) :
    v.read (Elt Ideal) (v.writes (Elt Ideal) f (pb_k0_t1 (F := Ideal) 𝒱 c bd i arg2 harg2 arg3 harg3 arg4 harg4 arg5 harg5 arg6 harg6 arg7 harg7 arg8 harg8 h1 X k0_t1_loop.trips))
      = W (arg3.view.read (Elt Ideal) X) := by
  refine read_pieces v f _ _ (fun p hp x => ?_) (fun y => View.cover_of_tiledL (pb_k0_t1 (F := Ideal) 𝒱 c bd i arg2 harg2 arg3 harg3 arg4 harg4 arg5 harg5 arg6 harg6 arg7 harg7 arg8 harg8 h1 X k0_t1_loop.trips) S128x512.size (by sl_kernel_rfl) y)
  obtain ⟨k, hk⟩ := of_trips (fun n => pb_k0_t1 (F := Ideal) 𝒱 c bd i arg2 harg2 arg3 harg3 arg4 harg4 arg5 harg5 arg6 harg6 arg7 harg7 arg8 harg8 h1 X n)
    (fun k => (trip_k0_t1 (F := Ideal) 𝒱 c bd i arg2 harg2 arg3 harg3 arg4 harg4 arg5 harg5 arg6 harg6 arg7 harg7 arg8 harg8 h1 X k).1) rfl
    (fun k => by rw [pb_k0_t1_succ]) p _ le_rfl hp
  rw [trip_rows] at hk
  obtain rfl := List.mem_singleton.mp hk
  idx_vars x
  rw [View.readAt_eq_ld]
  refine (pay1_at _ _ _).trans ?_
  unfold W
  refine congrArg (arg3.view.read (Elt Ideal) X) (funext fun a => Fin.ext ?_)
  match a with
  | ⟨0, _⟩ => exact (Rect.idx_unit_val (s := S1x5504x512) (k0_off1 k) S1x128x512.size (k0_off1_inb i k h1) (ix3 0 x0 x1) 0).trans ((congrArg (· + 0) (congrFun (k0_off1_eq k) 0)).trans rfl)
  | ⟨1, _⟩ => exact (Rect.idx_unit_val (s := S1x5504x512) (k0_off1 k) S1x128x512.size (k0_off1_inb i k h1) (ix3 0 x0 x1) 1).trans (((congrArg (· + x0.val) (congrFun (k0_off1_eq k) 1)).trans rfl).trans
      ((Rect.idx_unit_val (s := S5504x512) (k0_off2 k) S128x512.size (k0_off2_inb i k h1) (ix2 x0 x1) 0).trans ((congrArg (· + x0.val) (congrFun (k0_off2_eq k) 0)).trans rfl)).symm)
  | ⟨2, _⟩ => exact (Rect.idx_unit_val (s := S1x5504x512) (k0_off1 k) S1x128x512.size (k0_off1_inb i k h1) (ix3 0 x0 x1) 2).trans (((congrArg (· + x1.val) (congrFun (k0_off1_eq k) 2)).trans rfl).trans
      ((Rect.idx_unit_val (s := S5504x512) (k0_off2 k) S128x512.size (k0_off2_inb i k h1) (ix2 x0 x1) 1).trans ((congrArg (· + x1.val) (congrFun (k0_off2_eq k) 1)).trans rfl)).symm)

/-- The output block from the blocks of the arguments and the rounded weights. -/
def B (x0 : Vec Ideal S512x5504 .bf16) (x2 : Vec Ideal S512x512 .f32) (x3 : Vec Ideal S1x6x512 .f32) (x4 : Vec Ideal S1x6x512 .f32) (w : Vec Ideal S5504x512 .bf16) : Vec Ideal S512x512 .f32 :=
  k0_pay2 (F := Ideal) (View.ld (Val := Elt Ideal) (e' := .bf16) x0 (Rect.unit (s := S512x5504) ![0, 0] S512x5504.size inb_S512x5504_S512x5504_0_0)) (View.ld (Val := Elt Ideal) (e' := .bf16) w (Rect.unit (s := S5504x512) ![0, 0] S5504x512.size inb_S5504x512_S5504x512_0_0)) (View.ld (Val := Elt Ideal) (e' := .f32) x2 (Rect.unit (s := S512x512) ![0, 0] S512x512.size inb_S512x512_S512x512_0_0)) (View.ld (Val := Elt Ideal) (e' := .f32) x3 (Rect.unit (s := S1x6x512) ![0, 5, 0] S1x1x512.size inb_S1x6x512_S1x1x512_0_5_0)) (View.ld (Val := Elt Ideal) (e' := .f32) x4 (Rect.unit (s := S1x6x512) ![0, 5, 0] S1x1x512.size inb_S1x6x512_S1x1x512_0_5_0))

/-- A block stored whole is the block held. -/
theorem block {κ : Kind} {sp : Space} (v : View sig κ sp S512x512 .f32) (f : v.ty.Contents (Elt Ideal)) (p : Vec Ideal S512x512 .f32) :
    v.read (Elt Ideal) (v.writes (Elt Ideal) f [⟨(Rect.unit (s := S512x512) ![0, 0] S512x512.size inb_S512x512_S512x512_0_0), p⟩]) = p := by
  refine read_pieces v f _ _ (fun q hq x => ?_) (fun y => View.cover_of_tiledL [⟨(Rect.unit (s := S512x512) ![0, 0] S512x512.size inb_S512x512_S512x512_0_0), p⟩] S512x512.size (by sl_kernel_rfl) y)
  obtain rfl := List.mem_singleton.mp hq
  refine congrArg p (funext (Fin.forall_fin_two.mpr ⟨Fin.ext ?_, Fin.ext ?_⟩))
  · exact ((Rect.idx_unit_val (s := S512x512) ![0, 0] S512x512.size inb_S512x512_S512x512_0_0 x 0).trans (Nat.zero_add (x _).val)).symm
  · exact ((Rect.idx_unit_val (s := S512x512) ![0, 0] S512x512.size inb_S512x512_S512x512_0_0 x 1).trans (Nat.zero_add (x _).val)).symm

/-- At the first point of a column of the grid the scratch is filled, -/
theorem scratch_A (c : Dev nD) (i : grid0.Coords) (arg2 : Memref sig .tc .vmem S512x5504 .bf16) (harg2 : arg2.IsWhole) (arg3 : Memref sig .tc .vmem S1x5504x512 .f32) (harg3 : arg3.IsWhole) (arg4 : Memref sig .tc .vmem S512x512 .f32) (harg4 : arg4.IsWhole) (arg5 : Memref sig .tc .vmem S1x6x512 .f32) (harg5 : arg5.IsWhole) (arg6 : Memref sig .tc .vmem S1x6x512 .f32) (harg6 : arg6.IsWhole) (arg7 : Memref sig .tc .vmem S512x512 .f32) (harg7 : arg7.IsWhole) (arg8 : Memref sig .tc .vmem S5504x512 .bf16) (harg8 : arg8.IsWhole) (hc0 : cond0_0 i)
    (x0 : Vec Ideal S512x5504 .bf16) (x1 : Vec Ideal S1x5504x512 .f32) (x2 : Vec Ideal S512x512 .f32) (x3 : Vec Ideal S1x6x512 .f32) (x4 : Vec Ideal S1x6x512 .f32) :
    sout0_A_0 (F := Ideal) c i arg2 harg2 arg3 harg3 arg4 harg4 arg5 harg5 arg6 harg6 arg7 harg7 arg8 harg8 hc0 x0 x1 x2 x3 x4 = W x1 := by
  have e : (kernelRun0_A (F := Ideal) c i arg2 harg2 arg3 harg3 arg4 harg4 arg5 harg5 arg6 harg6 arg7 harg7 arg8 harg8 hc0 x0 x1 x2 x3 x4).2.1
      = pb_k0_t1 (F := Ideal) Variants.none c none i arg2 harg2 arg3 harg3 arg4 harg4 arg5 harg5 arg6 harg6 arg7 harg7 arg8 harg8 hc0 (harg3.unread x1) k0_t1_loop.trips := by
    unfold kernelRun0_A; dsimp only
  unfold sout0_A_0
  rw [e, filled, harg3.read_unread]

/-- and the output block is computed from what was filled; -/
theorem out_A (c : Dev nD) (i : grid0.Coords) (arg2 : Memref sig .tc .vmem S512x5504 .bf16) (harg2 : arg2.IsWhole) (arg3 : Memref sig .tc .vmem S1x5504x512 .f32) (harg3 : arg3.IsWhole) (arg4 : Memref sig .tc .vmem S512x512 .f32) (harg4 : arg4.IsWhole) (arg5 : Memref sig .tc .vmem S1x6x512 .f32) (harg5 : arg5.IsWhole) (arg6 : Memref sig .tc .vmem S1x6x512 .f32) (harg6 : arg6.IsWhole) (arg7 : Memref sig .tc .vmem S512x512 .f32) (harg7 : arg7.IsWhole) (arg8 : Memref sig .tc .vmem S5504x512 .bf16) (harg8 : arg8.IsWhole) (hc0 : cond0_0 i)
    (x0 : Vec Ideal S512x5504 .bf16) (x1 : Vec Ideal S1x5504x512 .f32) (x2 : Vec Ideal S512x512 .f32) (x3 : Vec Ideal S1x6x512 .f32) (x4 : Vec Ideal S1x6x512 .f32) :
    out0_A_5 (F := Ideal) c i arg2 harg2 arg3 harg3 arg4 harg4 arg5 harg5 arg6 harg6 arg7 harg7 arg8 harg8 hc0 x0 x1 x2 x3 x4 = B x0 x2 x3 x4 (W x1) := by
  have e : (kernelRun0_A (F := Ideal) c i arg2 harg2 arg3 harg3 arg4 harg4 arg5 harg5 arg6 harg6 arg7 harg7 arg8 harg8 hc0 x0 x1 x2 x3 x4).1
      = [⟨(Rect.unit (s := S512x512) ![0, 0] S512x512.size inb_S512x512_S512x512_0_0), k0_pay2 (F := Ideal) (View.readAt (Elt Ideal) arg2.view (Rect.unit (s := S512x5504) ![0, 0] S512x5504.size inb_S512x5504_S512x5504_0_0).toLoadRect (harg2.unread x0)) (arg8.view.readCov (pb_k0_t1 (F := Ideal) Variants.none c none i arg2 harg2 arg3 harg3 arg4 harg4 arg5 harg5 arg6 harg6 arg7 harg7 arg8 harg8 hc0 (harg3.unread x1) k0_t1_loop.trips) (Rect.unit (s := S5504x512) ![0, 0] S5504x512.size inb_S5504x512_S5504x512_0_0).toLoadRect) (View.readAt (Elt Ideal) arg4.view (Rect.unit (s := S512x512) ![0, 0] S512x512.size inb_S512x512_S512x512_0_0).toLoadRect (harg4.unread x2)) (View.readAt (Elt Ideal) arg5.view (Rect.unit (s := S1x6x512) ![0, 5, 0] S1x1x512.size inb_S1x6x512_S1x1x512_0_5_0).toLoadRect (harg5.unread x3)) (View.readAt (Elt Ideal) arg6.view (Rect.unit (s := S1x6x512) ![0, 5, 0] S1x1x512.size inb_S1x6x512_S1x1x512_0_5_0).toLoadRect (harg6.unread x4))⟩] := by
    unfold kernelRun0_A; dsimp only
  unfold out0_A_5
  rw [e, block]
  unfold View.readCov
  simp only [View.readAt_eq_ld, harg2.read_unread, harg4.read_unread, harg5.read_unread, harg6.read_unread, filled, harg3.read_unread]
  rfl

/-- at the others it is computed from what the scratch holds. -/
theorem out_B (c : Dev nD) (i : grid0.Coords) (arg2 : Memref sig .tc .vmem S512x5504 .bf16) (harg2 : arg2.IsWhole) (arg3 : Memref sig .tc .vmem S1x5504x512 .f32) (harg3 : arg3.IsWhole) (arg4 : Memref sig .tc .vmem S512x512 .f32) (harg4 : arg4.IsWhole) (arg5 : Memref sig .tc .vmem S1x6x512 .f32) (harg5 : arg5.IsWhole) (arg6 : Memref sig .tc .vmem S1x6x512 .f32) (harg6 : arg6.IsWhole) (arg7 : Memref sig .tc .vmem S512x512 .f32) (harg7 : arg7.IsWhole) (arg8 : Memref sig .tc .vmem S5504x512 .bf16) (harg8 : arg8.IsWhole) (hc0 : ¬cond0_0 i)
    (x0 : Vec Ideal S512x5504 .bf16) (x1 : Vec Ideal S1x5504x512 .f32) (x2 : Vec Ideal S512x512 .f32) (x3 : Vec Ideal S1x6x512 .f32) (x4 : Vec Ideal S1x6x512 .f32) (xs : Vec Ideal S5504x512 .bf16) :
    out0_B_5 (F := Ideal) c i arg2 harg2 arg3 harg3 arg4 harg4 arg5 harg5 arg6 harg6 arg7 harg7 arg8 harg8 hc0 x0 x1 x2 x3 x4 xs = B x0 x2 x3 x4 xs := by
  have e : (kernelRun0_B (F := Ideal) c i arg2 harg2 arg3 harg3 arg4 harg4 arg5 harg5 arg6 harg6 arg7 harg7 arg8 harg8 hc0 x0 x1 x2 x3 x4 xs).1
      = [⟨(Rect.unit (s := S512x512) ![0, 0] S512x512.size inb_S512x512_S512x512_0_0), k0_pay2 (F := Ideal) (View.readAt (Elt Ideal) arg2.view (Rect.unit (s := S512x5504) ![0, 0] S512x5504.size inb_S512x5504_S512x5504_0_0).toLoadRect (harg2.unread x0)) (View.readAt (Elt Ideal) arg8.view (Rect.unit (s := S5504x512) ![0, 0] S5504x512.size inb_S5504x512_S5504x512_0_0).toLoadRect (harg8.unread xs)) (View.readAt (Elt Ideal) arg4.view (Rect.unit (s := S512x512) ![0, 0] S512x512.size inb_S512x512_S512x512_0_0).toLoadRect (harg4.unread x2)) (View.readAt (Elt Ideal) arg5.view (Rect.unit (s := S1x6x512) ![0, 5, 0] S1x1x512.size inb_S1x6x512_S1x1x512_0_5_0).toLoadRect (harg5.unread x3)) (View.readAt (Elt Ideal) arg6.view (Rect.unit (s := S1x6x512) ![0, 5, 0] S1x1x512.size inb_S1x6x512_S1x1x512_0_5_0).toLoadRect (harg6.unread x4))⟩] := by
    unfold kernelRun0_B; dsimp only
  unfold out0_B_5
  rw [e, block]
  simp only [View.readAt_eq_ld, harg2.read_unread, harg4.read_unread, harg5.read_unread, harg6.read_unread, harg8.read_unread]
  rfl

/-- What the loads read, entry by entry. -/
theorem ld0_at (x : Vec Ideal S512x5504 .bf16) (a : Fin 512) (b : Fin 5504) :
    View.ld (Val := Elt Ideal) (e' := .bf16) x (Rect.unit (s := S512x5504) ![0, 0] S512x5504.size inb_S512x5504_S512x5504_0_0) (ix2 a b) = x (ix2 a b) := by
  refine congrArg x (funext (Fin.forall_fin_two.mpr ⟨Fin.ext ?_, Fin.ext ?_⟩))
  · exact (Rect.idx_unit_val (s := S512x5504) ![0, 0] S512x5504.size inb_S512x5504_S512x5504_0_0 (ix2 a b) 0).trans (Nat.zero_add _)
  · exact (Rect.idx_unit_val (s := S512x5504) ![0, 0] S512x5504.size inb_S512x5504_S512x5504_0_0 (ix2 a b) 1).trans (Nat.zero_add _)
theorem ld1_at (x : Vec Ideal S5504x512 .bf16) (a : Fin 5504) (b : Fin 512) :
    View.ld (Val := Elt Ideal) (e' := .bf16) x (Rect.unit (s := S5504x512) ![0, 0] S5504x512.size inb_S5504x512_S5504x512_0_0) (ix2 a b) = x (ix2 a b) := by
  refine congrArg x (funext (Fin.forall_fin_two.mpr ⟨Fin.ext ?_, Fin.ext ?_⟩))
  · exact (Rect.idx_unit_val (s := S5504x512) ![0, 0] S5504x512.size inb_S5504x512_S5504x512_0_0 (ix2 a b) 0).trans (Nat.zero_add _)
  · exact (Rect.idx_unit_val (s := S5504x512) ![0, 0] S5504x512.size inb_S5504x512_S5504x512_0_0 (ix2 a b) 1).trans (Nat.zero_add _)
theorem ld2_at (x : Vec Ideal S512x512 .f32) (a : Fin 512) (b : Fin 512) :
    View.ld (Val := Elt Ideal) (e' := .f32) x (Rect.unit (s := S512x512) ![0, 0] S512x512.size inb_S512x512_S512x512_0_0) (ix2 a b) = x (ix2 a b) := by
  refine congrArg x (funext (Fin.forall_fin_two.mpr ⟨Fin.ext ?_, Fin.ext ?_⟩))
  · exact (Rect.idx_unit_val (s := S512x512) ![0, 0] S512x512.size inb_S512x512_S512x512_0_0 (ix2 a b) 0).trans (Nat.zero_add _)
  · exact (Rect.idx_unit_val (s := S512x512) ![0, 0] S512x512.size inb_S512x512_S512x512_0_0 (ix2 a b) 1).trans (Nat.zero_add _)
theorem ld3_at (x : Vec Ideal S1x6x512 .f32) (b : Fin 512) :
    View.ld (Val := Elt Ideal) (e' := .f32) x (Rect.unit (s := S1x6x512) ![0, 5, 0] S1x1x512.size inb_S1x6x512_S1x1x512_0_5_0) (ix3 0 0 b) = x (ix3 0 5 b) := by
  refine congrArg x (funext fun a => Fin.ext ?_)
  match a with
  | ⟨0, _⟩ => exact Rect.idx_unit_val (s := S1x6x512) ![0, 5, 0] S1x1x512.size inb_S1x6x512_S1x1x512_0_5_0 (ix3 0 0 b) 0
  | ⟨1, _⟩ => exact Rect.idx_unit_val (s := S1x6x512) ![0, 5, 0] S1x1x512.size inb_S1x6x512_S1x1x512_0_5_0 (ix3 0 0 b) 1
  | ⟨2, _⟩ => exact (Rect.idx_unit_val (s := S1x6x512) ![0, 5, 0] S1x1x512.size inb_S1x6x512_S1x1x512_0_5_0 (ix3 0 0 b) 2).trans (Nat.zero_add _)

/-- The stored value, entry by entry. -/
theorem pay2_at (v3 : Vec Ideal S512x5504 .bf16) (v4 : Vec Ideal S5504x512 .bf16) (v6 : Vec Ideal S512x512 .f32) (v7 v9 : Vec Ideal S1x1x512 .f32) (r n : Fin 512) :
    k0_pay2 (F := Ideal) v3 v4 v6 v7 v9 (ix2 r n)
      = v6 (ix2 r n) + (v7 (ix3 0 0 n) + v9 (ix3 0 0 n)) * (∑ k : Fin 5504, v3 (ix2 r k) * v4 (ix2 k n)) := by
  pointwise [k0_pay2]

theorem B_at (x0 : Vec Ideal S512x5504 .bf16) (x2 : Vec Ideal S512x512 .f32) (x3 : Vec Ideal S1x6x512 .f32) (x4 : Vec Ideal S1x6x512 .f32) (w : Vec Ideal S5504x512 .bf16) (r n : Fin 512) :
    B x0 x2 x3 x4 w (ix2 r n)
      = x2 (ix2 r n) + (x3 (ix3 0 5 n) + x4 (ix3 0 5 n)) * (∑ k : Fin 5504, x0 (ix2 r k) * w (ix2 k n)) := by
  unfold B
  rw [pay2_at]
  exact congrArg₂ (fun (a b : Ideal .f32) => a + b) (ld2_at _ _ _) (congrArg₂ (fun (a b : Ideal .f32) => a * b) (congrArg₂ (fun (a b : Ideal .f32) => a + b) (ld3_at _ _) (ld3_at _ _))
    (Finset.sum_congr rfl fun k _ => congrArg₂ (fun (a b : Ideal .f32) => a * b) (ld0_at _ _ _) (ld1_at _ _ _)))

end Cert.DownIdeal.Blocks
end
-- ==== Proof.Down.Final.lean ====
/-
What the kernel of the channel mixer's last product, first half, leaves in its result array, entry by entry.
-/
module

public import proofs.«01_k».proof.Proof.Down.Blocks

@[expose] public section
set_option maxRecDepth 16384
noncomputable section
namespace Cert.DownIdeal.Final
open Idealize.ShloMosaic Idealize.ShloMosaic.TcCoe Idealize.SL.Sem
open Cert.DownIdeal Cert.DownIdeal.Gen Cert.DownIdeal.Blocks

variable (m : (ℓ : Loc nD τ sig) → Buf (Elt Ideal) ℓ) (ρ : Dev nD → PrngReg)

theorem idx : ∀ t : Fin cfg0.N, win0_0.index t = ![t.val % 32, 0] ∧ win0_1.index t = ![0, 0, t.val / 32] ∧ win0_2.index t = ![t.val % 32, t.val / 32] ∧ win0_3.index t = ![t.val % 32 / 4, 0, t.val / 32] ∧ win0_4.index t = ![0, 0, t.val / 32] ∧ win0_5.index t = ![t.val % 32, t.val / 32] := (by decide +kernel : ∀ t : Fin grid0.N, _)

theorem lt_col (t : Fin cfg0.N) : t.val / 32 < 8 := by have := lt_of_lt_of_eq t.isLt N_0; omega

/-- The blocks at a point, read at an index. -/
theorem a0_at (c : Dev nD) (t : Fin cfg0.N) (r : Fin 512) (k : Fin 5504) : (iblk m c 0 t : FVec Ideal S512x5504 .bf16) (ix2 r k)
    = (m ((c : Thread nD τ).loc main_arg0) : FVec Ideal S16384x11008 .bf16) (ix2 ⟨t.val % 32 * 512 + r.val, by omega⟩ ⟨k.val, by omega⟩) := by
  rw [← V_main_arg0 m c]
  blk_ext [iblk, idx t]
theorem w_at (c : Dev nD) (t : Fin cfg0.N) (k : Fin 5504) (n : Fin 512) : (iblk m c 1 t : FVec Ideal S1x5504x512 .f32) (ix3 0 k n)
    = (m ((c : Thread nD τ).loc main_arg1) : FVec Ideal S1x11008x4096 .f32) (ix3 0 ⟨k.val, by omega⟩ ⟨t.val / 32 * 512 + n.val, by have := lt_col t; omega⟩) := by
  rw [← V_main_arg1 m c]
  blk_ext [iblk, idx t]
theorem x_at (c : Dev nD) (t : Fin cfg0.N) (r : Fin 512) (n : Fin 512) : (iblk m c 2 t : FVec Ideal S512x512 .f32) (ix2 r n)
    = (m ((c : Thread nD τ).loc main_arg2) : FVec Ideal S16384x4096 .f32) (ix2 ⟨t.val % 32 * 512 + r.val, by omega⟩ ⟨t.val / 32 * 512 + n.val, by have := lt_col t; omega⟩) := by
  rw [← V_main_arg2 m c]
  blk_ext [iblk, idx t]
theorem md_at (c : Dev nD) (t : Fin cfg0.N) (n : Fin 512) : (iblk m c 3 t : FVec Ideal S1x6x512 .f32) (ix3 0 5 n)
    = (m ((c : Thread nD τ).loc main_arg3) : FVec Ideal S8x6x4096 .f32) (ix3 ⟨t.val % 32 / 4, by omega⟩ 5 ⟨t.val / 32 * 512 + n.val, by have := lt_col t; omega⟩) := by
  rw [← V_main_arg3 m c]
  blk_ext [iblk, idx t]
theorem ad_at (c : Dev nD) (t : Fin cfg0.N) (n : Fin 512) : (iblk m c 4 t : FVec Ideal S1x6x512 .f32) (ix3 0 5 n)
    = (m ((c : Thread nD τ).loc main_arg4) : FVec Ideal S2x6x4096 .f32) (ix3 0 5 ⟨t.val / 32 * 512 + n.val, by have := lt_col t; omega⟩) := by
  rw [← V_main_arg4 m c]
  blk_ext [iblk, idx t]

/-- After each point the scratch holds the weights of the point's column of the grid. -/
theorem scratch (c : Dev nD) : ∀ n (hn : n < cfg0.N) (k : Fin 5504) (e : Fin 512), (outsAt0 (F := Ideal) m c n hn).2 (ix2 k e)
    = (m ((c : Thread nD τ).loc main_arg1) : FVec Ideal S1x11008x4096 .f32) (ix3 0 ⟨k.val, by omega⟩ ⟨n / 32 * 512 + e.val, by have := lt_col ⟨n, hn⟩; dsimp only at this; omega⟩) := by
  intro n
  induction n with
  | zero =>
    intro hn k e
    rw [outsAt0_A m c ⟨0, hn⟩ (Nat.zero_mod _)]
    dsimp only
    rw [scratch_A]
    exact w_at m c ⟨0, hn⟩ k e
  | succ n ih =>
    intro hn k e
    by_cases h : (n + 1) % 32 = 0
    · rw [outsAt0_A m c ⟨n + 1, hn⟩ h]
      dsimp only
      rw [scratch_A]
      exact w_at m c ⟨n + 1, hn⟩ k e
    · rw [outsAt0_B m c ⟨n + 1, hn⟩ h]
      dsimp only
      unfold sout0_B_0
      refine (ih (Nat.lt_of_succ_lt hn) k e).trans (congrArg _ ?_)
      have h2 : n / 32 = (n + 1) / 32 := by omega
      simp only [h2]

/-- One entry, at row `r` of batch `b` and column `n`. -/
def entry (a : FVec Ideal S16384x11008 .bf16) (w : FVec Ideal S1x11008x4096 .f32) (x : FVec Ideal S16384x4096 .f32) (md : FVec Ideal S8x6x4096 .f32) (ad : FVec Ideal S2x6x4096 .f32) (b : Fin 8) (r : Fin 16384) (n : Fin 4096) : Ideal .f32 :=
  x (ix2 r n) + (md (ix3 b 5 n) + ad (ix3 0 5 n))
    * (∑ k : Fin 5504, a (ix2 r ⟨k.val, by omega⟩) * w (ix3 0 ⟨k.val, by omega⟩ n))

/-- The plain product: the residual plus the gate times a row times a column of the weights, over the first 5504 of the 11008 terms. -/
def res (a : FVec Ideal S16384x11008 .bf16) (w : FVec Ideal S1x11008x4096 .f32) (x : FVec Ideal S16384x4096 .f32) (md : FVec Ideal S8x6x4096 .f32) (ad : FVec Ideal S2x6x4096 .f32) : FVec Ideal S16384x4096 .f32 := fun y =>
  entry a w x md ad ⟨(y 0).val / 2048, by have h0 := (y 0).isLt; change (y 0).val < 16384 at h0; omega⟩ (y 0) (y 1)

theorem res_at (a : FVec Ideal S16384x11008 .bf16) (w : FVec Ideal S1x11008x4096 .f32) (x : FVec Ideal S16384x4096 .f32) (md : FVec Ideal S8x6x4096 .f32) (ad : FVec Ideal S2x6x4096 .f32) (b : Fin 8) (r : Fin 16384) (n : Fin 4096) (h : r.val / 2048 = b.val) : res a w x md ad (ix2 r n) = entry a w x md ad b r n := by
  have e : ∀ hh, (⟨r.val / 2048, hh⟩ : Fin 8) = b := fun _ => Fin.ext h
  exact congrArg (fun b => entry a w x md ad b r n) (e _)

/-- The block of the result at a point. -/
theorem point (c : Dev nD) (t : Fin cfg0.N) (r : Fin 512) (n : Fin 512) :
    (outsAt0 (F := Ideal) m c t.val t.isLt).1 (ix2 r n)
      = res (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val % 32 * 512 + r.val, by omega⟩ ⟨t.val / 32 * 512 + n.val, by have := lt_col t; omega⟩) := by
  rw [res_at _ _ _ _ _ ⟨t.val % 32 / 4, by omega⟩ _ _ (by dsimp only; omega)]
  unfold entry
  by_cases h : t.val % 32 = 0
  · rw [outsAt0_A m c t h]
    dsimp only
    rw [out_A, B_at]
    exact congrArg₂ (fun (a b : Ideal .f32) => a + b) (x_at m c t r n) (congrArg₂ (fun (a b : Ideal .f32) => a * b) (congrArg₂ (fun (a b : Ideal .f32) => a + b) (md_at m c t n) (ad_at m c t n))
      (Finset.sum_congr rfl fun k _ => congrArg₂ (fun (a b : Ideal .f32) => a * b) (a0_at m c t r k) (w_at m c t _ n)))
  · have hp : 0 < t.val := Nat.pos_of_ne_zero fun h0 => h (by rw [h0])
    have h2 : (t.val - 1) / 32 = t.val / 32 := by omega
    have hs : ∀ k : Fin 5504, (outsAt0 (F := Ideal) m c (t.val - 1) (Nat.lt_of_le_of_lt (Nat.sub_le _ _) t.isLt)).2 (ix2 k n)
        = (m ((c : Thread nD τ).loc main_arg1) : FVec Ideal S1x11008x4096 .f32) (ix3 0 ⟨k.val, by omega⟩ ⟨t.val / 32 * 512 + n.val, by have := lt_col t; omega⟩) := fun k =>
      (scratch m c _ _ k n).trans (congrArg (m ((c : Thread nD τ).loc main_arg1) : FVec Ideal S1x11008x4096 .f32) (congrArg (ix3 0 ⟨k.val, by omega⟩) (Fin.ext (congrArg (fun a => a * 512 + n.val) h2))))
    rw [outsAt0_B m c t h]
    dsimp only
    rw [out_B, B_at]
    exact congrArg₂ (fun (a b : Ideal .f32) => a + b) (x_at m c t r n) (congrArg₂ (fun (a b : Ideal .f32) => a * b) (congrArg₂ (fun (a b : Ideal .f32) => a + b) (md_at m c t n) (ad_at m c t n))
      (Finset.sum_congr rfl fun k _ => congrArg₂ (fun (a b : Ideal .f32) => a * b) (a0_at m c t r k) (hs _)))

/-- The kernel's result array. -/
theorem final (c : Dev nD) : (dats m 0 c).arrAt 5 cfg0.N = res (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  idx_vars y
  refine (point m c t y0 y1).trans (congrArg (res _ _ _ _ _) ?_)
  blk_ext [idx t]

/-- The run: the result array, and the arguments as they were. -/
theorem run : θ_run defs (onTc (τ := τ) (main (F := Ideal))) ⟨m, fun _ => 0, ρ⟩ fun r => ∀ c : Dev nD,
      r.2.mem ((c : Thread nD τ).loc main_v0) = res (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.DownIdeal.Value.run_blocks m ρ)

end Cert.DownIdeal.Final
end
-- ==== Proof.Down.Plain.lean ====
/-
The reference of the channel mixer's last product, first half, entry by entry.
-/
module

public import proofs.«01_k».proof.Proof.Down.Final
public import proofs.«01_k».proof.Proof.Gen.DownRefIdeal.Run

@[expose] public section
set_option maxRecDepth 16384
noncomputable section
namespace Cert.DownRefIdeal.Plain
open Idealize.ShloMosaic Idealize.ShloMosaic.TcCoe
open Cert.DownRefIdeal Cert.DownRefIdeal.Gen

/-- The product at a row and a column. -/
theorem dot_at (x : FVec Ideal S8x2048x5504 .f32) (w : FVec Ideal S5504x4096 .f32) (b : Fin 8) (s : Fin 2048) (n : Fin 4096) :
    (Host.dotGeneral dot_S8x2048x5504_S5504x4096_S8x2048x4096_2_0_01_1_n_n none x w : FVec Ideal S8x2048x4096 .f32) (ix3 b s n)
      = ∑ k : Fin 5504, x (ix3 b s k) * w (ix2 k n) := by
  pointwise

/-- The gate of a batch. -/
theorem gate_at (md : FVec Ideal S8x6x4096 .f32) (ad : FVec Ideal S2x6x4096 .f32) (b : Fin 8) (s : Fin 2048) (n : Fin 4096) :
    ((broadcastInDim S8x2048x4096 ![0, 1, 2] bcast_S8x1x4096_S8x2048x4096_0_1_2 (broadcastInDim S8x1x4096 ![0, 2] bcast_S8x4096_S8x1x4096_0_2 (shapeCast _ (extractStridedSlice S8x1x4096 ![0, 5, 0] (addf md (broadcastInDim S8x6x4096 ![0, 1, 2] bcast_S1x6x4096_S8x6x4096_0_1_2 (broadcastInDim S1x6x4096 ![1, 2] bcast_S6x4096_S1x6x4096_1_2 (shapeCast _ (extractStridedSlice S1x6x4096 ![0, 0, 0] ad slices_S2x6x4096_S1x6x4096_0_0_0) shapeCasts_S1x6x4096_S6x4096)))) slices_S8x6x4096_S8x1x4096_0_5_0) shapeCasts_S8x1x4096_S8x4096))) : FVec Ideal S8x2048x4096 .f32) (ix3 b s n) = md (ix3 b 5 n) + ad (ix3 0 5 n) := by
  pointwise

/-- A column of the weights. -/
theorem col_at (w : FVec Ideal S1x11008x4096 .f32) (k : Fin 5504) (n : Fin 4096) :
    ((extractStridedSlice S5504x4096 ![0, 0] (shapeCast _ w shapeCasts_S1x11008x4096_S11008x4096) slices_S11008x4096_S5504x4096_0_0) : FVec Ideal S5504x4096 .f32) (ix2 k n) = w (ix3 0 ⟨k.val, by omega⟩ n) := by
  pointwise

/-- A row of the values, over its half of the terms. -/
theorem side (a : FVec Ideal S16384x11008 .bf16) (b : Fin 8) (s : Fin 2048) (r : Fin 16384) (hr : r.val = b.val * 2048 + s.val) (k : Fin 5504) :
    ((shapeCast _ (extractStridedSlice S16384x5504 ![0, 0] (extf .f32 a bitsLt_bf16_f32) slices_S16384x11008_S16384x5504_0_0) shapeCasts_S16384x5504_S8x2048x5504) : FVec Ideal S8x2048x5504 .f32) (ix3 b s k) = a (ix2 r ⟨k.val, by omega⟩) := by
  rw [show r = ⟨b.val * 2048 + s.val, by omega⟩ from Fin.ext hr]
  pointwise

/-- A row of the result is a row of a batch. -/
theorem row_at (z : FVec Ideal S8x2048x4096 .f32) (r : Fin 16384) (n : Fin 4096) :
    (shapeCast _ z shapeCasts_S8x2048x4096_S16384x4096 : FVec Ideal S16384x4096 .f32) (ix2 r n) = z (ix3 ⟨r.val / 2048, by omega⟩ ⟨r.val % 2048, by omega⟩ n) := by
  pointwise
theorem resid_at (x : FVec Ideal S16384x4096 .f32) (r : Fin 16384) (n : Fin 4096) :
    (shapeCast _ x shapeCasts_S16384x4096_S8x2048x4096 : FVec Ideal S8x2048x4096 .f32) (ix3 ⟨r.val / 2048, by omega⟩ ⟨r.val % 2048, by omega⟩ n) = x (ix2 r n) := by
  pointwise

/-- The reference's term is the plain one. -/
theorem plain (a : FVec Ideal S16384x11008 .bf16) (w : FVec Ideal S1x11008x4096 .f32) (x : FVec Ideal S16384x4096 .f32) (md : FVec Ideal S8x6x4096 .f32) (ad : FVec Ideal S2x6x4096 .f32) :
    Cert.DownIdeal.Final.res a w x md ad = shapeCast _ (addf (shapeCast _ x shapeCasts_S16384x4096_S8x2048x4096) (mulf (broadcastInDim S8x2048x4096 ![0, 1, 2] bcast_S8x1x4096_S8x2048x4096_0_1_2 (broadcastInDim S8x1x4096 ![0, 2] bcast_S8x4096_S8x1x4096_0_2 (shapeCast _ (extractStridedSlice S8x1x4096 ![0, 5, 0] (addf md (broadcastInDim S8x6x4096 ![0, 1, 2] bcast_S1x6x4096_S8x6x4096_0_1_2 (broadcastInDim S1x6x4096 ![1, 2] bcast_S6x4096_S1x6x4096_1_2 (shapeCast _ (extractStridedSlice S1x6x4096 ![0, 0, 0] ad slices_S2x6x4096_S1x6x4096_0_0_0) shapeCasts_S1x6x4096_S6x4096)))) slices_S8x6x4096_S8x1x4096_0_5_0) shapeCasts_S8x1x4096_S8x4096))) (Host.dotGeneral dot_S8x2048x5504_S5504x4096_S8x2048x4096_2_0_01_1_n_n none (shapeCast _ (extractStridedSlice S16384x5504 ![0, 0] (extf .f32 a bitsLt_bf16_f32) slices_S16384x11008_S16384x5504_0_0) shapeCasts_S16384x5504_S8x2048x5504) (extractStridedSlice S5504x4096 ![0, 0] (shapeCast _ w shapeCasts_S1x11008x4096_S11008x4096) slices_S11008x4096_S5504x4096_0_0)))) shapeCasts_S8x2048x4096_S16384x4096 := by
  funext y
  idx_vars y
  have hr : y0.val = (⟨y0.val / 2048, by omega⟩ : Fin 8).val * 2048 + (⟨y0.val % 2048, by omega⟩ : Fin 2048).val := by dsimp only; omega
  generalize hr' : y0 = r at *
  generalize hn' : y1 = n at *
  refine Eq.symm ((row_at _ r n).trans (Eq.trans ?_ (Cert.DownIdeal.Final.res_at a w x md ad ⟨r.val / 2048, by omega⟩ r n rfl).symm))
  exact congrArg₂ (fun (a b : Ideal .f32) => a + b) (resid_at x r n) (congrArg₂ (fun (a b : Ideal .f32) => a * b) (gate_at md ad _ _ n) ((dot_at _ _ _ _ n).trans
    (Finset.sum_congr rfl fun k _ => congrArg₂ (fun (a b : Ideal .f32) => a * b) (side a _ _ r hr k) (col_at w k n))))

end Cert.DownRefIdeal.Plain
end
-- ==== Proof.DownB.Blocks.lean ====
/-
The body of the kernel of the channel mixer's last product (the second half of its terms): the scratch holds the block of weights,
rounded to the narrow format, and the output block is the residual plus the gated product.
-/
module

public import proofs.«01_k».proof.Proof.Gen.DownBIdeal.Value
public import Idealize.ShloMosaic.Lib.Claim
public import Idealize.ShloMosaic.Lib.Pipeline.ValueKit

@[expose] public section
set_option maxRecDepth 16384
noncomputable section
namespace Cert.DownBIdeal.Blocks
open Idealize.ShloMosaic Idealize.ShloMosaic.TcCoe Idealize.ShloMosaic.Tactic
open Cert.DownBIdeal Cert.DownBIdeal.Gen

/-- A buffer written by pieces that are all blocks of one array, and that together reach every index, holds that array. -/
theorem read_pieces {κ : Kind} {sp : Space} {s : Shape} {e : EltTy} (v : View sig κ sp s e)
    (f : v.ty.Contents (Elt Ideal)) (L : List (View.Piece (Elt Ideal) s e)) (G : s.Idx → Elt Ideal e)
    (h : ∀ p ∈ L, ∀ x : p.1.shape.Idx, p.2 x = G (p.1.emb x)) (cov : ∀ y, ∃ p ∈ L, y ∈ p.1.set) :
    v.read (Elt Ideal) (v.writes (Elt Ideal) f L) = G :=
  (View.read_writes_eq_canon v f L cov).trans (funext fun y => View.canon_apply_of_pieces G L h y (cov y))

/-- Every piece a counted loop has left comes from one of its trips, when each trip puts its own before the earlier ones. -/
theorem of_trips {α : Type} {N : ℕ} (pb : ℕ → List α) (T : Fin N → List α) (h0 : pb 0 = [])
    (hs : ∀ k : Fin N, pb (k.val + 1) = T k ++ pb k.val) (p : α) : ∀ n, n ≤ N → p ∈ pb n → ∃ k : Fin N, p ∈ T k
  | 0, _, hp => by rw [h0] at hp; exact absurd hp List.not_mem_nil
  | n + 1, hn, hp => by
    rw [hs ⟨n, hn⟩] at hp
    rcases List.mem_append.mp hp with hp | hp
    · exact ⟨_, hp⟩
    · exact of_trips pb T h0 hs p n (Nat.le_of_succ_le hn) hp

/-- The block of weights as the scratch holds it. -/
def W (x : FVec Ideal S1x5504x512 .f32) : FVec Ideal S5504x512 .bf16 := fun y => x (ix3 0 (y 0) (y 1))

/-- One trip rounds 128 rows of the weights. -/
theorem trip_rows (𝒱 : Variants) (c : Dev nD) (bd : Option 𝒱.V) (i : grid0.Coords) (arg2 : Memref sig .tc .vmem S512x5504 .bf16) (harg2 : arg2.IsWhole) (arg3 : Memref sig .tc .vmem S1x5504x512 .f32) (harg3 : arg3.IsWhole) (arg4 : Memref sig .tc .vmem S512x512 .f32) (harg4 : arg4.IsWhole) (arg5 : Memref sig .tc .vmem S1x6x512 .f32) (harg5 : arg5.IsWhole) (arg6 : Memref sig .tc .vmem S1x6x512 .f32) (harg6 : arg6.IsWhole) (arg7 : Memref sig .tc .vmem S512x512 .f32) (harg7 : arg7.IsWhole) (arg8 : Memref sig .tc .vmem S5504x512 .bf16) (harg8 : arg8.IsWhole) (h1 : k0_cond1 i = 1#1)
    (X : BufTy.Contents (Elt Ideal) arg3.view.ty) (k : Fin k0_t1_loop.trips) :
    (trip_k0_t1 (F := Ideal) 𝒱 c bd i arg2 harg2 arg3 harg3 arg4 harg4 arg5 harg5 arg6 harg6 arg7 harg7 arg8 harg8 h1 X k).1
      = [⟨Rect.unit (s := S5504x512) (k0_off2 k) S128x512.size (k0_off2_inb i k h1),
          k0_pay1 (View.readAt (Elt Ideal) arg3.view (Rect.unit (s := S1x5504x512) (k0_off1 k) S1x128x512.size (k0_off1_inb i k h1)).toLoadRect X)⟩] := by
  unfold trip_k0_t1; dsimp only

theorem pay1_at (x : FVec Ideal S1x128x512 .f32) (a : Fin 128) (b : Fin 512) : k0_pay1 (F := Ideal) x (ix2 a b) = x (ix3 0 a b) := by
  pointwise [k0_pay1]

/-- After the loop the scratch holds the rounded weights. -/
theorem filled (𝒱 : Variants) (c : Dev nD) (bd : Option 𝒱.V) (i : grid0.Coords) (arg2 : Memref sig .tc .vmem S512x5504 .bf16) (harg2 : arg2.IsWhole) (arg3 : Memref sig .tc .vmem S1x5504x512 .f32) (harg3 : arg3.IsWhole) (arg4 : Memref sig .tc .vmem S512x512 .f32) (harg4 : arg4.IsWhole) (arg5 : Memref sig .tc .vmem S1x6x512 .f32) (harg5 : arg5.IsWhole) (arg6 : Memref sig .tc .vmem S1x6x512 .f32) (harg6 : arg6.IsWhole) (arg7 : Memref sig .tc .vmem S512x512 .f32) (harg7 : arg7.IsWhole) (arg8 : Memref sig .tc .vmem S5504x512 .bf16) (harg8 : arg8.IsWhole) (h1 : k0_cond1 i = 1#1)
    (X : BufTy.Contents (Elt Ideal) arg3.view.ty) {κ : Kind} {sp : Space} (v : View sig κ sp S5504x512 .bf16) (f : v.ty.Contents (Elt Ideal)) :
    v.read (Elt Ideal) (v.writes (Elt Ideal) f (pb_k0_t1 (F := Ideal) 𝒱 c bd i arg2 harg2 arg3 harg3 arg4 harg4 arg5 harg5 arg6 harg6 arg7 harg7 arg8 harg8 h1 X k0_t1_loop.trips))
      = W (arg3.view.read (Elt Ideal) X) := by
  refine read_pieces v f _ _ (fun p hp x => ?_) (fun y => View.cover_of_tiledL (pb_k0_t1 (F := Ideal) 𝒱 c bd i arg2 harg2 arg3 harg3 arg4 harg4 arg5 harg5 arg6 harg6 arg7 harg7 arg8 harg8 h1 X k0_t1_loop.trips) S128x512.size (by sl_kernel_rfl) y)
  obtain ⟨k, hk⟩ := of_trips (fun n => pb_k0_t1 (F := Ideal) 𝒱 c bd i arg2 harg2 arg3 harg3 arg4 harg4 arg5 harg5 arg6 harg6 arg7 harg7 arg8 harg8 h1 X n)
    (fun k => (trip_k0_t1 (F := Ideal) 𝒱 c bd i arg2 harg2 arg3 harg3 arg4 harg4 arg5 harg5 arg6 harg6 arg7 harg7 arg8 harg8 h1 X k).1) rfl
    (fun k => by rw [pb_k0_t1_succ]) p _ le_rfl hp
  rw [trip_rows] at hk
  obtain rfl := List.mem_singleton.mp hk
  idx_vars x
  rw [View.readAt_eq_ld]
  refine (pay1_at _ _ _).trans ?_
  unfold W
  refine congrArg (arg3.view.read (Elt Ideal) X) (funext fun a => Fin.ext ?_)
  match a with
  | ⟨0, _⟩ => exact (Rect.idx_unit_val (s := S1x5504x512) (k0_off1 k) S1x128x512.size (k0_off1_inb i k h1) (ix3 0 x0 x1) 0).trans ((congrArg (· + 0) (congrFun (k0_off1_eq k) 0)).trans rfl)
  | ⟨1, _⟩ => exact (Rect.idx_unit_val (s := S1x5504x512) (k0_off1 k) S1x128x512.size (k0_off1_inb i k h1) (ix3 0 x0 x1) 1).trans (((congrArg (· + x0.val) (congrFun (k0_off1_eq k) 1)).trans rfl).trans
      ((Rect.idx_unit_val (s := S5504x512) (k0_off2 k) S128x512.size (k0_off2_inb i k h1) (ix2 x0 x1) 0).trans ((congrArg (· + x0.val) (congrFun (k0_off2_eq k) 0)).trans rfl)).symm)
  | ⟨2, _⟩ => exact (Rect.idx_unit_val (s := S1x5504x512) (k0_off1 k) S1x128x512.size (k0_off1_inb i k h1) (ix3 0 x0 x1) 2).trans (((congrArg (· + x1.val) (congrFun (k0_off1_eq k) 2)).trans rfl).trans
      ((Rect.idx_unit_val (s := S5504x512) (k0_off2 k) S128x512.size (k0_off2_inb i k h1) (ix2 x0 x1) 1).trans ((congrArg (· + x1.val) (congrFun (k0_off2_eq k) 1)).trans rfl)).symm)

/-- The output block from the blocks of the arguments and the rounded weights. -/
def B (x0 : Vec Ideal S512x5504 .bf16) (x2 : Vec Ideal S512x512 .f32) (x3 : Vec Ideal S1x6x512 .f32) (x4 : Vec Ideal S1x6x512 .f32) (w : Vec Ideal S5504x512 .bf16) : Vec Ideal S512x512 .f32 :=
  k0_pay2 (F := Ideal) (View.ld (Val := Elt Ideal) (e' := .bf16) x0 (Rect.unit (s := S512x5504) ![0, 0] S512x5504.size inb_S512x5504_S512x5504_0_0)) (View.ld (Val := Elt Ideal) (e' := .bf16) w (Rect.unit (s := S5504x512) ![0, 0] S5504x512.size inb_S5504x512_S5504x512_0_0)) (View.ld (Val := Elt Ideal) (e' := .f32) x2 (Rect.unit (s := S512x512) ![0, 0] S512x512.size inb_S512x512_S512x512_0_0)) (View.ld (Val := Elt Ideal) (e' := .f32) x3 (Rect.unit (s := S1x6x512) ![0, 5, 0] S1x1x512.size inb_S1x6x512_S1x1x512_0_5_0)) (View.ld (Val := Elt Ideal) (e' := .f32) x4 (Rect.unit (s := S1x6x512) ![0, 5, 0] S1x1x512.size inb_S1x6x512_S1x1x512_0_5_0))

/-- A block stored whole is the block held. -/
theorem block {κ : Kind} {sp : Space} (v : View sig κ sp S512x512 .f32) (f : v.ty.Contents (Elt Ideal)) (p : Vec Ideal S512x512 .f32) :
    v.read (Elt Ideal) (v.writes (Elt Ideal) f [⟨(Rect.unit (s := S512x512) ![0, 0] S512x512.size inb_S512x512_S512x512_0_0), p⟩]) = p := by
  refine read_pieces v f _ _ (fun q hq x => ?_) (fun y => View.cover_of_tiledL [⟨(Rect.unit (s := S512x512) ![0, 0] S512x512.size inb_S512x512_S512x512_0_0), p⟩] S512x512.size (by sl_kernel_rfl) y)
  obtain rfl := List.mem_singleton.mp hq
  refine congrArg p (funext (Fin.forall_fin_two.mpr ⟨Fin.ext ?_, Fin.ext ?_⟩))
  · exact ((Rect.idx_unit_val (s := S512x512) ![0, 0] S512x512.size inb_S512x512_S512x512_0_0 x 0).trans (Nat.zero_add (x _).val)).symm
  · exact ((Rect.idx_unit_val (s := S512x512) ![0, 0] S512x512.size inb_S512x512_S512x512_0_0 x 1).trans (Nat.zero_add (x _).val)).symm

/-- At the first point of a column of the grid the scratch is filled, -/
theorem scratch_A (c : Dev nD) (i : grid0.Coords) (arg2 : Memref sig .tc .vmem S512x5504 .bf16) (harg2 : arg2.IsWhole) (arg3 : Memref sig .tc .vmem S1x5504x512 .f32) (harg3 : arg3.IsWhole) (arg4 : Memref sig .tc .vmem S512x512 .f32) (harg4 : arg4.IsWhole) (arg5 : Memref sig .tc .vmem S1x6x512 .f32) (harg5 : arg5.IsWhole) (arg6 : Memref sig .tc .vmem S1x6x512 .f32) (harg6 : arg6.IsWhole) (arg7 : Memref sig .tc .vmem S512x512 .f32) (harg7 : arg7.IsWhole) (arg8 : Memref sig .tc .vmem S5504x512 .bf16) (harg8 : arg8.IsWhole) (hc0 : cond0_0 i)
    (x0 : Vec Ideal S512x5504 .bf16) (x1 : Vec Ideal S1x5504x512 .f32) (x2 : Vec Ideal S512x512 .f32) (x3 : Vec Ideal S1x6x512 .f32) (x4 : Vec Ideal S1x6x512 .f32) :
    sout0_A_0 (F := Ideal) c i arg2 harg2 arg3 harg3 arg4 harg4 arg5 harg5 arg6 harg6 arg7 harg7 arg8 harg8 hc0 x0 x1 x2 x3 x4 = W x1 := by
  have e : (kernelRun0_A (F := Ideal) c i arg2 harg2 arg3 harg3 arg4 harg4 arg5 harg5 arg6 harg6 arg7 harg7 arg8 harg8 hc0 x0 x1 x2 x3 x4).2.1
      = pb_k0_t1 (F := Ideal) Variants.none c none i arg2 harg2 arg3 harg3 arg4 harg4 arg5 harg5 arg6 harg6 arg7 harg7 arg8 harg8 hc0 (harg3.unread x1) k0_t1_loop.trips := by
    unfold kernelRun0_A; dsimp only
  unfold sout0_A_0
  rw [e, filled, harg3.read_unread]

/-- and the output block is computed from what was filled; -/
theorem out_A (c : Dev nD) (i : grid0.Coords) (arg2 : Memref sig .tc .vmem S512x5504 .bf16) (harg2 : arg2.IsWhole) (arg3 : Memref sig .tc .vmem S1x5504x512 .f32) (harg3 : arg3.IsWhole) (arg4 : Memref sig .tc .vmem S512x512 .f32) (harg4 : arg4.IsWhole) (arg5 : Memref sig .tc .vmem S1x6x512 .f32) (harg5 : arg5.IsWhole) (arg6 : Memref sig .tc .vmem S1x6x512 .f32) (harg6 : arg6.IsWhole) (arg7 : Memref sig .tc .vmem S512x512 .f32) (harg7 : arg7.IsWhole) (arg8 : Memref sig .tc .vmem S5504x512 .bf16) (harg8 : arg8.IsWhole) (hc0 : cond0_0 i)
    (x0 : Vec Ideal S512x5504 .bf16) (x1 : Vec Ideal S1x5504x512 .f32) (x2 : Vec Ideal S512x512 .f32) (x3 : Vec Ideal S1x6x512 .f32) (x4 : Vec Ideal S1x6x512 .f32) :
    out0_A_5 (F := Ideal) c i arg2 harg2 arg3 harg3 arg4 harg4 arg5 harg5 arg6 harg6 arg7 harg7 arg8 harg8 hc0 x0 x1 x2 x3 x4 = B x0 x2 x3 x4 (W x1) := by
  have e : (kernelRun0_A (F := Ideal) c i arg2 harg2 arg3 harg3 arg4 harg4 arg5 harg5 arg6 harg6 arg7 harg7 arg8 harg8 hc0 x0 x1 x2 x3 x4).1
      = [⟨(Rect.unit (s := S512x512) ![0, 0] S512x512.size inb_S512x512_S512x512_0_0), k0_pay2 (F := Ideal) (View.readAt (Elt Ideal) arg2.view (Rect.unit (s := S512x5504) ![0, 0] S512x5504.size inb_S512x5504_S512x5504_0_0).toLoadRect (harg2.unread x0)) (arg8.view.readCov (pb_k0_t1 (F := Ideal) Variants.none c none i arg2 harg2 arg3 harg3 arg4 harg4 arg5 harg5 arg6 harg6 arg7 harg7 arg8 harg8 hc0 (harg3.unread x1) k0_t1_loop.trips) (Rect.unit (s := S5504x512) ![0, 0] S5504x512.size inb_S5504x512_S5504x512_0_0).toLoadRect) (View.readAt (Elt Ideal) arg4.view (Rect.unit (s := S512x512) ![0, 0] S512x512.size inb_S512x512_S512x512_0_0).toLoadRect (harg4.unread x2)) (View.readAt (Elt Ideal) arg5.view (Rect.unit (s := S1x6x512) ![0, 5, 0] S1x1x512.size inb_S1x6x512_S1x1x512_0_5_0).toLoadRect (harg5.unread x3)) (View.readAt (Elt Ideal) arg6.view (Rect.unit (s := S1x6x512) ![0, 5, 0] S1x1x512.size inb_S1x6x512_S1x1x512_0_5_0).toLoadRect (harg6.unread x4))⟩] := by
    unfold kernelRun0_A; dsimp only
  unfold out0_A_5
  rw [e, block]
  unfold View.readCov
  simp only [View.readAt_eq_ld, harg2.read_unread, harg4.read_unread, harg5.read_unread, harg6.read_unread, filled, harg3.read_unread]
  rfl

/-- at the others it is computed from what the scratch holds. -/
theorem out_B (c : Dev nD) (i : grid0.Coords) (arg2 : Memref sig .tc .vmem S512x5504 .bf16) (harg2 : arg2.IsWhole) (arg3 : Memref sig .tc .vmem S1x5504x512 .f32) (harg3 : arg3.IsWhole) (arg4 : Memref sig .tc .vmem S512x512 .f32) (harg4 : arg4.IsWhole) (arg5 : Memref sig .tc .vmem S1x6x512 .f32) (harg5 : arg5.IsWhole) (arg6 : Memref sig .tc .vmem S1x6x512 .f32) (harg6 : arg6.IsWhole) (arg7 : Memref sig .tc .vmem S512x512 .f32) (harg7 : arg7.IsWhole) (arg8 : Memref sig .tc .vmem S5504x512 .bf16) (harg8 : arg8.IsWhole) (hc0 : ¬cond0_0 i)
    (x0 : Vec Ideal S512x5504 .bf16) (x1 : Vec Ideal S1x5504x512 .f32) (x2 : Vec Ideal S512x512 .f32) (x3 : Vec Ideal S1x6x512 .f32) (x4 : Vec Ideal S1x6x512 .f32) (xs : Vec Ideal S5504x512 .bf16) :
    out0_B_5 (F := Ideal) c i arg2 harg2 arg3 harg3 arg4 harg4 arg5 harg5 arg6 harg6 arg7 harg7 arg8 harg8 hc0 x0 x1 x2 x3 x4 xs = B x0 x2 x3 x4 xs := by
  have e : (kernelRun0_B (F := Ideal) c i arg2 harg2 arg3 harg3 arg4 harg4 arg5 harg5 arg6 harg6 arg7 harg7 arg8 harg8 hc0 x0 x1 x2 x3 x4 xs).1
      = [⟨(Rect.unit (s := S512x512) ![0, 0] S512x512.size inb_S512x512_S512x512_0_0), k0_pay2 (F := Ideal) (View.readAt (Elt Ideal) arg2.view (Rect.unit (s := S512x5504) ![0, 0] S512x5504.size inb_S512x5504_S512x5504_0_0).toLoadRect (harg2.unread x0)) (View.readAt (Elt Ideal) arg8.view (Rect.unit (s := S5504x512) ![0, 0] S5504x512.size inb_S5504x512_S5504x512_0_0).toLoadRect (harg8.unread xs)) (View.readAt (Elt Ideal) arg4.view (Rect.unit (s := S512x512) ![0, 0] S512x512.size inb_S512x512_S512x512_0_0).toLoadRect (harg4.unread x2)) (View.readAt (Elt Ideal) arg5.view (Rect.unit (s := S1x6x512) ![0, 5, 0] S1x1x512.size inb_S1x6x512_S1x1x512_0_5_0).toLoadRect (harg5.unread x3)) (View.readAt (Elt Ideal) arg6.view (Rect.unit (s := S1x6x512) ![0, 5, 0] S1x1x512.size inb_S1x6x512_S1x1x512_0_5_0).toLoadRect (harg6.unread x4))⟩] := by
    unfold kernelRun0_B; dsimp only
  unfold out0_B_5
  rw [e, block]
  simp only [View.readAt_eq_ld, harg2.read_unread, harg4.read_unread, harg5.read_unread, harg6.read_unread, harg8.read_unread]
  rfl

/-- What the loads read, entry by entry. -/
theorem ld0_at (x : Vec Ideal S512x5504 .bf16) (a : Fin 512) (b : Fin 5504) :
    View.ld (Val := Elt Ideal) (e' := .bf16) x (Rect.unit (s := S512x5504) ![0, 0] S512x5504.size inb_S512x5504_S512x5504_0_0) (ix2 a b) = x (ix2 a b) := by
  refine congrArg x (funext (Fin.forall_fin_two.mpr ⟨Fin.ext ?_, Fin.ext ?_⟩))
  · exact (Rect.idx_unit_val (s := S512x5504) ![0, 0] S512x5504.size inb_S512x5504_S512x5504_0_0 (ix2 a b) 0).trans (Nat.zero_add _)
  · exact (Rect.idx_unit_val (s := S512x5504) ![0, 0] S512x5504.size inb_S512x5504_S512x5504_0_0 (ix2 a b) 1).trans (Nat.zero_add _)
theorem ld1_at (x : Vec Ideal S5504x512 .bf16) (a : Fin 5504) (b : Fin 512) :
    View.ld (Val := Elt Ideal) (e' := .bf16) x (Rect.unit (s := S5504x512) ![0, 0] S5504x512.size inb_S5504x512_S5504x512_0_0) (ix2 a b) = x (ix2 a b) := by
  refine congrArg x (funext (Fin.forall_fin_two.mpr ⟨Fin.ext ?_, Fin.ext ?_⟩))
  · exact (Rect.idx_unit_val (s := S5504x512) ![0, 0] S5504x512.size inb_S5504x512_S5504x512_0_0 (ix2 a b) 0).trans (Nat.zero_add _)
  · exact (Rect.idx_unit_val (s := S5504x512) ![0, 0] S5504x512.size inb_S5504x512_S5504x512_0_0 (ix2 a b) 1).trans (Nat.zero_add _)
theorem ld2_at (x : Vec Ideal S512x512 .f32) (a : Fin 512) (b : Fin 512) :
    View.ld (Val := Elt Ideal) (e' := .f32) x (Rect.unit (s := S512x512) ![0, 0] S512x512.size inb_S512x512_S512x512_0_0) (ix2 a b) = x (ix2 a b) := by
  refine congrArg x (funext (Fin.forall_fin_two.mpr ⟨Fin.ext ?_, Fin.ext ?_⟩))
  · exact (Rect.idx_unit_val (s := S512x512) ![0, 0] S512x512.size inb_S512x512_S512x512_0_0 (ix2 a b) 0).trans (Nat.zero_add _)
  · exact (Rect.idx_unit_val (s := S512x512) ![0, 0] S512x512.size inb_S512x512_S512x512_0_0 (ix2 a b) 1).trans (Nat.zero_add _)
theorem ld3_at (x : Vec Ideal S1x6x512 .f32) (b : Fin 512) :
    View.ld (Val := Elt Ideal) (e' := .f32) x (Rect.unit (s := S1x6x512) ![0, 5, 0] S1x1x512.size inb_S1x6x512_S1x1x512_0_5_0) (ix3 0 0 b) = x (ix3 0 5 b) := by
  refine congrArg x (funext fun a => Fin.ext ?_)
  match a with
  | ⟨0, _⟩ => exact Rect.idx_unit_val (s := S1x6x512) ![0, 5, 0] S1x1x512.size inb_S1x6x512_S1x1x512_0_5_0 (ix3 0 0 b) 0
  | ⟨1, _⟩ => exact Rect.idx_unit_val (s := S1x6x512) ![0, 5, 0] S1x1x512.size inb_S1x6x512_S1x1x512_0_5_0 (ix3 0 0 b) 1
  | ⟨2, _⟩ => exact (Rect.idx_unit_val (s := S1x6x512) ![0, 5, 0] S1x1x512.size inb_S1x6x512_S1x1x512_0_5_0 (ix3 0 0 b) 2).trans (Nat.zero_add _)

/-- The stored value, entry by entry. -/
theorem pay2_at (v3 : Vec Ideal S512x5504 .bf16) (v4 : Vec Ideal S5504x512 .bf16) (v6 : Vec Ideal S512x512 .f32) (v7 v9 : Vec Ideal S1x1x512 .f32) (r n : Fin 512) :
    k0_pay2 (F := Ideal) v3 v4 v6 v7 v9 (ix2 r n)
      = v6 (ix2 r n) + (v7 (ix3 0 0 n) + v9 (ix3 0 0 n)) * (∑ k : Fin 5504, v3 (ix2 r k) * v4 (ix2 k n)) := by
  pointwise [k0_pay2]

theorem B_at (x0 : Vec Ideal S512x5504 .bf16) (x2 : Vec Ideal S512x512 .f32) (x3 : Vec Ideal S1x6x512 .f32) (x4 : Vec Ideal S1x6x512 .f32) (w : Vec Ideal S5504x512 .bf16) (r n : Fin 512) :
    B x0 x2 x3 x4 w (ix2 r n)
      = x2 (ix2 r n) + (x3 (ix3 0 5 n) + x4 (ix3 0 5 n)) * (∑ k : Fin 5504, x0 (ix2 r k) * w (ix2 k n)) := by
  unfold B
  rw [pay2_at]
  exact congrArg₂ (fun (a b : Ideal .f32) => a + b) (ld2_at _ _ _) (congrArg₂ (fun (a b : Ideal .f32) => a * b) (congrArg₂ (fun (a b : Ideal .f32) => a + b) (ld3_at _ _) (ld3_at _ _))
    (Finset.sum_congr rfl fun k _ => congrArg₂ (fun (a b : Ideal .f32) => a * b) (ld0_at _ _ _) (ld1_at _ _ _)))

end Cert.DownBIdeal.Blocks
end
-- ==== Proof.DownB.Final.lean ====
/-
What the kernel of the channel mixer's last product, second half, leaves in its result array, entry by entry.
-/
module

public import proofs.«01_k».proof.Proof.DownB.Blocks

@[expose] public section
set_option maxRecDepth 16384
noncomputable section
namespace Cert.DownBIdeal.Final
open Idealize.ShloMosaic Idealize.ShloMosaic.TcCoe Idealize.SL.Sem
open Cert.DownBIdeal Cert.DownBIdeal.Gen Cert.DownBIdeal.Blocks

variable (m : (ℓ : Loc nD τ sig) → Buf (Elt Ideal) ℓ) (ρ : Dev nD → PrngReg)

theorem idx : ∀ t : Fin cfg0.N, win0_0.index t = ![t.val % 32, 1] ∧ win0_1.index t = ![0, 1, t.val / 32] ∧ win0_2.index t = ![t.val % 32, t.val / 32] ∧ win0_3.index t = ![t.val % 32 / 4, 0, t.val / 32] ∧ win0_4.index t = ![0, 0, t.val / 32] ∧ win0_5.index t = ![t.val % 32, t.val / 32] := (by decide +kernel : ∀ t : Fin grid0.N, _)

theorem lt_col (t : Fin cfg0.N) : t.val / 32 < 8 := by have := lt_of_lt_of_eq t.isLt N_0; omega

/-- The blocks at a point, read at an index. -/
theorem a0_at (c : Dev nD) (t : Fin cfg0.N) (r : Fin 512) (k : Fin 5504) : (iblk m c 0 t : FVec Ideal S512x5504 .bf16) (ix2 r k)
    = (m ((c : Thread nD τ).loc main_arg0) : FVec Ideal S16384x11008 .bf16) (ix2 ⟨t.val % 32 * 512 + r.val, by omega⟩ ⟨5504 + k.val, by omega⟩) := by
  rw [← V_main_arg0 m c]
  blk_ext [iblk, idx t]
theorem w_at (c : Dev nD) (t : Fin cfg0.N) (k : Fin 5504) (n : Fin 512) : (iblk m c 1 t : FVec Ideal S1x5504x512 .f32) (ix3 0 k n)
    = (m ((c : Thread nD τ).loc main_arg1) : FVec Ideal S1x11008x4096 .f32) (ix3 0 ⟨5504 + k.val, by omega⟩ ⟨t.val / 32 * 512 + n.val, by have := lt_col t; omega⟩) := by
  rw [← V_main_arg1 m c]
  blk_ext [iblk, idx t]
theorem x_at (c : Dev nD) (t : Fin cfg0.N) (r : Fin 512) (n : Fin 512) : (iblk m c 2 t : FVec Ideal S512x512 .f32) (ix2 r n)
    = (m ((c : Thread nD τ).loc main_arg2) : FVec Ideal S16384x4096 .f32) (ix2 ⟨t.val % 32 * 512 + r.val, by omega⟩ ⟨t.val / 32 * 512 + n.val, by have := lt_col t; omega⟩) := by
  rw [← V_main_arg2 m c]
  blk_ext [iblk, idx t]
theorem md_at (c : Dev nD) (t : Fin cfg0.N) (n : Fin 512) : (iblk m c 3 t : FVec Ideal S1x6x512 .f32) (ix3 0 5 n)
    = (m ((c : Thread nD τ).loc main_arg3) : FVec Ideal S8x6x4096 .f32) (ix3 ⟨t.val % 32 / 4, by omega⟩ 5 ⟨t.val / 32 * 512 + n.val, by have := lt_col t; omega⟩) := by
  rw [← V_main_arg3 m c]
  blk_ext [iblk, idx t]
theorem ad_at (c : Dev nD) (t : Fin cfg0.N) (n : Fin 512) : (iblk m c 4 t : FVec Ideal S1x6x512 .f32) (ix3 0 5 n)
    = (m ((c : Thread nD τ).loc main_arg4) : FVec Ideal S2x6x4096 .f32) (ix3 0 5 ⟨t.val / 32 * 512 + n.val, by have := lt_col t; omega⟩) := by
  rw [← V_main_arg4 m c]
  blk_ext [iblk, idx t]

/-- After each point the scratch holds the weights of the point's column of the grid. -/
theorem scratch (c : Dev nD) : ∀ n (hn : n < cfg0.N) (k : Fin 5504) (e : Fin 512), (outsAt0 (F := Ideal) m c n hn).2 (ix2 k e)
    = (m ((c : Thread nD τ).loc main_arg1) : FVec Ideal S1x11008x4096 .f32) (ix3 0 ⟨5504 + k.val, by omega⟩ ⟨n / 32 * 512 + e.val, by have := lt_col ⟨n, hn⟩; dsimp only at this; omega⟩) := by
  intro n
  induction n with
  | zero =>
    intro hn k e
    rw [outsAt0_A m c ⟨0, hn⟩ (Nat.zero_mod _)]
    dsimp only
    rw [scratch_A]
    exact w_at m c ⟨0, hn⟩ k e
  | succ n ih =>
    intro hn k e
    by_cases h : (n + 1) % 32 = 0
    · rw [outsAt0_A m c ⟨n + 1, hn⟩ h]
      dsimp only
      rw [scratch_A]
      exact w_at m c ⟨n + 1, hn⟩ k e
    · rw [outsAt0_B m c ⟨n + 1, hn⟩ h]
      dsimp only
      unfold sout0_B_0
      refine (ih (Nat.lt_of_succ_lt hn) k e).trans (congrArg _ ?_)
      have h2 : n / 32 = (n + 1) / 32 := by omega
      simp only [h2]

/-- One entry, at row `r` of batch `b` and column `n`. -/
def entry (a : FVec Ideal S16384x11008 .bf16) (w : FVec Ideal S1x11008x4096 .f32) (x : FVec Ideal S16384x4096 .f32) (md : FVec Ideal S8x6x4096 .f32) (ad : FVec Ideal S2x6x4096 .f32) (b : Fin 8) (r : Fin 16384) (n : Fin 4096) : Ideal .f32 :=
  x (ix2 r n) + (md (ix3 b 5 n) + ad (ix3 0 5 n))
    * (∑ k : Fin 5504, a (ix2 r ⟨5504 + k.val, by omega⟩) * w (ix3 0 ⟨5504 + k.val, by omega⟩ n))

/-- The plain product: the residual plus the gate times a row times a column of the weights, over the second 5504 of the 11008 terms. -/
def res (a : FVec Ideal S16384x11008 .bf16) (w : FVec Ideal S1x11008x4096 .f32) (x : FVec Ideal S16384x4096 .f32) (md : FVec Ideal S8x6x4096 .f32) (ad : FVec Ideal S2x6x4096 .f32) : FVec Ideal S16384x4096 .f32 := fun y =>
  entry a w x md ad ⟨(y 0).val / 2048, by have h0 := (y 0).isLt; change (y 0).val < 16384 at h0; omega⟩ (y 0) (y 1)

theorem res_at (a : FVec Ideal S16384x11008 .bf16) (w : FVec Ideal S1x11008x4096 .f32) (x : FVec Ideal S16384x4096 .f32) (md : FVec Ideal S8x6x4096 .f32) (ad : FVec Ideal S2x6x4096 .f32) (b : Fin 8) (r : Fin 16384) (n : Fin 4096) (h : r.val / 2048 = b.val) : res a w x md ad (ix2 r n) = entry a w x md ad b r n := by
  have e : ∀ hh, (⟨r.val / 2048, hh⟩ : Fin 8) = b := fun _ => Fin.ext h
  exact congrArg (fun b => entry a w x md ad b r n) (e _)

/-- The block of the result at a point. -/
theorem point (c : Dev nD) (t : Fin cfg0.N) (r : Fin 512) (n : Fin 512) :
    (outsAt0 (F := Ideal) m c t.val t.isLt).1 (ix2 r n)
      = res (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val % 32 * 512 + r.val, by omega⟩ ⟨t.val / 32 * 512 + n.val, by have := lt_col t; omega⟩) := by
  rw [res_at _ _ _ _ _ ⟨t.val % 32 / 4, by omega⟩ _ _ (by dsimp only; omega)]
  unfold entry
  by_cases h : t.val % 32 = 0
  · rw [outsAt0_A m c t h]
    dsimp only
    rw [out_A, B_at]
    exact congrArg₂ (fun (a b : Ideal .f32) => a + b) (x_at m c t r n) (congrArg₂ (fun (a b : Ideal .f32) => a * b) (congrArg₂ (fun (a b : Ideal .f32) => a + b) (md_at m c t n) (ad_at m c t n))
      (Finset.sum_congr rfl fun k _ => congrArg₂ (fun (a b : Ideal .f32) => a * b) (a0_at m c t r k) (w_at m c t _ n)))
  · have hp : 0 < t.val := Nat.pos_of_ne_zero fun h0 => h (by rw [h0])
    have h2 : (t.val - 1) / 32 = t.val / 32 := by omega
    have hs : ∀ k : Fin 5504, (outsAt0 (F := Ideal) m c (t.val - 1) (Nat.lt_of_le_of_lt (Nat.sub_le _ _) t.isLt)).2 (ix2 k n)
        = (m ((c : Thread nD τ).loc main_arg1) : FVec Ideal S1x11008x4096 .f32) (ix3 0 ⟨5504 + k.val, by omega⟩ ⟨t.val / 32 * 512 + n.val, by have := lt_col t; omega⟩) := fun k =>
      (scratch m c _ _ k n).trans (congrArg (m ((c : Thread nD τ).loc main_arg1) : FVec Ideal S1x11008x4096 .f32) (congrArg (ix3 0 ⟨5504 + k.val, by omega⟩) (Fin.ext (congrArg (fun a => a * 512 + n.val) h2))))
    rw [outsAt0_B m c t h]
    dsimp only
    rw [out_B, B_at]
    exact congrArg₂ (fun (a b : Ideal .f32) => a + b) (x_at m c t r n) (congrArg₂ (fun (a b : Ideal .f32) => a * b) (congrArg₂ (fun (a b : Ideal .f32) => a + b) (md_at m c t n) (ad_at m c t n))
      (Finset.sum_congr rfl fun k _ => congrArg₂ (fun (a b : Ideal .f32) => a * b) (a0_at m c t r k) (hs _)))

/-- The kernel's result array. -/
theorem final (c : Dev nD) : (dats m 0 c).arrAt 5 cfg0.N = res (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  idx_vars y
  refine (point m c t y0 y1).trans (congrArg (res _ _ _ _ _) ?_)
  blk_ext [idx t]

/-- The run: the result array, and the arguments as they were. -/
theorem run : θ_run defs (onTc (τ := τ) (main (F := Ideal))) ⟨m, fun _ => 0, ρ⟩ fun r => ∀ c : Dev nD,
      r.2.mem ((c : Thread nD τ).loc main_v0) = res (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.DownBIdeal.Value.run_blocks m ρ)

end Cert.DownBIdeal.Final
end
-- ==== Proof.DownB.Plain.lean ====
/-
The reference of the channel mixer's last product, second half, entry by entry.
-/
module

public import proofs.«01_k».proof.Proof.DownB.Final
public import proofs.«01_k».proof.Proof.Gen.DownBRefIdeal.Run

@[expose] public section
set_option maxRecDepth 16384
noncomputable section
namespace Cert.DownBRefIdeal.Plain
open Idealize.ShloMosaic Idealize.ShloMosaic.TcCoe
open Cert.DownBRefIdeal Cert.DownBRefIdeal.Gen

/-- The product at a row and a column. -/
theorem dot_at (x : FVec Ideal S8x2048x5504 .f32) (w : FVec Ideal S5504x4096 .f32) (b : Fin 8) (s : Fin 2048) (n : Fin 4096) :
    (Host.dotGeneral dot_S8x2048x5504_S5504x4096_S8x2048x4096_2_0_01_1_n_n none x w : FVec Ideal S8x2048x4096 .f32) (ix3 b s n)
      = ∑ k : Fin 5504, x (ix3 b s k) * w (ix2 k n) := by
  pointwise

/-- The gate of a batch. -/
theorem gate_at (md : FVec Ideal S8x6x4096 .f32) (ad : FVec Ideal S2x6x4096 .f32) (b : Fin 8) (s : Fin 2048) (n : Fin 4096) :
    ((broadcastInDim S8x2048x4096 ![0, 1, 2] bcast_S8x1x4096_S8x2048x4096_0_1_2 (broadcastInDim S8x1x4096 ![0, 2] bcast_S8x4096_S8x1x4096_0_2 (shapeCast _ (extractStridedSlice S8x1x4096 ![0, 5, 0] (addf md (broadcastInDim S8x6x4096 ![0, 1, 2] bcast_S1x6x4096_S8x6x4096_0_1_2 (broadcastInDim S1x6x4096 ![1, 2] bcast_S6x4096_S1x6x4096_1_2 (shapeCast _ (extractStridedSlice S1x6x4096 ![0, 0, 0] ad slices_S2x6x4096_S1x6x4096_0_0_0) shapeCasts_S1x6x4096_S6x4096)))) slices_S8x6x4096_S8x1x4096_0_5_0) shapeCasts_S8x1x4096_S8x4096))) : FVec Ideal S8x2048x4096 .f32) (ix3 b s n) = md (ix3 b 5 n) + ad (ix3 0 5 n) := by
  pointwise

/-- A column of the weights. -/
theorem col_at (w : FVec Ideal S1x11008x4096 .f32) (k : Fin 5504) (n : Fin 4096) :
    ((extractStridedSlice S5504x4096 ![5504, 0] (shapeCast _ w shapeCasts_S1x11008x4096_S11008x4096) slices_S11008x4096_S5504x4096_5504_0) : FVec Ideal S5504x4096 .f32) (ix2 k n) = w (ix3 0 ⟨5504 + k.val, by omega⟩ n) := by
  pointwise

/-- A row of the values, over its half of the terms. -/
theorem side (a : FVec Ideal S16384x11008 .bf16) (b : Fin 8) (s : Fin 2048) (r : Fin 16384) (hr : r.val = b.val * 2048 + s.val) (k : Fin 5504) :
    ((shapeCast _ (extractStridedSlice S16384x5504 ![0, 5504] (extf .f32 a bitsLt_bf16_f32) slices_S16384x11008_S16384x5504_0_5504) shapeCasts_S16384x5504_S8x2048x5504) : FVec Ideal S8x2048x5504 .f32) (ix3 b s k) = a (ix2 r ⟨5504 + k.val, by omega⟩) := by
  rw [show r = ⟨b.val * 2048 + s.val, by omega⟩ from Fin.ext hr]
  pointwise

/-- A row of the result is a row of a batch. -/
theorem row_at (z : FVec Ideal S8x2048x4096 .f32) (r : Fin 16384) (n : Fin 4096) :
    (shapeCast _ z shapeCasts_S8x2048x4096_S16384x4096 : FVec Ideal S16384x4096 .f32) (ix2 r n) = z (ix3 ⟨r.val / 2048, by omega⟩ ⟨r.val % 2048, by omega⟩ n) := by
  pointwise
theorem resid_at (x : FVec Ideal S16384x4096 .f32) (r : Fin 16384) (n : Fin 4096) :
    (shapeCast _ x shapeCasts_S16384x4096_S8x2048x4096 : FVec Ideal S8x2048x4096 .f32) (ix3 ⟨r.val / 2048, by omega⟩ ⟨r.val % 2048, by omega⟩ n) = x (ix2 r n) := by
  pointwise

/-- The reference's term is the plain one. -/
theorem plain (a : FVec Ideal S16384x11008 .bf16) (w : FVec Ideal S1x11008x4096 .f32) (x : FVec Ideal S16384x4096 .f32) (md : FVec Ideal S8x6x4096 .f32) (ad : FVec Ideal S2x6x4096 .f32) :
    Cert.DownBIdeal.Final.res a w x md ad = shapeCast _ (addf (shapeCast _ x shapeCasts_S16384x4096_S8x2048x4096) (mulf (broadcastInDim S8x2048x4096 ![0, 1, 2] bcast_S8x1x4096_S8x2048x4096_0_1_2 (broadcastInDim S8x1x4096 ![0, 2] bcast_S8x4096_S8x1x4096_0_2 (shapeCast _ (extractStridedSlice S8x1x4096 ![0, 5, 0] (addf md (broadcastInDim S8x6x4096 ![0, 1, 2] bcast_S1x6x4096_S8x6x4096_0_1_2 (broadcastInDim S1x6x4096 ![1, 2] bcast_S6x4096_S1x6x4096_1_2 (shapeCast _ (extractStridedSlice S1x6x4096 ![0, 0, 0] ad slices_S2x6x4096_S1x6x4096_0_0_0) shapeCasts_S1x6x4096_S6x4096)))) slices_S8x6x4096_S8x1x4096_0_5_0) shapeCasts_S8x1x4096_S8x4096))) (Host.dotGeneral dot_S8x2048x5504_S5504x4096_S8x2048x4096_2_0_01_1_n_n none (shapeCast _ (extractStridedSlice S16384x5504 ![0, 5504] (extf .f32 a bitsLt_bf16_f32) slices_S16384x11008_S16384x5504_0_5504) shapeCasts_S16384x5504_S8x2048x5504) (extractStridedSlice S5504x4096 ![5504, 0] (shapeCast _ w shapeCasts_S1x11008x4096_S11008x4096) slices_S11008x4096_S5504x4096_5504_0)))) shapeCasts_S8x2048x4096_S16384x4096 := by
  funext y
  idx_vars y
  have hr : y0.val = (⟨y0.val / 2048, by omega⟩ : Fin 8).val * 2048 + (⟨y0.val % 2048, by omega⟩ : Fin 2048).val := by dsimp only; omega
  generalize hr' : y0 = r at *
  generalize hn' : y1 = n at *
  refine Eq.symm ((row_at _ r n).trans (Eq.trans ?_ (Cert.DownBIdeal.Final.res_at a w x md ad ⟨r.val / 2048, by omega⟩ r n rfl).symm))
  exact congrArg₂ (fun (a b : Ideal .f32) => a + b) (resid_at x r n) (congrArg₂ (fun (a b : Ideal .f32) => a * b) (gate_at md ad _ _ n) ((dot_at _ _ _ _ n).trans
    (Finset.sum_congr rfl fun k _ => congrArg₂ (fun (a b : Ideal .f32) => a * b) (side a _ _ r hr k) (col_at w k n))))

end Cert.DownBRefIdeal.Plain
end
-- ==== Proof.EDown.Run.lean ====
/-
The grouped product of the experts, run at one point of its grid, for any table.

The body reads three words of the table: the expert of its block of rows, the expert of the block before it, and the number of
blocks in use. It fills its weight buffer when the expert changes, and multiplies when the block is in use.
-/
module

public import proofs.«01_k».proof.Proof.Gen.EDownIdeal.Launch
public import proofs.«01_k».proof.Proof.Gen.EDownIdeal.Skeleton
public import proofs.«01_k».proof.Proof.Gen.EDownIdeal.Loops
public import Idealize.ShloMosaic.Lib.Pipeline.FrameBody
public import Idealize.ShloMosaic.Lib.Ring
public import Idealize.ShloMosaic.Lib.Tactic
public import Idealize.ShloMosaic.Lib.WordCmp

@[expose] public section
set_option maxRecDepth 16384
noncomputable section
namespace Cert.EDownIdeal.Hand
open Cert.EDownIdeal Cert.EDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table, as the body is handed it. -/
abbrev tab : Memref sig .tc .smem S73 .i32 := Memref.whole main_arg2
/-- The buffer of the rounded weight. -/
abbrev scr : Memref sig .tc .vmem S5120x512 .bf16 := Memref.whole cc0_scratch0
/-- The table's contents on a core. -/
abbrev Words (c : Dev nD) : Type := Buf (Elt F) (tab.view.loc (c : Thread nD τ))
/-- Half of the table, which the body may read. -/
abbrev tabHeld (c : Dev nD) (T : Words (F := F) c) : sProp 𝕄 := tab.view.loc (c : Thread nD τ) ↦{fullShare.right} T

/-- The number of blocks in use. -/
abbrev used (c : Dev nD) (T : Words (F := F) c) : BitVec 32 :=
  View.readAt (Elt F) tab.view (Rect.unit (s := S73) ![72] S1.size inb_S73_S1_72).toLoadRect T (Shape.Idx.first (numel1_S1.symm ▸ Nat.one_pos))
/-- The expert of the point's block of rows. -/
abbrev mine (c : Dev nD) (T : Words (F := F) c) (i : grid0.Coords) : BitVec 32 :=
  View.readAt (Elt F) tab.view (Rect.unit (s := S73) (k0_off1 i) S1.size (k0_off1_inb i)).toLoadRect T (Shape.Idx.first (numel1_S1.symm ▸ Nat.one_pos))
/-- The expert of the block before it. -/
abbrev prev (c : Dev nD) (T : Words (F := F) c) (i : grid0.Coords) : BitVec 32 :=
  View.readAt (Elt F) tab.view (Rect.unit (s := S73) (k0_off2 i) S1.size (k0_off2_inb i)).toLoadRect T (Shape.Idx.first (numel1_S1.symm ▸ Nat.one_pos))

/-- The point fills the weight buffer: it is the first of its column block, or its expert is a new one. -/
abbrev Fills (c : Dev nD) (T : Words (F := F) c) (i : grid0.Coords) : Prop :=
  Scalar.cmpi .ne (Scalar.extui (Scalar.ori (Scalar.cmpi .eq (BitVec.ofNat 32 (i 1).val) 0#32) (Scalar.cmpi .ne (mine c T i) (prev c T i)))) 0#32 = 1#1
/-- The point's block of rows is in use. -/
abbrev Live (c : Dev nD) (T : Words (F := F) c) (i : grid0.Coords) : Prop := k0_cond2 i (used c T) = 1#1
/-- The point's block of rows is not in use. -/
abbrev Blank (c : Dev nD) (T : Words (F := F) c) (i : grid0.Coords) : Prop := k0_cond3 i (used c T) = 1#1

/-- A block is in use or it is not, whatever the word. -/
theorem cond3_iff (i : grid0.Coords) (w : BitVec 32) : k0_cond3 i w = 1#1 ↔ ¬ k0_cond2 i w = 1#1 := by
  simp only [k0_cond2, k0_cond3]
  generalize Scalar.cmpi .slt (BitVec.ofNat 32 (i 1).val) w = b
  revert b
  decide

set_option backward.proofsInPublic true in
set_option maxHeartbeats 4000000 in
/-- The body where it fills the buffer and multiplies: what it writes into the result's block and into the buffer. -/
noncomputable def runFillLive (c : Dev nD) (i : grid0.Coords) (arg3 : Memref sig .tc .vmem S512x5120 .bf16) (harg3 : arg3.IsWhole)
    (arg4 : Memref sig .tc .vmem S1x1x5120x512 .f32) (harg4 : arg4.IsWhole) (arg5 : Memref sig .tc .vmem S512x512 .f32) (harg5 : arg5.IsWhole)
    (arg6 : Memref sig .tc .vmem S5120x512 .bf16) (harg6 : arg6.IsWhole) (T : Words (F := F) c)
    (hc0 : Fills c T i) (hc1 : Live c T i) (hc2 : ¬ Blank c T i) (x0 : Vec F S512x5120 .bf16) (x1 : Vec F S1x1x5120x512 .f32) :
    Σ' (L2 : List (View.Piece (Elt F) S512x512 .f32)), { LS0 : List (View.Piece (Elt F) S5120x512 .bf16) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tabHeld c T
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ tabHeld c T) -∗ K ⟨⟩))
          ⊢ wp frame (wpE (defs₀ (F := F)) Variants.none c none) E (cc0_down_grouped i tab (Memref.isWhole_whole _) arg3 harg3 arg4 harg4 arg5 harg5 arg6 harg6) K } := by
  refine ⟨?_, ?_, fun E K => ?run⟩
  case run =>
    rw [cc0_down_grouped_eq_skeleton]; unfold cc0_down_grouped_skel
    unfold owns
    iintro ⟨⟨%f0, %hf0, H0⟩, ⟨%f1, %hf1, H1⟩, ⟨%d2, %f2, -, H2⟩, ⟨%ds0, %fs0, -, HS0⟩, HT0, Hk⟩
    obtain rfl := harg3.eq_unread hf0; obtain rfl := harg4.eq_unread hf1
    have hT0 : tab.IsWhole := Memref.isWhole_whole _
    have filled : ∀ (𝒱 : Variants) (c : Dev nD) (bd : Option 𝒱.V) (i : grid0.Coords) (arg2 : Memref sig .tc .smem S73 .i32) (harg2 : arg2.IsWhole) (arg3 : Memref sig .tc .vmem S512x5120 .bf16) (harg3 : arg3.IsWhole) (arg4 : Memref sig .tc .vmem S1x1x5120x512 .f32) (harg4 : arg4.IsWhole) (arg5 : Memref sig .tc .vmem S512x512 .f32) (harg5 : arg5.IsWhole) (arg6 : Memref sig .tc .vmem S5120x512 .bf16) (harg6 : arg6.IsWhole) (X : BufTy.Contents (Elt F) arg4.view.ty) (G : BufTy.Contents (Elt F) arg6.view.ty) (B : LoadRect S5120x512),
        arg6.view.readAt (Elt F) B (arg6.view.writes (Elt F) G (pb_k0_t1 (F := F) 𝒱 c bd i arg2 harg2 arg3 harg3 arg4 harg4 arg5 harg5 arg6 harg6 X (Scf.trips k0_t1_loop.lb k0_t1_loop.ub k0_t1_loop.st)))
          = arg6.view.readCov (pb_k0_t1 (F := F) 𝒱 c bd i arg2 harg2 arg3 harg3 arg4 harg4 arg5 harg5 arg6 harg6 X (Scf.trips k0_t1_loop.lb k0_t1_loop.ub k0_t1_loop.st)) B :=
      fun 𝒱 c bd i arg2 harg2 arg3 harg3 arg4 harg4 arg5 harg5 arg6 harg6 X G B => View.readAt_writes_of_cover _ G _ B (fun J => View.cover_of_tiledL (pb_k0_t1 (F := F) 𝒱 c bd i arg2 harg2 arg3 harg3 arg4 harg4 arg5 harg5 arg6 harg6 X (Scf.trips k0_t1_loop.lb k0_t1_loop.ub k0_t1_loop.st)) S512x512.size (by sl_kernel_rfl) (B.idx J))
    sl_exec (disch := first | (guard_target = Scalar.cmpi = _; exact hc0) | (guard_target = k0_cond2 _ _ = _; exact hc1) | (guard_target = ¬(k0_cond3 _ _ = _); exact hc2))
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    iexact HT0

set_option backward.proofsInPublic true in
set_option maxHeartbeats 4000000 in
/-- The body where it fills the buffer and writes zeros: what it writes into the result's block and into the buffer. -/
noncomputable def runFillBlank (c : Dev nD) (i : grid0.Coords) (arg3 : Memref sig .tc .vmem S512x5120 .bf16) (harg3 : arg3.IsWhole)
    (arg4 : Memref sig .tc .vmem S1x1x5120x512 .f32) (harg4 : arg4.IsWhole) (arg5 : Memref sig .tc .vmem S512x512 .f32) (harg5 : arg5.IsWhole)
    (arg6 : Memref sig .tc .vmem S5120x512 .bf16) (harg6 : arg6.IsWhole) (T : Words (F := F) c)
    (hc0 : Fills c T i) (hc1 : ¬ Live c T i) (hc2 : Blank c T i) (x0 : Vec F S512x5120 .bf16) (x1 : Vec F S1x1x5120x512 .f32) :
    Σ' (L2 : List (View.Piece (Elt F) S512x512 .f32)), { LS0 : List (View.Piece (Elt F) S5120x512 .bf16) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tabHeld c T
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ tabHeld c T) -∗ K ⟨⟩))
          ⊢ wp frame (wpE (defs₀ (F := F)) Variants.none c none) E (cc0_down_grouped i tab (Memref.isWhole_whole _) arg3 harg3 arg4 harg4 arg5 harg5 arg6 harg6) K } := by
  refine ⟨?_, ?_, fun E K => ?run⟩
  case run =>
    rw [cc0_down_grouped_eq_skeleton]; unfold cc0_down_grouped_skel
    unfold owns
    iintro ⟨⟨%f0, %hf0, H0⟩, ⟨%f1, %hf1, H1⟩, ⟨%d2, %f2, -, H2⟩, ⟨%ds0, %fs0, -, HS0⟩, HT0, Hk⟩
    obtain rfl := harg3.eq_unread hf0; obtain rfl := harg4.eq_unread hf1
    have hT0 : tab.IsWhole := Memref.isWhole_whole _
    have filled : ∀ (𝒱 : Variants) (c : Dev nD) (bd : Option 𝒱.V) (i : grid0.Coords) (arg2 : Memref sig .tc .smem S73 .i32) (harg2 : arg2.IsWhole) (arg3 : Memref sig .tc .vmem S512x5120 .bf16) (harg3 : arg3.IsWhole) (arg4 : Memref sig .tc .vmem S1x1x5120x512 .f32) (harg4 : arg4.IsWhole) (arg5 : Memref sig .tc .vmem S512x512 .f32) (harg5 : arg5.IsWhole) (arg6 : Memref sig .tc .vmem S5120x512 .bf16) (harg6 : arg6.IsWhole) (X : BufTy.Contents (Elt F) arg4.view.ty) (G : BufTy.Contents (Elt F) arg6.view.ty) (B : LoadRect S5120x512),
        arg6.view.readAt (Elt F) B (arg6.view.writes (Elt F) G (pb_k0_t1 (F := F) 𝒱 c bd i arg2 harg2 arg3 harg3 arg4 harg4 arg5 harg5 arg6 harg6 X (Scf.trips k0_t1_loop.lb k0_t1_loop.ub k0_t1_loop.st)))
          = arg6.view.readCov (pb_k0_t1 (F := F) 𝒱 c bd i arg2 harg2 arg3 harg3 arg4 harg4 arg5 harg5 arg6 harg6 X (Scf.trips k0_t1_loop.lb k0_t1_loop.ub k0_t1_loop.st)) B :=
      fun 𝒱 c bd i arg2 harg2 arg3 harg3 arg4 harg4 arg5 harg5 arg6 harg6 X G B => View.readAt_writes_of_cover _ G _ B (fun J => View.cover_of_tiledL (pb_k0_t1 (F := F) 𝒱 c bd i arg2 harg2 arg3 harg3 arg4 harg4 arg5 harg5 arg6 harg6 X (Scf.trips k0_t1_loop.lb k0_t1_loop.ub k0_t1_loop.st)) S512x512.size (by sl_kernel_rfl) (B.idx J))
    sl_exec (disch := first | (guard_target = Scalar.cmpi = _; exact hc0) | (guard_target = ¬(k0_cond2 _ _ = _); exact hc1) | (guard_target = k0_cond3 _ _ = _; exact hc2))
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    iexact HT0

set_option backward.proofsInPublic true in
set_option maxHeartbeats 4000000 in
/-- The body where it keeps the buffer as it stands and multiplies from it: what it writes into the result's block. -/
noncomputable def runKeepLive (c : Dev nD) (i : grid0.Coords) (arg3 : Memref sig .tc .vmem S512x5120 .bf16) (harg3 : arg3.IsWhole)
    (arg4 : Memref sig .tc .vmem S1x1x5120x512 .f32) (harg4 : arg4.IsWhole) (arg5 : Memref sig .tc .vmem S512x512 .f32) (harg5 : arg5.IsWhole)
    (arg6 : Memref sig .tc .vmem S5120x512 .bf16) (harg6 : arg6.IsWhole) (T : Words (F := F) c)
    (hc0 : ¬ Fills c T i) (hc1 : Live c T i) (hc2 : ¬ Blank c T i) (x0 : Vec F S512x5120 .bf16) (x1 : Vec F S1x1x5120x512 .f32) (xs : Vec F S5120x512 .bf16) :
    { L2 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs ∗ tabHeld c T
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ owns (c : Thread nD τ) arg6 fullShare xs ∗ tabHeld c T) -∗ K ⟨⟩))
          ⊢ wp frame (wpE (defs₀ (F := F)) Variants.none c none) E (cc0_down_grouped i tab (Memref.isWhole_whole _) arg3 harg3 arg4 harg4 arg5 harg5 arg6 harg6) K } := by
  refine ⟨?_, fun E K => ?run⟩
  case run =>
    rw [cc0_down_grouped_eq_skeleton]; unfold cc0_down_grouped_skel
    unfold owns
    iintro ⟨⟨%f0, %hf0, H0⟩, ⟨%f1, %hf1, H1⟩, ⟨%d2, %f2, -, H2⟩, ⟨%fs0, %hfs0, HS0⟩, HT0, Hk⟩
    obtain rfl := harg3.eq_unread hf0; obtain rfl := harg4.eq_unread hf1; obtain rfl := harg6.eq_unread hfs0
    have hT0 : tab.IsWhole := Memref.isWhole_whole _
    sl_exec (disch := first | (guard_target = ¬(Scalar.cmpi = _); exact hc0) | (guard_target = k0_cond2 _ _ = _; exact hc1) | (guard_target = ¬(k0_cond3 _ _ = _); exact hc2))
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]
    · iexists _; isplitr; · ipureintro; exact harg6.read_unread _
      iexact HS0
    iexact HT0

set_option backward.proofsInPublic true in
set_option maxHeartbeats 4000000 in
/-- The body where it keeps the buffer as it stands and writes zeros: what it writes into the result's block. -/
noncomputable def runKeepBlank (c : Dev nD) (i : grid0.Coords) (arg3 : Memref sig .tc .vmem S512x5120 .bf16) (harg3 : arg3.IsWhole)
    (arg4 : Memref sig .tc .vmem S1x1x5120x512 .f32) (harg4 : arg4.IsWhole) (arg5 : Memref sig .tc .vmem S512x512 .f32) (harg5 : arg5.IsWhole)
    (arg6 : Memref sig .tc .vmem S5120x512 .bf16) (harg6 : arg6.IsWhole) (T : Words (F := F) c)
    (hc0 : ¬ Fills c T i) (hc1 : ¬ Live c T i) (hc2 : Blank c T i) (x0 : Vec F S512x5120 .bf16) (x1 : Vec F S1x1x5120x512 .f32) (xs : Vec F S5120x512 .bf16) :
    { L2 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs ∗ tabHeld c T
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ owns (c : Thread nD τ) arg6 fullShare xs ∗ tabHeld c T) -∗ K ⟨⟩))
          ⊢ wp frame (wpE (defs₀ (F := F)) Variants.none c none) E (cc0_down_grouped i tab (Memref.isWhole_whole _) arg3 harg3 arg4 harg4 arg5 harg5 arg6 harg6) K } := by
  refine ⟨?_, fun E K => ?run⟩
  case run =>
    rw [cc0_down_grouped_eq_skeleton]; unfold cc0_down_grouped_skel
    unfold owns
    iintro ⟨⟨%f0, %hf0, H0⟩, ⟨%f1, %hf1, H1⟩, ⟨%d2, %f2, -, H2⟩, ⟨%fs0, %hfs0, HS0⟩, HT0, Hk⟩
    obtain rfl := harg3.eq_unread hf0; obtain rfl := harg4.eq_unread hf1; obtain rfl := harg6.eq_unread hfs0
    have hT0 : tab.IsWhole := Memref.isWhole_whole _
    sl_exec (disch := first | (guard_target = ¬(Scalar.cmpi = _); exact hc0) | (guard_target = ¬(k0_cond2 _ _ = _); exact hc1) | (guard_target = k0_cond3 _ _ = _; exact hc2))
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]
    · iexists _; isplitr; · ipureintro; exact harg6.read_unread _
      iexact HS0
    iexact HT0

end Cert.EDownIdeal.Hand

end
-- ==== Proof.EDown.Step.lean ====
/-
One point of the grouped product as a function: the result's block and the weight buffer after the body, from the two input
blocks and the buffer before it; and the body's triple with these contents.
-/
module

public import proofs.«01_k».proof.Proof.EDown.Run

@[expose] public section
set_option maxRecDepth 16384
noncomputable section
namespace Cert.EDownIdeal.Hand
open Cert.EDownIdeal Cert.EDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A view of the result's block, to read what was written. -/
abbrev outView : View sig .tc .vmem S512x512 .f32 := (Memref.whole cc0_stg2_0 : Memref sig .tc .vmem S512x512 .f32).view
/-- A block written by pieces over anything. -/
def outOf (L : List (View.Piece (Elt F) S512x512 .f32)) : Vec F S512x512 .f32 := outView.read (Elt F) (outView.writes (Elt F) outView.junk L)
/-- A weight buffer written by pieces over anything. -/
def scrOf (L : List (View.Piece (Elt F) S5120x512 .bf16)) : Vec F S5120x512 .bf16 := scr.view.read (Elt F) (scr.view.writes (Elt F) scr.view.junk L)

theorem blank_of {c : Dev nD} {T : Words (F := F) c} {i : grid0.Coords} (h : ¬ Live c T i) : Blank c T i := (cond3_iff i _).mpr h
theorem not_blank_of {c : Dev nD} {T : Words (F := F) c} {i : grid0.Coords} (h : Live c T i) : ¬ Blank c T i := fun hb => (cond3_iff i _).mp hb h

open Classical in
/-- The result's block and the weight buffer after the body. -/
def step (c : Dev nD) (i : grid0.Coords) (arg3 : Memref sig .tc .vmem S512x5120 .bf16) (harg3 : arg3.IsWhole) (arg4 : Memref sig .tc .vmem S1x1x5120x512 .f32) (harg4 : arg4.IsWhole) (arg5 : Memref sig .tc .vmem S512x512 .f32) (harg5 : arg5.IsWhole)
    (arg6 : Memref sig .tc .vmem S5120x512 .bf16) (harg6 : arg6.IsWhole) (T : Words (F := F) c)
    (x0 : Vec F S512x5120 .bf16) (x1 : Vec F S1x1x5120x512 .f32) (xs : Vec F S5120x512 .bf16) : Vec F S512x512 .f32 × Vec F S5120x512 .bf16 :=
  if h0 : Fills c T i then
    if h1 : Live c T i then
      (outOf (runFillLive c i arg3 harg3 arg4 harg4 arg5 harg5 arg6 harg6 T h0 h1 (not_blank_of h1) x0 x1).1, scrOf (runFillLive c i arg3 harg3 arg4 harg4 arg5 harg5 arg6 harg6 T h0 h1 (not_blank_of h1) x0 x1).2.1)
    else
      (outOf (runFillBlank c i arg3 harg3 arg4 harg4 arg5 harg5 arg6 harg6 T h0 h1 (blank_of h1) x0 x1).1, scrOf (runFillBlank c i arg3 harg3 arg4 harg4 arg5 harg5 arg6 harg6 T h0 h1 (blank_of h1) x0 x1).2.1)
  else
    if h1 : Live c T i then (outOf (runKeepLive c i arg3 harg3 arg4 harg4 arg5 harg5 arg6 harg6 T h0 h1 (not_blank_of h1) x0 x1 xs).1, xs)
    else (outOf (runKeepBlank c i arg3 harg3 arg4 harg4 arg5 harg5 arg6 harg6 T h0 h1 (blank_of h1) x0 x1 xs).1, xs)

/-- Where the buffer is filled it does not matter what it held. -/
theorem step_of_fills (c : Dev nD) (i : grid0.Coords) (arg3 : Memref sig .tc .vmem S512x5120 .bf16) (harg3 : arg3.IsWhole) (arg4 : Memref sig .tc .vmem S1x1x5120x512 .f32) (harg4 : arg4.IsWhole) (arg5 : Memref sig .tc .vmem S512x512 .f32) (harg5 : arg5.IsWhole)
    (arg6 : Memref sig .tc .vmem S5120x512 .bf16) (harg6 : arg6.IsWhole) (T : Words (F := F) c) (h0 : Fills c T i)
    (x0 : Vec F S512x5120 .bf16) (x1 : Vec F S1x1x5120x512 .f32) (xs xs' : Vec F S5120x512 .bf16) :
    step c i arg3 harg3 arg4 harg4 arg5 harg5 arg6 harg6 T x0 x1 xs = step c i arg3 harg3 arg4 harg4 arg5 harg5 arg6 harg6 T x0 x1 xs' := by
  unfold step
  rw [dif_pos h0, dif_pos h0]

set_option maxHeartbeats 1600000 in
/-- The body at any point, at the contents of `step`. -/
theorem body_step (c : Dev nD) (i : grid0.Coords) (arg3 : Memref sig .tc .vmem S512x5120 .bf16) (harg3 : arg3.IsWhole) (arg4 : Memref sig .tc .vmem S1x1x5120x512 .f32) (harg4 : arg4.IsWhole) (arg5 : Memref sig .tc .vmem S512x512 .f32) (harg5 : arg5.IsWhole)
    (arg6 : Memref sig .tc .vmem S5120x512 .bf16) (harg6 : arg6.IsWhole) (T : Words (F := F) c)
    (x0 : Vec F S512x5120 .bf16) (x1 : Vec F S1x1x5120x512 .f32) (xs : Vec F S5120x512 .bf16) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs ∗ tabHeld c T
        ∗ (iprop(owns (c : Thread nD τ) arg3 fullShare x0 ∗ owns (c : Thread nD τ) arg4 fullShare x1 ∗ owns (c : Thread nD τ) arg5 fullShare (step c i arg3 harg3 arg4 harg4 arg5 harg5 arg6 harg6 T x0 x1 xs).1
            ∗ owns (c : Thread nD τ) arg6 fullShare (step c i arg3 harg3 arg4 harg4 arg5 harg5 arg6 harg6 T x0 x1 xs).2 ∗ tabHeld c T) -∗ K ⟨⟩))
      ⊢ wp frame (wpE (defs₀ (F := F)) Variants.none c none) E (cc0_down_grouped i tab (Memref.isWhole_whole _) arg3 harg3 arg4 harg4 arg5 harg5 arg6 harg6) K := by
  by_cases h0 : Fills c T i
  · by_cases h1 : Live c T i
    · have hs : step c i arg3 harg3 arg4 harg4 arg5 harg5 arg6 harg6 T x0 x1 xs = (outOf (runFillLive c i arg3 harg3 arg4 harg4 arg5 harg5 arg6 harg6 T h0 h1 (not_blank_of h1) x0 x1).1, scrOf (runFillLive c i arg3 harg3 arg4 harg4 arg5 harg5 arg6 harg6 T h0 h1 (not_blank_of h1) x0 x1).2.1) := by
        unfold step
        rw [dif_pos h0, dif_pos h1]
      rw [hs]; dsimp only
      iintro ⟨H0, H1, H2, HS, HT, Hk⟩
      iapply ((runFillLive c i arg3 harg3 arg4 harg4 arg5 harg5 arg6 harg6 T h0 h1 (not_blank_of h1) x0 x1).2.2 E K)
      isplitl [H0]; · iexact H0
      isplitl [H1]; · iexact H1
      isplitl [H2]; · iexact H2
      isplitl [HS]; · iexists _; iexact HS
      isplitl [HT]; · iexact HT
      iintro ⟨H0, H1, ⟨%e2, H2⟩, ⟨%es, HS⟩, HT⟩
      iapply Hk
      isplitl [H0]; · iexact H0
      isplitl [H1]; · iexact H1
      isplitl [H2]
      · unfold owns; iexists _; isplitr
        swap; · iexact H2
        ipureintro; exact View.read_writes_of_cover _ _ _ _ _ (fun y => View.cover_of_tiledL (runFillLive c i arg3 harg3 arg4 harg4 arg5 harg5 arg6 harg6 T h0 h1 (not_blank_of h1) x0 x1).1 S512x512.size (by sl_kernel_rfl) y)
      isplitl [HS]
      · unfold owns; iexists _; isplitr
        swap; · iexact HS
        ipureintro; exact View.read_writes_of_cover _ _ _ _ _ (fun y => View.cover_of_tiledL (runFillLive c i arg3 harg3 arg4 harg4 arg5 harg5 arg6 harg6 T h0 h1 (not_blank_of h1) x0 x1).2.1 S512x512.size (by sl_kernel_rfl) y)
      iexact HT
    · have hs : step c i arg3 harg3 arg4 harg4 arg5 harg5 arg6 harg6 T x0 x1 xs = (outOf (runFillBlank c i arg3 harg3 arg4 harg4 arg5 harg5 arg6 harg6 T h0 h1 (blank_of h1) x0 x1).1, scrOf (runFillBlank c i arg3 harg3 arg4 harg4 arg5 harg5 arg6 harg6 T h0 h1 (blank_of h1) x0 x1).2.1) := by
        unfold step
        rw [dif_pos h0, dif_neg h1]
      rw [hs]; dsimp only
      iintro ⟨H0, H1, H2, HS, HT, Hk⟩
      iapply ((runFillBlank c i arg3 harg3 arg4 harg4 arg5 harg5 arg6 harg6 T h0 h1 (blank_of h1) x0 x1).2.2 E K)
      isplitl [H0]; · iexact H0
      isplitl [H1]; · iexact H1
      isplitl [H2]; · iexact H2
      isplitl [HS]; · iexists _; iexact HS
      isplitl [HT]; · iexact HT
      iintro ⟨H0, H1, ⟨%e2, H2⟩, ⟨%es, HS⟩, HT⟩
      iapply Hk
      isplitl [H0]; · iexact H0
      isplitl [H1]; · iexact H1
      isplitl [H2]
      · unfold owns; iexists _; isplitr
        swap; · iexact H2
        ipureintro; exact View.read_writes_of_cover _ _ _ _ _ (fun y => View.cover_of_tiledL (runFillBlank c i arg3 harg3 arg4 harg4 arg5 harg5 arg6 harg6 T h0 h1 (blank_of h1) x0 x1).1 S512x512.size (by sl_kernel_rfl) y)
      isplitl [HS]
      · unfold owns; iexists _; isplitr
        swap; · iexact HS
        ipureintro; exact View.read_writes_of_cover _ _ _ _ _ (fun y => View.cover_of_tiledL (runFillBlank c i arg3 harg3 arg4 harg4 arg5 harg5 arg6 harg6 T h0 h1 (blank_of h1) x0 x1).2.1 S512x512.size (by sl_kernel_rfl) y)
      iexact HT
  · by_cases h1 : Live c T i
    · have hs : step c i arg3 harg3 arg4 harg4 arg5 harg5 arg6 harg6 T x0 x1 xs = (outOf (runKeepLive c i arg3 harg3 arg4 harg4 arg5 harg5 arg6 harg6 T h0 h1 (not_blank_of h1) x0 x1 xs).1, xs) := by
        unfold step
        rw [dif_neg h0, dif_pos h1]
      rw [hs]; dsimp only
      iintro ⟨H0, H1, H2, HS, HT, Hk⟩
      iapply ((runKeepLive c i arg3 harg3 arg4 harg4 arg5 harg5 arg6 harg6 T h0 h1 (not_blank_of h1) x0 x1 xs).2 E K)
      isplitl [H0]; · iexact H0
      isplitl [H1]; · iexact H1
      isplitl [H2]; · iexact H2
      isplitl [HS]; · iexact HS
      isplitl [HT]; · iexact HT
      iintro ⟨H0, H1, ⟨%e2, H2⟩, HS, HT⟩
      iapply Hk
      isplitl [H0]; · iexact H0
      isplitl [H1]; · iexact H1
      isplitl [H2]
      · unfold owns; iexists _; isplitr
        swap; · iexact H2
        ipureintro; exact View.read_writes_of_cover _ _ _ _ _ (fun y => View.cover_of_tiledL (runKeepLive c i arg3 harg3 arg4 harg4 arg5 harg5 arg6 harg6 T h0 h1 (not_blank_of h1) x0 x1 xs).1 S512x512.size (by sl_kernel_rfl) y)
      isplitl [HS]; · iexact HS
      iexact HT
    · have hs : step c i arg3 harg3 arg4 harg4 arg5 harg5 arg6 harg6 T x0 x1 xs = (outOf (runKeepBlank c i arg3 harg3 arg4 harg4 arg5 harg5 arg6 harg6 T h0 h1 (blank_of h1) x0 x1 xs).1, xs) := by
        unfold step
        rw [dif_neg h0, dif_neg h1]
      rw [hs]; dsimp only
      iintro ⟨H0, H1, H2, HS, HT, Hk⟩
      iapply ((runKeepBlank c i arg3 harg3 arg4 harg4 arg5 harg5 arg6 harg6 T h0 h1 (blank_of h1) x0 x1 xs).2 E K)
      isplitl [H0]; · iexact H0
      isplitl [H1]; · iexact H1
      isplitl [H2]; · iexact H2
      isplitl [HS]; · iexact HS
      isplitl [HT]; · iexact HT
      iintro ⟨H0, H1, ⟨%e2, H2⟩, HS, HT⟩
      iapply Hk
      isplitl [H0]; · iexact H0
      isplitl [H1]; · iexact H1
      isplitl [H2]
      · unfold owns; iexists _; isplitr
        swap; · iexact H2
        ipureintro; exact View.read_writes_of_cover _ _ _ _ _ (fun y => View.cover_of_tiledL (runKeepBlank c i arg3 harg3 arg4 harg4 arg5 harg5 arg6 harg6 T h0 h1 (blank_of h1) x0 x1 xs).1 S512x512.size (by sl_kernel_rfl) y)
      isplitl [HS]; · iexact HS
      iexact HT

end Cert.EDownIdeal.Hand

end
-- ==== Proof.EDown.Frame.lean ====
/-
The frame of the grouped product for every table that names an expert for each block: the run ends, leaves the arguments as they
were, and writes at each point the block that `step` computes.
-/
module

public import proofs.«01_k».proof.Proof.EDown.Step

@[expose] public section
set_option maxRecDepth 16384
noncomputable section
namespace Cert.EDownIdeal.Hand
open Cert.EDownIdeal Cert.EDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers at the start. -/
abbrev start (c : Dev nD) (b : Ref sig .tc) : Buf (Elt F) ((c : Thread nD τ).loc b) := m ((c : Thread nD τ).loc b)

set_option maxHeartbeats 800000 in
theorem main_is_region : Pipeline.HMainP (Ix := Unit) (Name := ℕ) (U := UR sig nD τ) (Lvl := ℕ) pcfgs 0 defs₀ Variants.none m (main (F := F)) (start m) :=
  Pipeline.hmainP_region pcfgs 0 defs₀ Variants.none m main fun c => (main_chain c).trans rfl

/-- The table at the start. -/
def table : pre0.Contents (Elt F) := fun j => start m (0 : Dev nD) (pre0.ref j)

theorem table_eq (c : Dev nD) (j : Fin 1) : start m c (pre0.ref j) = table m j := by
  obtain rfl : c = 0 := Subsingleton.elim _ _
  rfl

/-- Every point's block of the weights lies inside them. -/
abbrev Inside : Prop := ok0 (F := F) (table m)
abbrev adm (hI : Inside m) : (pcfg0 (F := F)).Adm := ⟨table m, hI⟩
/-- The pipeline at the table. -/
abbrev pipe (hI : Inside m) : Pipeline.Cfg sig Λ₀ := cfg0 (adm m hI)

theorem tabHeld_eq (c : Dev nD) : (Pipeline.ΦT pre0 (table m) c : sProp 𝕄) = tabHeld c (table m 0) := by
  unfold Pipeline.ΦT Pipeline.prefHeld
  rw [show (Finset.univ : Finset (Fin 1)) = {(0 : Fin 1)} from by decide, bigSep_singleton]
  rfl

theorem scoped_eq (c : Dev nD) :
    (Pipeline.ΦA spec0 c : sProp 𝕄) = iprop(iprop((∃ d, owns (c : Thread nD τ) scr fullShare d)) ∗ (∃ r, prngReg c r)) := by
  unfold Pipeline.ΦA
  rw [scopedRest0_eq]
  simp only [scr, owns_whole]
  try rfl

/-- An operand's block at a point. -/
def blockAt (hI : Inside m) (c : Dev nD) (w : Fin (pipe m hI).W) (t : Fin (pipe m hI).N) :
    (((pipe m hI).win w).xblock ((pipe m hI).grid.coords t)).Idx → Elt F ((pipe m hI).win w).elt :=
  (((pipe m hI).win w).blk t).view.read (Elt F) (start m c (Pipeline.arrRef spec0 w))

theorem before_block0 (hI : Inside m) {c : Dev nD} (dat : Dat τ (Elt F) Unit ℕ (UR sig nD τ) ℕ (pipe m hI) c) (hA : dat.A 0 = start m c (Pipeline.arrRef spec0 0))
    (hafter : ∀ t, dat.after 0 t = blockAt m hI c 0 t) (t : Fin (pipe m hI).N) (d) : dat.before 0 t d = blockAt m hI c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_block1 (hI : Inside m) {c : Dev nD} (dat : Dat τ (Elt F) Unit ℕ (UR sig nD τ) ℕ (pipe m hI) c) (hA : dat.A 1 = start m c (Pipeline.arrRef spec0 1))
    (hafter : ∀ t, dat.after 1 t = blockAt m hI c 1 t) (t : Fin (pipe m hI).N) (d) : dat.before 1 t d = blockAt m hI c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The buffer an operand is in at a point. -/
abbrev stage0 (hI : Inside m) (t : Fin (pipe m hI).N) : Memref sig .tc .vmem S512x5120 .bf16 := spec0_0.stage ((pipe m hI).slots t 0)
abbrev whole0 (hI : Inside m) (t : Fin (pipe m hI).N) : (stage0 m hI t).IsWhole := hstage0_0 (((pipe m hI).slots t 0).cast nbuf0_0)
abbrev stage1 (hI : Inside m) (t : Fin (pipe m hI).N) : Memref sig .tc .vmem S1x1x5120x512 .f32 := spec0_1.stage ((pipe m hI).slots t 1)
abbrev whole1 (hI : Inside m) (t : Fin (pipe m hI).N) : (stage1 m hI t).IsWhole := hstage0_1 (((pipe m hI).slots t 1).cast nbuf0_1)
abbrev stage2 (hI : Inside m) (t : Fin (pipe m hI).N) : Memref sig .tc .vmem S512x512 .f32 := spec0_2.stage ((pipe m hI).slots t 2)
abbrev whole2 (hI : Inside m) (t : Fin (pipe m hI).N) : (stage2 m hI t).IsWhole := hstage0_2 (((pipe m hI).slots t 2).cast nbuf0_2)

/-- `step` at a point of the grid. -/
abbrev stepAt (hI : Inside m) (c : Dev nD) (t : Fin (pipe m hI).N) (xs : Vec F S5120x512 .bf16) : Vec F S512x512 .f32 × Vec F S5120x512 .bf16 :=
  step c (grid0.coords t) (stage0 m hI t) (whole0 m hI t) (stage1 m hI t) (whole1 m hI t) (stage2 m hI t) (whole2 m hI t) scr (Memref.isWhole_whole _)
    (table m 0) (blockAt m hI c 0 t) (blockAt m hI c 1 t) xs

/-- The weight buffer before point `n`. -/
def scrBefore (hI : Inside m) (c : Dev nD) : (n : ℕ) → n ≤ (pipe m hI).N → Vec F S5120x512 .bf16
  | 0, _ => scrOf []
  | n + 1, h => (stepAt m hI c ⟨n, h⟩ (scrBefore hI c n (Nat.le_of_succ_le h))).2

theorem scrBefore_succ (hI : Inside m) (c : Dev nD) (t : Fin (pipe m hI).N) :
    scrBefore m hI c (t.val + 1) t.isLt = (stepAt m hI c t (scrBefore m hI c t.val (Nat.le_of_lt t.isLt))).2 := rfl

/-- The result's block after a point. -/
def blockAfter (hI : Inside m) (c : Dev nD) (t : Fin (pipe m hI).N) : Vec F S512x512 .f32 :=
  (stepAt m hI c t (scrBefore m hI c t.val (Nat.le_of_lt t.isLt))).1

/-- The first point of a column block fills the buffer. -/
theorem fills_of_first (c : Dev nD) (T : Words (F := F) c) (i : grid0.Coords) (h : (i 1).val = 0) : Fills c T i := by
  have e : Scalar.cmpi .eq (BitVec.ofNat 32 (i 1).val) 0#32 = 1#1 := by rw [h]; decide
  unfold Fills
  rw [e]
  generalize Scalar.cmpi .ne (mine c T i) (prev c T i) = b
  revert b
  decide

theorem coord0 (t : Fin grid0.N) : (grid0.coords t 0).val = t.val / 72 % 8 := Pipeline.Grid.coords_val t 0 (by decide) rfl
theorem coord1 (t : Fin grid0.N) : (grid0.coords t 1).val = t.val / 1 % 72 := Pipeline.Grid.coords_val t 1 (by decide) rfl

/-- What the body finds in the buffer may be taken to be `scrBefore`, also at the first point, where it is filled. -/
theorem stepAt_eq (hI : Inside m) (c : Dev nD) (t : Fin (pipe m hI).N) (xs : Vec F S5120x512 .bf16)
    (h : t.val ≠ 0 → xs = scrBefore m hI c t.val (Nat.le_of_lt t.isLt)) :
    stepAt m hI c t xs = stepAt m hI c t (scrBefore m hI c t.val (Nat.le_of_lt t.isLt)) := by
  by_cases hz : t.val = 0
  · have e1 : (grid0.coords t 1).val = t.val / 1 % 72 := coord1 t
    exact step_of_fills c _ _ _ _ _ _ _ _ _ _ (fills_of_first c _ _ (by rw [e1, hz])) _ _ _ _
  · rw [h hz]

/-- Before point `n`: the buffer at `scrBefore`, at the start at anything; the generator register; half of the table. -/
def Inv (hI : Inside m) (c : Dev nD) (n : ℕ) (hn : n ≤ (pipe m hI).N) : sProp 𝕄 :=
  iprop(iprop((∃ xs, ⌜n ≠ 0 → xs = scrBefore m hI c n hn⌝ ∗ owns (c : Thread nD τ) scr fullShare xs) ∗ (∃ r, prngReg c r)) ∗ tabHeld c (table m 0))

/-- What the pipeline's run is proved with. -/
def dats (hI : Inside m) (_ : Fin 1) (c : Dev nD) : Dat τ (Elt F) Unit ℕ (UR sig nD τ) ℕ (pipe m hI) c where
  A w := start m c (Pipeline.arrRef spec0 w)
  after w t := match w with
    | ⟨0, _⟩ => blockAt m hI c 0 t
    | ⟨1, _⟩ => blockAt m hI c 1 t
    | ⟨2, _⟩ => blockAfter m hI c t
  Φ t := Inv m hI c t.val (Nat.le_of_lt_succ t.isLt)
  q _ := fullShare
  owed _ := 0

theorem A_eq (hI : Inside m) (c : Dev nD) (w : Fin (pipe m hI).W) : (dats m hI 0 c).A w = start m c (Pipeline.arrRef spec0 w) := by
  dsimp only [dats]
theorem Inv_castSucc (hI : Inside m) (c : Dev nD) (t : Fin (pipe m hI).N) :
    (dats m hI 0 c).Φ t.castSucc = Inv m hI c t.val (Nat.le_of_lt t.isLt) := by
  dsimp only [dats]; exact Pipeline.Dat.Φ_castSucc (Inv m hI c) t
theorem after_0 (hI : Inside m) (c : Dev nD) (t : Fin (pipe m hI).N) : (dats m hI 0 c).after 0 t = blockAt m hI c 0 t := by dsimp only [dats]; try rfl
theorem after_1 (hI : Inside m) (c : Dev nD) (t : Fin (pipe m hI).N) : (dats m hI 0 c).after 1 t = blockAt m hI c 1 t := by dsimp only [dats]; try rfl
theorem after_2 (hI : Inside m) (c : Dev nD) (t : Fin (pipe m hI).N) : (dats m hI 0 c).after 2 t = blockAfter m hI c t := by dsimp only [dats]; try rfl
theorem before_0 (hI : Inside m) (c : Dev nD) (t : Fin (pipe m hI).N) (d) : (dats m hI 0 c).before 0 t d = blockAt m hI c 0 t :=
  before_block0 m hI (dats m hI 0 c) (A_eq m hI c 0) (after_0 m hI c) t d
theorem before_1 (hI : Inside m) (c : Dev nD) (t : Fin (pipe m hI).N) (d) : (dats m hI 0 c).before 1 t d = blockAt m hI c 1 t :=
  before_block1 m hI (dats m hI 0 c) (A_eq m hI c 1) (after_1 m hI c) t d

/-- The result's block is written at every point: products where the block is in use, zeros where it is not. -/
theorem result_live (hI : Inside m) (t : Fin (pipe m hI).N) : (pipe m hI).idle 2 (grid0.coords t) = false := by
  show (!(k0_cond2 (grid0.coords t) ((table m).atD 0 ![72]) == 1#1) && !(k0_cond3 (grid0.coords t) ((table m).atD 0 ![72]) == 1#1)) = false
  generalize (table m).atD 0 ![72] = w
  by_cases h : k0_cond2 (grid0.coords t) w = 1#1
  · rw [h]; rfl
  · rw [(cond3_iff _ w).mpr h]
    cases (k0_cond2 (grid0.coords t) w == 1#1) <;> rfl

/-- The body as the pipeline calls it at a point. -/
abbrev bodyAt (hI : Inside m) (t : Fin (pipe m hI).N) : Prog (TpuEff nD τ sig (Elt F) Λ₀ .tc) PUnit :=
  cc0_down_grouped (grid0.coords t) tab (Memref.isWhole_whole _) (stage0 m hI t) (whole0 m hI t) (stage1 m hI t) (whole1 m hI t) (stage2 m hI t) (whole2 m hI t) scr (Memref.isWhole_whole _)

def bodyPre (hI : Inside m) (c : Dev nD) (t : Fin (pipe m hI).N) : sProp 𝕄 :=
  iprop((dats m hI 0 c).Φ t.castSucc ∗ (dats m hI 0 c).owesAt () t.castSucc
    ∗ (∃ d, owns (c : Thread nD τ) (stage0 m hI t) fullShare ((dats m hI 0 c).before 0 t d))
    ∗ (∃ d, owns (c : Thread nD τ) (stage1 m hI t) fullShare ((dats m hI 0 c).before 1 t d))
    ∗ (∃ d, owns (c : Thread nD τ) (stage2 m hI t) fullShare ((dats m hI 0 c).before 2 t d)))

def bodyPost (hI : Inside m) (c : Dev nD) (t : Fin (pipe m hI).N) : sProp 𝕄 :=
  iprop((dats m hI 0 c).Φ t.succ ∗ (dats m hI 0 c).owesAt () t.succ
    ∗ (dats m hI 0 c).leavesExact 0 t ∗ (dats m hI 0 c).leavesExact 1 t ∗ (dats m hI 0 c).leavesExact 2 t)

set_option maxHeartbeats 3200000 in
/-- One point keeps the invariant. -/
theorem point_sound (hI : Inside m) (c : Dev nD) (t : Fin (pipe m hI).N) :
    bodyPre m hI c t ⊢ wp frame (wpE (defs₀ (F := F)) Variants.none c none) Set.univ (bodyAt m hI t) (fun _ => bodyPost m hI c t) := by
  unfold bodyPre bodyPost bodyAt
  simp only [before_0, before_1]
  rw [show (dats m hI 0 c).owesAt () t.succ = (dats m hI 0 c).owesAt () t.castSucc from rfl]
  rw [show (dats m hI 0 c).Φ t.succ = Inv m hI c (t.val + 1) t.isLt from rfl, Inv_castSucc m hI c t]
  rw [show (dats m hI 0 c).leavesExact 0 t = owns (c : Thread nD τ) (stage0 m hI t) fullShare ((dats m hI 0 c).after 0 t) from rfl, after_0]
  rw [show (dats m hI 0 c).leavesExact 1 t = owns (c : Thread nD τ) (stage1 m hI t) fullShare ((dats m hI 0 c).after 1 t) from rfl, after_1]
  rw [show (dats m hI 0 c).leavesExact 2 t = owns (c : Thread nD τ) (stage2 m hI t) fullShare ((dats m hI 0 c).after 2 t) from by
    unfold Dat.leavesExact; rw [result_live m hI t]; try rfl, after_2]
  unfold Inv
  iintro ⟨⟨⟨⟨%xs, %hxs, HS⟩, Hg⟩, HT⟩, Ho, ⟨%d0, H0⟩, ⟨%d1, H1⟩, ⟨%d2, H2⟩⟩
  iapply (body_step c (grid0.coords t) (stage0 m hI t) (whole0 m hI t) (stage1 m hI t) (whole1 m hI t) (stage2 m hI t) (whole2 m hI t) scr (Memref.isWhole_whole _)
    (table m 0) (blockAt m hI c 0 t) (blockAt m hI c 1 t) xs Set.univ _)
  rw [show step c (grid0.coords t) (stage0 m hI t) (whole0 m hI t) (stage1 m hI t) (whole1 m hI t) (stage2 m hI t) (whole2 m hI t) scr (Memref.isWhole_whole _)
    (table m 0) (blockAt m hI c 0 t) (blockAt m hI c 1 t) xs = _ from stepAt_eq m hI c t xs hxs]
  isplitl [H0]; · iexact H0
  isplitl [H1]; · iexact H1
  isplitl [H2]; · iexists _; iexact H2
  isplitl [HS]; · iexact HS
  isplitl [HT]; · iexact HT
  iintro ⟨H0, H1, H2, HS, HT⟩
  isplitl [HS Hg HT]
  · isplitl [HS Hg]
    · isplitl [HS]
      · iexists _; isplitr
        swap; · iexact HS
        ipureintro; exact fun _ => rfl
      iexact Hg
    iexact HT
  isplitl [Ho]; · iexact Ho
  isplitl [H0]; · iexact H0
  isplitl [H1]; · iexact H1
  iexact H2

theorem defs_row (hI : Inside m) (t : Fin (pipe m hI).N) :
    defs₀ (F := F) .tc (pipe m hI).body ((pipe m hI).bodyArgs t ((pipe m hI).slots t)) = bodyAt m hI t := by
  unfold defs₀; rw [Defs.onTc_tc]

theorem obligation (hI : Inside m) (c : Dev nD) : BodyObligation (dats (F := F) m hI 0 c) (defs₀ (F := F)) Variants.none () Set.univ := fun t => by
  rw [bigSep_W0, bigSep_W0, defs_row m hI]
  exact triple_restated (point_sound m hI c t) rfl .rfl fun _ => .rfl

theorem Inv_in (hI : Inside m) (c : Dev nD) : iprop(Pipeline.ΦA spec0 c ∗ Pipeline.ΦT pre0 (table m) c) ⊢ (dats m hI 0 c).Φ 0 := by
  rw [show (dats m hI 0 c).Φ 0 = Inv m hI c 0 (Nat.zero_le _) from rfl, tabHeld_eq, scoped_eq]
  unfold Inv
  iintro ⟨⟨⟨%d, HS⟩, Hg⟩, HT⟩
  isplitl [HS Hg]
  · isplitl [HS]
    · iexists _; isplitr
      swap; · iexact HS
      ipureintro; exact fun h => absurd rfl h
    iexact Hg
  iexact HT

theorem Inv_out (hI : Inside m) (c : Dev nD) : (dats m hI 0 c).Φ (Fin.last (pipe m hI).N) ⊢ Pipeline.ΦA spec0 c := by
  rw [show (dats m hI 0 c).Φ (Fin.last (pipe m hI).N) = Inv m hI c (Fin.last (pipe m hI).N).val (Nat.le_of_lt_succ (Fin.last (pipe m hI).N).isLt) from rfl, scoped_eq]
  unfold Inv
  iintro ⟨⟨⟨%xs, -, HS⟩, Hg⟩, -⟩
  isplitl [HS]
  · iexists _; iexact HS
  iexact Hg

set_option backward.isDefEq.respectTransparency.types false in
/-- The run: every array ends at what the points wrote, and every counter at zero. -/
theorem run_quiescent (hI : Inside m) : θ_run defs (onTc (τ := τ) (main (F := F))) (s₀ m ρ)
    (fun r => (Pipeline.FramePost (Pipeline.pin pcfgs fun _ => adm m hI) (dats m hI) 0 (start m)) r ∧ r.2.sem = fun _ => 0) :=
  Pipeline.θ_run_frameP_track (Q' := _) pcfgs (fun _ => adm m hI) (dats m hI) (0 : Fin 1) launch0 defs₀ Variants.none m ρ main
    (hbody := fun c => (obligation m hI c).loose) (hshare := fun c => (dats m hI 0 c).share_full fun _ => rfl)
    (howed := fun _ _ => rfl) (V := start m) (hmain := main_is_region m) (hA := A_eq m hI) (hpf := table_eq m)
    (hin := Inv_in m hI) (hout := Inv_out m hI)

/-- The run leaves the arguments as they were, and every counter at zero. -/
theorem frame_of_inside (hI : Inside m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m hI 0 c).arrAt_in 0 rfl _).trans (A_eq m hI c 0)),
      ((h.1 c).1 1).trans (((dats m hI 0 c).arrAt_in 1 rfl _).trans (A_eq m hI c 1)),
      (h.1 c).2 main_arg2 (by decide : main_arg2 ∈ Pipeline.restRefs sig spec0)⟩, h.2⟩) (run_quiescent m ρ hI)

end Cert.EDownIdeal.Hand

end
-- ==== Proof.EDown.Table.lean ====
/-
The words of the table: which word each read of it is, and what the precondition says of them.
-/
module

public import proofs.«01_k».proof.Proof.EDown.Frame
public import proofs.«01_k».proof.Proof.Gen.Pre_expert_table
public import Idealize.ShloMosaic.Lib.ReduceAll
public import Idealize.ShloMosaic.Lib.Claim
public import Idealize.ShloMosaic.Lib.Pipeline.ValueKit

@[expose] public section
set_option maxRecDepth 16384
noncomputable section
namespace Cert.EDownIdeal.Hand
open Cert.EDownIdeal Cert.EDownIdeal.Gen
open Idealize.ShloMosaic Idealize.ShloMosaic.TcCoe Idealize.ShloMosaic.Tactic

variable {F : FTy → Type} [FloatOps F]

/-- A read of one word of the table. -/
theorem read_word (c : Dev nD) (T : Words (F := F) c) (o : Fin 1 → ℕ) (inb : ∀ a, o a + S1.size a ≤ S73.size a) (k : Fin 73) (h : o 0 = k.val) :
    View.readAt (Elt F) tab.view (Rect.unit (s := S73) o S1.size inb).toLoadRect T (Shape.Idx.first (numel1_S1.symm ▸ Nat.one_pos)) = (T : IVec S73 32) (ix1 k) := by
  refine congrArg (T : IVec S73 32) (funext fun a => Fin.ext ?_)
  match a with
  | ⟨0, _⟩ =>
    refine (Rect.idx_unit_val (s := S73) o S1.size inb _ 0).trans ?_
    have hf : ∀ y : S1.Idx, (y 0).val = 0 := fun y => Nat.lt_one_iff.mp (y 0).isLt
    exact (congrArg₂ (· + ·) h (hf _)).trans (Nat.add_zero _)

theorem off1_eq (i : grid0.Coords) : k0_off1 i 0 = (i 1).val := by
  have e : ∀ j : Fin 72, (Scalar.indexCast (BitVec.ofNat 32 j.val) : Index).toNat = j.val := by decide
  exact e (i 1)
theorem off2_eq (i : grid0.Coords) : k0_off2 i 0 = (i 1).val - 1 := by
  have e : ∀ j : Fin 72, (Scalar.indexCast (Scalar.maxsi (Scalar.subi (BitVec.ofNat 32 j.val) 1#32) 0#32) : Index).toNat = j.val - 1 := by decide
  exact e (i 1)

/-- The number of blocks in use is the last word, -/
theorem used_eq (c : Dev nD) (T : Words (F := F) c) : used c T = (T : IVec S73 32) (ix1 72) := read_word c T _ _ 72 rfl
/-- the expert of a block its own word, -/
theorem mine_eq (c : Dev nD) (T : Words (F := F) c) (i : grid0.Coords) (k : Fin 73) (h : (i 1).val = k.val) : mine c T i = (T : IVec S73 32) (ix1 k) :=
  read_word c T _ _ k ((off1_eq i).trans h)
/-- and the expert before it the word before. -/
theorem prev_eq (c : Dev nD) (T : Words (F := F) c) (i : grid0.Coords) (k : Fin 73) (h : (i 1).val - 1 = k.val) : prev c T i = (T : IVec S73 32) (ix1 k) :=
  read_word c T _ _ k ((off2_eq i).trans h)

/-- The block of the weights at a point: the expert, and the column block. -/
theorem weight_index (T : pre0.Contents (Elt F)) (i : grid0.Coords) (k : Fin 73) (h : (i 1).val = k.val) :
    cc0_transform_1 k0_off1_inb numel1_S1 T i = ![0, ((T 0 : IVec S73 32) (ix1 k)).toNat, 0, (i 0).val] := by
  have e0 : ∀ j : Fin 8, (BitVec.ofNat 32 j.val).toNat = j.val := by decide
  have e1 := read_word (F := F) 0 (T 0) (k0_off1 i) (k0_off1_inb i) k ((off1_eq i).trans h)
  funext a
  match a with
  | ⟨0, _⟩ => rfl
  | ⟨1, _⟩ => exact congrArg BitVec.toNat e1
  | ⟨2, _⟩ => rfl
  | ⟨3, _⟩ => exact e0 (i 0)

/-- Every word but the last names an expert. -/
def Experts (T : IVec S73 32) : Prop := ∀ k : Fin 73, k.val < 72 → (T (ix1 k)).toNat < 8

/-- Then every block of the weights lies inside them. -/
theorem inside_of (m : (ℓ : Loc nD τ sig) → Buf (Elt F) ℓ) (h : Experts (table m 0)) : Inside m := by
  intro i
  have r0 : (i 0).val < 8 := (i 0).isLt
  have r1 : (i 1).val < 72 := (i 1).isLt
  refine ⟨fun a => ?_, .inl rfl⟩
  rw [weight_index (table m) i ⟨(i 1).val, by omega⟩ rfl]
  have hk := h ⟨(i 1).val, by omega⟩ r1
  match a with
  | ⟨0, _⟩ => exact Nat.le_refl 1
  | ⟨1, _⟩ => exact (Nat.mul_one _).le.trans hk
  | ⟨2, _⟩ => show (0 + 1) * 5120 ≤ 5120; omega
  | ⟨3, _⟩ => show ((i 0).val + 1) * 512 ≤ 4096; omega

/-- A word from 0 to 7 is below 8. -/
theorem small_of_bits (w : BitVec 32) (h0 : Scalar.cmpi .sge w 0#32 = 1#1) (h1 : Scalar.cmpi .slt w 8#32 = 1#1) : w.toNat < 8 := by
  have b0 : (0#32 : BitVec 32).toInt ≤ w.toInt := by
    have h : BitVec.ofBool (decide ((0#32 : BitVec 32).toInt ≤ w.toInt)) = 1#1 := h0
    by_contra hn
    rw [decide_eq_false hn] at h
    exact absurd h (by decide)
  have b1 : w.toInt < (8#32 : BitVec 32).toInt := by
    have h : BitVec.ofBool (decide (w.toInt < (8#32 : BitVec 32).toInt)) = 1#1 := h1
    by_contra hn
    rw [decide_eq_false hn] at h
    exact absurd h (by decide)
  have e0 : (0#32 : BitVec 32).toInt = 0 := by decide
  have e8 : (8#32 : BitVec 32).toInt = 8 := by decide
  rw [e0] at b0
  rw [e8] at b1
  have hw := w.isLt
  rw [BitVec.toInt_eq_toNat_cond] at b0 b1
  split at b1 <;> omega

/-- What the precondition says. -/
theorem experts_of (a : FVec F Cert.Pre_expert_table.S36864x5120 .bf16) (w : FVec F Cert.Pre_expert_table.S1x8x5120x4096 .f32) (T : IVec S73 32)
    (h : Cert.Pre_expert_table.fn (F := F) a w T = fun _ => 1#1) : Experts T := by
  intro k hk
  have h0 := congrFun h (fun a => a.elim0)
  dsimp only [Cert.Pre_expert_table.fn] at h0
  have h1 := Host.reduce_andi_all _ _ _ _ _ h0 (ix1 ⟨k.val, hk⟩)
  obtain ⟨h2, h3⟩ := IntOp.andi_eq_one.mp h1
  have e : ∀ v : IVec Cert.Pre_expert_table.S72 32, v = extractStridedSlice Cert.Pre_expert_table.S72 ![0] T Cert.Pre_expert_table.Facts.slices_S73_S72_0 → v (ix1 ⟨k.val, hk⟩) = T (ix1 k) := by
    rintro v rfl
    refine congrArg T (funext fun a => Fin.ext ?_)
    match a with
    | ⟨0, _⟩ => exact Nat.zero_add _
  have e' := e _ rfl
  refine small_of_bits _ ?_ ?_
  · rw [← e']; exact h2
  · rw [← e']; exact h3

end Cert.EDownIdeal.Hand

end
-- ==== Proof.EDown.Blocks.lean ====
/-
The body of the experts' grouped product at one point: the buffer it fills holds the block of the expert's weight, rounded to the
narrow format, and the block of the result is the product with the buffer, or zeros.
-/
module

public import proofs.«01_k».proof.Proof.EDown.Table

@[expose] public section
set_option maxRecDepth 16384
noncomputable section
namespace Cert.EDownIdeal.Blocks
open Idealize.ShloMosaic Idealize.ShloMosaic.TcCoe Idealize.ShloMosaic.Tactic
open Cert.EDownIdeal Cert.EDownIdeal.Gen Cert.EDownIdeal.Hand

/-- A buffer written by pieces that are all blocks of one array, and that together reach every index, holds that array. -/
theorem read_pieces {κ : Kind} {sp : Space} {s : Shape} {e : EltTy} (v : View sig κ sp s e)
    (f : v.ty.Contents (Elt Ideal)) (L : List (View.Piece (Elt Ideal) s e)) (G : s.Idx → Elt Ideal e)
    (h : ∀ p ∈ L, ∀ x : p.1.shape.Idx, p.2 x = G (p.1.emb x)) (cov : ∀ y, ∃ p ∈ L, y ∈ p.1.set) :
    v.read (Elt Ideal) (v.writes (Elt Ideal) f L) = G :=
  (View.read_writes_eq_canon v f L cov).trans (funext fun y => View.canon_apply_of_pieces G L h y (cov y))

/-- Every piece a counted loop has left comes from one of its trips, when each trip puts its own before the earlier ones. -/
theorem of_trips {α : Type} {N : ℕ} (pb : ℕ → List α) (T : Fin N → List α) (h0 : pb 0 = [])
    (hs : ∀ k : Fin N, pb (k.val + 1) = T k ++ pb k.val) (p : α) : ∀ n, n ≤ N → p ∈ pb n → ∃ k : Fin N, p ∈ T k
  | 0, _, hp => by rw [h0] at hp; exact absurd hp List.not_mem_nil
  | n + 1, hn, hp => by
    rw [hs ⟨n, hn⟩] at hp
    rcases List.mem_append.mp hp with hp | hp
    · exact ⟨_, hp⟩
    · exact of_trips pb T h0 hs p n (Nat.le_of_succ_le hn) hp

/-- The block of an expert's weight as the buffer holds it. -/
def W (x : FVec Ideal S1x1x5120x512 .f32) : FVec Ideal S5120x512 .bf16 := fun y => x (ix4 0 0 (y 0) (y 1))

theorem off3_eq : ∀ k : Fin k0_t1_loop.trips, k0_off3 k = ![0, 0, k.val * 512, 0] := by decide +kernel
theorem off4_eq : ∀ k : Fin k0_t1_loop.trips, k0_off4 k = ![k.val * 512, 0] := by decide +kernel

/-- One trip rounds 512 rows of the weight. -/
theorem trip_rows (𝒱 : Variants) (c : Dev nD) (bd : Option 𝒱.V) (i : grid0.Coords) (arg2 : Memref sig .tc .smem S73 .i32) (harg2 : arg2.IsWhole) (arg3 : Memref sig .tc .vmem S512x5120 .bf16) (harg3 : arg3.IsWhole) (arg4 : Memref sig .tc .vmem S1x1x5120x512 .f32) (harg4 : arg4.IsWhole) (arg5 : Memref sig .tc .vmem S512x512 .f32) (harg5 : arg5.IsWhole) (arg6 : Memref sig .tc .vmem S5120x512 .bf16) (harg6 : arg6.IsWhole)
    (X : BufTy.Contents (Elt Ideal) arg4.view.ty) (k : Fin k0_t1_loop.trips) :
    (trip_k0_t1 (F := Ideal) 𝒱 c bd i arg2 harg2 arg3 harg3 arg4 harg4 arg5 harg5 arg6 harg6 X k).1
      = [⟨Rect.unit (s := S5120x512) (k0_off4 k) S512x512.size (k0_off4_inb k),
          k0_pay1 (View.readAt (Elt Ideal) arg4.view (Rect.unit (s := S1x1x5120x512) (k0_off3 k) S1x1x512x512.size (k0_off3_inb k)).toLoadRect X)⟩] := by
  unfold trip_k0_t1; dsimp only

theorem pay1_at (x : FVec Ideal S1x1x512x512 .f32) (a : Fin 512) (b : Fin 512) : k0_pay1 (F := Ideal) x (ix2 a b) = x (ix4 0 0 a b) := by
  pointwise [k0_pay1]

/-- After the loop the buffer holds the rounded weight. -/
theorem filled (𝒱 : Variants) (c : Dev nD) (bd : Option 𝒱.V) (i : grid0.Coords) (arg2 : Memref sig .tc .smem S73 .i32) (harg2 : arg2.IsWhole) (arg3 : Memref sig .tc .vmem S512x5120 .bf16) (harg3 : arg3.IsWhole) (arg4 : Memref sig .tc .vmem S1x1x5120x512 .f32) (harg4 : arg4.IsWhole) (arg5 : Memref sig .tc .vmem S512x512 .f32) (harg5 : arg5.IsWhole) (arg6 : Memref sig .tc .vmem S5120x512 .bf16) (harg6 : arg6.IsWhole)
    (X : BufTy.Contents (Elt Ideal) arg4.view.ty) {κ : Kind} {sp : Space} (v : View sig κ sp S5120x512 .bf16) (f : v.ty.Contents (Elt Ideal)) :
    v.read (Elt Ideal) (v.writes (Elt Ideal) f (pb_k0_t1 (F := Ideal) 𝒱 c bd i arg2 harg2 arg3 harg3 arg4 harg4 arg5 harg5 arg6 harg6 X k0_t1_loop.trips))
      = W (arg4.view.read (Elt Ideal) X) := by
  refine read_pieces v f _ _ (fun p hp x => ?_) (fun y => View.cover_of_tiledL (pb_k0_t1 (F := Ideal) 𝒱 c bd i arg2 harg2 arg3 harg3 arg4 harg4 arg5 harg5 arg6 harg6 X k0_t1_loop.trips) S512x512.size (by sl_kernel_rfl) y)
  obtain ⟨k, hk⟩ := of_trips (fun n => pb_k0_t1 (F := Ideal) 𝒱 c bd i arg2 harg2 arg3 harg3 arg4 harg4 arg5 harg5 arg6 harg6 X n)
    (fun k => (trip_k0_t1 (F := Ideal) 𝒱 c bd i arg2 harg2 arg3 harg3 arg4 harg4 arg5 harg5 arg6 harg6 X k).1) rfl
    (fun k => by rw [pb_k0_t1_succ]) p _ le_rfl hp
  rw [trip_rows] at hk
  obtain rfl := List.mem_singleton.mp hk
  idx_vars x
  rw [View.readAt_eq_ld]
  refine (pay1_at _ _ _).trans ?_
  unfold W
  refine congrArg (arg4.view.read (Elt Ideal) X) (funext fun a => Fin.ext ?_)
  match a with
  | ⟨0, _⟩ => exact (Rect.idx_unit_val (s := S1x1x5120x512) (k0_off3 k) S1x1x512x512.size (k0_off3_inb k) (ix4 0 0 x0 x1) 0).trans ((congrArg (· + 0) (congrFun (off3_eq k) 0)).trans rfl)
  | ⟨1, _⟩ => exact (Rect.idx_unit_val (s := S1x1x5120x512) (k0_off3 k) S1x1x512x512.size (k0_off3_inb k) (ix4 0 0 x0 x1) 1).trans ((congrArg (· + 0) (congrFun (off3_eq k) 1)).trans rfl)
  | ⟨2, _⟩ => exact (Rect.idx_unit_val (s := S1x1x5120x512) (k0_off3 k) S1x1x512x512.size (k0_off3_inb k) (ix4 0 0 x0 x1) 2).trans (((congrArg (· + x0.val) (congrFun (off3_eq k) 2)).trans rfl).trans
      ((Rect.idx_unit_val (s := S5120x512) (k0_off4 k) S512x512.size (k0_off4_inb k) (ix2 x0 x1) 0).trans ((congrArg (· + x0.val) (congrFun (off4_eq k) 0)).trans rfl)).symm)
  | ⟨3, _⟩ => exact (Rect.idx_unit_val (s := S1x1x5120x512) (k0_off3 k) S1x1x512x512.size (k0_off3_inb k) (ix4 0 0 x0 x1) 3).trans (((congrArg (· + x1.val) (congrFun (off3_eq k) 3)).trans rfl).trans
      ((Rect.idx_unit_val (s := S5120x512) (k0_off4 k) S512x512.size (k0_off4_inb k) (ix2 x0 x1) 1).trans ((congrArg (· + x1.val) (congrFun (off4_eq k) 1)).trans rfl)).symm)

/-- The product of a block of rows with the buffer. -/
def B (x : Vec Ideal S512x5120 .bf16) (w : Vec Ideal S5120x512 .bf16) : Vec Ideal S512x512 .f32 := k0_pay2 (F := Ideal) x w

theorem B_at (x : FVec Ideal S512x5120 .bf16) (w : FVec Ideal S5120x512 .bf16) (r n : Fin 512) :
    B x w (ix2 r n) = ∑ k : Fin 5120, x (ix2 r k) * w (ix2 k n) := by
  pointwise [B, k0_pay2]
theorem zeros_at (r n : Fin 512) : (k0_pay3 (F := Ideal)) (ix2 r n) = 0 := by
  pointwise [k0_pay3]

/-- A block read whole is the block, for each of the two buffers the product reads. -/
theorem whole_x (x : Vec Ideal S512x5120 .bf16) :
    View.ld (Val := Elt Ideal) (e' := .bf16) x (Rect.unit (s := S512x5120) ![0, 0] S512x5120.size inb_S512x5120_S512x5120_0_0) = x := by
  funext y
  refine congrArg x (funext (Fin.forall_fin_two.mpr ⟨Fin.ext ?_, Fin.ext ?_⟩))
  · exact (Rect.idx_unit_val (s := S512x5120) ![0, 0] S512x5120.size inb_S512x5120_S512x5120_0_0 y 0).trans (Nat.zero_add (y _).val)
  · exact (Rect.idx_unit_val (s := S512x5120) ![0, 0] S512x5120.size inb_S512x5120_S512x5120_0_0 y 1).trans (Nat.zero_add (y _).val)
theorem whole_w (w : Vec Ideal S5120x512 .bf16) :
    View.ld (Val := Elt Ideal) (e' := .bf16) w (Rect.unit (s := S5120x512) ![0, 0] S5120x512.size inb_S5120x512_S5120x512_0_0) = w := by
  funext y
  refine congrArg w (funext (Fin.forall_fin_two.mpr ⟨Fin.ext ?_, Fin.ext ?_⟩))
  · exact (Rect.idx_unit_val (s := S5120x512) ![0, 0] S5120x512.size inb_S5120x512_S5120x512_0_0 y 0).trans (Nat.zero_add (y _).val)
  · exact (Rect.idx_unit_val (s := S5120x512) ![0, 0] S5120x512.size inb_S5120x512_S5120x512_0_0 y 1).trans (Nat.zero_add (y _).val)

/-- A block stored whole is the block held. -/
theorem block (p : Vec Ideal S512x512 .f32) : outOf [⟨Rect.unit (s := S512x512) ![0, 0] S512x512.size inb_S512x512_S512x512_0_0, p⟩] = p := by
  unfold outOf
  refine read_pieces outView _ _ _ (fun q hq x => ?_) (fun y => View.cover_of_tiledL [⟨Rect.unit (s := S512x512) ![0, 0] S512x512.size inb_S512x512_S512x512_0_0, p⟩] S512x512.size (by sl_kernel_rfl) y)
  obtain rfl := List.mem_singleton.mp hq
  refine congrArg p (funext (Fin.forall_fin_two.mpr ⟨Fin.ext ?_, Fin.ext ?_⟩))
  · exact ((Rect.idx_unit_val (s := S512x512) ![0, 0] S512x512.size inb_S512x512_S512x512_0_0 x 0).trans (Nat.zero_add (x _).val)).symm
  · exact ((Rect.idx_unit_val (s := S512x512) ![0, 0] S512x512.size inb_S512x512_S512x512_0_0 x 1).trans (Nat.zero_add (x _).val)).symm

/-- Where the buffer is filled it holds the point's block of the weight, -/
theorem scr_fill (c : Dev nD) (i : grid0.Coords) (arg3 : Memref sig .tc .vmem S512x5120 .bf16) (harg3 : arg3.IsWhole) (arg4 : Memref sig .tc .vmem S1x1x5120x512 .f32) (harg4 : arg4.IsWhole) (arg5 : Memref sig .tc .vmem S512x512 .f32) (harg5 : arg5.IsWhole) (arg6 : Memref sig .tc .vmem S5120x512 .bf16) (harg6 : arg6.IsWhole) (T : Words (F := Ideal) c)
    (x0 : Vec Ideal S512x5120 .bf16) (x1 : Vec Ideal S1x1x5120x512 .f32) (xs : Vec Ideal S5120x512 .bf16) (h0 : Fills c T i) :
    (step c i arg3 harg3 arg4 harg4 arg5 harg5 arg6 harg6 T x0 x1 xs).2 = W x1 := by
  unfold step
  by_cases h1 : Live c T i
  · have e : (runFillLive (F := Ideal) c i arg3 harg3 arg4 harg4 arg5 harg5 arg6 harg6 T h0 h1 (not_blank_of h1) x0 x1).2.1 = (pb_k0_t1 (F := Ideal) Variants.none c none i tab (Memref.isWhole_whole _) arg3 harg3 arg4 harg4 arg5 harg5 arg6 harg6 (harg4.unread x1) k0_t1_loop.trips) := by
      unfold runFillLive; dsimp only
    rw [dif_pos h0, dif_pos h1]
    dsimp only
    unfold scrOf
    rw [e, filled, harg4.read_unread]
  · have e : (runFillBlank (F := Ideal) c i arg3 harg3 arg4 harg4 arg5 harg5 arg6 harg6 T h0 h1 (blank_of h1) x0 x1).2.1 = (pb_k0_t1 (F := Ideal) Variants.none c none i tab (Memref.isWhole_whole _) arg3 harg3 arg4 harg4 arg5 harg5 arg6 harg6 (harg4.unread x1) k0_t1_loop.trips) := by
      unfold runFillBlank; dsimp only
    rw [dif_pos h0, dif_neg h1]
    dsimp only
    unfold scrOf
    rw [e, filled, harg4.read_unread]

/-- and elsewhere it stays as it was. -/
theorem scr_keep (c : Dev nD) (i : grid0.Coords) (arg3 : Memref sig .tc .vmem S512x5120 .bf16) (harg3 : arg3.IsWhole) (arg4 : Memref sig .tc .vmem S1x1x5120x512 .f32) (harg4 : arg4.IsWhole) (arg5 : Memref sig .tc .vmem S512x512 .f32) (harg5 : arg5.IsWhole) (arg6 : Memref sig .tc .vmem S5120x512 .bf16) (harg6 : arg6.IsWhole) (T : Words (F := Ideal) c)
    (x0 : Vec Ideal S512x5120 .bf16) (x1 : Vec Ideal S1x1x5120x512 .f32) (xs : Vec Ideal S5120x512 .bf16) (h0 : ¬ Fills c T i) :
    (step c i arg3 harg3 arg4 harg4 arg5 harg5 arg6 harg6 T x0 x1 xs).2 = xs := by
  unfold step
  by_cases h1 : Live c T i
  · rw [dif_neg h0, dif_pos h1]
  · rw [dif_neg h0, dif_neg h1]

/-- The block of the result where the block of rows is in use: the product with what the buffer then holds, -/
theorem out_live (c : Dev nD) (i : grid0.Coords) (arg3 : Memref sig .tc .vmem S512x5120 .bf16) (harg3 : arg3.IsWhole) (arg4 : Memref sig .tc .vmem S1x1x5120x512 .f32) (harg4 : arg4.IsWhole) (arg5 : Memref sig .tc .vmem S512x512 .f32) (harg5 : arg5.IsWhole) (arg6 : Memref sig .tc .vmem S5120x512 .bf16) (harg6 : arg6.IsWhole) (T : Words (F := Ideal) c)
    (x0 : Vec Ideal S512x5120 .bf16) (x1 : Vec Ideal S1x1x5120x512 .f32) (xs : Vec Ideal S5120x512 .bf16) (h1 : Live c T i) :
    (step c i arg3 harg3 arg4 harg4 arg5 harg5 arg6 harg6 T x0 x1 xs).1 = B x0 (step c i arg3 harg3 arg4 harg4 arg5 harg5 arg6 harg6 T x0 x1 xs).2 := by
  by_cases h0 : Fills c T i
  · rw [scr_fill c i arg3 harg3 arg4 harg4 arg5 harg5 arg6 harg6 T x0 x1 xs h0]
    unfold step
    have e : (runFillLive (F := Ideal) c i arg3 harg3 arg4 harg4 arg5 harg5 arg6 harg6 T h0 h1 (not_blank_of h1) x0 x1).1
        = [⟨Rect.unit (s := S512x512) ![0, 0] S512x512.size inb_S512x512_S512x512_0_0, k0_pay2 (F := Ideal) (View.readAt (Elt Ideal) arg3.view (Rect.unit (s := S512x5120) ![0, 0] S512x5120.size inb_S512x5120_S512x5120_0_0).toLoadRect (harg3.unread x0)) (arg6.view.readCov (pb_k0_t1 (F := Ideal) Variants.none c none i tab (Memref.isWhole_whole _) arg3 harg3 arg4 harg4 arg5 harg5 arg6 harg6 (harg4.unread x1) k0_t1_loop.trips) (Rect.unit (s := S5120x512) ![0, 0] S5120x512.size inb_S5120x512_S5120x512_0_0).toLoadRect)⟩] := by
      unfold runFillLive; dsimp only
    rw [dif_pos h0, dif_pos h1]
    dsimp only
    rw [e, block, View.readAt_eq_ld, harg3.read_unread, whole_x]
    refine congrArg (k0_pay2 (F := Ideal) x0) ?_
    unfold View.readCov
    rw [View.readAt_eq_ld, filled, harg4.read_unread, whole_w]
  · rw [scr_keep c i arg3 harg3 arg4 harg4 arg5 harg5 arg6 harg6 T x0 x1 xs h0]
    unfold step
    have e : (runKeepLive (F := Ideal) c i arg3 harg3 arg4 harg4 arg5 harg5 arg6 harg6 T h0 h1 (not_blank_of h1) x0 x1 xs).1
        = [⟨Rect.unit (s := S512x512) ![0, 0] S512x512.size inb_S512x512_S512x512_0_0, k0_pay2 (F := Ideal) (View.readAt (Elt Ideal) arg3.view (Rect.unit (s := S512x5120) ![0, 0] S512x5120.size inb_S512x5120_S512x5120_0_0).toLoadRect (harg3.unread x0)) (View.readAt (Elt Ideal) arg6.view (Rect.unit (s := S5120x512) ![0, 0] S5120x512.size inb_S5120x512_S5120x512_0_0).toLoadRect (harg6.unread xs))⟩] := by
      unfold runKeepLive; dsimp only
    rw [dif_neg h0, dif_pos h1]
    dsimp only
    rw [e, block, View.readAt_eq_ld, View.readAt_eq_ld, harg3.read_unread, harg6.read_unread, whole_x, whole_w]
    rfl

/-- and zeros where it is not. -/
theorem out_blank (c : Dev nD) (i : grid0.Coords) (arg3 : Memref sig .tc .vmem S512x5120 .bf16) (harg3 : arg3.IsWhole) (arg4 : Memref sig .tc .vmem S1x1x5120x512 .f32) (harg4 : arg4.IsWhole) (arg5 : Memref sig .tc .vmem S512x512 .f32) (harg5 : arg5.IsWhole) (arg6 : Memref sig .tc .vmem S5120x512 .bf16) (harg6 : arg6.IsWhole) (T : Words (F := Ideal) c)
    (x0 : Vec Ideal S512x5120 .bf16) (x1 : Vec Ideal S1x1x5120x512 .f32) (xs : Vec Ideal S5120x512 .bf16) (h1 : ¬ Live c T i) :
    (step c i arg3 harg3 arg4 harg4 arg5 harg5 arg6 harg6 T x0 x1 xs).1 = k0_pay3 (F := Ideal) := by
  unfold step
  by_cases h0 : Fills c T i
  · have e : (runFillBlank (F := Ideal) c i arg3 harg3 arg4 harg4 arg5 harg5 arg6 harg6 T h0 h1 (blank_of h1) x0 x1).1 = [⟨Rect.unit (s := S512x512) ![0, 0] S512x512.size inb_S512x512_S512x512_0_0, k0_pay3 (F := Ideal)⟩] := by
      unfold runFillBlank; dsimp only
    rw [dif_pos h0, dif_neg h1]
    dsimp only
    rw [e, block]
  · have e : (runKeepBlank (F := Ideal) c i arg3 harg3 arg4 harg4 arg5 harg5 arg6 harg6 T h0 h1 (blank_of h1) x0 x1 xs).1 = [⟨Rect.unit (s := S512x512) ![0, 0] S512x512.size inb_S512x512_S512x512_0_0, k0_pay3 (F := Ideal)⟩] := by
      unfold runKeepBlank; dsimp only
    rw [dif_neg h0, dif_neg h1]
    dsimp only
    rw [e, block]

end Cert.EDownIdeal.Blocks
end
-- ==== Proof.EDown.Final.lean ====
/-
What the experts' grouped product leaves in its result array, entry by entry, for any table that names an expert for each block.
-/
module

public import proofs.«01_k».proof.Proof.EDown.Blocks
public import Idealize.ShloMosaic.Lib.Pipeline.Covers

@[expose] public section
set_option maxRecDepth 16384
noncomputable section
namespace Cert.EDownIdeal.Final
open Idealize.ShloMosaic Idealize.ShloMosaic.TcCoe Idealize.SL.Sem
open Cert.EDownIdeal Cert.EDownIdeal.Gen Cert.EDownIdeal.Hand Cert.EDownIdeal.Blocks

variable (m : (ℓ : Loc nD τ sig) → Buf (Elt Ideal) ℓ) (ρ : Dev nD → PrngReg)

theorem point_lt (hI : Inside m) (t : Fin (pipe m hI).N) : t.val < 576 := lt_of_lt_of_eq t.isLt N_0

theorem idx0 (hI : Inside m) (t : Fin (pipe m hI).N) : ((pipe m hI).win 0).index t = ![t.val % 72, 0] :=
  (by decide +kernel : ∀ t : Fin grid0.N, cc0_transform_0 (grid0.coords t) = ![t.val % 72, 0]) t
theorem idx2 (hI : Inside m) (t : Fin (pipe m hI).N) : ((pipe m hI).win 2).index t = ![t.val % 72, t.val / 72] :=
  (by decide +kernel : ∀ t : Fin grid0.N, cc0_transform_2 (grid0.coords t) = ![t.val % 72, t.val / 72]) t

/-- The blocks at a point, read at an index: the rows, -/
theorem a_at (hI : Inside m) (c : Dev nD) (t : Fin (pipe m hI).N) (r : Fin 512) (k : Fin 5120) : (blockAt m hI c 0 t : FVec Ideal S512x5120 .bf16) (ix2 r k)
    = (m ((c : Thread nD τ).loc main_arg0) : FVec Ideal S36864x5120 .bf16) (ix2 ⟨t.val % 72 * 512 + r.val, by omega⟩ k) := by
  have e := idx0 m hI t
  show start m c main_arg0 _ = _
  blk_ext [blockAt, e]

/-- The expert of a block of rows: its word of the table. -/
def expert (T : IVec S73 32) (b : Fin 72) : Fin 8 := ⟨(T (ix1 ⟨b.val, by omega⟩)).toNat % 8, Nat.mod_lt _ (by decide)⟩
theorem expert_val {T : IVec S73 32} (h : Experts T) (b : Fin 72) : (T (ix1 ⟨b.val, by omega⟩)).toNat = (expert T b).val :=
  (Nat.mod_eq_of_lt (h ⟨b.val, by omega⟩ b.isLt)).symm
theorem expert_congr {T : IVec S73 32} {b d : Fin 72} (h : (T (ix1 ⟨b.val, by omega⟩)) = T (ix1 ⟨d.val, by omega⟩)) : expert T b = expert T d :=
  Fin.ext (congrArg (fun w : BitVec 32 => w.toNat % 8) h)

theorem row_of (hI : Inside m) (t : Fin (pipe m hI).N) : (grid0.coords t 1).val = t.val % 72 := by
  have := coord1 t
  rw [this, Nat.div_one]
theorem col_of (hI : Inside m) (t : Fin (pipe m hI).N) : (grid0.coords t 0).val = t.val / 72 := by
  have := coord0 t
  have hl := point_lt m hI t
  rw [this]
  omega

theorem idx1 (hI : Inside m) (hE : Experts (table m 0)) (t : Fin (pipe m hI).N) :
    ((pipe m hI).win 1).index t = ![0, (expert (table m 0) ⟨t.val % 72, Nat.mod_lt _ (by decide)⟩).val, 0, t.val / 72] := by
  have e := weight_index (table m) (grid0.coords t) ⟨t.val % 72, by omega⟩ (row_of m hI t)
  rw [expert_val hE ⟨t.val % 72, Nat.mod_lt _ (by decide)⟩, col_of m hI t] at e
  exact e

/-- the weights of the block's expert, -/
theorem w_at (hI : Inside m) (hE : Experts (table m 0)) (c : Dev nD) (t : Fin (pipe m hI).N) (k : Fin 5120) (n : Fin 512) : (blockAt m hI c 1 t : FVec Ideal S1x1x5120x512 .f32) (ix4 0 0 k n)
    = (m ((c : Thread nD τ).loc main_arg1) : FVec Ideal S1x8x5120x4096 .f32) (ix4 0 (expert (table m 0) ⟨t.val % 72, Nat.mod_lt _ (by decide)⟩) k ⟨t.val / 72 * 512 + n.val, by have := point_lt m hI t; omega⟩) := by
  have e := idx1 m hI hE t
  show start m c main_arg1 _ = _
  blk_ext [blockAt, e]

/-- A point that keeps the buffer has the expert of the point before it, -/
theorem same_of_kept (c : Dev nD) (T : Words (F := Ideal) c) (i : grid0.Coords) (h : ¬ Fills c T i) : mine c T i = prev c T i := by
  by_contra hd
  have eb : Scalar.cmpi .ne (mine c T i) (prev c T i) = 1#1 := by
    generalize mine c T i = a at hd ⊢
    generalize prev c T i = b at hd ⊢
    word_cmp
    exact fun e => hd (BitVec.eq_of_toNat_eq e)
  apply h
  unfold Fills
  rw [eb]
  generalize Scalar.cmpi .eq (BitVec.ofNat 32 (i 1).val) 0#32 = b
  revert b
  decide

/-- and what a point finds in the weight buffer once it has filled it or kept it: its expert's weights. -/
theorem scratch (hI : Inside m) (hE : Experts (table m 0)) (c : Dev nD) : ∀ n (hn : n < (pipe m hI).N) (k : Fin 5120) (e : Fin 512),
    (scrBefore m hI c (n + 1) hn : FVec Ideal S5120x512 .bf16) (ix2 k e)
      = (m ((c : Thread nD τ).loc main_arg1) : FVec Ideal S1x8x5120x4096 .f32) (ix4 0 (expert (table m 0) ⟨n % 72, Nat.mod_lt _ (by decide)⟩) k ⟨n / 72 * 512 + e.val, by have := point_lt m hI ⟨n, hn⟩; dsimp only at this; omega⟩) := by
  intro n
  induction n with
  | zero =>
    intro hn k e
    have hf : Fills c (table m 0) (grid0.coords (⟨0, hn⟩ : Fin grid0.N)) := fills_of_first c _ _ (row_of m hI ⟨0, hn⟩)
    have h := (scrBefore_succ m hI c ⟨0, hn⟩).trans (scr_fill (h0 := hf) ..)
    exact (congrFun h (ix2 k e)).trans (w_at m hI hE c ⟨0, hn⟩ k e)
  | succ n ih =>
    intro hn k e
    have hl := point_lt m hI ⟨n + 1, hn⟩
    dsimp only at hl
    by_cases hf : Fills c (table m 0) (grid0.coords (⟨n + 1, hn⟩ : Fin grid0.N))
    · have h := (scrBefore_succ m hI c ⟨n + 1, hn⟩).trans (scr_fill (h0 := hf) ..)
      exact (congrFun h (ix2 k e)).trans (w_at m hI hE c ⟨n + 1, hn⟩ k e)
    · have h := (scrBefore_succ m hI c ⟨n + 1, hn⟩).trans (scr_keep (h0 := hf) ..)
      have hr := row_of m hI ⟨n + 1, hn⟩
      have hne : (n + 1) % 72 ≠ 0 := fun h0 => hf (fills_of_first c _ _ (hr.trans h0))
      have h1 : n / 72 = (n + 1) / 72 := by omega
      have h2 : (n + 1) % 72 - 1 = n % 72 := by omega
      have same := (mine_eq c (table m 0) (grid0.coords (⟨n + 1, hn⟩ : Fin grid0.N)) ⟨(n + 1) % 72, by omega⟩ hr).symm.trans
        ((same_of_kept c _ _ hf).trans (prev_eq c (table m 0) (grid0.coords (⟨n + 1, hn⟩ : Fin grid0.N)) ⟨n % 72, by omega⟩ (hr ▸ h2)))
      have he : expert (table m 0) ⟨n % 72, Nat.mod_lt _ (by decide)⟩ = expert (table m 0) ⟨(n + 1) % 72, Nat.mod_lt _ (by decide)⟩ := expert_congr same.symm
      refine (congrFun h (ix2 k e)).trans ((ih (Nat.lt_of_succ_lt hn) k e).trans (congrArg _ ?_))
      rw [he]
      simp only [h1]

/-- Whether a block of rows is in use: its number is below the table's last word. -/
abbrev Used (T : IVec S73 32) (b : Fin 72) : Prop := Scalar.cmpi .slt (BitVec.ofNat 32 b.val) (T (ix1 72)) = 1#1
theorem live_iff (c : Dev nD) (T : Words (F := Ideal) c) (i : grid0.Coords) (b : Fin 72) (h : (i 1).val = b.val) : Live c T i ↔ Used (T : IVec S73 32) b := by
  unfold Live Used k0_cond2
  rw [used_eq, h]
  dsimp only
  generalize Scalar.cmpi .slt (BitVec.ofNat 32 b.val) ((T : IVec S73 32) (ix1 72)) = w
  revert w
  decide

/-- One entry, at row `r` of block `b` and column `n`. -/
def entry (a : FVec Ideal S36864x5120 .bf16) (w : FVec Ideal S1x8x5120x4096 .f32) (T : IVec S73 32) (b : Fin 72) (r : Fin 36864) (n : Fin 4096) : Ideal .f32 :=
  if Used T b then ∑ k : Fin 5120, a (ix2 r k) * w (ix4 0 (expert T b) k n) else 0

/-- The plain product: each block of 512 rows times its expert's weights, and zeros in the blocks that are not in use. -/
def res (a : FVec Ideal S36864x5120 .bf16) (w : FVec Ideal S1x8x5120x4096 .f32) (T : IVec S73 32) : FVec Ideal S36864x4096 .f32 := fun y =>
  entry a w T ⟨(y 0).val / 512, by have h0 := (y 0).isLt; change (y 0).val < 36864 at h0; omega⟩ (y 0) (y 1)

theorem res_at (a : FVec Ideal S36864x5120 .bf16) (w : FVec Ideal S1x8x5120x4096 .f32) (T : IVec S73 32) (b : Fin 72) (r : Fin 36864) (n : Fin 4096) (h : r.val / 512 = b.val) : res a w T (ix2 r n) = entry a w T b r n := by
  have e : ∀ hh, (⟨r.val / 512, hh⟩ : Fin 72) = b := fun _ => Fin.ext h
  exact congrArg (fun b => entry a w T b r n) (e _)

/-- The block of the result at a point. -/
theorem point (hI : Inside m) (hE : Experts (table m 0)) (c : Dev nD) (t : Fin (pipe m hI).N) (r : Fin 512) (n : Fin 512) :
    (blockAfter m hI c t : FVec Ideal S512x512 .f32) (ix2 r n)
      = res (m ((c : Thread nD τ).loc main_arg0)) (m ((c : Thread nD τ).loc main_arg1)) (table m 0) (ix2 ⟨t.val % 72 * 512 + r.val, by omega⟩ ⟨t.val / 72 * 512 + n.val, by have := point_lt m hI t; omega⟩) := by
  refine Eq.trans ?_ (res_at _ _ _ ⟨t.val % 72, Nat.mod_lt _ (by decide)⟩ _ _ (by dsimp only; omega)).symm
  unfold entry blockAfter
  have hl := live_iff c (table m 0) (grid0.coords t) ⟨t.val % 72, Nat.mod_lt _ (by decide)⟩ (row_of m hI t)
  have hs := scrBefore_succ m hI c t
  by_cases h : Live c (table m 0) (grid0.coords t)
  · rw [if_pos (hl.mp h)]
    have e : (stepAt m hI c t (scrBefore m hI c t.val (Nat.le_of_lt t.isLt))).1 = B (blockAt m hI c 0 t) (scrBefore m hI c (t.val + 1) t.isLt) := by
      rw [hs]
      exact out_live (h1 := h) ..
    refine (congrFun e (ix2 r n)).trans ((B_at _ _ r n).trans ?_)
    exact Finset.sum_congr rfl fun k _ => congrArg₂ (fun (a b : Ideal .f32) => a * b) (a_at m hI c t r k) (scratch m hI hE c t.val t.isLt k n)
  · rw [if_neg (fun hu => h (hl.mpr hu))]
    have e : (stepAt m hI c t (scrBefore m hI c t.val (Nat.le_of_lt t.isLt))).1 = k0_pay3 (F := Ideal) := out_blank (h1 := h) ..
    exact (congrFun e (ix2 r n)).trans (zeros_at r n)

theorem nblk0 (hI : Inside m) : ((pipe m hI).win 2).nblk ⟨0, Nat.succ_pos 1⟩ = 72 := by
  show (36864 + 512 - 1) / 512 = 72
  rfl
theorem nblk1 (hI : Inside m) : ((pipe m hI).win 2).nblk ⟨1, Nat.lt_succ_self 1⟩ = 8 := by
  show (4096 + 512 - 1) / 512 = 8
  rfl

/-- Every entry of the result lies in some point's block. -/
theorem covers (hI : Inside m) : ((pipe m hI).win 2).Covers := by
  refine Pipeline.Window.covers_of_index_surj _ rfl (fun a => match a with | ⟨0, _⟩ => Nat.succ_pos 511 | ⟨1, _⟩ => Nat.succ_pos 511) fun β => ?_
  let i0 : Fin ((pipe m hI).win 2).shape.rank := ⟨0, Nat.succ_pos 1⟩
  let i1 : Fin ((pipe m hI).win 2).shape.rank := ⟨1, Nat.lt_succ_self 1⟩
  obtain ⟨p, hp⟩ : ∃ p : Fin 72, p.val = (β i0).val := ⟨⟨(β i0).val, lt_of_lt_of_eq (β i0).isLt (nblk0 m hI)⟩, rfl⟩
  obtain ⟨q, hq⟩ : ∃ q : Fin 8, q.val = (β i1).val := ⟨⟨(β i1).val, lt_of_lt_of_eq (β i1).isLt (nblk1 m hI)⟩, rfl⟩
  have hN : q.val * 72 + p.val < (pipe m hI).N := lt_of_lt_of_eq (by omega : _ < 576) N_0.symm
  refine ⟨⟨q.val * 72 + p.val, hN⟩, ?_⟩
  rw [idx2 m hI]
  intro a
  match a with
  | ⟨0, _⟩ => refine Eq.trans ?_ hp; show (q.val * 72 + p.val) % 72 = p.val; omega
  | ⟨1, _⟩ => refine Eq.trans ?_ hq; show (q.val * 72 + p.val) / 72 = q.val; omega

/-- The kernel's result array. -/
theorem final (hI : Inside m) (hE : Experts (table m 0)) (c : Dev nD) : (dats m hI 0 c).arrAt 2 (pipe m hI).N = res (m ((c : Thread nD τ).loc main_arg0)) (m ((c : Thread nD τ).loc main_arg1)) (table m 0) := by
  refine (dats m hI 0 c).arrAt_eq_of_covers 2 _ (covers m hI) fun t _ y => ?_
  have e := idx2 m hI t
  rw [after_2]
  revert y
  change ∀ y : S512x512.Idx, _
  intro y
  idx_vars y
  refine (point m hI hE c t y0 y1).trans (congrArg (res _ _ _) ?_)
  blk_ext [e]

/-- The run: the result array, and the arguments as they were. -/
theorem run (hE : Experts (table m 0)) : θ_run defs (onTc (τ := τ) (main (F := Ideal))) ⟨m, fun _ => 0, ρ⟩ fun r => ∀ c : Dev nD,
      r.2.mem ((c : Thread nD τ).loc main_v0) = res (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  have hI := inside_of m hE
  refine (θ_run defs _ _).mono (fun r h c => ?_) (run_quiescent m ρ hI)
  have ht : (table m 0 : IVec S73 32) = m ((c : Thread nD τ).loc main_arg2) := (table_eq m c 0).symm
  exact ⟨((h.1 c).1 2).trans ((final m hI hE c).trans (congrArg (res _ _) ht)),
    ((h.1 c).1 0).trans (((dats m hI 0 c).arrAt_in 0 rfl _).trans (A_eq m hI c 0)),
    ((h.1 c).1 1).trans (((dats m hI 0 c).arrAt_in 1 rfl _).trans (A_eq m hI c 1)),
    (h.1 c).2 main_arg2 (by decide : main_arg2 ∈ Pipeline.restRefs sig spec0)⟩

end Cert.EDownIdeal.Final
end
-- ==== Proof.EDown.Plain.lean ====
/-
The reference of the experts' last product, entry by entry.
-/
module

public import proofs.«01_k».proof.Proof.EDown.Final
public import proofs.«01_k».proof.Proof.Gen.EDownRefIdeal.Run

@[expose] public section
set_option maxRecDepth 16384
noncomputable section
namespace Cert.EDownRefIdeal.Plain
open Idealize.ShloMosaic Idealize.ShloMosaic.TcCoe
open Cert.EDownRefIdeal Cert.EDownRefIdeal.Gen
open Cert.EDownIdeal.Hand (Experts)
open Cert.EDownIdeal.Final (expert Used)

/-- The product at a row and a column. -/
theorem dot_at (x : FVec Ideal S72x512x5120 .f32) (w : FVec Ideal S5120x4096 .f32) (b : Fin 72) (s : Fin 512) (n : Fin 4096) :
    (Host.dotGeneral dot_S72x512x5120_S5120x4096_S72x512x4096_2_0_01_1_n_n none x w : FVec Ideal S72x512x4096 .f32) (ix3 b s n)
      = ∑ k : Fin 5120, x (ix3 b s k) * w (ix2 k n) := by
  pointwise

/-- A row of a block. -/
theorem side (a : FVec Ideal S36864x5120 .bf16) (b : Fin 72) (s : Fin 512) (r : Fin 36864) (hr : r.val = b.val * 512 + s.val) (k : Fin 5120) :
    (shapeCast _ (extf .f32 a bitsLt_bf16_f32) shapeCasts_S36864x5120_S72x512x5120 : FVec Ideal S72x512x5120 .f32) (ix3 b s k) = a (ix2 r k) := by
  rw [show r = ⟨b.val * 512 + s.val, by omega⟩ from Fin.ext hr]
  pointwise

/-- A column of an expert's weights. -/
theorem col_at (e : Fin 8) (h : S1x8x5120x4096.Slices ![0, e.val, 0, 0] S1x1x5120x4096) (w : FVec Ideal S1x8x5120x4096 .f32) (k : Fin 5120) (n : Fin 4096) :
    (shapeCast _ (extractStridedSlice S1x1x5120x4096 ![0, e.val, 0, 0] w h) shapeCasts_S1x1x5120x4096_S5120x4096 : FVec Ideal S5120x4096 .f32) (ix2 k n) = w (ix4 0 e k n) := by
  pointwise

/-- The blocks of one expert. -/
theorem mask_at (T : IVec S73 32) (e : BitVec 32) (b : Fin 72) (s : Fin 512) (n : Fin 4096) :
    (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 e)))) : IVec S72x512x4096 1) (ix3 b s n)
      = Scalar.cmpi .eq (T (ix1 ⟨b.val, by omega⟩)) e := by
  pointwise
  rfl

/-- The blocks in use. -/
theorem used_at (T : IVec S73 32) (b : Fin 72) (s : Fin 512) (n : Fin 4096) :
    (broadcastInDim S72x512x4096 ![0, 1, 2] bcast_S72x1x1_S72x512x4096_0_1_2 (broadcastInDim S72x1x1 ![0] bcast_S72_S72x1x1_0 (cmpi .slt (iotaInDim S72 32 0) (broadcastInDim S72 ![] bcast_S_S72 (shapeCast _ (extractStridedSlice S1 ![72] T slices_S73_S1_72) shapeCasts_S1_S_)))) : IVec S72x512x4096 1) (ix3 b s n)
      = Scalar.cmpi .slt (BitVec.ofNat 32 b.val) (T (ix1 72)) := by
  pointwise
  rfl

theorem zeros_at (b : Fin 72) (s : Fin 512) (n : Fin 4096) :
    (broadcastInDim S72x512x4096 ![] bcast_S_S72x512x4096 (constant S_ .f32 0x00000000#32) : FVec Ideal S72x512x4096 .f32) (ix3 b s n) = 0 := by
  pointwise

/-- A row of the result is a row of a block. -/
theorem row_at (z : FVec Ideal S72x512x4096 .f32) (r : Fin 36864) (n : Fin 4096) :
    (shapeCast _ z shapeCasts_S72x512x4096_S36864x4096 : FVec Ideal S36864x4096 .f32) (ix2 r n) = z (ix3 ⟨r.val / 512, by omega⟩ ⟨r.val % 512, by omega⟩ n) := by
  pointwise

/-- One step of the choice among the experts: in the blocks of another expert, what was there is left. -/
theorem pick_other (T : IVec S73 32) (b : Fin 72) (s : Fin 512) (n : Fin 4096) (e : BitVec 32) (d z : FVec Ideal S72x512x4096 .f32) (h : T (ix1 ⟨b.val, by omega⟩) ≠ e) :
    (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 e))))) d z : FVec Ideal S72x512x4096 .f32) (ix3 b s n) = z (ix3 b s n) := by
  unfold select Scalar.select
  rw [mask_at]
  refine if_neg fun h1 => h ?_
  have hb : BitVec.ofBool (T (ix1 ⟨b.val, by omega⟩) == e) = 1#1 := h1
  by_contra hn
  rw [beq_false_of_ne hn] at hb
  exact absurd hb (by decide)
/-- In its own blocks an expert's product is taken. -/
theorem pick_same (T : IVec S73 32) (b : Fin 72) (s : Fin 512) (n : Fin 4096) (e : BitVec 32) (d z : FVec Ideal S72x512x4096 .f32) (h : T (ix1 ⟨b.val, by omega⟩) = e) :
    (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 e))))) d z : FVec Ideal S72x512x4096 .f32) (ix3 b s n) = d (ix3 b s n) := by
  unfold select Scalar.select
  rw [mask_at, h]
  refine if_pos ?_
  show BitVec.ofBool (e == e) = 1#1
  rw [beq_self_eq_true]
  rfl

/-- An expert's product at a row and a column. -/
theorem term_at (e : Fin 8) (h : S1x8x5120x4096.Slices ![0, e.val, 0, 0] S1x1x5120x4096) (a : FVec Ideal S36864x5120 .bf16) (w : FVec Ideal S1x8x5120x4096 .f32) (b : Fin 72) (s : Fin 512) (r : Fin 36864) (hr : r.val = b.val * 512 + s.val) (n : Fin 4096) :
    (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, e.val, 0, 0] w h) shapeCasts_S1x1x5120x4096_S5120x4096) : FVec Ideal S72x512x4096 .f32) (ix3 b s n)
      = ∑ k : Fin 5120, a (ix2 r k) * w (ix4 0 e k n) :=
  (dot_at _ _ b s n).trans (Finset.sum_congr rfl fun k _ => congrArg₂ (fun (a b : Ideal .f32) => a * b) (side a b s r hr k) (col_at e h w k n))

/-- The expert of a block, from its word. -/
theorem expert_of {T : IVec S73 32} {b : Fin 72} (e : Fin 8) (h : T (ix1 ⟨b.val, by omega⟩) = BitVec.ofNat 32 e.val) : expert T b = e := by
  refine Fin.ext ?_
  show (T (ix1 ⟨b.val, by omega⟩)).toNat % 8 = e.val
  rw [h]
  clear h
  revert e
  decide

/-- The choice among the eight experts takes the block's own. -/
theorem chain_at (a : FVec Ideal S36864x5120 .bf16) (w : FVec Ideal S1x8x5120x4096 .f32) (T : IVec S73 32) (hE : Experts T) (b : Fin 72) (s : Fin 512) (r : Fin 36864) (hr : r.val = b.val * 512 + s.val) (n : Fin 4096) :
    ((select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 7#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 7, 0, 0] w slices_S1x8x5120x4096_S1x1x5120x4096_0_7_0_0) shapeCasts_S1x1x5120x4096_S5120x4096)) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 6#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 6, 0, 0] w slices_S1x8x5120x4096_S1x1x5120x4096_0_6_0_0) shapeCasts_S1x1x5120x4096_S5120x4096)) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 5#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 5, 0, 0] w slices_S1x8x5120x4096_S1x1x5120x4096_0_5_0_0) shapeCasts_S1x1x5120x4096_S5120x4096)) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 4#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 4, 0, 0] w slices_S1x8x5120x4096_S1x1x5120x4096_0_4_0_0) shapeCasts_S1x1x5120x4096_S5120x4096)) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 3#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 3, 0, 0] w slices_S1x8x5120x4096_S1x1x5120x4096_0_3_0_0) shapeCasts_S1x1x5120x4096_S5120x4096)) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 2#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 2, 0, 0] w slices_S1x8x5120x4096_S1x1x5120x4096_0_2_0_0) shapeCasts_S1x1x5120x4096_S5120x4096)) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 1#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 1, 0, 0] w slices_S1x8x5120x4096_S1x1x5120x4096_0_1_0_0) shapeCasts_S1x1x5120x4096_S5120x4096)) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 0#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 0, 0, 0] w slices_S1x8x5120x4096_S1x1x5120x4096_0_0_0_0) shapeCasts_S1x1x5120x4096_S5120x4096)) (broadcastInDim S72x512x4096 ![] bcast_S_S72x512x4096 (constant S_ .f32 0x00000000#32)))))))))) : FVec Ideal S72x512x4096 .f32) (ix3 b s n) = ∑ k : Fin 5120, a (ix2 r k) * w (ix4 0 (expert T b) k n) := by
  have h8 := hE ⟨b.val, by omega⟩ b.isLt
  obtain ⟨e, he⟩ : ∃ e : Fin 8, T (ix1 ⟨b.val, by omega⟩) = BitVec.ofNat 32 e.val := ⟨⟨_, h8⟩, (BitVec.eq_of_toNat_eq ((BitVec.toNat_ofNat _ _).trans (Nat.mod_eq_of_lt (BitVec.isLt _)))).symm⟩
  rw [expert_of e he]
  match e, he with
  | 0, he =>
    refine (pick_other T b s n 7#32 _ _ (by rw [he]; decide)).trans ?_
    refine (pick_other T b s n 6#32 _ _ (by rw [he]; decide)).trans ?_
    refine (pick_other T b s n 5#32 _ _ (by rw [he]; decide)).trans ?_
    refine (pick_other T b s n 4#32 _ _ (by rw [he]; decide)).trans ?_
    refine (pick_other T b s n 3#32 _ _ (by rw [he]; decide)).trans ?_
    refine (pick_other T b s n 2#32 _ _ (by rw [he]; decide)).trans ?_
    refine (pick_other T b s n 1#32 _ _ (by rw [he]; decide)).trans ?_
    exact (pick_same T b s n 0#32 _ _ he).trans (term_at 0 slices_S1x8x5120x4096_S1x1x5120x4096_0_0_0_0 a w b s r hr n)
  | 1, he =>
    refine (pick_other T b s n 7#32 _ _ (by rw [he]; decide)).trans ?_
    refine (pick_other T b s n 6#32 _ _ (by rw [he]; decide)).trans ?_
    refine (pick_other T b s n 5#32 _ _ (by rw [he]; decide)).trans ?_
    refine (pick_other T b s n 4#32 _ _ (by rw [he]; decide)).trans ?_
    refine (pick_other T b s n 3#32 _ _ (by rw [he]; decide)).trans ?_
    refine (pick_other T b s n 2#32 _ _ (by rw [he]; decide)).trans ?_
    exact (pick_same T b s n 1#32 _ _ he).trans (term_at 1 slices_S1x8x5120x4096_S1x1x5120x4096_0_1_0_0 a w b s r hr n)
  | 2, he =>
    refine (pick_other T b s n 7#32 _ _ (by rw [he]; decide)).trans ?_
    refine (pick_other T b s n 6#32 _ _ (by rw [he]; decide)).trans ?_
    refine (pick_other T b s n 5#32 _ _ (by rw [he]; decide)).trans ?_
    refine (pick_other T b s n 4#32 _ _ (by rw [he]; decide)).trans ?_
    refine (pick_other T b s n 3#32 _ _ (by rw [he]; decide)).trans ?_
    exact (pick_same T b s n 2#32 _ _ he).trans (term_at 2 slices_S1x8x5120x4096_S1x1x5120x4096_0_2_0_0 a w b s r hr n)
  | 3, he =>
    refine (pick_other T b s n 7#32 _ _ (by rw [he]; decide)).trans ?_
    refine (pick_other T b s n 6#32 _ _ (by rw [he]; decide)).trans ?_
    refine (pick_other T b s n 5#32 _ _ (by rw [he]; decide)).trans ?_
    refine (pick_other T b s n 4#32 _ _ (by rw [he]; decide)).trans ?_
    exact (pick_same T b s n 3#32 _ _ he).trans (term_at 3 slices_S1x8x5120x4096_S1x1x5120x4096_0_3_0_0 a w b s r hr n)
  | 4, he =>
    refine (pick_other T b s n 7#32 _ _ (by rw [he]; decide)).trans ?_
    refine (pick_other T b s n 6#32 _ _ (by rw [he]; decide)).trans ?_
    refine (pick_other T b s n 5#32 _ _ (by rw [he]; decide)).trans ?_
    exact (pick_same T b s n 4#32 _ _ he).trans (term_at 4 slices_S1x8x5120x4096_S1x1x5120x4096_0_4_0_0 a w b s r hr n)
  | 5, he =>
    refine (pick_other T b s n 7#32 _ _ (by rw [he]; decide)).trans ?_
    refine (pick_other T b s n 6#32 _ _ (by rw [he]; decide)).trans ?_
    exact (pick_same T b s n 5#32 _ _ he).trans (term_at 5 slices_S1x8x5120x4096_S1x1x5120x4096_0_5_0_0 a w b s r hr n)
  | 6, he =>
    refine (pick_other T b s n 7#32 _ _ (by rw [he]; decide)).trans ?_
    exact (pick_same T b s n 6#32 _ _ he).trans (term_at 6 slices_S1x8x5120x4096_S1x1x5120x4096_0_6_0_0 a w b s r hr n)
  | 7, he =>
    exact (pick_same T b s n 7#32 _ _ he).trans (term_at 7 slices_S1x8x5120x4096_S1x1x5120x4096_0_7_0_0 a w b s r hr n)

/-- The reference's term is the plain one, for a table that names an expert for each block. -/
theorem plain (a : FVec Ideal S36864x5120 .bf16) (w : FVec Ideal S1x8x5120x4096 .f32) (T : IVec S73 32) (hE : Experts T) :
    Cert.EDownIdeal.Final.res a w T = shapeCast _ (select (broadcastInDim S72x512x4096 ![0, 1, 2] bcast_S72x1x1_S72x512x4096_0_1_2 (broadcastInDim S72x1x1 ![0] bcast_S72_S72x1x1_0 (cmpi .slt (iotaInDim S72 32 0) (broadcastInDim S72 ![] bcast_S_S72 (shapeCast _ (extractStridedSlice S1 ![72] T slices_S73_S1_72) shapeCasts_S1_S_))))) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 7#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 7, 0, 0] w slices_S1x8x5120x4096_S1x1x5120x4096_0_7_0_0) shapeCasts_S1x1x5120x4096_S5120x4096)) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 6#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 6, 0, 0] w slices_S1x8x5120x4096_S1x1x5120x4096_0_6_0_0) shapeCasts_S1x1x5120x4096_S5120x4096)) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 5#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 5, 0, 0] w slices_S1x8x5120x4096_S1x1x5120x4096_0_5_0_0) shapeCasts_S1x1x5120x4096_S5120x4096)) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 4#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 4, 0, 0] w slices_S1x8x5120x4096_S1x1x5120x4096_0_4_0_0) shapeCasts_S1x1x5120x4096_S5120x4096)) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 3#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 3, 0, 0] w slices_S1x8x5120x4096_S1x1x5120x4096_0_3_0_0) shapeCasts_S1x1x5120x4096_S5120x4096)) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 2#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 2, 0, 0] w slices_S1x8x5120x4096_S1x1x5120x4096_0_2_0_0) shapeCasts_S1x1x5120x4096_S5120x4096)) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 1#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 1, 0, 0] w slices_S1x8x5120x4096_S1x1x5120x4096_0_1_0_0) shapeCasts_S1x1x5120x4096_S5120x4096)) (select (broadcastInDim S72x512x4096 ![0, 1, 2] bcast_S72x1x1_S72x512x4096_0_1_2 (broadcastInDim S72x1x1 ![0] bcast_S72_S72x1x1_0 (cmpi .eq (extractStridedSlice S72 ![0] T slices_S73_S72_0) (broadcastInDim S72 ![] bcast_S_S72 (constantI S_ 32 0#32))))) (Host.dotGeneral dot_S72x512x5120_S5120x4096_S72x512x4096_2_0_01_1_n_n none (shapeCast _ (extf .f32 a bitsLt_bf16_f32) shapeCasts_S36864x5120_S72x512x5120) (shapeCast _ (extractStridedSlice S1x1x5120x4096 ![0, 0, 0, 0] w slices_S1x8x5120x4096_S1x1x5120x4096_0_0_0_0) shapeCasts_S1x1x5120x4096_S5120x4096)) (broadcastInDim S72x512x4096 ![] bcast_S_S72x512x4096 (constant S_ .f32 0x00000000#32)))))))))) (broadcastInDim S72x512x4096 ![] bcast_S_S72x512x4096 (id (constant S_ .f32 0x00000000#32)))) shapeCasts_S72x512x4096_S36864x4096 := by
  funext y
  idx_vars y
  have hr : y0.val = (⟨y0.val / 512, by omega⟩ : Fin 72).val * 512 + (⟨y0.val % 512, by omega⟩ : Fin 512).val := by dsimp only; omega
  generalize hr' : y0 = r at *
  generalize hn' : y1 = n at *
  refine Eq.symm ((row_at _ r n).trans (Eq.trans ?_ (Cert.EDownIdeal.Final.res_at a w T ⟨r.val / 512, by omega⟩ r n rfl).symm))
  unfold Cert.EDownIdeal.Final.entry
  have hu := used_at T ⟨r.val / 512, by omega⟩ ⟨r.val % 512, by omega⟩ n
  by_cases h : Used T ⟨r.val / 512, by omega⟩
  · rw [if_pos h]
    exact (if_pos (hu.trans h)).trans (chain_at a w T hE _ _ r hr n)
  · rw [if_neg h]
    exact (if_neg fun h1 => h (hu.symm.trans h1)).trans (zeros_at _ _ n)

end Cert.EDownRefIdeal.Plain
end
-- ==== Proof.EGlu.Run.lean ====
/-
The experts' gated product, run at one point of its grid, for any table.

The body reads three words of the table: the expert of its block of rows, the expert of the block before it, and the number of
blocks in use. It fills its two weight buffers when the expert changes, and multiplies when the block is in use.
-/
module

public import proofs.«01_k».proof.Proof.Gen.EGluIdeal.Launch
public import proofs.«01_k».proof.Proof.Gen.EGluIdeal.Skeleton
public import proofs.«01_k».proof.Proof.Gen.EGluIdeal.Loops
public import Idealize.ShloMosaic.Lib.Pipeline.FrameBody
public import Idealize.ShloMosaic.Lib.Ring
public import Idealize.ShloMosaic.Lib.Tactic
public import Idealize.ShloMosaic.Lib.WordCmp

@[expose] public section
set_option maxRecDepth 16384
noncomputable section
namespace Cert.EGluIdeal.Hand
open Cert.EGluIdeal Cert.EGluIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table, as the body is handed it. -/
abbrev tab : Memref sig .tc .smem S73 .i32 := Memref.whole main_arg3
/-- The buffer of the rounded gate weight. -/
abbrev scrG : Memref sig .tc .vmem S4096x256 .bf16 := Memref.whole cc0_scratch0
/-- The buffer of the rounded up weight. -/
abbrev scrU : Memref sig .tc .vmem S4096x256 .bf16 := Memref.whole cc0_scratch1
/-- The table's contents on a core. -/
abbrev Words (c : Dev nD) : Type := Buf (Elt F) (tab.view.loc (c : Thread nD τ))
/-- Half of the table, which the body may read. -/
abbrev tabHeld (c : Dev nD) (T : Words (F := F) c) : sProp 𝕄 := tab.view.loc (c : Thread nD τ) ↦{fullShare.right} T

/-- The number of blocks in use. -/
abbrev used (c : Dev nD) (T : Words (F := F) c) : BitVec 32 :=
  View.readAt (Elt F) tab.view (Rect.unit (s := S73) ![72] S1.size inb_S73_S1_72).toLoadRect T (Shape.Idx.first (numel1_S1.symm ▸ Nat.one_pos))
/-- The expert of the point's block of rows. -/
abbrev mine (c : Dev nD) (T : Words (F := F) c) (i : grid0.Coords) : BitVec 32 :=
  View.readAt (Elt F) tab.view (Rect.unit (s := S73) (k0_off1 i) S1.size (k0_off1_inb i)).toLoadRect T (Shape.Idx.first (numel1_S1.symm ▸ Nat.one_pos))
/-- The expert of the block before it. -/
abbrev prev (c : Dev nD) (T : Words (F := F) c) (i : grid0.Coords) : BitVec 32 :=
  View.readAt (Elt F) tab.view (Rect.unit (s := S73) (k0_off2 i) S1.size (k0_off2_inb i)).toLoadRect T (Shape.Idx.first (numel1_S1.symm ▸ Nat.one_pos))

/-- The point fills the weight buffers: it is the first of its column block, or its expert is a new one. -/
abbrev Fills (c : Dev nD) (T : Words (F := F) c) (i : grid0.Coords) : Prop :=
  Scalar.cmpi .ne (Scalar.extui (Scalar.ori (Scalar.cmpi .eq (BitVec.ofNat 32 (i 1).val) 0#32) (Scalar.cmpi .ne (mine c T i) (prev c T i)))) 0#32 = 1#1
/-- The point's block of rows is in use. -/
abbrev Live (c : Dev nD) (T : Words (F := F) c) (i : grid0.Coords) : Prop := k0_cond2 i (used c T) = 1#1
/-- The point's block of rows is not in use. -/
abbrev Blank (c : Dev nD) (T : Words (F := F) c) (i : grid0.Coords) : Prop := k0_cond3 i (used c T) = 1#1

/-- A block is in use or it is not, whatever the word. -/
theorem cond3_iff (i : grid0.Coords) (w : BitVec 32) : k0_cond3 i w = 1#1 ↔ ¬ k0_cond2 i w = 1#1 := by
  simp only [k0_cond2, k0_cond3]
  generalize Scalar.cmpi .slt (BitVec.ofNat 32 (i 1).val) w = b
  revert b
  decide

/-- A read of the gate buffer after its loop sees the pieces of the loop alone. -/
theorem filled_gate (𝒱 : Variants) (c : Dev nD) (bd : Option 𝒱.V) (i : grid0.Coords) (arg2 : Memref sig .tc .smem S73 .i32) (harg2 : arg2.IsWhole) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole) (X : BufTy.Contents (Elt F) arg4.view.ty) (G : BufTy.Contents (Elt F) arg7.view.ty) (B : LoadRect S4096x256) :
    arg7.view.readAt (Elt F) B (arg7.view.writes (Elt F) G (pb_k0_t1 (F := F) 𝒱 c bd i arg2 harg2 arg3 harg3 arg4 harg4 arg5 harg5 arg6 harg6 arg7 harg7 arg8 harg8 X (Scf.trips k0_t1_loop.lb k0_t1_loop.ub k0_t1_loop.st)))
      = arg7.view.readCov (pb_k0_t1 (F := F) 𝒱 c bd i arg2 harg2 arg3 harg3 arg4 harg4 arg5 harg5 arg6 harg6 arg7 harg7 arg8 harg8 X (Scf.trips k0_t1_loop.lb k0_t1_loop.ub k0_t1_loop.st)) B :=
  View.readAt_writes_of_cover _ G _ B (fun J => View.cover_of_tiledL (pb_k0_t1 (F := F) 𝒱 c bd i arg2 harg2 arg3 harg3 arg4 harg4 arg5 harg5 arg6 harg6 arg7 harg7 arg8 harg8 X (Scf.trips k0_t1_loop.lb k0_t1_loop.ub k0_t1_loop.st)) S512x256.size (by sl_kernel_rfl) (B.idx J))

/-- A read of the up buffer after its loop sees the pieces of the loop alone. -/
theorem filled_up (𝒱 : Variants) (c : Dev nD) (bd : Option 𝒱.V) (i : grid0.Coords) (arg2 : Memref sig .tc .smem S73 .i32) (harg2 : arg2.IsWhole) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole) (X : BufTy.Contents (Elt F) arg5.view.ty) (G : BufTy.Contents (Elt F) arg8.view.ty) (B : LoadRect S4096x256) :
    arg8.view.readAt (Elt F) B (arg8.view.writes (Elt F) G (pb_k0_t2 (F := F) 𝒱 c bd i arg2 harg2 arg3 harg3 arg4 harg4 arg5 harg5 arg6 harg6 arg7 harg7 arg8 harg8 X (Scf.trips k0_t2_loop.lb k0_t2_loop.ub k0_t2_loop.st)))
      = arg8.view.readCov (pb_k0_t2 (F := F) 𝒱 c bd i arg2 harg2 arg3 harg3 arg4 harg4 arg5 harg5 arg6 harg6 arg7 harg7 arg8 harg8 X (Scf.trips k0_t2_loop.lb k0_t2_loop.ub k0_t2_loop.st)) B :=
  View.readAt_writes_of_cover _ G _ B (fun J => View.cover_of_tiledL (pb_k0_t2 (F := F) 𝒱 c bd i arg2 harg2 arg3 harg3 arg4 harg4 arg5 harg5 arg6 harg6 arg7 harg7 arg8 harg8 X (Scf.trips k0_t2_loop.lb k0_t2_loop.ub k0_t2_loop.st)) S512x256.size (by sl_kernel_rfl) (B.idx J))

set_option backward.proofsInPublic true in
set_option maxHeartbeats 4000000 in
/-- The body where it fills the buffers and multiplies: what it writes into the result's block and into the buffers. -/
noncomputable def runFillLive (c : Dev nD) (i : grid0.Coords) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole) (T : Words (F := F) c)
    (hc0 : Fills c T i) (hc1 : Live c T i) (hc2 : ¬ Blank c T i) (x0 : Vec F S512x2048 .i32) (x1 x2 : Vec F S1x1x4096x256 .f32) :
    Σ' (L3 : List (View.Piece (Elt F) S512x256 .bf16)) (LS0 : List (View.Piece (Elt F) S4096x256 .bf16)), { LS1 : List (View.Piece (Elt F) S4096x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ tabHeld c T
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ tabHeld c T) -∗ K ⟨⟩))
          ⊢ wp frame (wpE (defs₀ (F := F)) Variants.none c none) E (cc0_glu_pair i tab (Memref.isWhole_whole _) arg3 harg3 arg4 harg4 arg5 harg5 arg6 harg6 arg7 harg7 arg8 harg8) K } := by
  refine ⟨?_, ?_, ?_, fun E K => ?run⟩
  case run =>
    rw [cc0_glu_pair_eq_skeleton]; unfold cc0_glu_pair_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, Hk⟩
    obtain rfl := harg3.eq_unread hf0; obtain rfl := harg4.eq_unread hf1; obtain rfl := harg5.eq_unread hf2
    have hT0 : tab.IsWhole := Memref.isWhole_whole _
    have filled1 := filled_gate (F := F)
    have filled2 := filled_up (F := F)
    sl_exec (disch := first | (guard_target = Scalar.cmpi = _; exact hc0) | (guard_target = k0_cond2 _ _ = _; exact hc1) | (guard_target = ¬(k0_cond3 _ _ = _); exact hc2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexact HT0

set_option backward.proofsInPublic true in
set_option maxHeartbeats 4000000 in
/-- The body where it fills the buffers and writes zeros: what it writes into the result's block and into the buffers. -/
noncomputable def runFillBlank (c : Dev nD) (i : grid0.Coords) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole) (T : Words (F := F) c)
    (hc0 : Fills c T i) (hc1 : ¬ Live c T i) (hc2 : Blank c T i) (x0 : Vec F S512x2048 .i32) (x1 x2 : Vec F S1x1x4096x256 .f32) :
    Σ' (L3 : List (View.Piece (Elt F) S512x256 .bf16)) (LS0 : List (View.Piece (Elt F) S4096x256 .bf16)), { LS1 : List (View.Piece (Elt F) S4096x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ tabHeld c T
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ tabHeld c T) -∗ K ⟨⟩))
          ⊢ wp frame (wpE (defs₀ (F := F)) Variants.none c none) E (cc0_glu_pair i tab (Memref.isWhole_whole _) arg3 harg3 arg4 harg4 arg5 harg5 arg6 harg6 arg7 harg7 arg8 harg8) K } := by
  refine ⟨?_, ?_, ?_, fun E K => ?run⟩
  case run =>
    rw [cc0_glu_pair_eq_skeleton]; unfold cc0_glu_pair_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, Hk⟩
    obtain rfl := harg3.eq_unread hf0; obtain rfl := harg4.eq_unread hf1; obtain rfl := harg5.eq_unread hf2
    have hT0 : tab.IsWhole := Memref.isWhole_whole _
    have filled1 := filled_gate (F := F)
    have filled2 := filled_up (F := F)
    sl_exec (disch := first | (guard_target = Scalar.cmpi = _; exact hc0) | (guard_target = ¬(k0_cond2 _ _ = _); exact hc1) | (guard_target = k0_cond3 _ _ = _; exact hc2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexact HT0

set_option backward.proofsInPublic true in
set_option maxHeartbeats 4000000 in
/-- The body where it keeps the buffers as they stand and multiplies from them: what it writes into the result's block. -/
noncomputable def runKeepLive (c : Dev nD) (i : grid0.Coords) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole) (T : Words (F := F) c)
    (hc0 : ¬ Fills c T i) (hc1 : Live c T i) (hc2 : ¬ Blank c T i) (x0 : Vec F S512x2048 .i32) (x1 x2 : Vec F S1x1x4096x256 .f32) (s0 s1 : Vec F S4096x256 .bf16) :
    { L3 : List (View.Piece (Elt F) S512x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ tabHeld c T
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare s0 ∗ owns (c : Thread nD τ) arg8 fullShare s1 ∗ tabHeld c T) -∗ K ⟨⟩))
          ⊢ wp frame (wpE (defs₀ (F := F)) Variants.none c none) E (cc0_glu_pair i tab (Memref.isWhole_whole _) arg3 harg3 arg4 harg4 arg5 harg5 arg6 harg6 arg7 harg7 arg8 harg8) K } := by
  refine ⟨?_, fun E K => ?run⟩
  case run =>
    rw [cc0_glu_pair_eq_skeleton]; unfold cc0_glu_pair_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, Hk⟩
    obtain rfl := harg3.eq_unread hf0; obtain rfl := harg4.eq_unread hf1; obtain rfl := harg5.eq_unread hf2; obtain rfl := harg7.eq_unread hfs0; obtain rfl := harg8.eq_unread hfs1
    have hT0 : tab.IsWhole := Memref.isWhole_whole _
    sl_exec (disch := first | (guard_target = ¬(Scalar.cmpi = _); exact hc0) | (guard_target = k0_cond2 _ _ = _; exact hc1) | (guard_target = ¬(k0_cond3 _ _ = _); exact hc2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexact HT0

set_option backward.proofsInPublic true in
set_option maxHeartbeats 4000000 in
/-- The body where it keeps the buffers as they stand and writes zeros: what it writes into the result's block. -/
noncomputable def runKeepBlank (c : Dev nD) (i : grid0.Coords) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole) (T : Words (F := F) c)
    (hc0 : ¬ Fills c T i) (hc1 : ¬ Live c T i) (hc2 : Blank c T i) (x0 : Vec F S512x2048 .i32) (x1 x2 : Vec F S1x1x4096x256 .f32) (s0 s1 : Vec F S4096x256 .bf16) :
    { L3 : List (View.Piece (Elt F) S512x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ tabHeld c T
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare s0 ∗ owns (c : Thread nD τ) arg8 fullShare s1 ∗ tabHeld c T) -∗ K ⟨⟩))
          ⊢ wp frame (wpE (defs₀ (F := F)) Variants.none c none) E (cc0_glu_pair i tab (Memref.isWhole_whole _) arg3 harg3 arg4 harg4 arg5 harg5 arg6 harg6 arg7 harg7 arg8 harg8) K } := by
  refine ⟨?_, fun E K => ?run⟩
  case run =>
    rw [cc0_glu_pair_eq_skeleton]; unfold cc0_glu_pair_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, Hk⟩
    obtain rfl := harg3.eq_unread hf0; obtain rfl := harg4.eq_unread hf1; obtain rfl := harg5.eq_unread hf2; obtain rfl := harg7.eq_unread hfs0; obtain rfl := harg8.eq_unread hfs1
    have hT0 : tab.IsWhole := Memref.isWhole_whole _
    sl_exec (disch := first | (guard_target = ¬(Scalar.cmpi = _); exact hc0) | (guard_target = ¬(k0_cond2 _ _ = _); exact hc1) | (guard_target = k0_cond3 _ _ = _; exact hc2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexact HT0

end Cert.EGluIdeal.Hand

end
-- ==== Proof.EGlu.Step.lean ====
/-
One point of the gated product as a function: the result's block and the two weight buffers after the body, from the three input
blocks and the buffers before it; and the body's triple with these contents.
-/
module

public import proofs.«01_k».proof.Proof.EGlu.Run

@[expose] public section
set_option maxRecDepth 16384
noncomputable section
namespace Cert.EGluIdeal.Hand
open Cert.EGluIdeal Cert.EGluIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A view of the result's block, to read what was written. -/
abbrev outView : View sig .tc .vmem S512x256 .bf16 := (Memref.whole cc0_stg3_0 : Memref sig .tc .vmem S512x256 .bf16).view
/-- A block written by pieces over anything. -/
def outOf (L : List (View.Piece (Elt F) S512x256 .bf16)) : Vec F S512x256 .bf16 := outView.read (Elt F) (outView.writes (Elt F) outView.junk L)
/-- A weight buffer written by pieces over anything. -/
def scrOf (L : List (View.Piece (Elt F) S4096x256 .bf16)) : Vec F S4096x256 .bf16 := scrG.view.read (Elt F) (scrG.view.writes (Elt F) scrG.view.junk L)

theorem blank_of {c : Dev nD} {T : Words (F := F) c} {i : grid0.Coords} (h : ¬ Live c T i) : Blank c T i := (cond3_iff i _).mpr h
theorem not_blank_of {c : Dev nD} {T : Words (F := F) c} {i : grid0.Coords} (h : Live c T i) : ¬ Blank c T i := fun hb => (cond3_iff i _).mp hb h

open Classical in
/-- The result's block and the two weight buffers after the body. -/
def step (c : Dev nD) (i : grid0.Coords) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole) (T : Words (F := F) c)
    (x0 : Vec F S512x2048 .i32) (x1 x2 : Vec F S1x1x4096x256 .f32) (s0 s1 : Vec F S4096x256 .bf16) : Vec F S512x256 .bf16 × Vec F S4096x256 .bf16 × Vec F S4096x256 .bf16 :=
  if h0 : Fills c T i then
    if h1 : Live c T i then
      (outOf (runFillLive c i arg3 harg3 arg4 harg4 arg5 harg5 arg6 harg6 arg7 harg7 arg8 harg8 T h0 h1 (not_blank_of h1) x0 x1 x2).1, scrOf (runFillLive c i arg3 harg3 arg4 harg4 arg5 harg5 arg6 harg6 arg7 harg7 arg8 harg8 T h0 h1 (not_blank_of h1) x0 x1 x2).2.1, scrOf (runFillLive c i arg3 harg3 arg4 harg4 arg5 harg5 arg6 harg6 arg7 harg7 arg8 harg8 T h0 h1 (not_blank_of h1) x0 x1 x2).2.2.1)
    else
      (outOf (runFillBlank c i arg3 harg3 arg4 harg4 arg5 harg5 arg6 harg6 arg7 harg7 arg8 harg8 T h0 h1 (blank_of h1) x0 x1 x2).1, scrOf (runFillBlank c i arg3 harg3 arg4 harg4 arg5 harg5 arg6 harg6 arg7 harg7 arg8 harg8 T h0 h1 (blank_of h1) x0 x1 x2).2.1, scrOf (runFillBlank c i arg3 harg3 arg4 harg4 arg5 harg5 arg6 harg6 arg7 harg7 arg8 harg8 T h0 h1 (blank_of h1) x0 x1 x2).2.2.1)
  else
    if h1 : Live c T i then (outOf (runKeepLive c i arg3 harg3 arg4 harg4 arg5 harg5 arg6 harg6 arg7 harg7 arg8 harg8 T h0 h1 (not_blank_of h1) x0 x1 x2 s0 s1).1, s0, s1)
    else (outOf (runKeepBlank c i arg3 harg3 arg4 harg4 arg5 harg5 arg6 harg6 arg7 harg7 arg8 harg8 T h0 h1 (blank_of h1) x0 x1 x2 s0 s1).1, s0, s1)

/-- Where the buffers are filled it does not matter what they held. -/
theorem step_of_fills (c : Dev nD) (i : grid0.Coords) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole) (T : Words (F := F) c) (h0 : Fills c T i)
    (x0 : Vec F S512x2048 .i32) (x1 x2 : Vec F S1x1x4096x256 .f32) (s0 s1 s0' s1' : Vec F S4096x256 .bf16) :
    step c i arg3 harg3 arg4 harg4 arg5 harg5 arg6 harg6 arg7 harg7 arg8 harg8 T x0 x1 x2 s0 s1 = step c i arg3 harg3 arg4 harg4 arg5 harg5 arg6 harg6 arg7 harg7 arg8 harg8 T x0 x1 x2 s0' s1' := by
  unfold step
  rw [dif_pos h0, dif_pos h0]

set_option maxHeartbeats 1600000 in
/-- The body at any point, at the contents of `step`. -/
theorem body_step (c : Dev nD) (i : grid0.Coords) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole) (T : Words (F := F) c)
    (x0 : Vec F S512x2048 .i32) (x1 x2 : Vec F S1x1x4096x256 .f32) (s0 s1 : Vec F S4096x256 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ tabHeld c T
        ∗ (iprop(owns (c : Thread nD τ) arg3 fullShare x0 ∗ owns (c : Thread nD τ) arg4 fullShare x1 ∗ owns (c : Thread nD τ) arg5 fullShare x2 ∗ owns (c : Thread nD τ) arg6 fullShare (step c i arg3 harg3 arg4 harg4 arg5 harg5 arg6 harg6 arg7 harg7 arg8 harg8 T x0 x1 x2 s0 s1).1
            ∗ owns (c : Thread nD τ) arg7 fullShare (step c i arg3 harg3 arg4 harg4 arg5 harg5 arg6 harg6 arg7 harg7 arg8 harg8 T x0 x1 x2 s0 s1).2.1 ∗ owns (c : Thread nD τ) arg8 fullShare (step c i arg3 harg3 arg4 harg4 arg5 harg5 arg6 harg6 arg7 harg7 arg8 harg8 T x0 x1 x2 s0 s1).2.2 ∗ tabHeld c T) -∗ K ⟨⟩))
      ⊢ wp frame (wpE (defs₀ (F := F)) Variants.none c none) E (cc0_glu_pair i tab (Memref.isWhole_whole _) arg3 harg3 arg4 harg4 arg5 harg5 arg6 harg6 arg7 harg7 arg8 harg8) K := by
  by_cases h0 : Fills c T i
  · by_cases h1 : Live c T i
    · have hs : step c i arg3 harg3 arg4 harg4 arg5 harg5 arg6 harg6 arg7 harg7 arg8 harg8 T x0 x1 x2 s0 s1 = (outOf (runFillLive c i arg3 harg3 arg4 harg4 arg5 harg5 arg6 harg6 arg7 harg7 arg8 harg8 T h0 h1 (not_blank_of h1) x0 x1 x2).1, scrOf (runFillLive c i arg3 harg3 arg4 harg4 arg5 harg5 arg6 harg6 arg7 harg7 arg8 harg8 T h0 h1 (not_blank_of h1) x0 x1 x2).2.1, scrOf (runFillLive c i arg3 harg3 arg4 harg4 arg5 harg5 arg6 harg6 arg7 harg7 arg8 harg8 T h0 h1 (not_blank_of h1) x0 x1 x2).2.2.1) := by
        unfold step
        rw [dif_pos h0, dif_pos h1]
      rw [hs]; dsimp only
      iintro ⟨H0, H1, H2, H3, HS0, HS1, HT, Hk⟩
      iapply ((runFillLive c i arg3 harg3 arg4 harg4 arg5 harg5 arg6 harg6 arg7 harg7 arg8 harg8 T h0 h1 (not_blank_of h1) x0 x1 x2).2.2.2 E K)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HT]; · iexact HT
      iintro ⟨H0, H1, H2, ⟨%e3, H3⟩, ⟨%es0, HS0⟩, ⟨%es1, HS1⟩, HT⟩
      iapply Hk
      isplitl [H0]; · iexact H0
      isplitl [H1]; · iexact H1
      isplitl [H2]; · iexact H2
      isplitl [H3]
      · unfold owns; iexists _; isplitr
        swap; · iexact H3
        ipureintro; exact View.read_writes_of_cover _ _ _ _ _ (fun y => View.cover_of_tiledL (runFillLive c i arg3 harg3 arg4 harg4 arg5 harg5 arg6 harg6 arg7 harg7 arg8 harg8 T h0 h1 (not_blank_of h1) x0 x1 x2).1 S512x256.size (by sl_kernel_rfl) y)
      isplitl [HS0]
      · unfold owns; iexists _; isplitr
        swap; · iexact HS0
        ipureintro; exact View.read_writes_of_cover _ _ _ _ _ (fun y => View.cover_of_tiledL (runFillLive c i arg3 harg3 arg4 harg4 arg5 harg5 arg6 harg6 arg7 harg7 arg8 harg8 T h0 h1 (not_blank_of h1) x0 x1 x2).2.1 S512x256.size (by sl_kernel_rfl) y)
      isplitl [HS1]
      · unfold owns; iexists _; isplitr
        swap; · iexact HS1
        ipureintro; exact View.read_writes_of_cover _ _ _ _ _ (fun y => View.cover_of_tiledL (runFillLive c i arg3 harg3 arg4 harg4 arg5 harg5 arg6 harg6 arg7 harg7 arg8 harg8 T h0 h1 (not_blank_of h1) x0 x1 x2).2.2.1 S512x256.size (by sl_kernel_rfl) y)
      iexact HT
    · have hs : step c i arg3 harg3 arg4 harg4 arg5 harg5 arg6 harg6 arg7 harg7 arg8 harg8 T x0 x1 x2 s0 s1 = (outOf (runFillBlank c i arg3 harg3 arg4 harg4 arg5 harg5 arg6 harg6 arg7 harg7 arg8 harg8 T h0 h1 (blank_of h1) x0 x1 x2).1, scrOf (runFillBlank c i arg3 harg3 arg4 harg4 arg5 harg5 arg6 harg6 arg7 harg7 arg8 harg8 T h0 h1 (blank_of h1) x0 x1 x2).2.1, scrOf (runFillBlank c i arg3 harg3 arg4 harg4 arg5 harg5 arg6 harg6 arg7 harg7 arg8 harg8 T h0 h1 (blank_of h1) x0 x1 x2).2.2.1) := by
        unfold step
        rw [dif_pos h0, dif_neg h1]
      rw [hs]; dsimp only
      iintro ⟨H0, H1, H2, H3, HS0, HS1, HT, Hk⟩
      iapply ((runFillBlank c i arg3 harg3 arg4 harg4 arg5 harg5 arg6 harg6 arg7 harg7 arg8 harg8 T h0 h1 (blank_of h1) x0 x1 x2).2.2.2 E K)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HT]; · iexact HT
      iintro ⟨H0, H1, H2, ⟨%e3, H3⟩, ⟨%es0, HS0⟩, ⟨%es1, HS1⟩, HT⟩
      iapply Hk
      isplitl [H0]; · iexact H0
      isplitl [H1]; · iexact H1
      isplitl [H2]; · iexact H2
      isplitl [H3]
      · unfold owns; iexists _; isplitr
        swap; · iexact H3
        ipureintro; exact View.read_writes_of_cover _ _ _ _ _ (fun y => View.cover_of_tiledL (runFillBlank c i arg3 harg3 arg4 harg4 arg5 harg5 arg6 harg6 arg7 harg7 arg8 harg8 T h0 h1 (blank_of h1) x0 x1 x2).1 S512x256.size (by sl_kernel_rfl) y)
      isplitl [HS0]
      · unfold owns; iexists _; isplitr
        swap; · iexact HS0
        ipureintro; exact View.read_writes_of_cover _ _ _ _ _ (fun y => View.cover_of_tiledL (runFillBlank c i arg3 harg3 arg4 harg4 arg5 harg5 arg6 harg6 arg7 harg7 arg8 harg8 T h0 h1 (blank_of h1) x0 x1 x2).2.1 S512x256.size (by sl_kernel_rfl) y)
      isplitl [HS1]
      · unfold owns; iexists _; isplitr
        swap; · iexact HS1
        ipureintro; exact View.read_writes_of_cover _ _ _ _ _ (fun y => View.cover_of_tiledL (runFillBlank c i arg3 harg3 arg4 harg4 arg5 harg5 arg6 harg6 arg7 harg7 arg8 harg8 T h0 h1 (blank_of h1) x0 x1 x2).2.2.1 S512x256.size (by sl_kernel_rfl) y)
      iexact HT
  · by_cases h1 : Live c T i
    · have hs : step c i arg3 harg3 arg4 harg4 arg5 harg5 arg6 harg6 arg7 harg7 arg8 harg8 T x0 x1 x2 s0 s1 = (outOf (runKeepLive c i arg3 harg3 arg4 harg4 arg5 harg5 arg6 harg6 arg7 harg7 arg8 harg8 T h0 h1 (not_blank_of h1) x0 x1 x2 s0 s1).1, s0, s1) := by
        unfold step
        rw [dif_neg h0, dif_pos h1]
      rw [hs]; dsimp only
      iintro ⟨H0, H1, H2, H3, HS0, HS1, HT, Hk⟩
      iapply ((runKeepLive c i arg3 harg3 arg4 harg4 arg5 harg5 arg6 harg6 arg7 harg7 arg8 harg8 T h0 h1 (not_blank_of h1) x0 x1 x2 s0 s1).2 E K)
      isplitl [H0]; · iexact H0
      isplitl [H1]; · iexact H1
      isplitl [H2]; · iexact H2
      isplitl [H3]; · iexact H3
      isplitl [HS0]; · iexact HS0
      isplitl [HS1]; · iexact HS1
      isplitl [HT]; · iexact HT
      iintro ⟨H0, H1, H2, ⟨%e3, H3⟩, HS0, HS1, HT⟩
      iapply Hk
      isplitl [H0]; · iexact H0
      isplitl [H1]; · iexact H1
      isplitl [H2]; · iexact H2
      isplitl [H3]
      · unfold owns; iexists _; isplitr
        swap; · iexact H3
        ipureintro; exact View.read_writes_of_cover _ _ _ _ _ (fun y => View.cover_of_tiledL (runKeepLive c i arg3 harg3 arg4 harg4 arg5 harg5 arg6 harg6 arg7 harg7 arg8 harg8 T h0 h1 (not_blank_of h1) x0 x1 x2 s0 s1).1 S512x256.size (by sl_kernel_rfl) y)
      isplitl [HS0]; · iexact HS0
      isplitl [HS1]; · iexact HS1
      iexact HT
    · have hs : step c i arg3 harg3 arg4 harg4 arg5 harg5 arg6 harg6 arg7 harg7 arg8 harg8 T x0 x1 x2 s0 s1 = (outOf (runKeepBlank c i arg3 harg3 arg4 harg4 arg5 harg5 arg6 harg6 arg7 harg7 arg8 harg8 T h0 h1 (blank_of h1) x0 x1 x2 s0 s1).1, s0, s1) := by
        unfold step
        rw [dif_neg h0, dif_neg h1]
      rw [hs]; dsimp only
      iintro ⟨H0, H1, H2, H3, HS0, HS1, HT, Hk⟩
      iapply ((runKeepBlank c i arg3 harg3 arg4 harg4 arg5 harg5 arg6 harg6 arg7 harg7 arg8 harg8 T h0 h1 (blank_of h1) x0 x1 x2 s0 s1).2 E K)
      isplitl [H0]; · iexact H0
      isplitl [H1]; · iexact H1
      isplitl [H2]; · iexact H2
      isplitl [H3]; · iexact H3
      isplitl [HS0]; · iexact HS0
      isplitl [HS1]; · iexact HS1
      isplitl [HT]; · iexact HT
      iintro ⟨H0, H1, H2, ⟨%e3, H3⟩, HS0, HS1, HT⟩
      iapply Hk
      isplitl [H0]; · iexact H0
      isplitl [H1]; · iexact H1
      isplitl [H2]; · iexact H2
      isplitl [H3]
      · unfold owns; iexists _; isplitr
        swap; · iexact H3
        ipureintro; exact View.read_writes_of_cover _ _ _ _ _ (fun y => View.cover_of_tiledL (runKeepBlank c i arg3 harg3 arg4 harg4 arg5 harg5 arg6 harg6 arg7 harg7 arg8 harg8 T h0 h1 (blank_of h1) x0 x1 x2 s0 s1).1 S512x256.size (by sl_kernel_rfl) y)
      isplitl [HS0]; · iexact HS0
      isplitl [HS1]; · iexact HS1
      iexact HT

end Cert.EGluIdeal.Hand

end
-- ==== Proof.EGlu.Frame.lean ====
/-
The frame of the gated product for every table that names an expert for each block: the run ends, leaves the arguments as they
were, and writes at each point the block that `step` computes.
-/
module

public import proofs.«01_k».proof.Proof.EGlu.Step

@[expose] public section
set_option maxRecDepth 16384
noncomputable section
namespace Cert.EGluIdeal.Hand
open Cert.EGluIdeal Cert.EGluIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers at the start. -/
abbrev start (c : Dev nD) (b : Ref sig .tc) : Buf (Elt F) ((c : Thread nD τ).loc b) := m ((c : Thread nD τ).loc b)

set_option maxHeartbeats 800000 in
theorem main_is_region : Pipeline.HMainP (Ix := Unit) (Name := ℕ) (U := UR sig nD τ) (Lvl := ℕ) pcfgs 0 defs₀ Variants.none m (main (F := F)) (start m) :=
  Pipeline.hmainP_region pcfgs 0 defs₀ Variants.none m main fun c => (main_chain c).trans rfl

/-- The table at the start. -/
def table : pre0.Contents (Elt F) := fun j => start m (0 : Dev nD) (pre0.ref j)

theorem table_eq (c : Dev nD) (j : Fin 1) : start m c (pre0.ref j) = table m j := by
  obtain rfl : c = 0 := Subsingleton.elim _ _
  rfl

/-- Every point's blocks of the weights lie inside them. -/
abbrev Inside : Prop := ok0 (F := F) (table m)
abbrev adm (hI : Inside m) : (pcfg0 (F := F)).Adm := ⟨table m, hI⟩
/-- The pipeline at the table. -/
abbrev pipe (hI : Inside m) : Pipeline.Cfg sig Λ₀ := cfg0 (adm m hI)

theorem tabHeld_eq (c : Dev nD) : (Pipeline.ΦT pre0 (table m) c : sProp 𝕄) = tabHeld c (table m 0) := by
  unfold Pipeline.ΦT Pipeline.prefHeld
  rw [show (Finset.univ : Finset (Fin 1)) = {(0 : Fin 1)} from by decide, bigSep_singleton]
  rfl

theorem scoped_eq (c : Dev nD) :
    (Pipeline.ΦA spec0 c : sProp 𝕄) = iprop(iprop((∃ d, owns (c : Thread nD τ) scrG fullShare d) ∗ (∃ d, owns (c : Thread nD τ) scrU fullShare d)) ∗ (∃ r, prngReg c r)) := by
  unfold Pipeline.ΦA
  rw [scopedRest0_eq]
  simp only [scrG, scrU, owns_whole]
  try rfl

/-- An operand's block at a point. -/
def blockAt (hI : Inside m) (c : Dev nD) (w : Fin (pipe m hI).W) (t : Fin (pipe m hI).N) :
    (((pipe m hI).win w).xblock ((pipe m hI).grid.coords t)).Idx → Elt F ((pipe m hI).win w).elt :=
  (((pipe m hI).win w).blk t).view.read (Elt F) (start m c (Pipeline.arrRef spec0 w))

theorem before_block0 (hI : Inside m) {c : Dev nD} (dat : Dat τ (Elt F) Unit ℕ (UR sig nD τ) ℕ (pipe m hI) c) (hA : dat.A 0 = start m c (Pipeline.arrRef spec0 0))
    (hafter : ∀ t, dat.after 0 t = blockAt m hI c 0 t) (t : Fin (pipe m hI).N) (d) : dat.before 0 t d = blockAt m hI c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_block1 (hI : Inside m) {c : Dev nD} (dat : Dat τ (Elt F) Unit ℕ (UR sig nD τ) ℕ (pipe m hI) c) (hA : dat.A 1 = start m c (Pipeline.arrRef spec0 1))
    (hafter : ∀ t, dat.after 1 t = blockAt m hI c 1 t) (t : Fin (pipe m hI).N) (d) : dat.before 1 t d = blockAt m hI c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_block2 (hI : Inside m) {c : Dev nD} (dat : Dat τ (Elt F) Unit ℕ (UR sig nD τ) ℕ (pipe m hI) c) (hA : dat.A 2 = start m c (Pipeline.arrRef spec0 2))
    (hafter : ∀ t, dat.after 2 t = blockAt m hI c 2 t) (t : Fin (pipe m hI).N) (d) : dat.before 2 t d = blockAt m hI c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The buffer an operand is in at a point. -/
abbrev stage0 (hI : Inside m) (t : Fin (pipe m hI).N) : Memref sig .tc .vmem S512x2048 .i32 := spec0_0.stage ((pipe m hI).slots t 0)
abbrev whole0 (hI : Inside m) (t : Fin (pipe m hI).N) : (stage0 m hI t).IsWhole := hstage0_0 (((pipe m hI).slots t 0).cast nbuf0_0)
abbrev stage1 (hI : Inside m) (t : Fin (pipe m hI).N) : Memref sig .tc .vmem S1x1x4096x256 .f32 := spec0_1.stage ((pipe m hI).slots t 1)
abbrev whole1 (hI : Inside m) (t : Fin (pipe m hI).N) : (stage1 m hI t).IsWhole := hstage0_1 (((pipe m hI).slots t 1).cast nbuf0_1)
abbrev stage2 (hI : Inside m) (t : Fin (pipe m hI).N) : Memref sig .tc .vmem S1x1x4096x256 .f32 := spec0_2.stage ((pipe m hI).slots t 2)
abbrev whole2 (hI : Inside m) (t : Fin (pipe m hI).N) : (stage2 m hI t).IsWhole := hstage0_2 (((pipe m hI).slots t 2).cast nbuf0_2)
abbrev stage3 (hI : Inside m) (t : Fin (pipe m hI).N) : Memref sig .tc .vmem S512x256 .bf16 := spec0_3.stage ((pipe m hI).slots t 3)
abbrev whole3 (hI : Inside m) (t : Fin (pipe m hI).N) : (stage3 m hI t).IsWhole := hstage0_3 (((pipe m hI).slots t 3).cast nbuf0_3)

/-- `step` at a point of the grid. -/
abbrev stepAt (hI : Inside m) (c : Dev nD) (t : Fin (pipe m hI).N) (xs : Vec F S4096x256 .bf16 × Vec F S4096x256 .bf16) : Vec F S512x256 .bf16 × Vec F S4096x256 .bf16 × Vec F S4096x256 .bf16 :=
  step c (grid0.coords t) (stage0 m hI t) (whole0 m hI t) (stage1 m hI t) (whole1 m hI t) (stage2 m hI t) (whole2 m hI t) (stage3 m hI t) (whole3 m hI t) scrG (Memref.isWhole_whole _) scrU (Memref.isWhole_whole _)
    (table m 0) (blockAt m hI c 0 t) (blockAt m hI c 1 t) (blockAt m hI c 2 t) xs.1 xs.2

/-- The weight buffers before point `n`. -/
def scrBefore (hI : Inside m) (c : Dev nD) : (n : ℕ) → n ≤ (pipe m hI).N → Vec F S4096x256 .bf16 × Vec F S4096x256 .bf16
  | 0, _ => (scrOf [], scrOf [])
  | n + 1, h => (stepAt m hI c ⟨n, h⟩ (scrBefore hI c n (Nat.le_of_succ_le h))).2

theorem scrBefore_succ (hI : Inside m) (c : Dev nD) (t : Fin (pipe m hI).N) :
    scrBefore m hI c (t.val + 1) t.isLt = (stepAt m hI c t (scrBefore m hI c t.val (Nat.le_of_lt t.isLt))).2 := rfl

/-- The result's block after a point. -/
def blockAfter (hI : Inside m) (c : Dev nD) (t : Fin (pipe m hI).N) : Vec F S512x256 .bf16 :=
  (stepAt m hI c t (scrBefore m hI c t.val (Nat.le_of_lt t.isLt))).1

/-- The first point of a column block fills the buffers. -/
theorem fills_of_first (c : Dev nD) (T : Words (F := F) c) (i : grid0.Coords) (h : (i 1).val = 0) : Fills c T i := by
  have e : Scalar.cmpi .eq (BitVec.ofNat 32 (i 1).val) 0#32 = 1#1 := by rw [h]; decide
  unfold Fills
  rw [e]
  generalize Scalar.cmpi .ne (mine c T i) (prev c T i) = b
  revert b
  decide

theorem coord0 (t : Fin grid0.N) : (grid0.coords t 0).val = t.val / 72 % 20 := Pipeline.Grid.coords_val t 0 (by decide) rfl
theorem coord1 (t : Fin grid0.N) : (grid0.coords t 1).val = t.val / 1 % 72 := Pipeline.Grid.coords_val t 1 (by decide) rfl

/-- What the body finds in the buffers may be taken to be `scrBefore`, also at the first point, where they are filled. -/
theorem stepAt_eq (hI : Inside m) (c : Dev nD) (t : Fin (pipe m hI).N) (xs : Vec F S4096x256 .bf16 × Vec F S4096x256 .bf16)
    (h : t.val ≠ 0 → xs = scrBefore m hI c t.val (Nat.le_of_lt t.isLt)) :
    stepAt m hI c t xs = stepAt m hI c t (scrBefore m hI c t.val (Nat.le_of_lt t.isLt)) := by
  by_cases hz : t.val = 0
  · have e1 : (grid0.coords t 1).val = t.val / 1 % 72 := coord1 t
    exact step_of_fills c _ _ _ _ _ _ _ _ _ _ _ _ _ _ (fills_of_first c _ _ (by rw [e1, hz])) _ _ _ _ _ _ _
  · rw [h hz]

/-- Before point `n`: the buffers at `scrBefore`, at the start at anything; the generator register; half of the table. -/
def Inv (hI : Inside m) (c : Dev nD) (n : ℕ) (hn : n ≤ (pipe m hI).N) : sProp 𝕄 :=
  iprop(iprop((∃ xs, ⌜n ≠ 0 → xs = scrBefore m hI c n hn⌝ ∗ owns (c : Thread nD τ) scrG fullShare xs.1 ∗ owns (c : Thread nD τ) scrU fullShare xs.2) ∗ (∃ r, prngReg c r)) ∗ tabHeld c (table m 0))

/-- What the pipeline's run is proved with. -/
def dats (hI : Inside m) (_ : Fin 1) (c : Dev nD) : Dat τ (Elt F) Unit ℕ (UR sig nD τ) ℕ (pipe m hI) c where
  A w := start m c (Pipeline.arrRef spec0 w)
  after w t := match w with
    | ⟨0, _⟩ => blockAt m hI c 0 t
    | ⟨1, _⟩ => blockAt m hI c 1 t
    | ⟨2, _⟩ => blockAt m hI c 2 t
    | ⟨3, _⟩ => blockAfter m hI c t
  Φ t := Inv m hI c t.val (Nat.le_of_lt_succ t.isLt)
  q _ := fullShare
  owed _ := 0

theorem A_eq (hI : Inside m) (c : Dev nD) (w : Fin (pipe m hI).W) : (dats m hI 0 c).A w = start m c (Pipeline.arrRef spec0 w) := by
  dsimp only [dats]
theorem Inv_castSucc (hI : Inside m) (c : Dev nD) (t : Fin (pipe m hI).N) :
    (dats m hI 0 c).Φ t.castSucc = Inv m hI c t.val (Nat.le_of_lt t.isLt) := by
  dsimp only [dats]; exact Pipeline.Dat.Φ_castSucc (Inv m hI c) t
theorem after_0 (hI : Inside m) (c : Dev nD) (t : Fin (pipe m hI).N) : (dats m hI 0 c).after 0 t = blockAt m hI c 0 t := by dsimp only [dats]; try rfl
theorem after_1 (hI : Inside m) (c : Dev nD) (t : Fin (pipe m hI).N) : (dats m hI 0 c).after 1 t = blockAt m hI c 1 t := by dsimp only [dats]; try rfl
theorem after_2 (hI : Inside m) (c : Dev nD) (t : Fin (pipe m hI).N) : (dats m hI 0 c).after 2 t = blockAt m hI c 2 t := by dsimp only [dats]; try rfl
theorem after_3 (hI : Inside m) (c : Dev nD) (t : Fin (pipe m hI).N) : (dats m hI 0 c).after 3 t = blockAfter m hI c t := by dsimp only [dats]; try rfl
theorem before_0 (hI : Inside m) (c : Dev nD) (t : Fin (pipe m hI).N) (d) : (dats m hI 0 c).before 0 t d = blockAt m hI c 0 t :=
  before_block0 m hI (dats m hI 0 c) (A_eq m hI c 0) (after_0 m hI c) t d
theorem before_1 (hI : Inside m) (c : Dev nD) (t : Fin (pipe m hI).N) (d) : (dats m hI 0 c).before 1 t d = blockAt m hI c 1 t :=
  before_block1 m hI (dats m hI 0 c) (A_eq m hI c 1) (after_1 m hI c) t d

theorem before_2 (hI : Inside m) (c : Dev nD) (t : Fin (pipe m hI).N) (d) : (dats m hI 0 c).before 2 t d = blockAt m hI c 2 t :=
  before_block2 m hI (dats m hI 0 c) (A_eq m hI c 2) (after_2 m hI c) t d

/-- The result's block is written at every point: products where the block is in use, zeros where it is not. -/
theorem result_live (hI : Inside m) (t : Fin (pipe m hI).N) : (pipe m hI).idle 3 (grid0.coords t) = false := by
  show (!(k0_cond2 (grid0.coords t) ((table m).atD 0 ![72]) == 1#1) && !(k0_cond3 (grid0.coords t) ((table m).atD 0 ![72]) == 1#1)) = false
  generalize (table m).atD 0 ![72] = w
  by_cases h : k0_cond2 (grid0.coords t) w = 1#1
  · rw [h]; rfl
  · rw [(cond3_iff _ w).mpr h]
    cases (k0_cond2 (grid0.coords t) w == 1#1) <;> rfl

/-- The body as the pipeline calls it at a point. -/
abbrev bodyAt (hI : Inside m) (t : Fin (pipe m hI).N) : Prog (TpuEff nD τ sig (Elt F) Λ₀ .tc) PUnit :=
  cc0_glu_pair (grid0.coords t) tab (Memref.isWhole_whole _) (stage0 m hI t) (whole0 m hI t) (stage1 m hI t) (whole1 m hI t) (stage2 m hI t) (whole2 m hI t) (stage3 m hI t) (whole3 m hI t) scrG (Memref.isWhole_whole _) scrU (Memref.isWhole_whole _)

def bodyPre (hI : Inside m) (c : Dev nD) (t : Fin (pipe m hI).N) : sProp 𝕄 :=
  iprop((dats m hI 0 c).Φ t.castSucc ∗ (dats m hI 0 c).owesAt () t.castSucc
    ∗ (∃ d, owns (c : Thread nD τ) (stage0 m hI t) fullShare ((dats m hI 0 c).before 0 t d))
    ∗ (∃ d, owns (c : Thread nD τ) (stage1 m hI t) fullShare ((dats m hI 0 c).before 1 t d))
    ∗ (∃ d, owns (c : Thread nD τ) (stage2 m hI t) fullShare ((dats m hI 0 c).before 2 t d))
    ∗ (∃ d, owns (c : Thread nD τ) (stage3 m hI t) fullShare ((dats m hI 0 c).before 3 t d)))

def bodyPost (hI : Inside m) (c : Dev nD) (t : Fin (pipe m hI).N) : sProp 𝕄 :=
  iprop((dats m hI 0 c).Φ t.succ ∗ (dats m hI 0 c).owesAt () t.succ
    ∗ (dats m hI 0 c).leavesExact 0 t ∗ (dats m hI 0 c).leavesExact 1 t ∗ (dats m hI 0 c).leavesExact 2 t ∗ (dats m hI 0 c).leavesExact 3 t)

set_option maxHeartbeats 3200000 in
/-- One point keeps the invariant. -/
theorem point_sound (hI : Inside m) (c : Dev nD) (t : Fin (pipe m hI).N) :
    bodyPre m hI c t ⊢ wp frame (wpE (defs₀ (F := F)) Variants.none c none) Set.univ (bodyAt m hI t) (fun _ => bodyPost m hI c t) := by
  unfold bodyPre bodyPost bodyAt
  simp only [before_0, before_1, before_2]
  rw [show (dats m hI 0 c).owesAt () t.succ = (dats m hI 0 c).owesAt () t.castSucc from rfl]
  rw [show (dats m hI 0 c).Φ t.succ = Inv m hI c (t.val + 1) t.isLt from rfl, Inv_castSucc m hI c t]
  rw [show (dats m hI 0 c).leavesExact 0 t = owns (c : Thread nD τ) (stage0 m hI t) fullShare ((dats m hI 0 c).after 0 t) from rfl, after_0]
  rw [show (dats m hI 0 c).leavesExact 1 t = owns (c : Thread nD τ) (stage1 m hI t) fullShare ((dats m hI 0 c).after 1 t) from rfl, after_1]
  rw [show (dats m hI 0 c).leavesExact 2 t = owns (c : Thread nD τ) (stage2 m hI t) fullShare ((dats m hI 0 c).after 2 t) from rfl, after_2]
  rw [show (dats m hI 0 c).leavesExact 3 t = owns (c : Thread nD τ) (stage3 m hI t) fullShare ((dats m hI 0 c).after 3 t) from by
    unfold Dat.leavesExact; rw [result_live m hI t]; try rfl, after_3]
  unfold Inv
  iintro ⟨⟨⟨⟨%xs, %hxs, HS0, HS1⟩, Hg⟩, HT⟩, Ho, ⟨%d0, H0⟩, ⟨%d1, H1⟩, ⟨%d2, H2⟩, ⟨%d3, H3⟩⟩
  iapply (body_step c (grid0.coords t) (stage0 m hI t) (whole0 m hI t) (stage1 m hI t) (whole1 m hI t) (stage2 m hI t) (whole2 m hI t) (stage3 m hI t) (whole3 m hI t) scrG (Memref.isWhole_whole _) scrU (Memref.isWhole_whole _)
    (table m 0) (blockAt m hI c 0 t) (blockAt m hI c 1 t) (blockAt m hI c 2 t) xs.1 xs.2 Set.univ _)
  rw [show step c (grid0.coords t) (stage0 m hI t) (whole0 m hI t) (stage1 m hI t) (whole1 m hI t) (stage2 m hI t) (whole2 m hI t) (stage3 m hI t) (whole3 m hI t) scrG (Memref.isWhole_whole _) scrU (Memref.isWhole_whole _)
    (table m 0) (blockAt m hI c 0 t) (blockAt m hI c 1 t) (blockAt m hI c 2 t) xs.1 xs.2 = _ from stepAt_eq m hI c t xs hxs]
  isplitl [H0]; · iexact H0
  isplitl [H1]; · iexact H1
  isplitl [H2]; · iexact H2
  isplitl [H3]; · iexists _; iexact H3
  isplitl [HS0]; · iexact HS0
  isplitl [HS1]; · iexact HS1
  isplitl [HT]; · iexact HT
  iintro ⟨H0, H1, H2, H3, HS0, HS1, HT⟩
  isplitl [HS0 HS1 Hg HT]
  · isplitl [HS0 HS1 Hg]
    · isplitl [HS0 HS1]
      · iexists _; isplitr
        swap
        · isplitl [HS0]; · iexact HS0
          iexact HS1
        ipureintro; exact fun _ => rfl
      iexact Hg
    iexact HT
  isplitl [Ho]; · iexact Ho
  isplitl [H0]; · iexact H0
  isplitl [H1]; · iexact H1
  isplitl [H2]; · iexact H2
  iexact H3

theorem defs_row (hI : Inside m) (t : Fin (pipe m hI).N) :
    defs₀ (F := F) .tc (pipe m hI).body ((pipe m hI).bodyArgs t ((pipe m hI).slots t)) = bodyAt m hI t := by
  unfold defs₀; rw [Defs.onTc_tc]

theorem obligation (hI : Inside m) (c : Dev nD) : BodyObligation (dats (F := F) m hI 0 c) (defs₀ (F := F)) Variants.none () Set.univ := fun t => by
  rw [bigSep_W0, bigSep_W0, defs_row m hI]
  exact triple_restated (point_sound m hI c t) rfl .rfl fun _ => .rfl

theorem Inv_in (hI : Inside m) (c : Dev nD) : iprop(Pipeline.ΦA spec0 c ∗ Pipeline.ΦT pre0 (table m) c) ⊢ (dats m hI 0 c).Φ 0 := by
  rw [show (dats m hI 0 c).Φ 0 = Inv m hI c 0 (Nat.zero_le _) from rfl, tabHeld_eq, scoped_eq]
  unfold Inv
  iintro ⟨⟨⟨⟨%d0, HS0⟩, ⟨%d1, HS1⟩⟩, Hg⟩, HT⟩
  isplitl [HS0 HS1 Hg]
  · isplitl [HS0 HS1]
    · iexists (d0, d1); isplitr
      swap
      · isplitl [HS0]; · iexact HS0
        iexact HS1
      ipureintro; exact fun h => absurd rfl h
    iexact Hg
  iexact HT

theorem Inv_out (hI : Inside m) (c : Dev nD) : (dats m hI 0 c).Φ (Fin.last (pipe m hI).N) ⊢ Pipeline.ΦA spec0 c := by
  rw [show (dats m hI 0 c).Φ (Fin.last (pipe m hI).N) = Inv m hI c (Fin.last (pipe m hI).N).val (Nat.le_of_lt_succ (Fin.last (pipe m hI).N).isLt) from rfl, scoped_eq]
  unfold Inv
  iintro ⟨⟨⟨%xs, -, HS0, HS1⟩, Hg⟩, -⟩
  isplitl [HS0 HS1]
  · isplitl [HS0]
    · iexists _; iexact HS0
    iexists _; iexact HS1
  iexact Hg

set_option backward.isDefEq.respectTransparency.types false in
/-- The run: every array ends at what the points wrote, and every counter at zero. -/
theorem run_quiescent (hI : Inside m) : θ_run defs (onTc (τ := τ) (main (F := F))) (s₀ m ρ)
    (fun r => (Pipeline.FramePost (Pipeline.pin pcfgs fun _ => adm m hI) (dats m hI) 0 (start m)) r ∧ r.2.sem = fun _ => 0) :=
  Pipeline.θ_run_frameP_track (Q' := _) pcfgs (fun _ => adm m hI) (dats m hI) (0 : Fin 1) launch0 defs₀ Variants.none m ρ main
    (hbody := fun c => (obligation m hI c).loose) (hshare := fun c => (dats m hI 0 c).share_full fun _ => rfl)
    (howed := fun _ _ => rfl) (V := start m) (hmain := main_is_region m) (hA := A_eq m hI) (hpf := table_eq m)
    (hin := Inv_in m hI) (hout := Inv_out m hI)

/-- The run leaves the arguments as they were, and every counter at zero. -/
theorem frame_of_inside (hI : Inside m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m hI 0 c).arrAt_in 0 rfl _).trans (A_eq m hI c 0)),
      ((h.1 c).1 1).trans (((dats m hI 0 c).arrAt_in 1 rfl _).trans (A_eq m hI c 1)),
      ((h.1 c).1 2).trans (((dats m hI 0 c).arrAt_in 2 rfl _).trans (A_eq m hI c 2)),
      (h.1 c).2 main_arg3 (by decide : main_arg3 ∈ Pipeline.restRefs sig spec0)⟩, h.2⟩) (run_quiescent m ρ hI)

end Cert.EGluIdeal.Hand

end
-- ==== Proof.EGlu.Table.lean ====
/-
The words of the table: which word each read of it is, and what the precondition says of them.
-/
module

public import proofs.«01_k».proof.Proof.EGlu.Frame
public import proofs.«01_k».proof.Proof.Gen.Pre_expert_table_glu
public import Idealize.ShloMosaic.Lib.ReduceAll
public import Idealize.ShloMosaic.Lib.Claim
public import Idealize.ShloMosaic.Lib.Pipeline.ValueKit

@[expose] public section
set_option maxRecDepth 16384
noncomputable section
namespace Cert.EGluIdeal.Hand
open Cert.EGluIdeal Cert.EGluIdeal.Gen
open Idealize.ShloMosaic Idealize.ShloMosaic.TcCoe Idealize.ShloMosaic.Tactic

variable {F : FTy → Type} [FloatOps F]

/-- A read of one word of the table. -/
theorem read_word (c : Dev nD) (T : Words (F := F) c) (o : Fin 1 → ℕ) (inb : ∀ a, o a + S1.size a ≤ S73.size a) (k : Fin 73) (h : o 0 = k.val) :
    View.readAt (Elt F) tab.view (Rect.unit (s := S73) o S1.size inb).toLoadRect T (Shape.Idx.first (numel1_S1.symm ▸ Nat.one_pos)) = (T : IVec S73 32) (ix1 k) := by
  refine congrArg (T : IVec S73 32) (funext fun a => Fin.ext ?_)
  match a with
  | ⟨0, _⟩ =>
    refine (Rect.idx_unit_val (s := S73) o S1.size inb _ 0).trans ?_
    have hf : ∀ y : S1.Idx, (y 0).val = 0 := fun y => Nat.lt_one_iff.mp (y 0).isLt
    exact (congrArg₂ (· + ·) h (hf _)).trans (Nat.add_zero _)

theorem off1_eq (i : grid0.Coords) : k0_off1 i 0 = (i 1).val := by
  have e : ∀ j : Fin 72, (Scalar.indexCast (BitVec.ofNat 32 j.val) : Index).toNat = j.val := by decide
  exact e (i 1)
theorem off2_eq (i : grid0.Coords) : k0_off2 i 0 = (i 1).val - 1 := by
  have e : ∀ j : Fin 72, (Scalar.indexCast (Scalar.maxsi (Scalar.subi (BitVec.ofNat 32 j.val) 1#32) 0#32) : Index).toNat = j.val - 1 := by decide
  exact e (i 1)

/-- The number of blocks in use is the last word, -/
theorem used_eq (c : Dev nD) (T : Words (F := F) c) : used c T = (T : IVec S73 32) (ix1 72) := read_word c T _ _ 72 rfl
/-- the expert of a block its own word, -/
theorem mine_eq (c : Dev nD) (T : Words (F := F) c) (i : grid0.Coords) (k : Fin 73) (h : (i 1).val = k.val) : mine c T i = (T : IVec S73 32) (ix1 k) :=
  read_word c T _ _ k ((off1_eq i).trans h)
/-- and the expert before it the word before. -/
theorem prev_eq (c : Dev nD) (T : Words (F := F) c) (i : grid0.Coords) (k : Fin 73) (h : (i 1).val - 1 = k.val) : prev c T i = (T : IVec S73 32) (ix1 k) :=
  read_word c T _ _ k ((off2_eq i).trans h)

/-- The block of the gate weights at a point: the expert, and the column block. -/
theorem gate_index (T : pre0.Contents (Elt F)) (i : grid0.Coords) (k : Fin 73) (h : (i 1).val = k.val) :
    cc0_transform_1 k0_off1_inb numel1_S1 T i = ![0, ((T 0 : IVec S73 32) (ix1 k)).toNat, 0, (i 0).val] := by
  have e0 : ∀ j : Fin 20, (BitVec.ofNat 32 j.val).toNat = j.val := by decide
  have e1 := read_word (F := F) 0 (T 0) (k0_off1 i) (k0_off1_inb i) k ((off1_eq i).trans h)
  funext a
  match a with
  | ⟨0, _⟩ => rfl
  | ⟨1, _⟩ => exact congrArg BitVec.toNat e1
  | ⟨2, _⟩ => rfl
  | ⟨3, _⟩ => exact e0 (i 0)

/-- The block of the up weights at a point: the expert, and the column block. -/
theorem up_index (T : pre0.Contents (Elt F)) (i : grid0.Coords) (k : Fin 73) (h : (i 1).val = k.val) :
    cc0_transform_2 k0_off1_inb numel1_S1 T i = ![0, ((T 0 : IVec S73 32) (ix1 k)).toNat, 0, (i 0).val] := by
  have e0 : ∀ j : Fin 20, (BitVec.ofNat 32 j.val).toNat = j.val := by decide
  have e1 := read_word (F := F) 0 (T 0) (k0_off1 i) (k0_off1_inb i) k ((off1_eq i).trans h)
  funext a
  match a with
  | ⟨0, _⟩ => rfl
  | ⟨1, _⟩ => exact congrArg BitVec.toNat e1
  | ⟨2, _⟩ => rfl
  | ⟨3, _⟩ => exact e0 (i 0)

/-- Every word but the last names an expert. -/
def Experts (T : IVec S73 32) : Prop := ∀ k : Fin 73, k.val < 72 → (T (ix1 k)).toNat < 8

/-- Then every block of the weights lies inside them. -/
theorem inside_of (m : (ℓ : Loc nD τ sig) → Buf (Elt F) ℓ) (h : Experts (table m 0)) : Inside m := by
  refine ⟨fun i => ?_, fun i => ?_⟩
  all_goals
    have r0 : (i 0).val < 20 := (i 0).isLt
    have r1 : (i 1).val < 72 := (i 1).isLt
  · refine ⟨fun a => ?_, .inl rfl⟩
    rw [gate_index (table m) i ⟨(i 1).val, by omega⟩ rfl]
    have hk := h ⟨(i 1).val, by omega⟩ r1
    match a with
    | ⟨0, _⟩ => exact Nat.le_refl 1
    | ⟨1, _⟩ => exact (Nat.mul_one _).le.trans hk
    | ⟨2, _⟩ => show (0 + 1) * 4096 ≤ 4096; omega
    | ⟨3, _⟩ => show ((i 0).val + 1) * 256 ≤ 5120; omega
  · refine ⟨fun a => ?_, .inl rfl⟩
    rw [up_index (table m) i ⟨(i 1).val, by omega⟩ rfl]
    have hk := h ⟨(i 1).val, by omega⟩ r1
    match a with
    | ⟨0, _⟩ => exact Nat.le_refl 1
    | ⟨1, _⟩ => exact (Nat.mul_one _).le.trans hk
    | ⟨2, _⟩ => show (0 + 1) * 4096 ≤ 4096; omega
    | ⟨3, _⟩ => show ((i 0).val + 1) * 256 ≤ 5120; omega

/-- A word from 0 to 7 is below 8. -/
theorem small_of_bits (w : BitVec 32) (h0 : Scalar.cmpi .sge w 0#32 = 1#1) (h1 : Scalar.cmpi .slt w 8#32 = 1#1) : w.toNat < 8 := by
  have b0 : (0#32 : BitVec 32).toInt ≤ w.toInt := by
    have h : BitVec.ofBool (decide ((0#32 : BitVec 32).toInt ≤ w.toInt)) = 1#1 := h0
    by_contra hn
    rw [decide_eq_false hn] at h
    exact absurd h (by decide)
  have b1 : w.toInt < (8#32 : BitVec 32).toInt := by
    have h : BitVec.ofBool (decide (w.toInt < (8#32 : BitVec 32).toInt)) = 1#1 := h1
    by_contra hn
    rw [decide_eq_false hn] at h
    exact absurd h (by decide)
  have e0 : (0#32 : BitVec 32).toInt = 0 := by decide
  have e8 : (8#32 : BitVec 32).toInt = 8 := by decide
  rw [e0] at b0
  rw [e8] at b1
  have hw := w.isLt
  rw [BitVec.toInt_eq_toNat_cond] at b0 b1
  split at b1 <;> omega

/-- What the precondition says. -/
theorem experts_of (a : IVec Cert.Pre_expert_table_glu.S36864x2048 32) (w w' : FVec F Cert.Pre_expert_table_glu.S1x8x4096x5120 .f32) (T : IVec S73 32)
    (h : Cert.Pre_expert_table_glu.fn (F := F) a w w' T = fun _ => 1#1) : Experts T := by
  intro k hk
  have h0 := congrFun h (fun a => a.elim0)
  dsimp only [Cert.Pre_expert_table_glu.fn] at h0
  have h1 := Host.reduce_andi_all _ _ _ _ _ h0 (ix1 ⟨k.val, hk⟩)
  obtain ⟨h2, h3⟩ := IntOp.andi_eq_one.mp h1
  have e : ∀ v : IVec Cert.Pre_expert_table_glu.S72 32, v = extractStridedSlice Cert.Pre_expert_table_glu.S72 ![0] T Cert.Pre_expert_table_glu.Facts.slices_S73_S72_0 → v (ix1 ⟨k.val, hk⟩) = T (ix1 k) := by
    rintro v rfl
    refine congrArg T (funext fun a => Fin.ext ?_)
    match a with
    | ⟨0, _⟩ => exact Nat.zero_add _
  have e' := e _ rfl
  refine small_of_bits _ ?_ ?_
  · rw [← e']; exact h2
  · rw [← e']; exact h3

end Cert.EGluIdeal.Hand

end
-- ==== Proof.EGlu.Blocks.lean ====
/-
The body of the experts' gated product at one point: each buffer it fills holds its block of the expert's weights, rounded to the
narrow format, and the block of the result is the gated product with the buffers, or zeros.
-/
module

public import proofs.«01_k».proof.Proof.EGlu.Table

@[expose] public section
set_option maxRecDepth 16384
noncomputable section
namespace Cert.EGluIdeal.Blocks
open Idealize.ShloMosaic Idealize.ShloMosaic.TcCoe Idealize.ShloMosaic.Tactic
open Cert.EGluIdeal Cert.EGluIdeal.Gen Cert.EGluIdeal.Hand

/-- A buffer written by pieces that are all blocks of one array, and that together reach every index, holds that array. -/
theorem read_pieces {κ : Kind} {sp : Space} {s : Shape} {e : EltTy} (v : View sig κ sp s e)
    (f : v.ty.Contents (Elt Ideal)) (L : List (View.Piece (Elt Ideal) s e)) (G : s.Idx → Elt Ideal e)
    (h : ∀ p ∈ L, ∀ x : p.1.shape.Idx, p.2 x = G (p.1.emb x)) (cov : ∀ y, ∃ p ∈ L, y ∈ p.1.set) :
    v.read (Elt Ideal) (v.writes (Elt Ideal) f L) = G :=
  (View.read_writes_eq_canon v f L cov).trans (funext fun y => View.canon_apply_of_pieces G L h y (cov y))

/-- Every piece a counted loop has left comes from one of its trips, when each trip puts its own before the earlier ones. -/
theorem of_trips {α : Type} {N : ℕ} (pb : ℕ → List α) (T : Fin N → List α) (h0 : pb 0 = [])
    (hs : ∀ k : Fin N, pb (k.val + 1) = T k ++ pb k.val) (p : α) : ∀ n, n ≤ N → p ∈ pb n → ∃ k : Fin N, p ∈ T k
  | 0, _, hp => by rw [h0] at hp; exact absurd hp List.not_mem_nil
  | n + 1, hn, hp => by
    rw [hs ⟨n, hn⟩] at hp
    rcases List.mem_append.mp hp with hp | hp
    · exact ⟨_, hp⟩
    · exact of_trips pb T h0 hs p n (Nat.le_of_succ_le hn) hp

/-- The block of an expert's weights as a buffer holds it. -/
def W (x : FVec Ideal S1x1x4096x256 .f32) : FVec Ideal S4096x256 .bf16 := fun y => x (ix4 0 0 (y 0) (y 1))

theorem k0_off3_eq : ∀ k : Fin k0_t1_loop.trips, k0_off3 k = ![0, 0, k.val * 512, 0] := by decide +kernel
theorem k0_off4_eq : ∀ k : Fin k0_t1_loop.trips, k0_off4 k = ![k.val * 512, 0] := by decide +kernel

/-- One trip of the gate loop rounds 512 rows of the weights. -/
theorem trip_gate (𝒱 : Variants) (c : Dev nD) (bd : Option 𝒱.V) (i : grid0.Coords) (arg2 : Memref sig .tc .smem S73 .i32) (harg2 : arg2.IsWhole) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole)
    (X : BufTy.Contents (Elt Ideal) arg4.view.ty) (k : Fin k0_t1_loop.trips) :
    (trip_k0_t1 (F := Ideal) 𝒱 c bd i arg2 harg2 arg3 harg3 arg4 harg4 arg5 harg5 arg6 harg6 arg7 harg7 arg8 harg8 X k).1
      = [⟨Rect.unit (s := S4096x256) (k0_off4 k) S512x256.size (k0_off4_inb k),
          k0_pay1 (View.readAt (Elt Ideal) arg4.view (Rect.unit (s := S1x1x4096x256) (k0_off3 k) S1x1x512x256.size (k0_off3_inb k)).toLoadRect X)⟩] := by
  unfold trip_k0_t1; dsimp only

theorem k0_pay1_at (x : FVec Ideal S1x1x512x256 .f32) (a : Fin 512) (b : Fin 256) : k0_pay1 (F := Ideal) x (ix2 a b) = x (ix4 0 0 a b) := by
  pointwise [k0_pay1]

/-- After its loop the gate buffer holds the rounded weights. -/
theorem filled_gate (𝒱 : Variants) (c : Dev nD) (bd : Option 𝒱.V) (i : grid0.Coords) (arg2 : Memref sig .tc .smem S73 .i32) (harg2 : arg2.IsWhole) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole)
    (X : BufTy.Contents (Elt Ideal) arg4.view.ty) {κ : Kind} {sp : Space} (v : View sig κ sp S4096x256 .bf16) (f : v.ty.Contents (Elt Ideal)) :
    v.read (Elt Ideal) (v.writes (Elt Ideal) f (pb_k0_t1 (F := Ideal) 𝒱 c bd i arg2 harg2 arg3 harg3 arg4 harg4 arg5 harg5 arg6 harg6 arg7 harg7 arg8 harg8 X k0_t1_loop.trips))
      = W (arg4.view.read (Elt Ideal) X) := by
  refine read_pieces v f _ _ (fun p hp x => ?_) (fun y => View.cover_of_tiledL (pb_k0_t1 (F := Ideal) 𝒱 c bd i arg2 harg2 arg3 harg3 arg4 harg4 arg5 harg5 arg6 harg6 arg7 harg7 arg8 harg8 X k0_t1_loop.trips) S512x256.size (by sl_kernel_rfl) y)
  obtain ⟨k, hk⟩ := of_trips (fun n => pb_k0_t1 (F := Ideal) 𝒱 c bd i arg2 harg2 arg3 harg3 arg4 harg4 arg5 harg5 arg6 harg6 arg7 harg7 arg8 harg8 X n)
    (fun k => (trip_k0_t1 (F := Ideal) 𝒱 c bd i arg2 harg2 arg3 harg3 arg4 harg4 arg5 harg5 arg6 harg6 arg7 harg7 arg8 harg8 X k).1) rfl
    (fun k => by rw [pb_k0_t1_succ]) p _ le_rfl hp
  rw [trip_gate] at hk
  obtain rfl := List.mem_singleton.mp hk
  idx_vars x
  rw [View.readAt_eq_ld]
  refine (k0_pay1_at _ _ _).trans ?_
  unfold W
  refine congrArg (arg4.view.read (Elt Ideal) X) (funext fun a => Fin.ext ?_)
  match a with
  | ⟨0, _⟩ => exact (Rect.idx_unit_val (s := S1x1x4096x256) (k0_off3 k) S1x1x512x256.size (k0_off3_inb k) (ix4 0 0 x0 x1) 0).trans ((congrArg (· + 0) (congrFun (k0_off3_eq k) 0)).trans rfl)
  | ⟨1, _⟩ => exact (Rect.idx_unit_val (s := S1x1x4096x256) (k0_off3 k) S1x1x512x256.size (k0_off3_inb k) (ix4 0 0 x0 x1) 1).trans ((congrArg (· + 0) (congrFun (k0_off3_eq k) 1)).trans rfl)
  | ⟨2, _⟩ => exact (Rect.idx_unit_val (s := S1x1x4096x256) (k0_off3 k) S1x1x512x256.size (k0_off3_inb k) (ix4 0 0 x0 x1) 2).trans (((congrArg (· + x0.val) (congrFun (k0_off3_eq k) 2)).trans rfl).trans
      ((Rect.idx_unit_val (s := S4096x256) (k0_off4 k) S512x256.size (k0_off4_inb k) (ix2 x0 x1) 0).trans ((congrArg (· + x0.val) (congrFun (k0_off4_eq k) 0)).trans rfl)).symm)
  | ⟨3, _⟩ => exact (Rect.idx_unit_val (s := S1x1x4096x256) (k0_off3 k) S1x1x512x256.size (k0_off3_inb k) (ix4 0 0 x0 x1) 3).trans (((congrArg (· + x1.val) (congrFun (k0_off3_eq k) 3)).trans rfl).trans
      ((Rect.idx_unit_val (s := S4096x256) (k0_off4 k) S512x256.size (k0_off4_inb k) (ix2 x0 x1) 1).trans ((congrArg (· + x1.val) (congrFun (k0_off4_eq k) 1)).trans rfl)).symm)

theorem k0_off5_eq : ∀ k : Fin k0_t2_loop.trips, k0_off5 k = ![0, 0, k.val * 512, 0] := by decide +kernel
theorem k0_off6_eq : ∀ k : Fin k0_t2_loop.trips, k0_off6 k = ![k.val * 512, 0] := by decide +kernel

/-- One trip of the up loop rounds 512 rows of the weights. -/
theorem trip_up (𝒱 : Variants) (c : Dev nD) (bd : Option 𝒱.V) (i : grid0.Coords) (arg2 : Memref sig .tc .smem S73 .i32) (harg2 : arg2.IsWhole) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole)
    (X : BufTy.Contents (Elt Ideal) arg5.view.ty) (k : Fin k0_t2_loop.trips) :
    (trip_k0_t2 (F := Ideal) 𝒱 c bd i arg2 harg2 arg3 harg3 arg4 harg4 arg5 harg5 arg6 harg6 arg7 harg7 arg8 harg8 X k).1
      = [⟨Rect.unit (s := S4096x256) (k0_off6 k) S512x256.size (k0_off6_inb k),
          k0_pay2 (View.readAt (Elt Ideal) arg5.view (Rect.unit (s := S1x1x4096x256) (k0_off5 k) S1x1x512x256.size (k0_off5_inb k)).toLoadRect X)⟩] := by
  unfold trip_k0_t2; dsimp only

theorem k0_pay2_at (x : FVec Ideal S1x1x512x256 .f32) (a : Fin 512) (b : Fin 256) : k0_pay2 (F := Ideal) x (ix2 a b) = x (ix4 0 0 a b) := by
  pointwise [k0_pay2]

/-- After its loop the up buffer holds the rounded weights. -/
theorem filled_up (𝒱 : Variants) (c : Dev nD) (bd : Option 𝒱.V) (i : grid0.Coords) (arg2 : Memref sig .tc .smem S73 .i32) (harg2 : arg2.IsWhole) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole)
    (X : BufTy.Contents (Elt Ideal) arg5.view.ty) {κ : Kind} {sp : Space} (v : View sig κ sp S4096x256 .bf16) (f : v.ty.Contents (Elt Ideal)) :
    v.read (Elt Ideal) (v.writes (Elt Ideal) f (pb_k0_t2 (F := Ideal) 𝒱 c bd i arg2 harg2 arg3 harg3 arg4 harg4 arg5 harg5 arg6 harg6 arg7 harg7 arg8 harg8 X k0_t2_loop.trips))
      = W (arg5.view.read (Elt Ideal) X) := by
  refine read_pieces v f _ _ (fun p hp x => ?_) (fun y => View.cover_of_tiledL (pb_k0_t2 (F := Ideal) 𝒱 c bd i arg2 harg2 arg3 harg3 arg4 harg4 arg5 harg5 arg6 harg6 arg7 harg7 arg8 harg8 X k0_t2_loop.trips) S512x256.size (by sl_kernel_rfl) y)
  obtain ⟨k, hk⟩ := of_trips (fun n => pb_k0_t2 (F := Ideal) 𝒱 c bd i arg2 harg2 arg3 harg3 arg4 harg4 arg5 harg5 arg6 harg6 arg7 harg7 arg8 harg8 X n)
    (fun k => (trip_k0_t2 (F := Ideal) 𝒱 c bd i arg2 harg2 arg3 harg3 arg4 harg4 arg5 harg5 arg6 harg6 arg7 harg7 arg8 harg8 X k).1) rfl
    (fun k => by rw [pb_k0_t2_succ]) p _ le_rfl hp
  rw [trip_up] at hk
  obtain rfl := List.mem_singleton.mp hk
  idx_vars x
  rw [View.readAt_eq_ld]
  refine (k0_pay2_at _ _ _).trans ?_
  unfold W
  refine congrArg (arg5.view.read (Elt Ideal) X) (funext fun a => Fin.ext ?_)
  match a with
  | ⟨0, _⟩ => exact (Rect.idx_unit_val (s := S1x1x4096x256) (k0_off5 k) S1x1x512x256.size (k0_off5_inb k) (ix4 0 0 x0 x1) 0).trans ((congrArg (· + 0) (congrFun (k0_off5_eq k) 0)).trans rfl)
  | ⟨1, _⟩ => exact (Rect.idx_unit_val (s := S1x1x4096x256) (k0_off5 k) S1x1x512x256.size (k0_off5_inb k) (ix4 0 0 x0 x1) 1).trans ((congrArg (· + 0) (congrFun (k0_off5_eq k) 1)).trans rfl)
  | ⟨2, _⟩ => exact (Rect.idx_unit_val (s := S1x1x4096x256) (k0_off5 k) S1x1x512x256.size (k0_off5_inb k) (ix4 0 0 x0 x1) 2).trans (((congrArg (· + x0.val) (congrFun (k0_off5_eq k) 2)).trans rfl).trans
      ((Rect.idx_unit_val (s := S4096x256) (k0_off6 k) S512x256.size (k0_off6_inb k) (ix2 x0 x1) 0).trans ((congrArg (· + x0.val) (congrFun (k0_off6_eq k) 0)).trans rfl)).symm)
  | ⟨3, _⟩ => exact (Rect.idx_unit_val (s := S1x1x4096x256) (k0_off5 k) S1x1x512x256.size (k0_off5_inb k) (ix4 0 0 x0 x1) 3).trans (((congrArg (· + x1.val) (congrFun (k0_off5_eq k) 3)).trans rfl).trans
      ((Rect.idx_unit_val (s := S4096x256) (k0_off6 k) S512x256.size (k0_off6_inb k) (ix2 x0 x1) 1).trans ((congrArg (· + x1.val) (congrFun (k0_off6_eq k) 1)).trans rfl)).symm)

/-- A packed word holds two numbers: its low half, -/
def low (v : BitVec 32) : Ideal .f32 := FloatOps.ofBits (F := Ideal) .f32 (IntOp.shli .vector v 16#32)
/-- and its high half. -/
def high (v : BitVec 32) : Ideal .f32 := FloatOps.ofBits (F := Ideal) .f32 (IntOp.andi v 4294901760#32)

/-- The upper and the lower half of a buffer's rows. -/
def top (w : Vec Ideal S4096x256 .bf16) : Vec Ideal S2048x256 .bf16 := fun y => w (ix2 ⟨(y 0).val, by have h := (y 0).isLt; change (y 0).val < 2048 at h; omega⟩ (y 1))
def bot (w : Vec Ideal S4096x256 .bf16) : Vec Ideal S2048x256 .bf16 := fun y => w (ix2 ⟨2048 + (y 0).val, by have h := (y 0).isLt; change (y 0).val < 2048 at h; omega⟩ (y 1))

/-- The product of a block of packed rows with a buffer, at a row and a column: the low halves with the upper rows, the high halves
with the lower. -/
def prod (x : IVec S512x2048 32) (w : FVec Ideal S4096x256 .bf16) (r : Fin 512) (n : Fin 256) : Ideal .f32 :=
  (∑ k : Fin 2048, low (x (ix2 r k)) * w (ix2 ⟨k.val, by omega⟩ n)) + ∑ k : Fin 2048, high (x (ix2 r k)) * w (ix2 ⟨2048 + k.val, by omega⟩ n)

/-- The gate. -/
def gated (g u : Ideal .f32) : Ideal .f32 := (g * Ideal.logistic g : EReal) * (u : EReal)

/-- The gated product of a block of rows with the buffers. -/
def B (x : Vec Ideal S512x2048 .i32) (g u : Vec Ideal S4096x256 .bf16) : Vec Ideal S512x256 .bf16 := k0_pay3 (F := Ideal) x (top g) (bot g) (top u) (bot u)

/-- A product with one half of a buffer. -/
theorem half_at (x : FVec Ideal S512x2048 .bf16) (w : FVec Ideal S2048x256 .bf16) (r : Fin 512) (n : Fin 256) :
    (matmul dot_S512x2048_S2048x256_S512x256_1_0_0_1_n_n none x w (constant S512x256 .f32 0x00000000#32) : FVec Ideal S512x256 .f32) (ix2 r n) = ∑ k : Fin 2048, x (ix2 r k) * w (ix2 k n) := by
  pointwise

theorem B_at (x : IVec S512x2048 32) (g u : FVec Ideal S4096x256 .bf16) (r : Fin 512) (n : Fin 256) :
    B x g u (ix2 r n) = gated (prod x g r n) (prod x u r n) := by
  have hl (w : FVec Ideal S4096x256 .bf16) := half_at (fun y => low (x y)) (top w) r n
  have hh (w : FVec Ideal S4096x256 .bf16) := half_at (fun y => high (x y)) (bot w) r n
  have hp (w : FVec Ideal S4096x256 .bf16) := congrArg₂ (fun (a b : Ideal .f32) => a + b) (hl w) (hh w)
  exact congrArg₂ gated (hp g) (hp u)
theorem zeros_at (r : Fin 512) (n : Fin 256) : (k0_pay4 (F := Ideal)) (ix2 r n) = 0 := by
  pointwise [k0_pay4]

/-- A block read whole is the block. -/
theorem whole_x (x : Vec Ideal S512x2048 .i32) :
    View.ld (Val := Elt Ideal) (e' := .i32) x (Rect.unit (s := S512x2048) ![0, 0] S512x2048.size inb_S512x2048_S512x2048_0_0) = x := by
  funext y
  refine congrArg x (funext (Fin.forall_fin_two.mpr ⟨Fin.ext ?_, Fin.ext ?_⟩))
  · exact (Rect.idx_unit_val (s := S512x2048) ![0, 0] S512x2048.size inb_S512x2048_S512x2048_0_0 y 0).trans (Nat.zero_add (y _).val)
  · exact (Rect.idx_unit_val (s := S512x2048) ![0, 0] S512x2048.size inb_S512x2048_S512x2048_0_0 y 1).trans (Nat.zero_add (y _).val)
/-- The reads of the two halves of a buffer. -/
theorem ld_top (w : Vec Ideal S4096x256 .bf16) :
    View.ld (Val := Elt Ideal) (e' := .bf16) w (Rect.unit (s := S4096x256) ![0, 0] S2048x256.size inb_S4096x256_S2048x256_0_0) = top w := by
  funext y
  refine congrArg w (funext (Fin.forall_fin_two.mpr ⟨Fin.ext ?_, Fin.ext ?_⟩))
  · exact (Rect.idx_unit_val (s := S4096x256) ![0, 0] S2048x256.size inb_S4096x256_S2048x256_0_0 y 0).trans (Nat.zero_add (y _).val)
  · exact (Rect.idx_unit_val (s := S4096x256) ![0, 0] S2048x256.size inb_S4096x256_S2048x256_0_0 y 1).trans (Nat.zero_add (y _).val)
theorem ld_bot (w : Vec Ideal S4096x256 .bf16) :
    View.ld (Val := Elt Ideal) (e' := .bf16) w (Rect.unit (s := S4096x256) ![2048, 0] S2048x256.size inb_S4096x256_S2048x256_2048_0) = bot w := by
  funext y
  refine congrArg w (funext (Fin.forall_fin_two.mpr ⟨Fin.ext ?_, Fin.ext ?_⟩))
  · exact (Rect.idx_unit_val (s := S4096x256) ![2048, 0] S2048x256.size inb_S4096x256_S2048x256_2048_0 y 0).trans rfl
  · exact (Rect.idx_unit_val (s := S4096x256) ![2048, 0] S2048x256.size inb_S4096x256_S2048x256_2048_0 y 1).trans (Nat.zero_add (y _).val)

/-- A block stored whole is the block held. -/
theorem block (p : Vec Ideal S512x256 .bf16) : outOf [⟨Rect.unit (s := S512x256) ![0, 0] S512x256.size inb_S512x256_S512x256_0_0, p⟩] = p := by
  unfold outOf
  refine read_pieces outView _ _ _ (fun q hq x => ?_) (fun y => View.cover_of_tiledL [⟨Rect.unit (s := S512x256) ![0, 0] S512x256.size inb_S512x256_S512x256_0_0, p⟩] S512x256.size (by sl_kernel_rfl) y)
  obtain rfl := List.mem_singleton.mp hq
  refine congrArg p (funext (Fin.forall_fin_two.mpr ⟨Fin.ext ?_, Fin.ext ?_⟩))
  · exact ((Rect.idx_unit_val (s := S512x256) ![0, 0] S512x256.size inb_S512x256_S512x256_0_0 x 0).trans (Nat.zero_add (x _).val)).symm
  · exact ((Rect.idx_unit_val (s := S512x256) ![0, 0] S512x256.size inb_S512x256_S512x256_0_0 x 1).trans (Nat.zero_add (x _).val)).symm

/-- Where the buffers are filled they hold the point's blocks of the weights, -/
theorem scr_fill (c : Dev nD) (i : grid0.Coords) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole) (T : Words (F := Ideal) c)
    (x0 : Vec Ideal S512x2048 .i32) (x1 x2 : Vec Ideal S1x1x4096x256 .f32) (s0 s1 : Vec Ideal S4096x256 .bf16) (h0 : Fills c T i) :
    (step c i arg3 harg3 arg4 harg4 arg5 harg5 arg6 harg6 arg7 harg7 arg8 harg8 T x0 x1 x2 s0 s1).2 = (W x1, W x2) := by
  unfold step
  by_cases h1 : Live c T i
  · have e1 : (runFillLive (F := Ideal) c i arg3 harg3 arg4 harg4 arg5 harg5 arg6 harg6 arg7 harg7 arg8 harg8 T h0 h1 (not_blank_of h1) x0 x1 x2).2.1 = (pb_k0_t1 (F := Ideal) Variants.none c none i tab (Memref.isWhole_whole _) arg3 harg3 arg4 harg4 arg5 harg5 arg6 harg6 arg7 harg7 arg8 harg8 (harg4.unread x1) k0_t1_loop.trips) := by
      unfold runFillLive; dsimp only
    have e2 : (runFillLive (F := Ideal) c i arg3 harg3 arg4 harg4 arg5 harg5 arg6 harg6 arg7 harg7 arg8 harg8 T h0 h1 (not_blank_of h1) x0 x1 x2).2.2.1 = (pb_k0_t2 (F := Ideal) Variants.none c none i tab (Memref.isWhole_whole _) arg3 harg3 arg4 harg4 arg5 harg5 arg6 harg6 arg7 harg7 arg8 harg8 (harg5.unread x2) k0_t2_loop.trips) := by
      unfold runFillLive; dsimp only
    rw [dif_pos h0, dif_pos h1]
    have s1 : scrOf (runFillLive (F := Ideal) c i arg3 harg3 arg4 harg4 arg5 harg5 arg6 harg6 arg7 harg7 arg8 harg8 T h0 h1 (not_blank_of h1) x0 x1 x2).2.1 = W x1 := by
      unfold scrOf; rw [e1, filled_gate, harg4.read_unread]
    have s2 : scrOf (runFillLive (F := Ideal) c i arg3 harg3 arg4 harg4 arg5 harg5 arg6 harg6 arg7 harg7 arg8 harg8 T h0 h1 (not_blank_of h1) x0 x1 x2).2.2.1 = W x2 := by
      unfold scrOf; rw [e2, filled_up, harg5.read_unread]
    exact congrArg₂ Prod.mk s1 s2
  · have e1 : (runFillBlank (F := Ideal) c i arg3 harg3 arg4 harg4 arg5 harg5 arg6 harg6 arg7 harg7 arg8 harg8 T h0 h1 (blank_of h1) x0 x1 x2).2.1 = (pb_k0_t1 (F := Ideal) Variants.none c none i tab (Memref.isWhole_whole _) arg3 harg3 arg4 harg4 arg5 harg5 arg6 harg6 arg7 harg7 arg8 harg8 (harg4.unread x1) k0_t1_loop.trips) := by
      unfold runFillBlank; dsimp only
    have e2 : (runFillBlank (F := Ideal) c i arg3 harg3 arg4 harg4 arg5 harg5 arg6 harg6 arg7 harg7 arg8 harg8 T h0 h1 (blank_of h1) x0 x1 x2).2.2.1 = (pb_k0_t2 (F := Ideal) Variants.none c none i tab (Memref.isWhole_whole _) arg3 harg3 arg4 harg4 arg5 harg5 arg6 harg6 arg7 harg7 arg8 harg8 (harg5.unread x2) k0_t2_loop.trips) := by
      unfold runFillBlank; dsimp only
    rw [dif_pos h0, dif_neg h1]
    have s1 : scrOf (runFillBlank (F := Ideal) c i arg3 harg3 arg4 harg4 arg5 harg5 arg6 harg6 arg7 harg7 arg8 harg8 T h0 h1 (blank_of h1) x0 x1 x2).2.1 = W x1 := by
      unfold scrOf; rw [e1, filled_gate, harg4.read_unread]
    have s2 : scrOf (runFillBlank (F := Ideal) c i arg3 harg3 arg4 harg4 arg5 harg5 arg6 harg6 arg7 harg7 arg8 harg8 T h0 h1 (blank_of h1) x0 x1 x2).2.2.1 = W x2 := by
      unfold scrOf; rw [e2, filled_up, harg5.read_unread]
    exact congrArg₂ Prod.mk s1 s2

/-- and elsewhere they stay as they were. -/
theorem scr_keep (c : Dev nD) (i : grid0.Coords) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole) (T : Words (F := Ideal) c)
    (x0 : Vec Ideal S512x2048 .i32) (x1 x2 : Vec Ideal S1x1x4096x256 .f32) (s0 s1 : Vec Ideal S4096x256 .bf16) (h0 : ¬ Fills c T i) :
    (step c i arg3 harg3 arg4 harg4 arg5 harg5 arg6 harg6 arg7 harg7 arg8 harg8 T x0 x1 x2 s0 s1).2 = (s0, s1) := by
  unfold step
  by_cases h1 : Live c T i
  · rw [dif_neg h0, dif_pos h1]
  · rw [dif_neg h0, dif_neg h1]

/-- The block of the result where the block of rows is in use: the gated product with what the buffers then hold, -/
theorem out_live (c : Dev nD) (i : grid0.Coords) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole) (T : Words (F := Ideal) c)
    (x0 : Vec Ideal S512x2048 .i32) (x1 x2 : Vec Ideal S1x1x4096x256 .f32) (s0 s1 : Vec Ideal S4096x256 .bf16) (h1 : Live c T i) :
    (step c i arg3 harg3 arg4 harg4 arg5 harg5 arg6 harg6 arg7 harg7 arg8 harg8 T x0 x1 x2 s0 s1).1 = B x0 (step c i arg3 harg3 arg4 harg4 arg5 harg5 arg6 harg6 arg7 harg7 arg8 harg8 T x0 x1 x2 s0 s1).2.1 (step c i arg3 harg3 arg4 harg4 arg5 harg5 arg6 harg6 arg7 harg7 arg8 harg8 T x0 x1 x2 s0 s1).2.2 := by
  by_cases h0 : Fills c T i
  · rw [scr_fill c i arg3 harg3 arg4 harg4 arg5 harg5 arg6 harg6 arg7 harg7 arg8 harg8 T x0 x1 x2 s0 s1 h0]
    unfold step
    have e : (runFillLive (F := Ideal) c i arg3 harg3 arg4 harg4 arg5 harg5 arg6 harg6 arg7 harg7 arg8 harg8 T h0 h1 (not_blank_of h1) x0 x1 x2).1
        = [⟨Rect.unit (s := S512x256) ![0, 0] S512x256.size inb_S512x256_S512x256_0_0, k0_pay3 (F := Ideal) (View.readAt (Elt Ideal) arg3.view (Rect.unit (s := S512x2048) ![0, 0] S512x2048.size inb_S512x2048_S512x2048_0_0).toLoadRect (harg3.unread x0)) (arg7.view.readCov (pb_k0_t1 (F := Ideal) Variants.none c none i tab (Memref.isWhole_whole _) arg3 harg3 arg4 harg4 arg5 harg5 arg6 harg6 arg7 harg7 arg8 harg8 (harg4.unread x1) k0_t1_loop.trips) (Rect.unit (s := S4096x256) ![0, 0] S2048x256.size inb_S4096x256_S2048x256_0_0).toLoadRect) (arg7.view.readCov (pb_k0_t1 (F := Ideal) Variants.none c none i tab (Memref.isWhole_whole _) arg3 harg3 arg4 harg4 arg5 harg5 arg6 harg6 arg7 harg7 arg8 harg8 (harg4.unread x1) k0_t1_loop.trips) (Rect.unit (s := S4096x256) ![2048, 0] S2048x256.size inb_S4096x256_S2048x256_2048_0).toLoadRect) (arg8.view.readCov (pb_k0_t2 (F := Ideal) Variants.none c none i tab (Memref.isWhole_whole _) arg3 harg3 arg4 harg4 arg5 harg5 arg6 harg6 arg7 harg7 arg8 harg8 (harg5.unread x2) k0_t2_loop.trips) (Rect.unit (s := S4096x256) ![0, 0] S2048x256.size inb_S4096x256_S2048x256_0_0).toLoadRect) (arg8.view.readCov (pb_k0_t2 (F := Ideal) Variants.none c none i tab (Memref.isWhole_whole _) arg3 harg3 arg4 harg4 arg5 harg5 arg6 harg6 arg7 harg7 arg8 harg8 (harg5.unread x2) k0_t2_loop.trips) (Rect.unit (s := S4096x256) ![2048, 0] S2048x256.size inb_S4096x256_S2048x256_2048_0).toLoadRect)⟩] := by
      unfold runFillLive; dsimp only
    rw [dif_pos h0, dif_pos h1]
    dsimp only
    rw [e, block]
    unfold View.readCov
    simp only [View.readAt_eq_ld]
    rw [harg3.read_unread, whole_x, filled_gate, filled_up, harg4.read_unread, harg5.read_unread, ld_top, ld_bot, ld_top, ld_bot]
    rfl
  · rw [scr_keep c i arg3 harg3 arg4 harg4 arg5 harg5 arg6 harg6 arg7 harg7 arg8 harg8 T x0 x1 x2 s0 s1 h0]
    unfold step
    have e : (runKeepLive (F := Ideal) c i arg3 harg3 arg4 harg4 arg5 harg5 arg6 harg6 arg7 harg7 arg8 harg8 T h0 h1 (not_blank_of h1) x0 x1 x2 s0 s1).1
        = [⟨Rect.unit (s := S512x256) ![0, 0] S512x256.size inb_S512x256_S512x256_0_0, k0_pay3 (F := Ideal) (View.readAt (Elt Ideal) arg3.view (Rect.unit (s := S512x2048) ![0, 0] S512x2048.size inb_S512x2048_S512x2048_0_0).toLoadRect (harg3.unread x0)) (View.readAt (Elt Ideal) arg7.view (Rect.unit (s := S4096x256) ![0, 0] S2048x256.size inb_S4096x256_S2048x256_0_0).toLoadRect (harg7.unread s0)) (View.readAt (Elt Ideal) arg7.view (Rect.unit (s := S4096x256) ![2048, 0] S2048x256.size inb_S4096x256_S2048x256_2048_0).toLoadRect (harg7.unread s0)) (View.readAt (Elt Ideal) arg8.view (Rect.unit (s := S4096x256) ![0, 0] S2048x256.size inb_S4096x256_S2048x256_0_0).toLoadRect (harg8.unread s1)) (View.readAt (Elt Ideal) arg8.view (Rect.unit (s := S4096x256) ![2048, 0] S2048x256.size inb_S4096x256_S2048x256_2048_0).toLoadRect (harg8.unread s1))⟩] := by
      unfold runKeepLive; dsimp only
    rw [dif_neg h0, dif_pos h1]
    dsimp only
    rw [e, block]
    simp only [View.readAt_eq_ld]
    rw [harg3.read_unread, harg7.read_unread, harg8.read_unread, whole_x, ld_top, ld_bot, ld_top, ld_bot]
    rfl

/-- and zeros where it is not. -/
theorem out_blank (c : Dev nD) (i : grid0.Coords) (arg3 : Memref sig .tc .vmem S512x2048 .i32) (harg3 : arg3.IsWhole) (arg4 : Memref sig .tc .vmem S1x1x4096x256 .f32) (harg4 : arg4.IsWhole) (arg5 : Memref sig .tc .vmem S1x1x4096x256 .f32) (harg5 : arg5.IsWhole) (arg6 : Memref sig .tc .vmem S512x256 .bf16) (harg6 : arg6.IsWhole) (arg7 : Memref sig .tc .vmem S4096x256 .bf16) (harg7 : arg7.IsWhole) (arg8 : Memref sig .tc .vmem S4096x256 .bf16) (harg8 : arg8.IsWhole) (T : Words (F := Ideal) c)
    (x0 : Vec Ideal S512x2048 .i32) (x1 x2 : Vec Ideal S1x1x4096x256 .f32) (s0 s1 : Vec Ideal S4096x256 .bf16) (h1 : ¬ Live c T i) :
    (step c i arg3 harg3 arg4 harg4 arg5 harg5 arg6 harg6 arg7 harg7 arg8 harg8 T x0 x1 x2 s0 s1).1 = k0_pay4 (F := Ideal) := by
  unfold step
  by_cases h0 : Fills c T i
  · have e : (runFillBlank (F := Ideal) c i arg3 harg3 arg4 harg4 arg5 harg5 arg6 harg6 arg7 harg7 arg8 harg8 T h0 h1 (blank_of h1) x0 x1 x2).1 = [⟨Rect.unit (s := S512x256) ![0, 0] S512x256.size inb_S512x256_S512x256_0_0, k0_pay4 (F := Ideal)⟩] := by
      unfold runFillBlank; dsimp only
    rw [dif_pos h0, dif_neg h1]
    dsimp only
    rw [e, block]
  · have e : (runKeepBlank (F := Ideal) c i arg3 harg3 arg4 harg4 arg5 harg5 arg6 harg6 arg7 harg7 arg8 harg8 T h0 h1 (blank_of h1) x0 x1 x2 s0 s1).1 = [⟨Rect.unit (s := S512x256) ![0, 0] S512x256.size inb_S512x256_S512x256_0_0, k0_pay4 (F := Ideal)⟩] := by
      unfold runKeepBlank; dsimp only
    rw [dif_neg h0, dif_neg h1]
    dsimp only
    rw [e, block]

end Cert.EGluIdeal.Blocks
end
-- ==== Proof.EGlu.Final.lean ====
/-
What the experts' gated product leaves in its result array, entry by entry, for any table that names an expert for each block.
-/
module

public import proofs.«01_k».proof.Proof.EGlu.Blocks
public import Idealize.ShloMosaic.Lib.Pipeline.Covers

@[expose] public section
set_option maxRecDepth 16384
noncomputable section
namespace Cert.EGluIdeal.Final
open Idealize.ShloMosaic Idealize.ShloMosaic.TcCoe Idealize.SL.Sem
open Cert.EGluIdeal Cert.EGluIdeal.Gen Cert.EGluIdeal.Hand Cert.EGluIdeal.Blocks

variable (m : (ℓ : Loc nD τ sig) → Buf (Elt Ideal) ℓ) (ρ : Dev nD → PrngReg)

theorem point_lt (hI : Inside m) (t : Fin (pipe m hI).N) : t.val < 1440 := lt_of_lt_of_eq t.isLt N_0

theorem idx0 (hI : Inside m) (t : Fin (pipe m hI).N) : ((pipe m hI).win 0).index t = ![t.val % 72, 0] :=
  (by decide +kernel : ∀ t : Fin grid0.N, cc0_transform_0 (grid0.coords t) = ![t.val % 72, 0]) t
theorem idx3 (hI : Inside m) (t : Fin (pipe m hI).N) : ((pipe m hI).win 3).index t = ![t.val % 72, t.val / 72] :=
  (by decide +kernel : ∀ t : Fin grid0.N, cc0_transform_3 (grid0.coords t) = ![t.val % 72, t.val / 72]) t

/-- The blocks at a point, read at an index: the rows, -/
theorem a_at (hI : Inside m) (c : Dev nD) (t : Fin (pipe m hI).N) (r : Fin 512) (k : Fin 2048) : (blockAt m hI c 0 t : IVec S512x2048 32) (ix2 r k)
    = (m ((c : Thread nD τ).loc main_arg0) : IVec S36864x2048 32) (ix2 ⟨t.val % 72 * 512 + r.val, by omega⟩ k) := by
  have e := idx0 m hI t
  show start m c main_arg0 _ = _
  blk_ext [blockAt, e]

/-- The expert of a block of rows: its word of the table. -/
def expert (T : IVec S73 32) (b : Fin 72) : Fin 8 := ⟨(T (ix1 ⟨b.val, by omega⟩)).toNat % 8, Nat.mod_lt _ (by decide)⟩
theorem expert_val {T : IVec S73 32} (h : Experts T) (b : Fin 72) : (T (ix1 ⟨b.val, by omega⟩)).toNat = (expert T b).val :=
  (Nat.mod_eq_of_lt (h ⟨b.val, by omega⟩ b.isLt)).symm
theorem expert_congr {T : IVec S73 32} {b d : Fin 72} (h : (T (ix1 ⟨b.val, by omega⟩)) = T (ix1 ⟨d.val, by omega⟩)) : expert T b = expert T d :=
  Fin.ext (congrArg (fun w : BitVec 32 => w.toNat % 8) h)

theorem row_of (hI : Inside m) (t : Fin (pipe m hI).N) : (grid0.coords t 1).val = t.val % 72 := by
  have := coord1 t
  rw [this, Nat.div_one]
theorem col_of (hI : Inside m) (t : Fin (pipe m hI).N) : (grid0.coords t 0).val = t.val / 72 := by
  have := coord0 t
  have hl := point_lt m hI t
  rw [this]
  omega

theorem idx1 (hI : Inside m) (hE : Experts (table m 0)) (t : Fin (pipe m hI).N) :
    ((pipe m hI).win 1).index t = ![0, (expert (table m 0) ⟨t.val % 72, Nat.mod_lt _ (by decide)⟩).val, 0, t.val / 72] := by
  have e := gate_index (table m) (grid0.coords t) ⟨t.val % 72, by omega⟩ (row_of m hI t)
  rw [expert_val hE ⟨t.val % 72, Nat.mod_lt _ (by decide)⟩, col_of m hI t] at e
  exact e
theorem idx2 (hI : Inside m) (hE : Experts (table m 0)) (t : Fin (pipe m hI).N) :
    ((pipe m hI).win 2).index t = ![0, (expert (table m 0) ⟨t.val % 72, Nat.mod_lt _ (by decide)⟩).val, 0, t.val / 72] := by
  have e := up_index (table m) (grid0.coords t) ⟨t.val % 72, by omega⟩ (row_of m hI t)
  rw [expert_val hE ⟨t.val % 72, Nat.mod_lt _ (by decide)⟩, col_of m hI t] at e
  exact e

/-- the gate weights of the block's expert, -/
theorem gate_at (hI : Inside m) (hE : Experts (table m 0)) (c : Dev nD) (t : Fin (pipe m hI).N) (k : Fin 4096) (n : Fin 256) : (blockAt m hI c 1 t : FVec Ideal S1x1x4096x256 .f32) (ix4 0 0 k n)
    = (m ((c : Thread nD τ).loc main_arg1) : FVec Ideal S1x8x4096x5120 .f32) (ix4 0 (expert (table m 0) ⟨t.val % 72, Nat.mod_lt _ (by decide)⟩) k ⟨t.val / 72 * 256 + n.val, by have := point_lt m hI t; omega⟩) := by
  have e := idx1 m hI hE t
  show start m c main_arg1 _ = _
  blk_ext [blockAt, e]

/-- and the up weights. -/
theorem up_at (hI : Inside m) (hE : Experts (table m 0)) (c : Dev nD) (t : Fin (pipe m hI).N) (k : Fin 4096) (n : Fin 256) : (blockAt m hI c 2 t : FVec Ideal S1x1x4096x256 .f32) (ix4 0 0 k n)
    = (m ((c : Thread nD τ).loc main_arg2) : FVec Ideal S1x8x4096x5120 .f32) (ix4 0 (expert (table m 0) ⟨t.val % 72, Nat.mod_lt _ (by decide)⟩) k ⟨t.val / 72 * 256 + n.val, by have := point_lt m hI t; omega⟩) := by
  have e := idx2 m hI hE t
  show start m c main_arg2 _ = _
  blk_ext [blockAt, e]

/-- A point that keeps the buffer has the expert of the point before it, -/
theorem same_of_kept (c : Dev nD) (T : Words (F := Ideal) c) (i : grid0.Coords) (h : ¬ Fills c T i) : mine c T i = prev c T i := by
  by_contra hd
  have eb : Scalar.cmpi .ne (mine c T i) (prev c T i) = 1#1 := by
    generalize mine c T i = a at hd ⊢
    generalize prev c T i = b at hd ⊢
    word_cmp
    exact fun e => hd (BitVec.eq_of_toNat_eq e)
  apply h
  unfold Fills
  rw [eb]
  generalize Scalar.cmpi .eq (BitVec.ofNat 32 (i 1).val) 0#32 = b
  revert b
  decide

/-- and what a point finds in the gate buffer once it has filled it or kept it: its expert's gate weights, -/
theorem scratch_gate (hI : Inside m) (hE : Experts (table m 0)) (c : Dev nD) : ∀ n (hn : n < (pipe m hI).N) (k : Fin 4096) (e : Fin 256),
    ((scrBefore m hI c (n + 1) hn).1 : FVec Ideal S4096x256 .bf16) (ix2 k e)
      = (m ((c : Thread nD τ).loc main_arg1) : FVec Ideal S1x8x4096x5120 .f32) (ix4 0 (expert (table m 0) ⟨n % 72, Nat.mod_lt _ (by decide)⟩) k ⟨n / 72 * 256 + e.val, by have := point_lt m hI ⟨n, hn⟩; dsimp only at this; omega⟩) := by
  intro n
  induction n with
  | zero =>
    intro hn k e
    have hf : Fills c (table m 0) (grid0.coords (⟨0, hn⟩ : Fin grid0.N)) := fills_of_first c _ _ (row_of m hI ⟨0, hn⟩)
    have h := congrArg Prod.fst ((scrBefore_succ m hI c ⟨0, hn⟩).trans (scr_fill (h0 := hf) ..))
    exact (congrFun h (ix2 k e)).trans (gate_at m hI hE c ⟨0, hn⟩ k e)
  | succ n ih =>
    intro hn k e
    have hl := point_lt m hI ⟨n + 1, hn⟩
    dsimp only at hl
    by_cases hf : Fills c (table m 0) (grid0.coords (⟨n + 1, hn⟩ : Fin grid0.N))
    · have h := congrArg Prod.fst ((scrBefore_succ m hI c ⟨n + 1, hn⟩).trans (scr_fill (h0 := hf) ..))
      exact (congrFun h (ix2 k e)).trans (gate_at m hI hE c ⟨n + 1, hn⟩ k e)
    · have h := congrArg Prod.fst ((scrBefore_succ m hI c ⟨n + 1, hn⟩).trans (scr_keep (h0 := hf) ..))
      have hr := row_of m hI ⟨n + 1, hn⟩
      have hne : (n + 1) % 72 ≠ 0 := fun h0 => hf (fills_of_first c _ _ (hr.trans h0))
      have h1 : n / 72 = (n + 1) / 72 := by omega
      have h2 : (n + 1) % 72 - 1 = n % 72 := by omega
      have same := (mine_eq c (table m 0) (grid0.coords (⟨n + 1, hn⟩ : Fin grid0.N)) ⟨(n + 1) % 72, by omega⟩ hr).symm.trans
        ((same_of_kept c _ _ hf).trans (prev_eq c (table m 0) (grid0.coords (⟨n + 1, hn⟩ : Fin grid0.N)) ⟨n % 72, by omega⟩ (hr ▸ h2)))
      have he : expert (table m 0) ⟨n % 72, Nat.mod_lt _ (by decide)⟩ = expert (table m 0) ⟨(n + 1) % 72, Nat.mod_lt _ (by decide)⟩ := expert_congr same.symm
      refine (congrFun h (ix2 k e)).trans ((ih (Nat.lt_of_succ_lt hn) k e).trans (congrArg _ ?_))
      rw [he]
      simp only [h1]

/-- and in the up buffer, its expert's up weights. -/
theorem scratch_up (hI : Inside m) (hE : Experts (table m 0)) (c : Dev nD) : ∀ n (hn : n < (pipe m hI).N) (k : Fin 4096) (e : Fin 256),
    ((scrBefore m hI c (n + 1) hn).2 : FVec Ideal S4096x256 .bf16) (ix2 k e)
      = (m ((c : Thread nD τ).loc main_arg2) : FVec Ideal S1x8x4096x5120 .f32) (ix4 0 (expert (table m 0) ⟨n % 72, Nat.mod_lt _ (by decide)⟩) k ⟨n / 72 * 256 + e.val, by have := point_lt m hI ⟨n, hn⟩; dsimp only at this; omega⟩) := by
  intro n
  induction n with
  | zero =>
    intro hn k e
    have hf : Fills c (table m 0) (grid0.coords (⟨0, hn⟩ : Fin grid0.N)) := fills_of_first c _ _ (row_of m hI ⟨0, hn⟩)
    have h := congrArg Prod.snd ((scrBefore_succ m hI c ⟨0, hn⟩).trans (scr_fill (h0 := hf) ..))
    exact (congrFun h (ix2 k e)).trans (up_at m hI hE c ⟨0, hn⟩ k e)
  | succ n ih =>
    intro hn k e
    have hl := point_lt m hI ⟨n + 1, hn⟩
    dsimp only at hl
    by_cases hf : Fills c (table m 0) (grid0.coords (⟨n + 1, hn⟩ : Fin grid0.N))
    · have h := congrArg Prod.snd ((scrBefore_succ m hI c ⟨n + 1, hn⟩).trans (scr_fill (h0 := hf) ..))
      exact (congrFun h (ix2 k e)).trans (up_at m hI hE c ⟨n + 1, hn⟩ k e)
    · have h := congrArg Prod.snd ((scrBefore_succ m hI c ⟨n + 1, hn⟩).trans (scr_keep (h0 := hf) ..))
      have hr := row_of m hI ⟨n + 1, hn⟩
      have hne : (n + 1) % 72 ≠ 0 := fun h0 => hf (fills_of_first c _ _ (hr.trans h0))
      have h1 : n / 72 = (n + 1) / 72 := by omega
      have h2 : (n + 1) % 72 - 1 = n % 72 := by omega
      have same := (mine_eq c (table m 0) (grid0.coords (⟨n + 1, hn⟩ : Fin grid0.N)) ⟨(n + 1) % 72, by omega⟩ hr).symm.trans
        ((same_of_kept c _ _ hf).trans (prev_eq c (table m 0) (grid0.coords (⟨n + 1, hn⟩ : Fin grid0.N)) ⟨n % 72, by omega⟩ (hr ▸ h2)))
      have he : expert (table m 0) ⟨n % 72, Nat.mod_lt _ (by decide)⟩ = expert (table m 0) ⟨(n + 1) % 72, Nat.mod_lt _ (by decide)⟩ := expert_congr same.symm
      refine (congrFun h (ix2 k e)).trans ((ih (Nat.lt_of_succ_lt hn) k e).trans (congrArg _ ?_))
      rw [he]
      simp only [h1]

/-- Whether a block of rows is in use: its number is below the table's last word. -/
abbrev Used (T : IVec S73 32) (b : Fin 72) : Prop := Scalar.cmpi .slt (BitVec.ofNat 32 b.val) (T (ix1 72)) = 1#1
theorem live_iff (c : Dev nD) (T : Words (F := Ideal) c) (i : grid0.Coords) (b : Fin 72) (h : (i 1).val = b.val) : Live c T i ↔ Used (T : IVec S73 32) b := by
  unfold Live Used k0_cond2
  rw [used_eq, h]
  dsimp only
  generalize Scalar.cmpi .slt (BitVec.ofNat 32 b.val) ((T : IVec S73 32) (ix1 72)) = w
  revert w
  decide

/-- A row of packed words times a column of an expert's weights: the low halves with the upper rows, the high halves with the lower. -/
def side (x : IVec S36864x2048 32) (w : FVec Ideal S1x8x4096x5120 .f32) (e : Fin 8) (r : Fin 36864) (n : Fin 5120) : Ideal .f32 :=
  (∑ k : Fin 2048, low (x (ix2 r k)) * w (ix4 0 e ⟨k.val, by omega⟩ n)) + ∑ k : Fin 2048, high (x (ix2 r k)) * w (ix4 0 e ⟨2048 + k.val, by omega⟩ n)

/-- One entry, at row `r` of block `b` and column `n`. -/
def entry (x : IVec S36864x2048 32) (g u : FVec Ideal S1x8x4096x5120 .f32) (T : IVec S73 32) (b : Fin 72) (r : Fin 36864) (n : Fin 5120) : Ideal .bf16 :=
  if Used T b then gated (side x g (expert T b) r n) (side x u (expert T b) r n) else 0

/-- The plain gated product: each block of 512 rows with its expert's weights, and zeros in the blocks that are not in use. -/
def res (x : IVec S36864x2048 32) (g u : FVec Ideal S1x8x4096x5120 .f32) (T : IVec S73 32) : FVec Ideal S36864x5120 .bf16 := fun y =>
  entry x g u T ⟨(y 0).val / 512, by have h0 := (y 0).isLt; change (y 0).val < 36864 at h0; omega⟩ (y 0) (y 1)

theorem res_at (x : IVec S36864x2048 32) (g u : FVec Ideal S1x8x4096x5120 .f32) (T : IVec S73 32) (b : Fin 72) (r : Fin 36864) (n : Fin 5120) (h : r.val / 512 = b.val) : res x g u T (ix2 r n) = entry x g u T b r n := by
  have e : ∀ hh, (⟨r.val / 512, hh⟩ : Fin 72) = b := fun _ => Fin.ext h
  exact congrArg (fun b => entry x g u T b r n) (e _)

/-- A product with a buffer, once its rows and its columns are known. -/
theorem prod_eq (x : IVec S512x2048 32) (w : FVec Ideal S4096x256 .bf16) (x' : IVec S36864x2048 32) (w' : FVec Ideal S1x8x4096x5120 .f32) (e : Fin 8)
    (r : Fin 512) (n : Fin 256) (r' : Fin 36864) (n' : Fin 5120) (hx : ∀ k, x (ix2 r k) = x' (ix2 r' k)) (hw : ∀ k, w (ix2 k n) = w' (ix4 0 e k n')) :
    prod x w r n = side x' w' e r' n' := by
  unfold prod side
  refine congrArg₂ (fun (a b : Ideal .f32) => a + b) (Finset.sum_congr rfl fun k _ => ?_) (Finset.sum_congr rfl fun k _ => ?_)
  · exact congrArg₂ (fun (a b : Ideal .f32) => a * b) (congrArg low (hx k)) (hw _)
  · exact congrArg₂ (fun (a b : Ideal .f32) => a * b) (congrArg high (hx k)) (hw _)

/-- The block of the result at a point. -/
theorem point (hI : Inside m) (hE : Experts (table m 0)) (c : Dev nD) (t : Fin (pipe m hI).N) (r : Fin 512) (n : Fin 256) :
    (blockAfter m hI c t : FVec Ideal S512x256 .bf16) (ix2 r n)
      = res (m ((c : Thread nD τ).loc main_arg0)) (m ((c : Thread nD τ).loc main_arg1)) (m ((c : Thread nD τ).loc main_arg2)) (table m 0) (ix2 ⟨t.val % 72 * 512 + r.val, by omega⟩ ⟨t.val / 72 * 256 + n.val, by have := point_lt m hI t; omega⟩) := by
  refine Eq.trans ?_ (res_at _ _ _ _ ⟨t.val % 72, Nat.mod_lt _ (by decide)⟩ _ _ (by dsimp only; omega)).symm
  unfold entry blockAfter
  have hl := live_iff c (table m 0) (grid0.coords t) ⟨t.val % 72, Nat.mod_lt _ (by decide)⟩ (row_of m hI t)
  have hs := scrBefore_succ m hI c t
  by_cases h : Live c (table m 0) (grid0.coords t)
  · rw [if_pos (hl.mp h)]
    have e : (stepAt m hI c t (scrBefore m hI c t.val (Nat.le_of_lt t.isLt))).1 = B (blockAt m hI c 0 t) (scrBefore m hI c (t.val + 1) t.isLt).1 (scrBefore m hI c (t.val + 1) t.isLt).2 := by
      rw [hs]
      exact out_live (h1 := h) ..
    refine (congrFun e (ix2 r n)).trans ((B_at _ _ _ r n).trans ?_)
    exact congrArg₂ gated (prod_eq _ _ _ _ _ _ _ _ _ (a_at m hI c t r) (fun k => scratch_gate m hI hE c t.val t.isLt k n))
      (prod_eq _ _ _ _ _ _ _ _ _ (a_at m hI c t r) (fun k => scratch_up m hI hE c t.val t.isLt k n))
  · rw [if_neg (fun hu => h (hl.mpr hu))]
    have e : (stepAt m hI c t (scrBefore m hI c t.val (Nat.le_of_lt t.isLt))).1 = k0_pay4 (F := Ideal) := out_blank (h1 := h) ..
    exact (congrFun e (ix2 r n)).trans (zeros_at r n)

theorem nblk0 (hI : Inside m) : ((pipe m hI).win 3).nblk ⟨0, Nat.succ_pos 1⟩ = 72 := by
  show (36864 + 512 - 1) / 512 = 72
  rfl
theorem nblk1 (hI : Inside m) : ((pipe m hI).win 3).nblk ⟨1, Nat.lt_succ_self 1⟩ = 20 := by
  show (5120 + 256 - 1) / 256 = 20
  rfl

/-- Every entry of the result lies in some point's block. -/
theorem covers (hI : Inside m) : ((pipe m hI).win 3).Covers := by
  refine Pipeline.Window.covers_of_index_surj _ rfl (fun a => match a with | ⟨0, _⟩ => Nat.succ_pos 511 | ⟨1, _⟩ => Nat.succ_pos 255) fun β => ?_
  let i0 : Fin ((pipe m hI).win 3).shape.rank := ⟨0, Nat.succ_pos 1⟩
  let i1 : Fin ((pipe m hI).win 3).shape.rank := ⟨1, Nat.lt_succ_self 1⟩
  obtain ⟨p, hp⟩ : ∃ p : Fin 72, p.val = (β i0).val := ⟨⟨(β i0).val, lt_of_lt_of_eq (β i0).isLt (nblk0 m hI)⟩, rfl⟩
  obtain ⟨q, hq⟩ : ∃ q : Fin 20, q.val = (β i1).val := ⟨⟨(β i1).val, lt_of_lt_of_eq (β i1).isLt (nblk1 m hI)⟩, rfl⟩
  have hN : q.val * 72 + p.val < (pipe m hI).N := lt_of_lt_of_eq (by omega : _ < 1440) N_0.symm
  refine ⟨⟨q.val * 72 + p.val, hN⟩, ?_⟩
  rw [idx3 m hI]
  intro a
  match a with
  | ⟨0, _⟩ => refine Eq.trans ?_ hp; show (q.val * 72 + p.val) % 72 = p.val; omega
  | ⟨1, _⟩ => refine Eq.trans ?_ hq; show (q.val * 72 + p.val) / 72 = q.val; omega

/-- The kernel's result array. -/
theorem final (hI : Inside m) (hE : Experts (table m 0)) (c : Dev nD) : (dats m hI 0 c).arrAt 3 (pipe m hI).N = res (m ((c : Thread nD τ).loc main_arg0)) (m ((c : Thread nD τ).loc main_arg1)) (m ((c : Thread nD τ).loc main_arg2)) (table m 0) := by
  refine (dats m hI 0 c).arrAt_eq_of_covers 3 _ (covers m hI) fun t _ y => ?_
  have e := idx3 m hI t
  rw [after_3]
  revert y
  change ∀ y : S512x256.Idx, _
  intro y
  idx_vars y
  refine (point m hI hE c t y0 y1).trans (congrArg (res _ _ _ _) ?_)
  blk_ext [e]

/-- The run: the result array, and the arguments as they were. -/
theorem run (hE : Experts (table m 0)) : θ_run defs (onTc (τ := τ) (main (F := Ideal))) ⟨m, fun _ => 0, ρ⟩ fun r => ∀ c : Dev nD,
      r.2.mem ((c : Thread nD τ).loc main_v0) = res (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  have hI := inside_of m hE
  refine (θ_run defs _ _).mono (fun r h c => ?_) (run_quiescent m ρ hI)
  have ht : (table m 0 : IVec S73 32) = m ((c : Thread nD τ).loc main_arg3) := (table_eq m c 0).symm
  exact ⟨((h.1 c).1 3).trans ((final m hI hE c).trans (congrArg (res _ _ _) ht)),
    ((h.1 c).1 0).trans (((dats m hI 0 c).arrAt_in 0 rfl _).trans (A_eq m hI c 0)),
    ((h.1 c).1 1).trans (((dats m hI 0 c).arrAt_in 1 rfl _).trans (A_eq m hI c 1)),
    ((h.1 c).1 2).trans (((dats m hI 0 c).arrAt_in 2 rfl _).trans (A_eq m hI c 2)),
    (h.1 c).2 main_arg3 (by decide : main_arg3 ∈ Pipeline.restRefs sig spec0)⟩

end Cert.EGluIdeal.Final
end
-- ==== Proof.EGlu.Plain.lean ====
/-
The reference of the experts' gated product, entry by entry.
-/
module

public import proofs.«01_k».proof.Proof.EGlu.Final
public import proofs.«01_k».proof.Proof.Gen.EGluRefIdeal.Run
public import Idealize.ShloMosaic.Lib.KernelVsHost

@[expose] public section
set_option maxRecDepth 16384
noncomputable section
namespace Cert.EGluRefIdeal.Plain
open Idealize.ShloMosaic Idealize.ShloMosaic.TcCoe
open Cert.EGluRefIdeal Cert.EGluRefIdeal.Gen
open Cert.EGluIdeal.Hand (Experts)
open Cert.EGluIdeal.Blocks (low high gated)
open Cert.EGluIdeal.Final (expert Used side)

/-- The low halves of the packed words, and the high halves. -/
def lows (x : IVec S36864x2048 32) : FVec Ideal S36864x2048 .f32 :=
  bitcastToFloat (F := Ideal) .f32 (Host.shli x (broadcastInDim S36864x2048 ![] bcast_S_S36864x2048 (constantI S_ 32 16#32)))
def highs (x : IVec S36864x2048 32) : FVec Ideal S36864x2048 .f32 :=
  bitcastToFloat (F := Ideal) .f32 (andi x (broadcastInDim S36864x2048 ![] bcast_S_S36864x2048 (constantI S_ 32 4294901760#32)))

theorem lows_at (x : IVec S36864x2048 32) (r : Fin 36864) (k : Fin 2048) : lows x (ix2 r k) = low (x (ix2 r k)) := by
  unfold lows
  rw [hostShli_eq_shli]
  rfl
theorem highs_at (x : IVec S36864x2048 32) (r : Fin 36864) (k : Fin 2048) : highs x (ix2 r k) = high (x (ix2 r k)) := rfl

/-- The rows by blocks: the low halves, then the high halves. -/
def rows (x : IVec S36864x2048 32) : FVec Ideal S72x512x4096 .f32 :=
  shapeCast _ (concatenate S36864x4096 1 [⟨S36864x2048, lows x⟩, ⟨S36864x2048, highs x⟩] concatenates_S36864x2048_S36864x2048_S36864x4096_d1) shapeCasts_S36864x4096_S72x512x4096

theorem cast_at (z : FVec Ideal S36864x4096 .f32) (b : Fin 72) (s : Fin 512) (r : Fin 36864) (hr : r.val = b.val * 512 + s.val) (k : Fin 4096) :
    (shapeCast _ z shapeCasts_S36864x4096_S72x512x4096 : FVec Ideal S72x512x4096 .f32) (ix3 b s k) = z (ix2 r k) := by
  rw [show r = ⟨b.val * 512 + s.val, by omega⟩ from Fin.ext hr]
  pointwise

theorem rows_low (x : IVec S36864x2048 32) (b : Fin 72) (s : Fin 512) (r : Fin 36864) (hr : r.val = b.val * 512 + s.val) (k : Fin 2048) :
    rows x (ix3 b s ⟨k.val, by omega⟩) = low (x (ix2 r k)) := by
  refine (cast_at _ b s r hr _).trans (Eq.trans ?_ (lows_at x r k))
  generalize lows x = l
  generalize highs x = h
  pointwise
theorem rows_high (x : IVec S36864x2048 32) (b : Fin 72) (s : Fin 512) (r : Fin 36864) (hr : r.val = b.val * 512 + s.val) (k : Fin 2048) :
    rows x (ix3 b s ⟨2048 + k.val, by omega⟩) = high (x (ix2 r k)) := by
  refine (cast_at _ b s r hr _).trans (Eq.trans ?_ (highs_at x r k))
  generalize lows x = l
  generalize highs x = h
  pointwise

/-- The rows times one expert's weights. -/
def times (x : IVec S36864x2048 32) (w : FVec Ideal S1x8x4096x5120 .f32) (o : Fin 4 → ℕ) (h : S1x8x4096x5120.Slices o S1x1x4096x5120) : FVec Ideal S72x512x5120 .f32 :=
  Host.dotGeneral dot_S72x512x4096_S4096x5120_S72x512x5120_2_0_01_1_n_n none (rows x) (shapeCast _ (extractStridedSlice S1x1x4096x5120 o w h) shapeCasts_S1x1x4096x5120_S4096x5120)

/-- A product at a row and a column. -/
theorem dot_at (x : FVec Ideal S72x512x4096 .f32) (w : FVec Ideal S4096x5120 .f32) (b : Fin 72) (s : Fin 512) (n : Fin 5120) :
    (Host.dotGeneral dot_S72x512x4096_S4096x5120_S72x512x5120_2_0_01_1_n_n none x w : FVec Ideal S72x512x5120 .f32) (ix3 b s n)
      = ∑ k : Fin 4096, x (ix3 b s k) * w (ix2 k n) := by
  pointwise

/-- A column of an expert's weights. -/
theorem col_at (e : Fin 8) (h : S1x8x4096x5120.Slices ![0, e.val, 0, 0] S1x1x4096x5120) (w : FVec Ideal S1x8x4096x5120 .f32) (k : Fin 4096) (n : Fin 5120) :
    (shapeCast _ (extractStridedSlice S1x1x4096x5120 ![0, e.val, 0, 0] w h) shapeCasts_S1x1x4096x5120_S4096x5120 : FVec Ideal S4096x5120 .f32) (ix2 k n) = w (ix4 0 e k n) := by
  pointwise

/-- A sum over the columns of a row, halved. -/
theorem halves (f : Fin 4096 → EReal) : ∑ k : Fin 4096, f k = (∑ k : Fin 2048, f ⟨k.val, by omega⟩) + ∑ k : Fin 2048, f ⟨2048 + k.val, by omega⟩ :=
  Fin.sum_univ_add (a := 2048) (b := 2048) f

/-- The rows times an expert's weights, at a row and a column. -/
theorem times_at (e : Fin 8) (h : S1x8x4096x5120.Slices ![0, e.val, 0, 0] S1x1x4096x5120) (x : IVec S36864x2048 32) (w : FVec Ideal S1x8x4096x5120 .f32) (b : Fin 72) (s : Fin 512) (r : Fin 36864) (hr : r.val = b.val * 512 + s.val) (n : Fin 5120) :
    times x w ![0, e.val, 0, 0] h (ix3 b s n) = side x w e r n := by
  refine (dot_at _ _ b s n).trans ((halves _).trans ?_)
  unfold side
  refine congrArg₂ (fun (a b : Ideal .f32) => a + b) (Finset.sum_congr rfl fun k _ => ?_) (Finset.sum_congr rfl fun k _ => ?_)
  · exact congrArg₂ (fun (a b : Ideal .f32) => a * b) (rows_low x b s r hr k) (col_at e h w _ n)
  · exact congrArg₂ (fun (a b : Ideal .f32) => a * b) (rows_high x b s r hr k) (col_at e h w _ n)

/-- The gate. -/
def act (g u : FVec Ideal S72x512x5120 .f32) : FVec Ideal S72x512x5120 .f32 :=
  mulf (mulf g (Host.divf (broadcastInDim S72x512x5120 ![] bcast_S_S72x512x5120 (constant S_ .f32 0x3F800000#32)) (addf (broadcastInDim S72x512x5120 ![] bcast_S_S72x512x5120 (constant S_ .f32 0x3F800000#32)) (Host.exp (Host.negf g))))) u
theorem act_at (g u : FVec Ideal S72x512x5120 .f32) (b : Fin 72) (s : Fin 512) (n : Fin 5120) : act g u (ix3 b s n) = gated (g (ix3 b s n)) (u (ix3 b s n)) := by
  pointwise [act, gated, Ideal.logistic]

/-- The blocks of one expert. -/
theorem mask_at (T : IVec S73 32) (e : BitVec 32) (b : Fin 72) (s : Fin 512) (n : Fin 5120) :
    (broadcastInDim S72x512x5120 ![0, 1, 2] bcast_S72x1x1_S72x512x5120_0_1_2 (broadcastInDim S72x1x1 ![0] bcast_S72_S72x1x1_0 (cmpi .eq (extractStridedSlice S72 ![0] T slices_S73_S72_0) (broadcastInDim S72 ![] bcast_S_S72 (constantI S_ 32 e)))) : IVec S72x512x5120 1) (ix3 b s n)
      = Scalar.cmpi .eq (T (ix1 ⟨b.val, by omega⟩)) e := by
  pointwise
  rfl

/-- The blocks in use. -/
theorem used_at (T : IVec S73 32) (b : Fin 72) (s : Fin 512) (n : Fin 5120) :
    (broadcastInDim S72x512x5120 ![0, 1, 2] bcast_S72x1x1_S72x512x5120_0_1_2 (broadcastInDim S72x1x1 ![0] bcast_S72_S72x1x1_0 (cmpi .slt (iotaInDim S72 32 0) (broadcastInDim S72 ![] bcast_S_S72 (shapeCast _ (extractStridedSlice S1 ![72] T slices_S73_S1_72) shapeCasts_S1_S_)))) : IVec S72x512x5120 1) (ix3 b s n)
      = Scalar.cmpi .slt (BitVec.ofNat 32 b.val) (T (ix1 72)) := by
  pointwise
  rfl

theorem zeros_at (b : Fin 72) (s : Fin 512) (n : Fin 5120) :
    (broadcastInDim S72x512x5120 ![] bcast_S_S72x512x5120 (constant S_ .f32 0x00000000#32) : FVec Ideal S72x512x5120 .f32) (ix3 b s n) = 0 := by
  pointwise

/-- A row of the result is a row of a block. -/
theorem row_at (z : FVec Ideal S72x512x5120 .f32) (r : Fin 36864) (n : Fin 5120) :
    (truncf .bf16 (shapeCast _ z shapeCasts_S72x512x5120_S36864x5120) bitsLt_bf16_f32 : FVec Ideal S36864x5120 .bf16) (ix2 r n) = z (ix3 ⟨r.val / 512, by omega⟩ ⟨r.val % 512, by omega⟩ n) := by
  pointwise

/-- One step of the choice among the experts. -/
def pick (T : IVec S73 32) (e : BitVec 32) (d z : FVec Ideal S72x512x5120 .f32) : FVec Ideal S72x512x5120 .f32 := select (broadcastInDim S72x512x5120 ![0, 1, 2] bcast_S72x1x1_S72x512x5120_0_1_2 (broadcastInDim S72x1x1 ![0] bcast_S72_S72x1x1_0 (cmpi .eq (extractStridedSlice S72 ![0] T slices_S73_S72_0) (broadcastInDim S72 ![] bcast_S_S72 (constantI S_ 32 e))))) d z

/-- In the blocks of another expert, what was there is left. -/
theorem pick_other (T : IVec S73 32) (b : Fin 72) (s : Fin 512) (n : Fin 5120) (e : BitVec 32) (d z : FVec Ideal S72x512x5120 .f32) (h : T (ix1 ⟨b.val, by omega⟩) ≠ e) :
    pick T e d z (ix3 b s n) = z (ix3 b s n) := by
  unfold pick select Scalar.select
  rw [mask_at]
  refine if_neg fun h1 => h ?_
  have hb : BitVec.ofBool (T (ix1 ⟨b.val, by omega⟩) == e) = 1#1 := h1
  by_contra hn
  rw [beq_false_of_ne hn] at hb
  exact absurd hb (by decide)
/-- In its own blocks an expert's gated product is taken. -/
theorem pick_same (T : IVec S73 32) (b : Fin 72) (s : Fin 512) (n : Fin 5120) (e : BitVec 32) (d z : FVec Ideal S72x512x5120 .f32) (h : T (ix1 ⟨b.val, by omega⟩) = e) :
    pick T e d z (ix3 b s n) = d (ix3 b s n) := by
  unfold pick select Scalar.select
  rw [mask_at, h]
  refine if_pos ?_
  show BitVec.ofBool (e == e) = 1#1
  rw [beq_self_eq_true]
  rfl

/-- An expert's gated product at a row and a column. -/
theorem term_at (e : Fin 8) (h : S1x8x4096x5120.Slices ![0, e.val, 0, 0] S1x1x4096x5120) (x : IVec S36864x2048 32) (g u : FVec Ideal S1x8x4096x5120 .f32) (b : Fin 72) (s : Fin 512) (r : Fin 36864) (hr : r.val = b.val * 512 + s.val) (n : Fin 5120) :
    act (times x g ![0, e.val, 0, 0] h) (times x u ![0, e.val, 0, 0] h) (ix3 b s n) = gated (side x g e r n) (side x u e r n) :=
  (act_at _ _ b s n).trans (congrArg₂ gated (times_at e h x g b s r hr n) (times_at e h x u b s r hr n))

/-- The expert of a block, from its word. -/
theorem expert_of {T : IVec S73 32} {b : Fin 72} (e : Fin 8) (h : T (ix1 ⟨b.val, by omega⟩) = BitVec.ofNat 32 e.val) : expert T b = e := by
  refine Fin.ext ?_
  show (T (ix1 ⟨b.val, by omega⟩)).toNat % 8 = e.val
  rw [h]
  clear h
  revert e
  decide

/-- The choice among the eight experts, over zeros. -/
def choice (x : IVec S36864x2048 32) (g u : FVec Ideal S1x8x4096x5120 .f32) (T : IVec S73 32) : FVec Ideal S72x512x5120 .f32 :=
  pick T 7#32 (act (times x g ![0, 7, 0, 0] slices_S1x8x4096x5120_S1x1x4096x5120_0_7_0_0) (times x u ![0, 7, 0, 0] slices_S1x8x4096x5120_S1x1x4096x5120_0_7_0_0)) (pick T 6#32 (act (times x g ![0, 6, 0, 0] slices_S1x8x4096x5120_S1x1x4096x5120_0_6_0_0) (times x u ![0, 6, 0, 0] slices_S1x8x4096x5120_S1x1x4096x5120_0_6_0_0)) (pick T 5#32 (act (times x g ![0, 5, 0, 0] slices_S1x8x4096x5120_S1x1x4096x5120_0_5_0_0) (times x u ![0, 5, 0, 0] slices_S1x8x4096x5120_S1x1x4096x5120_0_5_0_0)) (pick T 4#32 (act (times x g ![0, 4, 0, 0] slices_S1x8x4096x5120_S1x1x4096x5120_0_4_0_0) (times x u ![0, 4, 0, 0] slices_S1x8x4096x5120_S1x1x4096x5120_0_4_0_0)) (pick T 3#32 (act (times x g ![0, 3, 0, 0] slices_S1x8x4096x5120_S1x1x4096x5120_0_3_0_0) (times x u ![0, 3, 0, 0] slices_S1x8x4096x5120_S1x1x4096x5120_0_3_0_0)) (pick T 2#32 (act (times x g ![0, 2, 0, 0] slices_S1x8x4096x5120_S1x1x4096x5120_0_2_0_0) (times x u ![0, 2, 0, 0] slices_S1x8x4096x5120_S1x1x4096x5120_0_2_0_0)) (pick T 1#32 (act (times x g ![0, 1, 0, 0] slices_S1x8x4096x5120_S1x1x4096x5120_0_1_0_0) (times x u ![0, 1, 0, 0] slices_S1x8x4096x5120_S1x1x4096x5120_0_1_0_0)) (pick T 0#32 (act (times x g ![0, 0, 0, 0] slices_S1x8x4096x5120_S1x1x4096x5120_0_0_0_0) (times x u ![0, 0, 0, 0] slices_S1x8x4096x5120_S1x1x4096x5120_0_0_0_0)) (broadcastInDim S72x512x5120 ![] bcast_S_S72x512x5120 (constant S_ .f32 0x00000000#32)))))))))

/-- The choice takes the block's own expert. -/
theorem choice_at (x : IVec S36864x2048 32) (g u : FVec Ideal S1x8x4096x5120 .f32) (T : IVec S73 32) (hE : Experts T) (b : Fin 72) (s : Fin 512) (r : Fin 36864) (hr : r.val = b.val * 512 + s.val) (n : Fin 5120) :
    choice x g u T (ix3 b s n) = gated (side x g (expert T b) r n) (side x u (expert T b) r n) := by
  have h8 := hE ⟨b.val, by omega⟩ b.isLt
  obtain ⟨e, he⟩ : ∃ e : Fin 8, T (ix1 ⟨b.val, by omega⟩) = BitVec.ofNat 32 e.val := ⟨⟨_, h8⟩, (BitVec.eq_of_toNat_eq ((BitVec.toNat_ofNat _ _).trans (Nat.mod_eq_of_lt (BitVec.isLt _)))).symm⟩
  rw [expert_of e he]
  unfold choice
  match e, he with
  | 0, he =>
    refine (pick_other T b s n 7#32 _ _ (by rw [he]; decide)).trans ?_
    refine (pick_other T b s n 6#32 _ _ (by rw [he]; decide)).trans ?_
    refine (pick_other T b s n 5#32 _ _ (by rw [he]; decide)).trans ?_
    refine (pick_other T b s n 4#32 _ _ (by rw [he]; decide)).trans ?_
    refine (pick_other T b s n 3#32 _ _ (by rw [he]; decide)).trans ?_
    refine (pick_other T b s n 2#32 _ _ (by rw [he]; decide)).trans ?_
    refine (pick_other T b s n 1#32 _ _ (by rw [he]; decide)).trans ?_
    exact (pick_same T b s n 0#32 _ _ he).trans (term_at 0 slices_S1x8x4096x5120_S1x1x4096x5120_0_0_0_0 x g u b s r hr n)
  | 1, he =>
    refine (pick_other T b s n 7#32 _ _ (by rw [he]; decide)).trans ?_
    refine (pick_other T b s n 6#32 _ _ (by rw [he]; decide)).trans ?_
    refine (pick_other T b s n 5#32 _ _ (by rw [he]; decide)).trans ?_
    refine (pick_other T b s n 4#32 _ _ (by rw [he]; decide)).trans ?_
    refine (pick_other T b s n 3#32 _ _ (by rw [he]; decide)).trans ?_
    refine (pick_other T b s n 2#32 _ _ (by rw [he]; decide)).trans ?_
    exact (pick_same T b s n 1#32 _ _ he).trans (term_at 1 slices_S1x8x4096x5120_S1x1x4096x5120_0_1_0_0 x g u b s r hr n)
  | 2, he =>
    refine (pick_other T b s n 7#32 _ _ (by rw [he]; decide)).trans ?_
    refine (pick_other T b s n 6#32 _ _ (by rw [he]; decide)).trans ?_
    refine (pick_other T b s n 5#32 _ _ (by rw [he]; decide)).trans ?_
    refine (pick_other T b s n 4#32 _ _ (by rw [he]; decide)).trans ?_
    refine (pick_other T b s n 3#32 _ _ (by rw [he]; decide)).trans ?_
    exact (pick_same T b s n 2#32 _ _ he).trans (term_at 2 slices_S1x8x4096x5120_S1x1x4096x5120_0_2_0_0 x g u b s r hr n)
  | 3, he =>
    refine (pick_other T b s n 7#32 _ _ (by rw [he]; decide)).trans ?_
    refine (pick_other T b s n 6#32 _ _ (by rw [he]; decide)).trans ?_
    refine (pick_other T b s n 5#32 _ _ (by rw [he]; decide)).trans ?_
    refine (pick_other T b s n 4#32 _ _ (by rw [he]; decide)).trans ?_
    exact (pick_same T b s n 3#32 _ _ he).trans (term_at 3 slices_S1x8x4096x5120_S1x1x4096x5120_0_3_0_0 x g u b s r hr n)
  | 4, he =>
    refine (pick_other T b s n 7#32 _ _ (by rw [he]; decide)).trans ?_
    refine (pick_other T b s n 6#32 _ _ (by rw [he]; decide)).trans ?_
    refine (pick_other T b s n 5#32 _ _ (by rw [he]; decide)).trans ?_
    exact (pick_same T b s n 4#32 _ _ he).trans (term_at 4 slices_S1x8x4096x5120_S1x1x4096x5120_0_4_0_0 x g u b s r hr n)
  | 5, he =>
    refine (pick_other T b s n 7#32 _ _ (by rw [he]; decide)).trans ?_
    refine (pick_other T b s n 6#32 _ _ (by rw [he]; decide)).trans ?_
    exact (pick_same T b s n 5#32 _ _ he).trans (term_at 5 slices_S1x8x4096x5120_S1x1x4096x5120_0_5_0_0 x g u b s r hr n)
  | 6, he =>
    refine (pick_other T b s n 7#32 _ _ (by rw [he]; decide)).trans ?_
    exact (pick_same T b s n 6#32 _ _ he).trans (term_at 6 slices_S1x8x4096x5120_S1x1x4096x5120_0_6_0_0 x g u b s r hr n)
  | 7, he =>
    exact (pick_same T b s n 7#32 _ _ he).trans (term_at 7 slices_S1x8x4096x5120_S1x1x4096x5120_0_7_0_0 x g u b s r hr n)

/-- The reference's term. -/
def term (x : IVec S36864x2048 32) (g u : FVec Ideal S1x8x4096x5120 .f32) (T : IVec S73 32) : FVec Ideal S36864x5120 .bf16 :=
  truncf .bf16 (shapeCast _ (select (broadcastInDim S72x512x5120 ![0, 1, 2] bcast_S72x1x1_S72x512x5120_0_1_2 (broadcastInDim S72x1x1 ![0] bcast_S72_S72x1x1_0 (cmpi .slt (iotaInDim S72 32 0) (broadcastInDim S72 ![] bcast_S_S72 (shapeCast _ (extractStridedSlice S1 ![72] T slices_S73_S1_72) shapeCasts_S1_S_))))) (choice x g u T) (broadcastInDim S72x512x5120 ![] bcast_S_S72x512x5120 (id (constant S_ .f32 0x00000000#32)))) shapeCasts_S72x512x5120_S36864x5120) bitsLt_bf16_f32

/-- The reference's term is the plain one, for a table that names an expert for each block. -/
theorem plain (x : IVec S36864x2048 32) (g u : FVec Ideal S1x8x4096x5120 .f32) (T : IVec S73 32) (hE : Experts T) :
    Cert.EGluIdeal.Final.res x g u T = term x g u T := by
  funext y
  idx_vars y
  have hr : y0.val = (⟨y0.val / 512, by omega⟩ : Fin 72).val * 512 + (⟨y0.val % 512, by omega⟩ : Fin 512).val := by dsimp only; omega
  generalize hr' : y0 = r at *
  generalize hn' : y1 = n at *
  refine Eq.symm ((row_at _ r n).trans (Eq.trans ?_ (Cert.EGluIdeal.Final.res_at x g u T ⟨r.val / 512, by omega⟩ r n rfl).symm))
  unfold Cert.EGluIdeal.Final.entry
  have hu := used_at T ⟨r.val / 512, by omega⟩ ⟨r.val % 512, by omega⟩ n
  by_cases h : Used T ⟨r.val / 512, by omega⟩
  · rw [if_pos h]
    exact (if_pos (hu.trans h)).trans (choice_at x g u T hE _ _ r hr n)
  · rw [if_neg h]
    exact (if_neg fun h1 => h (hu.symm.trans h1)).trans (zeros_at _ _ n)

end Cert.EGluRefIdeal.Plain
end
-- ==== Proof.lean ====
module

public import proofs.«01_k».proof.Defs
public import proofs.«01_k».proof.Proof.AttnWord.Run
public import proofs.«01_k».proof.Proof.Attn.Final
public import proofs.«01_k».proof.Proof.Gen.AttnRefIdeal.Run
public import proofs.«01_k».proof.Proof.Attn.Finite
public import proofs.«01_k».proof.Proof.Gen.InProj.Frame
public import proofs.«01_k».proof.Proof.InProj.Plain
public import proofs.«01_k».proof.Proof.Gen.OutProj.Frame
public import proofs.«01_k».proof.Proof.OutProj.Plain
public import proofs.«01_k».proof.Proof.Gen.Down.Frame
public import proofs.«01_k».proof.Proof.Down.Plain
public import proofs.«01_k».proof.Proof.Gen.DownB.Frame
public import proofs.«01_k».proof.Proof.DownB.Plain
public import proofs.«01_k».proof.Proof.EDownWord.Table
public import proofs.«01_k».proof.Proof.EDown.Plain
public import proofs.«01_k».proof.Proof.Gen.Pre_expert_table
public import proofs.«01_k».proof.Proof.EGluWord.Table
public import proofs.«01_k».proof.Proof.EGlu.Plain
public import proofs.«01_k».proof.Proof.Gen.Pre_expert_table_glu
public import Idealize.ShloMosaic.Adequacy
public import Idealize.ShloMosaic.Init

@[expose] public section

noncomputable section

namespace Cert.Proof

open Idealize.ShloMosaic Idealize.SL.Sem

/-- The plain attention ends, with its arguments as they were. -/
theorem attention_ref : Cert.quiescent_AttnRefIdeal (hAttnRefIdeal := Cert.AttnRefIdeal.Gen.facts) := fun m g _ =>
  (θ_run Cert.AttnRefIdeal.defs _ _).mono
    (fun r h => ⟨fun c => (h c).2, Idealize.ShloMosaic.sem_eq_zero_of_no_sems (by decide) r.2⟩)
    (Cert.AttnRefIdeal.Value.run (F := Ideal) m g)

/-- The kernel's attention is the plain one wherever the bias and the two weights are real. -/
theorem attention : Cert.algebraic_AttnIdeal_AttnRefIdeal_pre_finite_tables (hAttnIdeal := Cert.AttnIdeal.Gen.facts)
    (hAttnRefIdeal := Cert.AttnRefIdeal.Gen.facts) (hPre_finite_tables := Cert.Pre_finite_tables.Gen.facts) := by
  intro m g m' g' hp ha
  have hf := fun c => Cert.AttnMath.finite_of _ _ _ _ (hp c)
  refine ⟨_, Cert.AttnIdeal.Final.run m g (fun c => (hf c).1) (fun c => (hf c).2.1) (fun c => (hf c).2.2), ?_⟩
  refine (θ_run _ _ _).mono (fun r h c => ⟨(h c).1.trans ?_, (h c).2⟩) (Cert.AttnRefIdeal.Value.run m' g')
  obtain ⟨h0, h1, h2, h3⟩ := ha c
  rw [Cert.AttnRefIdeal.Parts.res_eq]
  rw [h0, h1, h2, h3]

/-- The plain input projection ends, with its arguments as they were. -/
theorem inProj_ref : Cert.quiescent_InProjRefIdeal (hInProjRefIdeal := Cert.InProjRefIdeal.Gen.facts) := fun m g _ =>
  (θ_run Cert.InProjRefIdeal.defs _ _).mono
    (fun r h => ⟨fun c => (h c).2, Idealize.ShloMosaic.sem_eq_zero_of_no_sems (by decide) r.2⟩)
    (Cert.InProjRefIdeal.Value.run (F := Ideal) m g)

/-- The kernel's input projection is the plain one. -/
theorem inProj : Cert.algebraic_InProjIdeal_InProjRefIdeal (hInProjIdeal := Cert.InProjIdeal.Gen.facts) (hInProjRefIdeal := Cert.InProjRefIdeal.Gen.facts) := by
  intro m g m' g' _ ha
  refine ⟨_, Cert.InProjIdeal.Final.run m g, ?_⟩
  refine (θ_run _ _ _).mono (fun r h c => ⟨(h c).1.trans ?_, (h c).2⟩) (Cert.InProjRefIdeal.Value.run m' g')
  obtain ⟨h0, h1⟩ := ha c
  rw [← Cert.InProjRefIdeal.Plain.plain]
  rw [h0, h1]

/-- The plain output projection ends, with its arguments as they were. -/
theorem outProj_ref : Cert.quiescent_OutProjRefIdeal (hOutProjRefIdeal := Cert.OutProjRefIdeal.Gen.facts) := fun m g _ =>
  (θ_run Cert.OutProjRefIdeal.defs _ _).mono
    (fun r h => ⟨fun c => (h c).2, Idealize.ShloMosaic.sem_eq_zero_of_no_sems (by decide) r.2⟩)
    (Cert.OutProjRefIdeal.Value.run (F := Ideal) m g)

/-- The kernel's output projection is the plain one. -/
theorem outProj : Cert.algebraic_OutProjIdeal_OutProjRefIdeal (hOutProjIdeal := Cert.OutProjIdeal.Gen.facts) (hOutProjRefIdeal := Cert.OutProjRefIdeal.Gen.facts) := by
  intro m g m' g' _ ha
  refine ⟨_, Cert.OutProjIdeal.Final.run m g, ?_⟩
  refine (θ_run _ _ _).mono (fun r h c => ⟨(h c).1.trans ?_, (h c).2⟩) (Cert.OutProjRefIdeal.Value.run m' g')
  obtain ⟨h0, h1, h2, h3, h4, h5, h6⟩ := ha c
  rw [← Cert.OutProjRefIdeal.Plain.plain]
  rw [h0, h1, h2, h3, h4, h5, h6]

/-- The plain channel mixer's last product, over the first half of its terms, ends, with its arguments as they were. -/
theorem down_ref : Cert.quiescent_DownRefIdeal (hDownRefIdeal := Cert.DownRefIdeal.Gen.facts) := fun m g _ =>
  (θ_run Cert.DownRefIdeal.defs _ _).mono
    (fun r h => ⟨fun c => (h c).2, Idealize.ShloMosaic.sem_eq_zero_of_no_sems (by decide) r.2⟩)
    (Cert.DownRefIdeal.Value.run (F := Ideal) m g)

/-- The kernel's channel mixer's last product, over the first half of its terms, is the plain one. -/
theorem down : Cert.algebraic_DownIdeal_DownRefIdeal (hDownIdeal := Cert.DownIdeal.Gen.facts) (hDownRefIdeal := Cert.DownRefIdeal.Gen.facts) := by
  intro m g m' g' _ ha
  refine ⟨_, Cert.DownIdeal.Final.run m g, ?_⟩
  refine (θ_run _ _ _).mono (fun r h c => ⟨(h c).1.trans ?_, (h c).2⟩) (Cert.DownRefIdeal.Value.run m' g')
  obtain ⟨h0, h1, h2, h3, h4⟩ := ha c
  rw [← Cert.DownRefIdeal.Plain.plain]
  rw [h0, h1, h2, h3, h4]

/-- The plain channel mixer's last product, over the second half of its terms, ends, with its arguments as they were. -/
theorem downB_ref : Cert.quiescent_DownBRefIdeal (hDownBRefIdeal := Cert.DownBRefIdeal.Gen.facts) := fun m g _ =>
  (θ_run Cert.DownBRefIdeal.defs _ _).mono
    (fun r h => ⟨fun c => (h c).2, Idealize.ShloMosaic.sem_eq_zero_of_no_sems (by decide) r.2⟩)
    (Cert.DownBRefIdeal.Value.run (F := Ideal) m g)

/-- The kernel's channel mixer's last product, over the second half of its terms, is the plain one. -/
theorem downB : Cert.algebraic_DownBIdeal_DownBRefIdeal (hDownBIdeal := Cert.DownBIdeal.Gen.facts) (hDownBRefIdeal := Cert.DownBRefIdeal.Gen.facts) := by
  intro m g m' g' _ ha
  refine ⟨_, Cert.DownBIdeal.Final.run m g, ?_⟩
  refine (θ_run _ _ _).mono (fun r h c => ⟨(h c).1.trans ?_, (h c).2⟩) (Cert.DownBRefIdeal.Value.run m' g')
  obtain ⟨h0, h1, h2, h3, h4⟩ := ha c
  rw [← Cert.DownBRefIdeal.Plain.plain]
  rw [h0, h1, h2, h3, h4]

/-- The experts' plain last product ends, with its arguments as they were. -/
theorem eDown_ref : Cert.quiescent_EDownRefIdeal (hEDownRefIdeal := Cert.EDownRefIdeal.Gen.facts) := fun m g _ =>
  (θ_run Cert.EDownRefIdeal.defs _ _).mono
    (fun r h => ⟨fun c => (h c).2, Idealize.ShloMosaic.sem_eq_zero_of_no_sems (by decide) r.2⟩)
    (Cert.EDownRefIdeal.Value.run (F := Ideal) m g)

/-- The kernel's grouped product over the experts is the plain one, for every table that names an expert for each block. -/
theorem eDown : Cert.algebraic_EDownIdeal_EDownRefIdeal (hEDownIdeal := Cert.EDownIdeal.Gen.facts) (hEDownRefIdeal := Cert.EDownRefIdeal.Gen.facts) (hPre_expert_table := Cert.Pre_expert_table.Gen.facts) := by
  intro m g m' g' hp ha
  have hE : Cert.EDownIdeal.Hand.Experts (Cert.EDownIdeal.Hand.table m 0) := Cert.EDownIdeal.Hand.experts_of _ _ _ (hp 0)
  refine ⟨_, Cert.EDownIdeal.Final.run m g hE, ?_⟩
  refine (θ_run _ _ _).mono (fun r h c => ⟨(h c).1.trans ?_, (h c).2⟩) (Cert.EDownRefIdeal.Value.run m' g')
  obtain ⟨h0, h1, h2⟩ := ha c
  have ht : (Cert.EDownIdeal.Hand.table m 0 : IVec Cert.EDownIdeal.S73 32) = m' ((c.tc : Thread Cert.EDownRefIdeal.nD Cert.EDownRefIdeal.τ).loc Cert.EDownRefIdeal.main_arg2) :=
    (Cert.EDownIdeal.Hand.table_eq m c 0).symm.trans h2.symm
  unfold Cert.EDownRefIdeal.Value.res_main_v74
  refine (Cert.EDownRefIdeal.Plain.plain _ _ _ (ht ▸ hE)).symm.trans ?_
  rw [h0, h1, h2]

/-- The experts' plain gated product ends, with its arguments as they were. -/
theorem eGlu_ref : Cert.quiescent_EGluRefIdeal (hEGluRefIdeal := Cert.EGluRefIdeal.Gen.facts) := fun m g _ =>
  (θ_run Cert.EGluRefIdeal.defs _ _).mono
    (fun r h => ⟨fun c => (h c).2, Idealize.ShloMosaic.sem_eq_zero_of_no_sems (by decide) r.2⟩)
    (Cert.EGluRefIdeal.Value.run (F := Ideal) m g)

/-- The kernel's grouped gated product over the experts is the plain one, for every table that names an expert for each block. -/
theorem eGlu : Cert.algebraic_EGluIdeal_EGluRefIdeal (hEGluIdeal := Cert.EGluIdeal.Gen.facts) (hEGluRefIdeal := Cert.EGluRefIdeal.Gen.facts) (hPre_expert_table_glu := Cert.Pre_expert_table_glu.Gen.facts) := by
  intro m g m' g' hp ha
  have hE : Cert.EGluIdeal.Hand.Experts (Cert.EGluIdeal.Hand.table m 0) := Cert.EGluIdeal.Hand.experts_of _ _ _ _ (hp 0)
  refine ⟨_, Cert.EGluIdeal.Final.run m g hE, ?_⟩
  refine (θ_run _ _ _).mono (fun r h c => ⟨(h c).1.trans ?_, (h c).2⟩) (Cert.EGluRefIdeal.Value.run m' g')
  obtain ⟨h0, h1, h2, h3⟩ := ha c
  have ht : (Cert.EGluIdeal.Hand.table m 0 : IVec Cert.EGluIdeal.S73 32) = m' ((c.tc : Thread Cert.EGluRefIdeal.nD Cert.EGluRefIdeal.τ).loc Cert.EGluRefIdeal.main_arg3) :=
    (Cert.EGluIdeal.Hand.table_eq m c 0).symm.trans h3.symm
  refine Eq.trans (b := Cert.EGluRefIdeal.Plain.term (m' ((c.tc : Thread Cert.EGluRefIdeal.nD Cert.EGluRefIdeal.τ).loc Cert.EGluRefIdeal.main_arg0)) (m' ((c.tc : Thread Cert.EGluRefIdeal.nD Cert.EGluRefIdeal.τ).loc Cert.EGluRefIdeal.main_arg1)) (m' ((c.tc : Thread Cert.EGluRefIdeal.nD Cert.EGluRefIdeal.τ).loc Cert.EGluRefIdeal.main_arg2)) (m' ((c.tc : Thread Cert.EGluRefIdeal.nD Cert.EGluRefIdeal.τ).loc Cert.EGluRefIdeal.main_arg3))) rfl ?_
  refine (Cert.EGluRefIdeal.Plain.plain _ _ _ _ (ht ▸ hE)).symm.trans ?_
  rw [h0, h1, h2, h3]

theorem claim : Cert.Claim := ⟨Cert.Attn.Gen.facts, Cert.AttnIdeal.Gen.facts, Cert.AttnRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.Down.Gen.facts, Cert.DownIdeal.Gen.facts, Cert.DownRefIdeal.Gen.facts, Cert.DownB.Gen.facts, Cert.DownBIdeal.Gen.facts, Cert.DownBRefIdeal.Gen.facts, Cert.EDown.Gen.facts, Cert.EDownIdeal.Gen.facts, Cert.EDownRefIdeal.Gen.facts, Cert.EGlu.Gen.facts, Cert.EGluIdeal.Gen.facts, Cert.EGluRefIdeal.Gen.facts, Cert.Pre_finite_tables.Gen.facts, Cert.Pre_expert_table.Gen.facts, Cert.Pre_expert_table_glu.Gen.facts,
  fun m g _ => Cert.Attn.Hand.frame m g,
  fun m g _ => Cert.AttnIdeal.Hand.frame m g,
  fun m g _ => Cert.AttnIdeal.Hand.frame m g,
  fun m g _ => attention_ref m g trivial,
  fun m g _ => attention_ref m g trivial,
  fun m g _ => Cert.InProj.Gen.frame m g,
  fun m g _ => Cert.InProjIdeal.Gen.frame m g,
  inProj_ref,
  fun m g _ => Cert.OutProj.Gen.frame m g,
  fun m g _ => Cert.OutProjIdeal.Gen.frame m g,
  outProj_ref,
  fun m g _ => Cert.Down.Gen.frame m g,
  fun m g _ => Cert.DownIdeal.Gen.frame m g,
  down_ref,
  fun m g _ => Cert.DownB.Gen.frame m g,
  fun m g _ => Cert.DownBIdeal.Gen.frame m g,
  downB_ref,
  fun m g h => Cert.EDown.Hand.frame_of_inside m g (Cert.EDown.Hand.inside_of m (Cert.EDown.Hand.experts_of _ _ _ (h 0))),
  fun m g h => Cert.EDownIdeal.Hand.frame_of_inside m g (Cert.EDownIdeal.Hand.inside_of m (Cert.EDownIdeal.Hand.experts_of _ _ _ (h 0))),
  fun m g _ => eDown_ref m g trivial,
  fun m g _ => eDown_ref m g trivial,
  fun m g h => Cert.EGlu.Hand.frame_of_inside m g (Cert.EGlu.Hand.inside_of m (Cert.EGlu.Hand.experts_of _ _ _ _ (h 0))),
  fun m g h => Cert.EGluIdeal.Hand.frame_of_inside m g (Cert.EGluIdeal.Hand.inside_of m (Cert.EGluIdeal.Hand.experts_of _ _ _ _ (h 0))),
  fun m g _ => eGlu_ref m g trivial,
  fun m g _ => eGlu_ref m g trivial,
  trivial,
  attention,
  trivial,
  inProj,
  trivial,
  outProj,
  trivial,
  down,
  trivial,
  downB,
  trivial,
  eDown,
  trivial,
  eGlu⟩

end Cert.Proof

end
